-- ==== Defs.lean ====
def Pre_Kernel [hPre_lengths : Cert.Pre_lengths.Facts] (m : (ℓ : Loc Cert.Kernel.nD Cert.Kernel.τ Cert.Kernel.sig) → Buf (Elt Bits) ℓ) : Prop :=
  ∀ c : Dev Cert.Kernel.nD,
    (Cert.Pre_lengths.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_lengths : Cert.Pre_lengths.Facts] (m : (ℓ : Loc Cert.KernelIdeal.nD Cert.KernelIdeal.τ Cert.KernelIdeal.sig) → Buf (Elt Ideal) ℓ) : Prop :=
  ∀ c : Dev Cert.KernelIdeal.nD,
    (Cert.Pre_lengths.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_KernelIdeal_usable [hPre_usable : Cert.Pre_usable.Facts] (m : (ℓ : Loc Cert.KernelIdeal.nD Cert.KernelIdeal.τ Cert.KernelIdeal.sig) → Buf (Elt Ideal) ℓ) : Prop :=
  ∀ c : Dev Cert.KernelIdeal.nD,
    (Cert.Pre_usable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_usable [hPre_usable : Cert.Pre_usable.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_usable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_lengths : Cert.Pre_lengths.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_lengths : Cert.Pre_lengths.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_usable [hKernelIdeal : Cert.KernelIdeal.Facts] [hPre_usable : Cert.Pre_usable.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_usable m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_usable [hReferenceIdeal : Cert.ReferenceIdeal.Facts] [hPre_usable : Cert.Pre_usable.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_usable m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_usable [hKernelIdeal : Cert.KernelIdeal.Facts] [hReferenceIdeal : Cert.ReferenceIdeal.Facts] [hPre_usable : Cert.Pre_usable.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_usable m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v161) = v0 c
          ∧ r.2.mem ((c.tc : Thread Cert.ReferenceIdeal.nD Cert.ReferenceIdeal.τ).loc Cert.ReferenceIdeal.main_v25_0) = v1 c
          ∧ r.2.mem ((c.tc : Thread Cert.ReferenceIdeal.nD Cert.ReferenceIdeal.τ).loc Cert.ReferenceIdeal.main_v49) = v2 c
          ∧ r.2.mem ((c.tc : Thread Cert.ReferenceIdeal.nD Cert.ReferenceIdeal.τ).loc Cert.ReferenceIdeal.main_v33) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_lengths : Cert.Pre_lengths.Facts) (hPre_usable : Cert.Pre_usable.Facts),
    quiescent_Kernel (hKernel := hKernel) (hPre_lengths := hPre_lengths)
    ∧ quiescent_KernelIdeal (hKernelIdeal := hKernelIdeal) (hPre_lengths := hPre_lengths)
    ∧ quiescent_KernelIdeal_pre_usable (hKernelIdeal := hKernelIdeal) (hPre_usable := hPre_usable)
    ∧ quiescent_ReferenceIdeal (hReferenceIdeal := hReferenceIdeal)
    ∧ quiescent_ReferenceIdeal_pre_usable (hReferenceIdeal := hReferenceIdeal) (hPre_usable := hPre_usable)
    ∧ preserves_Kernel_KernelIdeal
    ∧ algebraic_KernelIdeal_ReferenceIdeal_pre_usable (hKernelIdeal := hKernelIdeal) (hReferenceIdeal := hReferenceIdeal) (hPre_usable := hPre_usable)
-- ==== Pre_lengths.lean ====
abbrev S4x4x32x128 : Shape := ⟨4, ![4, 4, 32, 128]⟩
abbrev S4x4x8x128 : Shape := ⟨4, ![4, 4, 8, 128]⟩
abbrev S4x8192x8x128 : Shape := ⟨4, ![4, 8192, 8, 128]⟩
abbrev S4x8x128 : Shape := ⟨3, ![4, 8, 128]⟩
abbrev S4x8192x8x64 : Shape := ⟨4, ![4, 8192, 8, 64]⟩
abbrev S4x8192x8 : Shape := ⟨3, ![4, 8192, 8]⟩
abbrev S4 : Shape := ⟨1, ![4]⟩
abbrev S_ : Shape := ⟨0, ![]⟩

class Facts : Prop where
  bcast_S_S4 : S_.BroadcastsInDim S4 (![] : Fin 0 → Fin S4.rank)
  reducesTo_S4_S_d0 : S4.ReducesTo [0] S_
  h_S_ : 0 < S_.numel

variable [Facts]

def fn {F : FTy → Type} [FloatOps F] (main_arg0 : FVec F S4x4x32x128 .bf16) (main_arg1 : FVec F S4x4x8x128 .bf16) (main_arg2 : FVec F S4x4x8x128 .bf16) (main_arg3 : IVec S4x8192x8x128 8) (main_arg4 : FVec F S4x8x128 .f32) (main_arg5 : IVec S4x8192x8x64 8) (main_arg6 : FVec F S4x8192x8 .f32) (main_arg7 : IVec S4 32) : IVec S_ 1 :=
  let main_c : IVec S_ 32 := constantI S_ 32 1#32
  let main_v0 : IVec S4 32 := broadcastInDim S4 ![] bcast_S_S4 main_c
  let main_v1 : IVec S4 1 := cmpi .sge main_arg7 main_v0
  let main_c_0 : IVec S_ 1 := constantI S_ 1 1#1
  let main_v2 : IVec S_ 1 := (fun x v => Host.reduce IntOp.andi x v reducesTo_S4_S_d0 h_S_) main_v1 main_c_0
  main_v2
-- ==== Pre_usable.lean ====
abbrev S4x4x32x128 : Shape := ⟨4, ![4, 4, 32, 128]⟩
abbrev S4x4x8x128 : Shape := ⟨4, ![4, 4, 8, 128]⟩
abbrev S4x8192x8x128 : Shape := ⟨4, ![4, 8192, 8, 128]⟩
abbrev S4x8x128 : Shape := ⟨3, ![4, 8, 128]⟩
abbrev S4x8192x8x64 : Shape := ⟨4, ![4, 8192, 8, 64]⟩
abbrev S4x8192x8 : Shape := ⟨3, ![4, 8192, 8]⟩
abbrev S4 : Shape := ⟨1, ![4]⟩
abbrev S_ : Shape := ⟨0, ![]⟩

class Facts : Prop where
  bcast_S_S4 : S_.BroadcastsInDim S4 (![] : Fin 0 → Fin S4.rank)
  reducesTo_S4_S_d0 : S4.ReducesTo [0] S_
  h_S_ : 0 < S_.numel
  bcast_S_S4x4x32x128 : S_.BroadcastsInDim S4x4x32x128 (![] : Fin 0 → Fin S4x4x32x128.rank)
  reducesTo_S4x4x32x128_S_d0_1_2_3 : S4x4x32x128.ReducesTo [0, 1, 2, 3] S_
  bcast_S_S4x4x8x128 : S_.BroadcastsInDim S4x4x8x128 (![] : Fin 0 → Fin S4x4x8x128.rank)
  reducesTo_S4x4x8x128_S_d0_1_2_3 : S4x4x8x128.ReducesTo [0, 1, 2, 3] S_
  bcast_S_S4x8192x8x128 : S_.BroadcastsInDim S4x8192x8x128 (![] : Fin 0 → Fin S4x8192x8x128.rank)
  reducesTo_S4x8192x8x128_S_d0_1_2_3 : S4x8192x8x128.ReducesTo [0, 1, 2, 3] S_
  bcast_S_S4x8x128 : S_.BroadcastsInDim S4x8x128 (![] : Fin 0 → Fin S4x8x128.rank)
  reducesTo_S4x8x128_S_d0_1_2 : S4x8x128.ReducesTo [0, 1, 2] S_
  bcast_S_S4x8192x8 : S_.BroadcastsInDim S4x8192x8 (![] : Fin 0 → Fin S4x8192x8.rank)
  reducesTo_S4x8192x8_S_d0_1_2 : S4x8192x8.ReducesTo [0, 1, 2] S_

variable [Facts]

def fn_part1 {F : FTy → Type} [FloatOps F] (main_arg3 : IVec S4x8192x8x128 8) (main_arg4 : FVec F S4x8x128 .f32) (main_arg6 : FVec F S4x8192x8 .f32) (main_v12 : IVec S_ 1) (main_v14 : IVec S4x8192x8x128 1) (main_v15 : IVec S4x8192x8x128 8) : IVec S_ 1 :=
  let main_v16 : IVec S4x8192x8x128 1 := cmpi .ne main_arg3 main_v15
  let main_v17 : IVec S4x8192x8x128 1 := andi main_v14 main_v16
  let main_c_6 : IVec S_ 1 := constantI S_ 1 1#1
  let main_v18 : IVec S_ 1 := (fun x v => Host.reduce IntOp.andi x v reducesTo_S4x8192x8x128_S_d0_1_2_3 h_S_) main_v17 main_c_6
  let main_v19 : IVec S_ 1 := andi main_v12 main_v18
  let main_v20 : FVec F S4x8x128 .f32 := Host.absf main_arg4
  let main_cst_7 : FVec F S_ .f32 := constant S_ .f32 0x7F800000#32
  let main_v21 : FVec F S4x8x128 .f32 := broadcastInDim S4x8x128 ![] bcast_S_S4x8x128 main_cst_7
  let main_v22 : IVec S4x8x128 1 := cmpf .olt main_v20 main_v21
  let main_c_8 : IVec S_ 1 := constantI S_ 1 1#1
  let main_v23 : IVec S_ 1 := (fun x v => Host.reduce IntOp.andi x v reducesTo_S4x8x128_S_d0_1_2 h_S_) main_v22 main_c_8
  let main_v24 : IVec S_ 1 := andi main_v19 main_v23
  let main_v25 : FVec F S4x8192x8 .f32 := Host.absf main_arg6
  let main_cst_9 : FVec F S_ .f32 := constant S_ .f32 0x7F800000#32
  let main_v26 : FVec F S4x8192x8 .f32 := broadcastInDim S4x8192x8 ![] bcast_S_S4x8192x8 main_cst_9
  let main_v27 : IVec S4x8192x8 1 := cmpf .olt main_v25 main_v26
  let main_c_10 : IVec S_ 1 := constantI S_ 1 1#1
  let main_v28 : IVec S_ 1 := (fun x v => Host.reduce IntOp.andi x v reducesTo_S4x8192x8_S_d0_1_2 h_S_) main_v27 main_c_10
  let main_v29 : IVec S_ 1 := andi main_v24 main_v28
  main_v29

def fn {F : FTy → Type} [FloatOps F] (main_arg0 : FVec F S4x4x32x128 .bf16) (main_arg1 : FVec F S4x4x8x128 .bf16) (main_arg2 : FVec F S4x4x8x128 .bf16) (main_arg3 : IVec S4x8192x8x128 8) (main_arg4 : FVec F S4x8x128 .f32) (main_arg5 : IVec S4x8192x8x64 8) (main_arg6 : FVec F S4x8192x8 .f32) (main_arg7 : IVec S4 32) : IVec S_ 1 :=
  let main_c : IVec S_ 32 := constantI S_ 32 1#32
  let main_v0 : IVec S4 32 := broadcastInDim S4 ![] bcast_S_S4 main_c
  let main_v1 : IVec S4 1 := cmpi .sge main_arg7 main_v0
  let main_c_0 : IVec S_ 1 := constantI S_ 1 1#1
  let main_v2 : IVec S_ 1 := (fun x v => Host.reduce IntOp.andi x v reducesTo_S4_S_d0 h_S_) main_v1 main_c_0
  let main_v3 : FVec F S4x4x32x128 .bf16 := Host.absf main_arg0
  let main_cst : FVec F S_ .bf16 := constant S_ .bf16 0x7F80#16
  let main_v4 : FVec F S4x4x32x128 .bf16 := broadcastInDim S4x4x32x128 ![] bcast_S_S4x4x32x128 main_cst
  let main_v5 : IVec S4x4x32x128 1 := cmpf .olt main_v3 main_v4
  let main_c_1 : IVec S_ 1 := constantI S_ 1 1#1
  let main_v6 : IVec S_ 1 := (fun x v => Host.reduce IntOp.andi x v reducesTo_S4x4x32x128_S_d0_1_2_3 h_S_) main_v5 main_c_1
  let main_v7 : IVec S_ 1 := andi main_v2 main_v6
  let main_v8 : FVec F S4x4x8x128 .bf16 := Host.absf main_arg2
  let main_cst_2 : FVec F S_ .bf16 := constant S_ .bf16 0x7F80#16
  let main_v9 : FVec F S4x4x8x128 .bf16 := broadcastInDim S4x4x8x128 ![] bcast_S_S4x4x8x128 main_cst_2
  let main_v10 : IVec S4x4x8x128 1 := cmpf .olt main_v8 main_v9
  let main_c_3 : IVec S_ 1 := constantI S_ 1 1#1
  let main_v11 : IVec S_ 1 := (fun x v => Host.reduce IntOp.andi x v reducesTo_S4x4x8x128_S_d0_1_2_3 h_S_) main_v10 main_c_3
  let main_v12 : IVec S_ 1 := andi main_v7 main_v11
  let main_c_4 : IVec S_ 8 := constantI S_ 8 127#8
  let main_v13 : IVec S4x8192x8x128 8 := broadcastInDim S4x8192x8x128 ![] bcast_S_S4x8192x8x128 main_c_4
  let main_v14 : IVec S4x8192x8x128 1 := cmpi .ne main_arg3 main_v13
  let main_c_5 : IVec S_ 8 := constantI S_ 8 255#8
  let main_v15 : IVec S4x8192x8x128 8 := broadcastInDim S4x8192x8x128 ![] bcast_S_S4x8192x8x128 main_c_5
  fn_part1 (F := F) main_arg3 main_arg4 main_arg6 main_v12 main_v14 main_v15
-- ==== Kernel.lean ====
abbrev S4x4x32x128 : Shape := ⟨4, ![4, 4, 32, 128]⟩
abbrev S4x4x8x128 : Shape := ⟨4, ![4, 4, 8, 128]⟩
abbrev S4x8192x8x128 : Shape := ⟨4, ![4, 8192, 8, 128]⟩
abbrev S4x8x128 : Shape := ⟨3, ![4, 8, 128]⟩
abbrev S4x8192x8x64 : Shape := ⟨4, ![4, 8192, 8, 64]⟩
abbrev S4x8192x8 : Shape := ⟨3, ![4, 8192, 8]⟩
abbrev S4 : Shape := ⟨1, ![4]⟩
abbrev S4x8x64x8192 : Shape := ⟨4, ![4, 8, 64, 8192]⟩
abbrev S4x8x8192 : Shape := ⟨3, ![4, 8, 8192]⟩
abbrev S4x4x8x64 : Shape := ⟨4, ![4, 4, 8, 64]⟩
abbrev S4x4x8 : Shape := ⟨3, ![4, 4, 8]⟩
abbrev S1x4x32x128 : Shape := ⟨4, ![1, 4, 32, 128]⟩
abbrev S1x4x8x128 : Shape := ⟨4, ![1, 4, 8, 128]⟩
abbrev S1x8x128 : Shape := ⟨3, ![1, 8, 128]⟩
abbrev S1x1024x8x128 : Shape := ⟨4, ![1, 1024, 8, 128]⟩
abbrev S1 : Shape := ⟨1, ![1]⟩
abbrev S1x8x64x1024 : Shape := ⟨4, ![1, 8, 64, 1024]⟩
abbrev S1x8x1024 : Shape := ⟨3, ![1, 8, 1024]⟩
abbrev S1x4x8x64 : Shape := ⟨4, ![1, 4, 8, 64]⟩
abbrev S1x4x8 : Shape := ⟨3, ![1, 4, 8]⟩
abbrev S128x512 : Shape := ⟨2, ![128, 512]⟩
abbrev S128x128 : Shape := ⟨2, ![128, 128]⟩
abbrev S4x128x256 : Shape := ⟨3, ![4, 128, 256]⟩
abbrev S4x32x128 : Shape := ⟨3, ![4, 32, 128]⟩
abbrev S8x128 : Shape := ⟨2, ![8, 128]⟩
abbrev S128x8 : Shape := ⟨2, ![128, 8]⟩
abbrev S16x128 : Shape := ⟨2, ![16, 128]⟩
abbrev S96x128 : Shape := ⟨2, ![96, 128]⟩
abbrev S64x128 : Shape := ⟨2, ![64, 128]⟩
abbrev S32x128 : Shape := ⟨2, ![32, 128]⟩
abbrev S112x128 : Shape := ⟨2, ![112, 128]⟩
abbrev S80x128 : Shape := ⟨2, ![80, 128]⟩
abbrev S48x128 : Shape := ⟨2, ![48, 128]⟩
abbrev S32 : Shape := ⟨1, ![32]⟩
abbrev S32x1 : Shape := ⟨2, ![32, 1]⟩
abbrev S128x64 : Shape := ⟨2, ![128, 64]⟩
abbrev S32x64 : Shape := ⟨2, ![32, 64]⟩
abbrev S4x8x64 : Shape := ⟨3, ![4, 8, 64]⟩
abbrev S8x1 : Shape := ⟨2, ![8, 1]⟩
abbrev S128 : Shape := ⟨1, ![128]⟩
abbrev S1x128 : Shape := ⟨2, ![1, 128]⟩
abbrev S4x128 : Shape := ⟨2, ![4, 128]⟩
abbrev S4x8 : Shape := ⟨2, ![4, 8]⟩
abbrev S128x32 : Shape := ⟨2, ![128, 32]⟩
abbrev S128x1 : Shape := ⟨2, ![128, 1]⟩
abbrev S32x32 : Shape := ⟨2, ![32, 32]⟩
abbrev S1x32 : Shape := ⟨2, ![1, 32]⟩
abbrev S8x64x1024 : Shape := ⟨3, ![8, 64, 1024]⟩
abbrev S8x16x1024 : Shape := ⟨3, ![8, 16, 1024]⟩
abbrev S8x32x1024 : Shape := ⟨3, ![8, 32, 1024]⟩
abbrev S256x1024 : Shape := ⟨2, ![256, 1024]⟩
abbrev S1x128x4x128 : Shape := ⟨4, ![1, 128, 4, 128]⟩
abbrev S128x4x128 : Shape := ⟨3, ![128, 4, 128]⟩
abbrev S512x128 : Shape := ⟨2, ![512, 128]⟩
abbrev S512x1024 : Shape := ⟨2, ![512, 1024]⟩
abbrev S64x512 : Shape := ⟨2, ![64, 512]⟩
abbrev S64x1024 : Shape := ⟨2, ![64, 1024]⟩
abbrev S128x1024 : Shape := ⟨2, ![128, 1024]⟩
abbrev S8x1024 : Shape := ⟨2, ![8, 1024]⟩
abbrev S1x1024 : Shape := ⟨2, ![1, 1024]⟩
abbrev S4x1024 : Shape := ⟨2, ![4, 1024]⟩
abbrev S16x1024 : Shape := ⟨2, ![16, 1024]⟩
abbrev S256x128 : Shape := ⟨2, ![256, 128]⟩
abbrev S128x256 : Shape := ⟨2, ![128, 256]⟩
abbrev S64x256 : Shape := ⟨2, ![64, 256]⟩
abbrev S1x128x256 : Shape := ⟨3, ![1, 128, 256]⟩
abbrev S1024x256 : Shape := ⟨2, ![1024, 256]⟩
abbrev S1x1x16x128 : Shape := ⟨4, ![1, 1, 16, 128]⟩

abbrev nBuf : Space → Nat
  | .hbm => 14
  | .vmem => 27
  | .smem => 1
  | _ => 0

abbrev bufTy : (tb : Table) → Fin (tcTables nBuf tb) → BufTy
  | .hbm, ⟨0, _⟩ => ⟨S4x4x32x128, .bf16⟩
  | .hbm, ⟨1, _⟩ => ⟨S4x4x8x128, .bf16⟩
  | .hbm, ⟨2, _⟩ => ⟨S4x4x8x128, .bf16⟩
  | .hbm, ⟨3, _⟩ => ⟨S4x8192x8x128, .i8⟩
  | .hbm, ⟨4, _⟩ => ⟨S4x8x128, .f32⟩
  | .hbm, ⟨5, _⟩ => ⟨S4x8192x8x64, .i8⟩
  | .hbm, ⟨6, _⟩ => ⟨S4x8192x8, .f32⟩
  | .hbm, ⟨7, _⟩ => ⟨S4x8192x8x128, .fp8e4m3⟩
  | .hbm, ⟨8, _⟩ => ⟨S4x8x64x8192, .i8⟩
  | .hbm, ⟨9, _⟩ => ⟨S4x8x8192, .f32⟩
  | .hbm, ⟨10, _⟩ => ⟨S4x4x32x128, .bf16⟩
  | .hbm, ⟨11, _⟩ => ⟨S4x4x8x128, .fp8e4m3⟩
  | .hbm, ⟨12, _⟩ => ⟨S4x4x8x64, .i8⟩
  | .hbm, ⟨13, _⟩ => ⟨S4x4x8, .f32⟩
  | .local _ .vmem, ⟨0, _⟩ => ⟨S1x4x32x128, .bf16⟩
  | .local _ .vmem, ⟨1, _⟩ => ⟨S1x4x32x128, .bf16⟩
  | .local _ .vmem, ⟨2, _⟩ => ⟨S1x4x8x128, .bf16⟩
  | .local _ .vmem, ⟨3, _⟩ => ⟨S1x4x8x128, .bf16⟩
  | .local _ .vmem, ⟨4, _⟩ => ⟨S1x4x8x128, .bf16⟩
  | .local _ .vmem, ⟨5, _⟩ => ⟨S1x4x8x128, .bf16⟩
  | .local _ .vmem, ⟨6, _⟩ => ⟨S1x8x128, .f32⟩
  | .local _ .vmem, ⟨7, _⟩ => ⟨S1x8x128, .f32⟩
  | .local _ .vmem, ⟨8, _⟩ => ⟨S1x1024x8x128, .fp8e4m3⟩
  | .local _ .vmem, ⟨9, _⟩ => ⟨S1x1024x8x128, .fp8e4m3⟩
  | .local _ .vmem, ⟨10, _⟩ => ⟨S1x8x64x1024, .i8⟩
  | .local _ .vmem, ⟨11, _⟩ => ⟨S1x8x64x1024, .i8⟩
  | .local _ .vmem, ⟨12, _⟩ => ⟨S1x8x1024, .f32⟩
  | .local _ .vmem, ⟨13, _⟩ => ⟨S1x8x1024, .f32⟩
  | .local _ .vmem, ⟨14, _⟩ => ⟨S1x4x32x128, .bf16⟩
  | .local _ .vmem, ⟨15, _⟩ => ⟨S1x4x32x128, .bf16⟩
  | .local _ .vmem, ⟨16, _⟩ => ⟨S1x4x8x128, .fp8e4m3⟩
  | .local _ .vmem, ⟨17, _⟩ => ⟨S1x4x8x128, .fp8e4m3⟩
  | .local _ .vmem, ⟨18, _⟩ => ⟨S1x4x8x64, .i8⟩
  | .local _ .vmem, ⟨19, _⟩ => ⟨S1x4x8x64, .i8⟩
  | .local _ .vmem, ⟨20, _⟩ => ⟨S1x4x8, .f32⟩
  | .local _ .vmem, ⟨21, _⟩ => ⟨S1x4x8, .f32⟩
  | .local _ .vmem, ⟨22, _⟩ => ⟨S128x512, .bf16⟩
  | .local _ .vmem, ⟨23, _⟩ => ⟨S128x128, .f32⟩
  | .local _ .vmem, ⟨24, _⟩ => ⟨S128x128, .f32⟩
  | .local _ .vmem, ⟨25, _⟩ => ⟨S4x128x256, .f32⟩
  | .local _ .vmem, ⟨26, _⟩ => ⟨S128x128, .f32⟩
  | .local _ .smem, ⟨0, _⟩ => ⟨S4, .i32⟩
  | _, _ => ⟨S4x4x32x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_arg7 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 8], ![false, false]⟩

abbrev pre0 : Pipeline.Prefetch sig := ⟨1, ![main_arg7.idx], fun | 0 => main_arg7.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (i : grid0.Coords) : BitVec 1 :=
  let arg1 : BitVec 32 := BitVec.ofNat 32 (i 1).val
  let c7_i32 : BitVec 32 := 7#32
  let v9 : BitVec 1 := Scalar.cmpi .eq arg1 c7_i32
  let v10 : BitVec 32 := Scalar.extui v9
  let c0_i32_2 : BitVec 32 := 0#32
  let v11 : BitVec 1 := Scalar.cmpi .ne v10 c0_i32_2
  v11

def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_0 : BitVec 32 := 0#32
  let v4 : BitVec 1 := Scalar.cmpi .ne v3 c0_i32_0
  v4

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (k0_off1_inb : ∀ i : grid0.Coords, ∀ a, (k0_off1 i) a + S1.size a ≤ S4.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S4) ![v0.toNat] S1.size (k0_off1_inb i)) numel1_S1
  let c1_i32 : BitVec 32 := 1#32
  let v2 : BitVec 32 := Scalar.subi v1 c1_i32
  let c1024_i32 : BitVec 32 := 1024#32
  let v3 : BitVec 32 := Scalar.divsi v2 c1024_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c1024_i32 c0_i32_1
  let v10 : BitVec 32 := Scalar.extui v9
  let c0_i32_2 : BitVec 32 := 0#32
  let v11 : BitVec 1 := Scalar.cmpi .slt c1024_i32 c0_i32_2
  let v12 : BitVec 32 := Scalar.extui v11
  let v13 : BitVec 32 := Scalar.subi v10 v12
  let v14 : BitVec 1 := Scalar.cmpi .ne v8 v13
  let v15 : BitVec 32 := Scalar.remsi v2 c1024_i32
  let c0_i32_3 : BitVec 32 := 0#32
  let v16 : BitVec 1 := Scalar.cmpi .ne v15 c0_i32_3
  let v17 : BitVec 1 := Scalar.andi v14 v16
  let c1_i32_4 : BitVec 32 := 1#32
  let v18 : BitVec 32 := Scalar.subi v3 c1_i32_4
  let v19 : BitVec 32 := Scalar.select v17 v18 v3
  let v20 : BitVec 32 := Scalar.minsi arg1 v19
  let c0_i32_5 : BitVec 32 := 0#32
  let c0_i32_6 : BitVec 32 := 0#32
  let c0_i32_7 : BitVec 32 := 0#32
  ![arg0.toNat, v20.toNat, c0_i32_5.toNat, c0_i32_6.toNat]

def cc0_transform_5 (k0_off1_inb : ∀ i : grid0.Coords, ∀ a, (k0_off1 i) a + S1.size a ≤ S4.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S4) ![v0.toNat] S1.size (k0_off1_inb i)) numel1_S1
  let c1_i32 : BitVec 32 := 1#32
  let v2 : BitVec 32 := Scalar.subi v1 c1_i32
  let c1024_i32 : BitVec 32 := 1024#32
  let v3 : BitVec 32 := Scalar.divsi v2 c1024_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c1024_i32 c0_i32_1
  let v10 : BitVec 32 := Scalar.extui v9
  let c0_i32_2 : BitVec 32 := 0#32
  let v11 : BitVec 1 := Scalar.cmpi .slt c1024_i32 c0_i32_2
  let v12 : BitVec 32 := Scalar.extui v11
  let v13 : BitVec 32 := Scalar.subi v10 v12
  let v14 : BitVec 1 := Scalar.cmpi .ne v8 v13
  let v15 : BitVec 32 := Scalar.remsi v2 c1024_i32
  let c0_i32_3 : BitVec 32 := 0#32
  let v16 : BitVec 1 := Scalar.cmpi .ne v15 c0_i32_3
  let v17 : BitVec 1 := Scalar.andi v14 v16
  let c1_i32_4 : BitVec 32 := 1#32
  let v18 : BitVec 32 := Scalar.subi v3 c1_i32_4
  let v19 : BitVec 32 := Scalar.select v17 v18 v3
  let v20 : BitVec 32 := Scalar.minsi arg1 v19
  let c0_i32_5 : BitVec 32 := 0#32
  let c0_i32_6 : BitVec 32 := 0#32
  let c0_i32_7 : BitVec 32 := 0#32
  ![arg0.toNat, c0_i32_5.toNat, c0_i32_6.toNat, v20.toNat]

def cc0_transform_6 (k0_off1_inb : ∀ i : grid0.Coords, ∀ a, (k0_off1 i) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S4) ![v0.toNat] S1.size (k0_off1_inb i)) numel1_S1
  let c1_i32 : BitVec 32 := 1#32
  let v2 : BitVec 32 := Scalar.subi v1 c1_i32
  let c1024_i32 : BitVec 32 := 1024#32
  let v3 : BitVec 32 := Scalar.divsi v2 c1024_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c1024_i32 c0_i32_1
  let v10 : BitVec 32 := Scalar.extui v9
  let c0_i32_2 : BitVec 32 := 0#32
  let v11 : BitVec 1 := Scalar.cmpi .slt c1024_i32 c0_i32_2
  let v12 : BitVec 32 := Scalar.extui v11
  let v13 : BitVec 32 := Scalar.subi v10 v12
  let v14 : BitVec 1 := Scalar.cmpi .ne v8 v13
  let v15 : BitVec 32 := Scalar.remsi v2 c1024_i32
  let c0_i32_3 : BitVec 32 := 0#32
  let v16 : BitVec 1 := Scalar.cmpi .ne v15 c0_i32_3
  let v17 : BitVec 1 := Scalar.andi v14 v16
  let c1_i32_4 : BitVec 32 := 1#32
  let v18 : BitVec 32 := Scalar.subi v3 c1_i32_4
  let v19 : BitVec 32 := Scalar.select v17 v18 v3
  let v20 : BitVec 32 := Scalar.minsi arg1 v19
  let c0_i32_5 : BitVec 32 := 0#32
  let c0_i32_6 : BitVec 32 := 0#32
  ![arg0.toNat, c0_i32_5.toNat, v20.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4x32x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4x8x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4x8x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x8x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x64x1024 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x32x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x4x8x128 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x4x8x64 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x4x8 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ReferenceIdeal.lean ====
abbrev S4x4x32x128 : Shape := ⟨4, ![4, 4, 32, 128]⟩
abbrev S4x4x8x128 : Shape := ⟨4, ![4, 4, 8, 128]⟩
abbrev S4x8192x8x128 : Shape := ⟨4, ![4, 8192, 8, 128]⟩
abbrev S4x8x128 : Shape := ⟨3, ![4, 8, 128]⟩
abbrev S4x8192x8x64 : Shape := ⟨4, ![4, 8192, 8, 64]⟩
abbrev S4x8192x8 : Shape := ⟨3, ![4, 8192, 8]⟩
abbrev S4 : Shape := ⟨1, ![4]⟩
abbrev S254 : Shape := ⟨1, ![254]⟩
abbrev S_ : Shape := ⟨0, ![]⟩
abbrev S4x8x128x1 : Shape := ⟨4, ![4, 8, 128, 1]⟩
abbrev S1x1x1x254 : Shape := ⟨4, ![1, 1, 1, 254]⟩
abbrev S4x8x128x254 : Shape := ⟨4, ![4, 8, 128, 254]⟩
abbrev S4x1x8x128 : Shape := ⟨4, ![4, 1, 8, 128]⟩
abbrev S4x4x8 : Shape := ⟨3, ![4, 4, 8]⟩
abbrev S4x4x8x1 : Shape := ⟨4, ![4, 4, 8, 1]⟩
abbrev S4x4x8x64 : Shape := ⟨4, ![4, 4, 8, 64]⟩
abbrev S4x4x8x4x128 : Shape := ⟨5, ![4, 4, 8, 4, 128]⟩
abbrev S4x1x8x1x128 : Shape := ⟨5, ![4, 1, 8, 1, 128]⟩
abbrev S4x8x8192x4x4 : Shape := ⟨5, ![4, 8, 8192, 4, 4]⟩
abbrev S4x8x4x4x8192 : Shape := ⟨5, ![4, 8, 4, 4, 8192]⟩
abbrev S4x8x4x4x4 : Shape := ⟨5, ![4, 8, 4, 4, 4]⟩
abbrev S8192 : Shape := ⟨1, ![8192]⟩
abbrev S1x8192 : Shape := ⟨2, ![1, 8192]⟩
abbrev S4x1 : Shape := ⟨2, ![4, 1]⟩
abbrev S4x8192 : Shape := ⟨2, ![4, 8192]⟩
abbrev S4x1x1x1x8192 : Shape := ⟨5, ![4, 1, 1, 1, 8192]⟩
abbrev S1x4 : Shape := ⟨2, ![1, 4]⟩
abbrev S4x4 : Shape := ⟨2, ![4, 4]⟩
abbrev S4x8x4x4 : Shape := ⟨4, ![4, 8, 4, 4]⟩
abbrev S4x8x4x4x1 : Shape := ⟨5, ![4, 8, 4, 4, 1]⟩
abbrev S4x8x8192 : Shape := ⟨3, ![4, 8, 8192]⟩
abbrev S4x8x1x1x8192 : Shape := ⟨5, ![4, 8, 1, 1, 8192]⟩
abbrev S4x8x4 : Shape := ⟨3, ![4, 8, 4]⟩
abbrev S4x8x1x1x4 : Shape := ⟨5, ![4, 8, 1, 1, 4]⟩
abbrev S4x8x64x4x4 : Shape := ⟨5, ![4, 8, 64, 4, 4]⟩
abbrev S4x4x8x4x64 : Shape := ⟨5, ![4, 4, 8, 4, 64]⟩
abbrev S4x4x8x4x64x1 : Shape := ⟨6, ![4, 4, 8, 4, 64, 1]⟩
abbrev S4x4x8x4x64x2 : Shape := ⟨6, ![4, 4, 8, 4, 64, 2]⟩

abbrev nBuf : Space → Nat
  | .hbm => 235
  | .vmem => 5
  | .smem => 0
  | _ => 0

abbrev hbmTy0_0 (i : Nat) : BufTy := match i % 128 with
  | 0 => ⟨S4x4x32x128, .bf16⟩
  | 1 => ⟨S4x4x8x128, .bf16⟩
  | 2 => ⟨S4x4x8x128, .bf16⟩
  | 3 => ⟨S4x8192x8x128, .i8⟩
  | 4 => ⟨S4x8x128, .f32⟩
  | 5 => ⟨S4x8192x8x64, .i8⟩
  | 6 => ⟨S4x8192x8, .f32⟩
  | 7 => ⟨S4, .i32⟩
  | 8 => ⟨S4x8192x8x128, .fp8e4m3⟩
  | 9 => ⟨S254, .i32⟩
  | 10 => ⟨S_, .i32⟩
  | 11 => ⟨S254, .i32⟩
  | 12 => ⟨S254, .i32⟩
  | 13 => ⟨S254, .f32⟩
  | 14 => ⟨S_, .f32⟩
  | 15 => ⟨S254, .f32⟩
  | 16 => ⟨S254, .f32⟩
  | 17 => ⟨S4x8x128, .f32⟩
  | 18 => ⟨S4x8x128x1, .f32⟩
  | 19 => ⟨S1x1x1x254, .f32⟩
  | 20 => ⟨S4x8x128x254, .f32⟩
  | 21 => ⟨S4x8x128x254, .f32⟩
  | 22 => ⟨S4x8x128x254, .i1⟩
  | 23 => ⟨S_, .f32⟩
  | 24 => ⟨S_, .f32⟩
  | 25 => ⟨S4x8x128x254, .f32⟩
  | 26 => ⟨S4x8x128x254, .f32⟩
  | 27 => ⟨S4x8x128x254, .f32⟩
  | 28 => ⟨S_, .f32⟩
  | 29 => ⟨S4x8x128, .f32⟩
  | 30 => ⟨S_, .f32⟩
  | 31 => ⟨S4x8x128, .f32⟩
  | 32 => ⟨S4x8x128, .i1⟩
  | 33 => ⟨S_, .f32⟩
  | 34 => ⟨S4x8x128, .f32⟩
  | 35 => ⟨S4x8x128, .f32⟩
  | 36 => ⟨S_, .f32⟩
  | 37 => ⟨S_, .f32⟩
  | 38 => ⟨S4x8x128, .f32⟩
  | 39 => ⟨S4x8x128, .f32⟩
  | 40 => ⟨S4x4x8x128, .f32⟩
  | 41 => ⟨S4x1x8x128, .f32⟩
  | 42 => ⟨S4x4x8x128, .f32⟩
  | 43 => ⟨S4x4x8x128, .f32⟩
  | 44 => ⟨S_, .f32⟩
  | 45 => ⟨S_, .f32⟩
  | 46 => ⟨S_, .f32⟩
  | 47 => ⟨S4x4x8x128, .f32⟩
  | 48 => ⟨S4x4x8x128, .f32⟩
  | 49 => ⟨S_, .f32⟩
  | 50 => ⟨S4x4x8x128, .f32⟩
  | 51 => ⟨S4x4x8x128, .f32⟩
  | 52 => ⟨S4x4x8x128, .fp8e4m3⟩
  | 53 => ⟨S4x4x8x128, .bf16⟩
  | 54 => ⟨S4x8192x8x128, .bf16⟩
  | 55 => ⟨S4x4x8x128, .f32⟩
  | 56 => ⟨S4x4x8x128, .f32⟩
  | 57 => ⟨S_, .f32⟩
  | 58 => ⟨S4x4x8, .f32⟩
  | 59 => ⟨S_, .f32⟩
  | 60 => ⟨S4x4x8, .f32⟩
  | 61 => ⟨S4x4x8, .i1⟩
  | 62 => ⟨S_, .f32⟩
  | 63 => ⟨S4x4x8, .f32⟩
  | 64 => ⟨S4x4x8, .f32⟩
  | 65 => ⟨S_, .f32⟩
  | 66 => ⟨S_, .f32⟩
  | 67 => ⟨S4x4x8, .f32⟩
  | 68 => ⟨S4x4x8, .f32⟩
  | 69 => ⟨S4x4x8x1, .f32⟩
  | 70 => ⟨S4x4x8x128, .f32⟩
  | 71 => ⟨S4x4x8x128, .f32⟩
  | 72 => ⟨S4x4x8x128, .f32⟩
  | 73 => ⟨S_, .f32⟩
  | 74 => ⟨S_, .f32⟩
  | 75 => ⟨S_, .f32⟩
  | 76 => ⟨S4x4x8x128, .f32⟩
  | 77 => ⟨S4x4x8x128, .f32⟩
  | 78 => ⟨S_, .f32⟩
  | 79 => ⟨S4x4x8x128, .f32⟩
  | 80 => ⟨S4x4x8x128, .f32⟩
  | 81 => ⟨S4x4x8x128, .i32⟩
  | 82 => ⟨S4x4x8x64, .i32⟩
  | 83 => ⟨S_, .i32⟩
  | 84 => ⟨S4x4x8x64, .i32⟩
  | 85 => ⟨S4x4x8x64, .i32⟩
  | 86 => ⟨S4x4x8x64, .i32⟩
  | 87 => ⟨S_, .i32⟩
  | 88 => ⟨S4x4x8x64, .i32⟩
  | 89 => ⟨S4x4x8x64, .i32⟩
  | 90 => ⟨S_, .i32⟩
  | 91 => ⟨S4x4x8x64, .i32⟩
  | 92 => ⟨S4x4x8x64, .i32⟩
  | 93 => ⟨S4x4x8x64, .i32⟩
  | 94 => ⟨S4x4x8x64, .i8⟩
  | 95 => ⟨S4x4x8x4x128, .bf16⟩
  | 96 => ⟨S4x8x128, .bf16⟩
  | 97 => ⟨S4x1x8x1x128, .bf16⟩
  | 98 => ⟨S4x4x8x4x128, .bf16⟩
  | 99 => ⟨S4x4x8x4x128, .bf16⟩
  | 100 => ⟨S4x8x8192x4x4, .f32⟩
  | 101 => ⟨S4x8x4x4x8192, .f32⟩
  | 102 => ⟨S_, .f32⟩
  | 103 => ⟨S4x8x4x4x8192, .f32⟩
  | 104 => ⟨S4x8x4x4x8192, .f32⟩
  | 105 => ⟨S4x8x4x4x4, .f32⟩
  | 106 => ⟨S4x8x4x4x4, .f32⟩
  | 107 => ⟨S_, .f32⟩
  | 108 => ⟨S4x8x4x4x4, .f32⟩
  | 109 => ⟨S4x8x4x4x4, .f32⟩
  | 110 => ⟨S8192, .i32⟩
  | 111 => ⟨S1x8192, .i32⟩
  | 112 => ⟨S4x1, .i32⟩
  | 113 => ⟨S4x8192, .i32⟩
  | 114 => ⟨S4x8192, .i32⟩
  | 115 => ⟨S4x8192, .i1⟩
  | 116 => ⟨S4x1x1x1x8192, .i1⟩
  | 117 => ⟨S_, .f32⟩
  | 118 => ⟨S_, .f32⟩
  | 119 => ⟨S4x8x4x4x8192, .i1⟩
  | 120 => ⟨S4x8x4x4x8192, .f32⟩
  | 121 => ⟨S4x8x4x4x8192, .f32⟩
  | 122 => ⟨S4, .i32⟩
  | 123 => ⟨S1x4, .i32⟩
  | 124 => ⟨S4, .i32⟩
  | 125 => ⟨S4x1, .i32⟩
  | 126 => ⟨S4x4, .i32⟩
  | 127 => ⟨S4x4, .i32⟩
  | _ => ⟨S4x4x32x128, .bf16⟩

abbrev hbmTy0_1 (i : Nat) : BufTy := match i % 128 with
  | 0 => ⟨S4x4, .i1⟩
  | 1 => ⟨S_, .f32⟩
  | 2 => ⟨S_, .f32⟩
  | 3 => ⟨S4x8x4x4x4, .i1⟩
  | 4 => ⟨S4x8x4x4x4, .f32⟩
  | 5 => ⟨S4x8x4x4x4, .f32⟩
  | 6 => ⟨S_, .f32⟩
  | 7 => ⟨S4x8x4x4, .f32⟩
  | 8 => ⟨S4x8x4x4x1, .f32⟩
  | 9 => ⟨S_, .f32⟩
  | 10 => ⟨S4x8x4x4, .f32⟩
  | 11 => ⟨S4x8x4x4x1, .f32⟩
  | 12 => ⟨S4x8x4x4x1, .f32⟩
  | 13 => ⟨S4x8x4x4x8192, .f32⟩
  | 14 => ⟨S4x8x4x4x8192, .f32⟩
  | 15 => ⟨S4x8x4x4x8192, .f32⟩
  | 16 => ⟨S4x8x4x4x4, .f32⟩
  | 17 => ⟨S4x8x4x4x4, .f32⟩
  | 18 => ⟨S4x8x4x4x4, .f32⟩
  | 19 => ⟨S_, .f32⟩
  | 20 => ⟨S4x8x4x4, .f32⟩
  | 21 => ⟨S4x8x4x4x1, .f32⟩
  | 22 => ⟨S_, .f32⟩
  | 23 => ⟨S4x8x4x4, .f32⟩
  | 24 => ⟨S4x8x4x4x1, .f32⟩
  | 25 => ⟨S4x8x4x4x1, .f32⟩
  | 26 => ⟨S4x8x4x4x8192, .f32⟩
  | 27 => ⟨S4x8x4x4x8192, .f32⟩
  | 28 => ⟨S4x8x8192, .f32⟩
  | 29 => ⟨S4x8x1x1x8192, .f32⟩
  | 30 => ⟨S4x8x4x4x8192, .f32⟩
  | 31 => ⟨S4x8x4x4x8192, .f32⟩
  | 32 => ⟨S4x8x4x4x8192, .bf16⟩
  | 33 => ⟨S4x8x4x4x4, .f32⟩
  | 34 => ⟨S4x8x4x4x4, .f32⟩
  | 35 => ⟨S4x8x4, .f32⟩
  | 36 => ⟨S4x8x1x1x4, .f32⟩
  | 37 => ⟨S4x8x4x4x4, .f32⟩
  | 38 => ⟨S4x8x4x4x4, .f32⟩
  | 39 => ⟨S4x8x4x4x4, .bf16⟩
  | 40 => ⟨S4x8192x8x64, .i32⟩
  | 41 => ⟨S_, .i32⟩
  | 42 => ⟨S4x8192x8x64, .i32⟩
  | 43 => ⟨S4x8192x8x64, .i32⟩
  | 44 => ⟨S_, .i32⟩
  | 45 => ⟨S4x8192x8x64, .i32⟩
  | 46 => ⟨S4x8192x8x64, .i32⟩
  | 47 => ⟨S_, .i32⟩
  | 48 => ⟨S4x8192x8x64, .i32⟩
  | 49 => ⟨S4x8192x8x64, .i32⟩
  | 50 => ⟨S_, .i32⟩
  | 51 => ⟨S4x8192x8x64, .i32⟩
  | 52 => ⟨S4x8192x8x64, .i32⟩
  | 53 => ⟨S_, .i32⟩
  | 54 => ⟨S4x8192x8x64, .i32⟩
  | 55 => ⟨S4x8192x8x64, .i32⟩
  | 56 => ⟨S_, .i32⟩
  | 57 => ⟨S4x8192x8x64, .i32⟩
  | 58 => ⟨S4x8192x8x64, .i32⟩
  | 59 => ⟨S_, .i32⟩
  | 60 => ⟨S4x8192x8x64, .i32⟩
  | 61 => ⟨S4x8192x8x64, .i32⟩
  | 62 => ⟨S4x8192x8x64, .f32⟩
  | 63 => ⟨S4x8192x8x64, .bf16⟩
  | 64 => ⟨S4x8192x8x64, .f32⟩
  | 65 => ⟨S4x8192x8x64, .bf16⟩
  | 66 => ⟨S4x4x8x64, .i32⟩
  | 67 => ⟨S_, .i32⟩
  | 68 => ⟨S4x4x8x64, .i32⟩
  | 69 => ⟨S4x4x8x64, .i32⟩
  | 70 => ⟨S_, .i32⟩
  | 71 => ⟨S4x4x8x64, .i32⟩
  | 72 => ⟨S4x4x8x64, .i32⟩
  | 73 => ⟨S_, .i32⟩
  | 74 => ⟨S4x4x8x64, .i32⟩
  | 75 => ⟨S4x4x8x64, .i32⟩
  | 76 => ⟨S_, .i32⟩
  | 77 => ⟨S4x4x8x64, .i32⟩
  | 78 => ⟨S4x4x8x64, .i32⟩
  | 79 => ⟨S_, .i32⟩
  | 80 => ⟨S4x4x8x64, .i32⟩
  | 81 => ⟨S4x4x8x64, .i32⟩
  | 82 => ⟨S_, .i32⟩
  | 83 => ⟨S4x4x8x64, .i32⟩
  | 84 => ⟨S4x4x8x64, .i32⟩
  | 85 => ⟨S_, .i32⟩
  | 86 => ⟨S4x4x8x64, .i32⟩
  | 87 => ⟨S4x4x8x64, .i32⟩
  | 88 => ⟨S4x4x8x64, .f32⟩
  | 89 => ⟨S4x4x8x64, .bf16⟩
  | 90 => ⟨S4x4x8x64, .f32⟩
  | 91 => ⟨S4x4x8x64, .bf16⟩
  | 92 => ⟨S4x8x64x4x4, .f32⟩
  | 93 => ⟨S4x4x8x4x64, .f32⟩
  | 94 => ⟨S4x8x64x4x4, .f32⟩
  | 95 => ⟨S4x4x8x4x64, .f32⟩
  | 96 => ⟨S4x4x8x4x64, .f32⟩
  | 97 => ⟨S4x8x64x4x4, .f32⟩
  | 98 => ⟨S4x4x8x4x64, .f32⟩
  | 99 => ⟨S4x8x64x4x4, .f32⟩
  | 100 => ⟨S4x4x8x4x64, .f32⟩
  | 101 => ⟨S4x4x8x4x64, .f32⟩
  | 102 => ⟨S4x4x8x4x64x1, .f32⟩
  | 103 => ⟨S4x4x8x4x64x1, .f32⟩
  | 104 => ⟨S4x4x8x4x64x2, .f32⟩
  | 105 => ⟨S4x4x32x128, .f32⟩
  | 106 => ⟨S4x4x32x128, .bf16⟩
  | _ => ⟨S4x4x32x128, .bf16⟩

abbrev hbmTy (i : Nat) : BufTy := match i / 128 with
  | 0 => hbmTy0_0 i
  | 1 => hbmTy0_1 i
  | _ => ⟨S4x4x32x128, .bf16⟩

abbrev bufTy : (tb : Table) → Fin (tcTables nBuf tb) → BufTy
  | .hbm, ⟨i, _⟩ => hbmTy i
  | .local _ .vmem, ⟨0, _⟩ => ⟨S4x4x8x128, .f32⟩
  | .local _ .vmem, ⟨1, _⟩ => ⟨S4x8192x8x128, .fp8e4m3⟩
  | .local _ .vmem, ⟨2, _⟩ => ⟨S4x4x8x128, .fp8e4m3⟩
  | .local _ .vmem, ⟨3, _⟩ => ⟨S4x4x8x128, .bf16⟩
  | .local _ .vmem, ⟨4, _⟩ => ⟨S4x8192x8x128, .bf16⟩
  | _, _ => ⟨S4x4x32x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_cst_3 : Ref sig .tc := ⟨.hbm, 33, rfl⟩
abbrev main_v17 : Ref sig .tc := ⟨.hbm, 34, rfl⟩
abbrev main_v18 : Ref sig .tc := ⟨.hbm, 35, rfl⟩
abbrev main_cst_4 : Ref sig .tc := ⟨.hbm, 36, rfl⟩
abbrev main_call1_v0 : Ref sig .tc := ⟨.hbm, 37, rfl⟩
abbrev main_call1_v1 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_5 : Ref sig .tc := ⟨.hbm, 44, rfl⟩
abbrev main_cst_6 : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_v24 : Ref sig .tc := ⟨.hbm, 51, rfl⟩
abbrev main_v25_0 : Ref sig .tc := ⟨.hbm, 52, rfl⟩
abbrev main_v25_1 : Ref sig .tc := ⟨.hbm, 53, rfl⟩
abbrev main_v25_2 : Ref sig .tc := ⟨.hbm, 54, rfl⟩
abbrev main_v26 : Ref sig .tc := ⟨.hbm, 55, rfl⟩
abbrev main_v27 : Ref sig .tc := ⟨.hbm, 56, rfl⟩
abbrev main_cst_7 : Ref sig .tc := ⟨.hbm, 57, rfl⟩
abbrev main_v28 : Ref sig .tc := ⟨.hbm, 58, rfl⟩
abbrev main_cst_8 : Ref sig .tc := ⟨.hbm, 59, rfl⟩
abbrev main_v29 : Ref sig .tc := ⟨.hbm, 60, rfl⟩
abbrev main_v30 : Ref sig .tc := ⟨.hbm, 61, rfl⟩
abbrev main_cst_9 : Ref sig .tc := ⟨.hbm, 62, rfl⟩
abbrev main_v31 : Ref sig .tc := ⟨.hbm, 63, rfl⟩
abbrev main_v32 : Ref sig .tc := ⟨.hbm, 64, rfl⟩
abbrev main_cst_10 : Ref sig .tc := ⟨.hbm, 65, rfl⟩
abbrev main_call3_v0 : Ref sig .tc := ⟨.hbm, 66, rfl⟩
abbrev main_call3_v1 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_cst_11 : Ref sig .tc := ⟨.hbm, 73, rfl⟩
abbrev main_cst_12 : Ref sig .tc := ⟨.hbm, 74, rfl⟩
abbrev main_call5_v0 : Ref sig .tc := ⟨.hbm, 75, rfl⟩
abbrev main_call5_v1 : Ref sig .tc := ⟨.hbm, 76, rfl⟩
abbrev main_call5_v2 : Ref sig .tc := ⟨.hbm, 77, rfl⟩
abbrev main_call5_v3 : Ref sig .tc := ⟨.hbm, 78, rfl⟩
abbrev main_call5_v4 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_c_13 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_c_14 : Ref sig .tc := ⟨.hbm, 87, rfl⟩
abbrev main_v44 : Ref sig .tc := ⟨.hbm, 88, rfl⟩
abbrev main_v45 : Ref sig .tc := ⟨.hbm, 89, rfl⟩
abbrev main_c_15 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_cst_16 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_cst_17 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_cst_18 : Ref sig .tc := ⟨.hbm, 117, rfl⟩
abbrev main_call6_v0 : Ref sig .tc := ⟨.hbm, 118, rfl⟩
abbrev main_call6_v1 : Ref sig .tc := ⟨.hbm, 119, rfl⟩
abbrev main_call6_v2 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_cst_19 : Ref sig .tc := ⟨.hbm, 129, rfl⟩
abbrev main_call7_v0 : Ref sig .tc := ⟨.hbm, 130, rfl⟩
abbrev main_call7_v1 : Ref sig .tc := ⟨.hbm, 131, rfl⟩
abbrev main_call7_v2 : Ref sig .tc := ⟨.hbm, 132, rfl⟩
abbrev main_v78 : Ref sig .tc := ⟨.hbm, 133, rfl⟩
abbrev main_cst_20 : Ref sig .tc := ⟨.hbm, 134, rfl⟩
abbrev main_v79 : Ref sig .tc := ⟨.hbm, 135, rfl⟩
abbrev main_v80 : Ref sig .tc := ⟨.hbm, 136, rfl⟩
abbrev main_cst_21 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_cst_22 : Ref sig .tc := ⟨.hbm, 147, rfl⟩
abbrev main_v90 : Ref sig .tc := ⟨.hbm, 148, rfl⟩
abbrev main_v91 : Ref sig .tc := ⟨.hbm, 149, rfl⟩
abbrev main_cst_23 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_c_24 : Ref sig .tc := ⟨.hbm, 169, rfl⟩
abbrev main_v110 : Ref sig .tc := ⟨.hbm, 170, rfl⟩
abbrev main_v111 : Ref sig .tc := ⟨.hbm, 171, rfl⟩
abbrev main_c_25 : Ref sig .tc := ⟨.hbm, 172, rfl⟩
abbrev main_v112 : Ref sig .tc := ⟨.hbm, 173, rfl⟩
abbrev main_v113 : Ref sig .tc := ⟨.hbm, 174, rfl⟩
abbrev main_c_26 : Ref sig .tc := ⟨.hbm, 175, rfl⟩
abbrev main_v114 : Ref sig .tc := ⟨.hbm, 176, rfl⟩
abbrev main_v115 : Ref sig .tc := ⟨.hbm, 177, rfl⟩
abbrev main_c_27 : Ref sig .tc := ⟨.hbm, 178, rfl⟩
abbrev main_v116 : Ref sig .tc := ⟨.hbm, 179, rfl⟩
abbrev main_v117 : Ref sig .tc := ⟨.hbm, 180, rfl⟩
abbrev main_c_28 : Ref sig .tc := ⟨.hbm, 181, rfl⟩
abbrev main_v118 : Ref sig .tc := ⟨.hbm, 182, rfl⟩
abbrev main_v119 : Ref sig .tc := ⟨.hbm, 183, rfl⟩
abbrev main_c_29 : Ref sig .tc := ⟨.hbm, 184, rfl⟩
abbrev main_v120 : Ref sig .tc := ⟨.hbm, 185, rfl⟩
abbrev main_v121 : Ref sig .tc := ⟨.hbm, 186, rfl⟩
abbrev main_c_30 : Ref sig .tc := ⟨.hbm, 187, rfl⟩
abbrev main_v122 : Ref sig .tc := ⟨.hbm, 188, rfl⟩
abbrev main_v123 : Ref sig .tc := ⟨.hbm, 189, rfl⟩
abbrev main_v124 : Ref sig .tc := ⟨.hbm, 190, rfl⟩
abbrev main_v125 : Ref sig .tc := ⟨.hbm, 191, rfl⟩
abbrev main_v126 : Ref sig .tc := ⟨.hbm, 192, rfl⟩
abbrev main_v127 : Ref sig .tc := ⟨.hbm, 193, rfl⟩
abbrev main_v128 : Ref sig .tc := ⟨.hbm, 194, rfl⟩
abbrev main_c_31 : Ref sig .tc := ⟨.hbm, 195, rfl⟩
abbrev main_v129 : Ref sig .tc := ⟨.hbm, 196, rfl⟩
abbrev main_v130 : Ref sig .tc := ⟨.hbm, 197, rfl⟩
abbrev main_c_32 : Ref sig .tc := ⟨.hbm, 198, rfl⟩
abbrev main_v131 : Ref sig .tc := ⟨.hbm, 199, rfl⟩
abbrev main_v132 : Ref sig .tc := ⟨.hbm, 200, rfl⟩
abbrev main_c_33 : Ref sig .tc := ⟨.hbm, 201, rfl⟩
abbrev main_v133 : Ref sig .tc := ⟨.hbm, 202, rfl⟩
abbrev main_v134 : Ref sig .tc := ⟨.hbm, 203, rfl⟩
abbrev main_c_34 : Ref sig .tc := ⟨.hbm, 204, rfl⟩
abbrev main_v135 : Ref sig .tc := ⟨.hbm, 205, rfl⟩
abbrev main_v136 : Ref sig .tc := ⟨.hbm, 206, rfl⟩
abbrev main_c_35 : Ref sig .tc := ⟨.hbm, 207, rfl⟩
abbrev main_v137 : Ref sig .tc := ⟨.hbm, 208, rfl⟩
abbrev main_v138 : Ref sig .tc := ⟨.hbm, 209, rfl⟩
abbrev main_c_36 : Ref sig .tc := ⟨.hbm, 210, rfl⟩
abbrev main_v139 : Ref sig .tc := ⟨.hbm, 211, rfl⟩
abbrev main_v140 : Ref sig .tc := ⟨.hbm, 212, rfl⟩
abbrev main_c_37 : Ref sig .tc := ⟨.hbm, 213, rfl⟩
abbrev main_v141 : Ref sig .tc := ⟨.hbm, 214, rfl⟩
abbrev main_v142 : Ref sig .tc := ⟨.hbm, 215, rfl⟩
abbrev main_v143 : Ref sig .tc := ⟨.hbm, 216, rfl⟩
abbrev main_v144 : Ref sig .tc := ⟨.hbm, 217, rfl⟩
abbrev main_v145 : Ref sig .tc := ⟨.hbm, 218, rfl⟩
abbrev main_v146 : Ref sig .tc := ⟨.hbm, 219, rfl⟩
abbrev main_v147 : Ref sig .tc := ⟨.hbm, 220, rfl⟩
abbrev main_v148 : Ref sig .tc := ⟨.hbm, 221, rfl⟩
abbrev main_v149 : Ref sig .tc := ⟨.hbm, 222, rfl⟩
abbrev main_v150 : Ref sig .tc := ⟨.hbm, 223, rfl⟩
abbrev main_v151 : Ref sig .tc := ⟨.hbm, 224, rfl⟩
abbrev main_v152 : Ref sig .tc := ⟨.hbm, 225, rfl⟩
abbrev main_v153 : Ref sig .tc := ⟨.hbm, 226, rfl⟩
abbrev main_v154 : Ref sig .tc := ⟨.hbm, 227, rfl⟩
abbrev main_v155 : Ref sig .tc := ⟨.hbm, 228, rfl⟩
abbrev main_v156 : Ref sig .tc := ⟨.hbm, 229, rfl⟩
abbrev main_v157 : Ref sig .tc := ⟨.hbm, 230, rfl⟩
abbrev main_v158 : Ref sig .tc := ⟨.hbm, 231, rfl⟩
abbrev main_v159 : Ref sig .tc := ⟨.hbm, 232, rfl⟩
abbrev main_v160 : Ref sig .tc := ⟨.hbm, 233, rfl⟩
abbrev main_v161 : Ref sig .tc := ⟨.hbm, 234, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4x4x8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x8192x8x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x4x8x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x4x8x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x8192x8x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Words.lean ====
/-
  The word arithmetic of the block index: the index maps of the cache windows send the grid point `(b, i)` to the block
  `min i ((n - 1) / 1024)`, `n` the length of batch row `b`. Read off the printed chain of scalar operations.
-/
module

public import Idealize.ShloMosaic.Lib.Routing.Words
public import Idealize.ShloMosaic.Lib.Affine
public import Idealize.ShloMosaic.Lib.ReduceAll

@[expose] public section

namespace Cert.Words

open Idealize.ShloMosaic

/-- The printed index chain of a cache window: `min i ((n - 1) // 1024)`, as scalar operations. -/
def blockWord (i n : BitVec 32) : BitVec 32 :=
  let v2 := Scalar.subi n 1#32
  let v3 := Scalar.divsi v2 1024#32
  let v8 := Scalar.subi (Scalar.extui (Scalar.cmpi .sgt v2 0#32) : BitVec 32) (Scalar.extui (Scalar.cmpi .slt v2 0#32))
  let v13 := Scalar.subi (Scalar.extui (Scalar.cmpi .sgt 1024#32 0#32) : BitVec 32) (Scalar.extui (Scalar.cmpi .slt 1024#32 0#32))
  let v17 := Scalar.andi (Scalar.cmpi .ne v8 v13) (Scalar.cmpi .ne (Scalar.remsi v2 1024#32) 0#32)
  Scalar.minsi i (Scalar.select v17 (Scalar.subi v3 1#32) v3)

/-- Its value where the length is at least one. -/
theorem blockWord_toNat {i n : BitVec 32} (hi : i.toNat < 8) (h1 : 1 ≤ n.toNat) (h2 : n.toNat < 2 ^ 31) :
    (blockWord i n).toNat = min i.toNat ((n.toNat - 1) / 1024) := by
  obtain ⟨k, hk⟩ : ∃ k : Nat, k = n.toNat - 1 := ⟨_, rfl⟩
  have hs : Scalar.subi n 1#32 = BitVec.ofNat 32 k := by
    apply BitVec.eq_of_toNat_eq
    show (n - 1#32).toNat = _
    rw [BitVec.toNat_sub, BitVec.toNat_ofNat, BitVec.toNat_ofNat]; omega
  have hk31 : k < 2 ^ 31 := by omega
  have hd : Scalar.divsi (BitVec.ofNat 32 k) 1024#32 = BitVec.ofNat 32 (k / 1024) :=
    Routing.divsi_word .scalar hk31 (by omega) (by omega)
  have hr : Scalar.remsi (BitVec.ofNat 32 k) 1024#32 = BitVec.ofNat 32 (k % 1024) :=
    Routing.remsi_word .scalar hk31 (by omega) (by omega)
  have hsel : Scalar.select (Scalar.andi (Scalar.cmpi .ne
        (Scalar.subi (Scalar.extui (Scalar.cmpi .sgt (BitVec.ofNat 32 k) 0#32) : BitVec 32) (Scalar.extui (Scalar.cmpi .slt (BitVec.ofNat 32 k) 0#32)))
        (Scalar.subi (Scalar.extui (Scalar.cmpi .sgt 1024#32 0#32) : BitVec 32) (Scalar.extui (Scalar.cmpi .slt 1024#32 0#32))))
        (Scalar.cmpi .ne (BitVec.ofNat 32 (k % 1024)) 0#32)) (Scalar.subi (BitVec.ofNat 32 (k / 1024)) 1#32) (BitVec.ofNat 32 (k / 1024))
      = BitVec.ofNat 32 (k / 1024) := by
    have hlt : Scalar.cmpi .slt (BitVec.ofNat 32 k) 0#32 = 0#1 := by
      show BitVec.ofBool ((BitVec.ofNat 32 k).slt 0#32) = 0#1
      have : (BitVec.ofNat 32 k).slt 0#32 = false := by
        rw [BitVec.slt_eq_decide, decide_eq_false_iff_not, BitVec.toInt_eq_toNat_of_lt (by rw [BitVec.toNat_ofNat]; omega)]
        simp; omega
      rw [this]; rfl
    rcases Nat.eq_zero_or_pos k with rfl | hpos
    · rfl
    · have hgt : Scalar.cmpi .sgt (BitVec.ofNat 32 k) 0#32 = 1#1 := by
        show BitVec.ofBool ((0#32).slt (BitVec.ofNat 32 k)) = 1#1
        have : (0#32).slt (BitVec.ofNat 32 k) = true := by
          rw [BitVec.slt_eq_decide, decide_eq_true_iff, BitVec.toInt_eq_toNat_of_lt (x := BitVec.ofNat 32 k) (by rw [BitVec.toNat_ofNat]; omega)]
          simp [BitVec.toNat_ofNat]; omega
        rw [this]; rfl
      rw [hlt, hgt]
      generalize Scalar.cmpi .ne (BitVec.ofNat 32 (k % 1024)) 0#32 = z
      have : ∀ z : BitVec 1, Scalar.andi (Scalar.cmpi .ne
        (Scalar.subi (Scalar.extui (1#1) : BitVec 32) (Scalar.extui (0#1)))
        (Scalar.subi (Scalar.extui (Scalar.cmpi .sgt 1024#32 0#32) : BitVec 32) (Scalar.extui (Scalar.cmpi .slt 1024#32 0#32)))) z = 0#1 := by decide
      rw [this]; rfl
  show (Scalar.minsi i (Scalar.select _ _ _)).toNat = _
  rw [hs, hd, hr, hsel, ← hk]
  show (if i.slt (BitVec.ofNat 32 (k / 1024)) then i else BitVec.ofNat 32 (k / 1024)).toNat = _
  rw [BitVec.slt_eq_decide, BitVec.toInt_eq_toNat_of_lt (x := i) (by omega),
    BitVec.toInt_eq_toNat_of_lt (x := BitVec.ofNat 32 (k / 1024)) (by rw [BitVec.toNat_ofNat]; omega), BitVec.toNat_ofNat,
    Nat.mod_eq_of_lt (by omega)]
  split
  · rename_i h; have := of_decide_eq_true h; omega
  · rename_i h; have := of_decide_eq_false (Bool.eq_false_iff.2 h); rw [BitVec.toNat_ofNat, Nat.mod_eq_of_lt (by omega)]; omega

/-- A length that a signed comparison found at least one. -/
theorem length_pos {n : BitVec 32} (h : IntOp.cmpi .sge n 1#32 = 1#1) : 1 ≤ n.toNat ∧ n.toNat < 2 ^ 31 := by
  rw [IntOp.cmpi_sge, show (1#32 : BitVec 32).toInt = 1 from rfl] at h
  rw [BitVec.toInt_eq_toNat_cond] at h
  split at h <;> omega

end Cert.Words

end
-- ==== Proof.KitKernelIdeal.lean ====
/-
  What KernelIdeal's body obligation is stated over: the memory when the region is entered, the windows' blocks, the schedule of the output windows,
  the body's branch conditions and the scratch memrefs.
-/
module

public import proofs.«01_k».proof.Proof.Gen.KernelIdeal
public import proofs.«01_k».proof.Proof.Gen.KernelIdeal.Launch
public import proofs.«01_k».proof.Proof.Gen.KernelIdeal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- Window 7 (result 0 (%3#0)) is written back at the points ≡ 7 (mod 8), at any contents of the tables (its index map reads none). -/
theorem flush0_7 (a : (pcfg0 (F := F)).Adm) : ∀ t : Fin (cfg0 a).N, ((cfg0 a).win 7).flush t = true ↔ t.val % 8 = 7 :=
  (fun t => Pipeline.Window.flushOf_reads cc0_transform_7 reads0_7 hreads0_7 0 (by decide) (by decide) (Pipeline.Window.sep_of_coord cc0_transform_7 0 0 (fun _ => rfl) (by decide)) (P := 8) (m := 7) (by decide) rfl t : ∀ t : Fin grid0.N, Pipeline.Window.flushOf grid0 true cc0_transform_7 t = true ↔ t.val % 8 = 7)
/-- Window 8 (result 1 (%3#1)) is written back at the points ≡ 7 (mod 8), at any contents of the tables (its index map reads none). -/
theorem flush0_8 (a : (pcfg0 (F := F)).Adm) : ∀ t : Fin (cfg0 a).N, ((cfg0 a).win 8).flush t = true ↔ t.val % 8 = 7 :=
  (fun t => Pipeline.Window.flushOf_reads cc0_transform_8 reads0_8 hreads0_8 0 (by decide) (by decide) (Pipeline.Window.sep_of_coord cc0_transform_8 0 0 (fun _ => rfl) (by decide)) (P := 8) (m := 7) (by decide) rfl t : ∀ t : Fin grid0.N, Pipeline.Window.flushOf grid0 true cc0_transform_8 t = true ↔ t.val % 8 = 7)
/-- Window 9 (result 2 (%3#2)) is written back at the points ≡ 7 (mod 8), at any contents of the tables (its index map reads none). -/
theorem flush0_9 (a : (pcfg0 (F := F)).Adm) : ∀ t : Fin (cfg0 a).N, ((cfg0 a).win 9).flush t = true ↔ t.val % 8 = 7 :=
  (fun t => Pipeline.Window.flushOf_reads cc0_transform_9 reads0_9 hreads0_9 0 (by decide) (by decide) (Pipeline.Window.sep_of_coord cc0_transform_9 0 0 (fun _ => rfl) (by decide)) (P := 8) (m := 7) (by decide) rfl t : ∀ t : Fin grid0.N, Pipeline.Window.flushOf grid0 true cc0_transform_9 t = true ↔ t.val % 8 = 7)
/-- Window 10 (result 3 (%3#3)) is written back at the points ≡ 7 (mod 8), at any contents of the tables (its index map reads none). -/
theorem flush0_10 (a : (pcfg0 (F := F)).Adm) : ∀ t : Fin (cfg0 a).N, ((cfg0 a).win 10).flush t = true ↔ t.val % 8 = 7 :=
  (fun t => Pipeline.Window.flushOf_reads cc0_transform_10 reads0_10 hreads0_10 0 (by decide) (by decide) (Pipeline.Window.sep_of_coord cc0_transform_10 0 0 (fun _ => rfl) (by decide)) (P := 8) (m := 7) (by decide) rfl t : ∀ t : Fin grid0.N, Pipeline.Window.flushOf grid0 true cc0_transform_10 t = true ↔ t.val % 8 = 7)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_decode_attn (grid0.coords t) (Memref.whole main_arg7) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S4 .i32 := Memref.whole main_arg7
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      ((h c).2 main_arg3 (by decide : main_arg3 ∈ Pipeline.restRefs sig spec0)).trans (V_main_arg3 m c),
      (Pipeline.RDat.FramePost.arr_in h c 3 rfl).trans ((hA c 3).trans (V_main_arg4 m c)),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      ((h c).2 main_arg7 (by decide : main_arg7 ∈ Pipeline.restRefs sig spec0)).trans (V_main_arg7 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 8) — by arithmetic of the point. -/
theorem hcond0_0 : ∀ t : Fin grid0.N, cond0_0 (grid0.coords t) ↔ t.val % 8 = 0 :=
  (fun t => by
    have ht : t.val < 32 := Nat.lt_of_lt_of_eq t.isLt N_0
    have e0 : (grid0.coords t 0).val = t.val / 8 % 4 := Pipeline.Grid.coords_val t 0 (by decide) rfl
    have e1 : (grid0.coords t 1).val = t.val / 1 % 8 := Pipeline.Grid.coords_val t 1 (by decide) rfl
    simp only [cond0_0, k0_cond1, e0, e1]
    word_cmp
   : ∀ t : Fin grid0.N, cond0_0 (grid0.coords t) ↔ t.val % 8 = 0)

/-- The condition of the body's `scf.if` 1: over WORDS the body reads from its tables or input SMEM windows
    (`v1`), so no function of the point — a case variable: a hypothesis of each run, a `by_cases`
    of the obligation and an `if` of `outsAt`, stated over the argument blocks' words there. -/
abbrev cond0_1 (i : grid0.Coords) (v1 : BitVec 32) : Prop := (Scalar.cmpi .ne (Scalar.extui (Scalar.cmpi .slt (Scalar.muli (BitVec.ofNat 32 (i 1).val) 1024#32) v1)) 0#32) = 1#1

/-- The condition of the body's `scf.if` 2 (`k0_h3`), from the grid coordinates (the skeleton's scalar
    chain substituted). -/
abbrev cond0_2 (i : grid0.Coords) : Prop := k0_cond3 i = 1#1
/-- It holds at the points ≡ 7 (mod 8) — by arithmetic of the point. -/
theorem hcond0_2 : ∀ t : Fin grid0.N, cond0_2 (grid0.coords t) ↔ t.val % 8 = 7 :=
  (fun t => by
    have ht : t.val < 32 := Nat.lt_of_lt_of_eq t.isLt N_0
    have e0 : (grid0.coords t 0).val = t.val / 8 % 4 := Pipeline.Grid.coords_val t 0 (by decide) rfl
    have e1 : (grid0.coords t 1).val = t.val / 1 % 8 := Pipeline.Grid.coords_val t 1 (by decide) rfl
    simp only [cond0_2, k0_cond3, e0, e1]
    word_cmp
   : ∀ t : Fin grid0.N, cond0_2 (grid0.coords t) ↔ t.val % 8 = 7)

/-! ## Where the windows are idle (the printed configuration's table `Cfg.idle`) -/

/-- Window 0 is never idle (an input). -/
theorem liveAt0_0 (hO : Ok m) : ∀ t : Fin (cfgM m hO).N, (cfgM m hO).idle 0 (grid0.coords t) = false :=
  (fun _ => rfl : ∀ t : Fin grid0.N, idle0 0 (grid0.coords t) = false)
/-- Window 1 is never idle (an input). -/
theorem liveAt0_1 (hO : Ok m) : ∀ t : Fin (cfgM m hO).N, (cfgM m hO).idle 1 (grid0.coords t) = false :=
  (fun _ => rfl : ∀ t : Fin grid0.N, idle0 1 (grid0.coords t) = false)
/-- Window 2 is never idle (an input). -/
theorem liveAt0_2 (hO : Ok m) : ∀ t : Fin (cfgM m hO).N, (cfgM m hO).idle 2 (grid0.coords t) = false :=
  (fun _ => rfl : ∀ t : Fin grid0.N, idle0 2 (grid0.coords t) = false)
/-- Window 3 is never idle (an input). -/
theorem liveAt0_3 (hO : Ok m) : ∀ t : Fin (cfgM m hO).N, (cfgM m hO).idle 3 (grid0.coords t) = false :=
  (fun _ => rfl : ∀ t : Fin grid0.N, idle0 3 (grid0.coords t) = false)
/-- Window 4 is never idle (an input). -/
theorem liveAt0_4 (hO : Ok m) : ∀ t : Fin (cfgM m hO).N, (cfgM m hO).idle 4 (grid0.coords t) = false :=
  (fun _ => rfl : ∀ t : Fin grid0.N, idle0 4 (grid0.coords t) = false)
/-- Window 5 is never idle (an input). -/
theorem liveAt0_5 (hO : Ok m) : ∀ t : Fin (cfgM m hO).N, (cfgM m hO).idle 5 (grid0.coords t) = false :=
  (fun _ => rfl : ∀ t : Fin grid0.N, idle0 5 (grid0.coords t) = false)
/-- Window 6 is never idle (an input). -/
theorem liveAt0_6 (hO : Ok m) : ∀ t : Fin (cfgM m hO).N, (cfgM m hO).idle 6 (grid0.coords t) = false :=
  (fun _ => rfl : ∀ t : Fin grid0.N, idle0 6 (grid0.coords t) = false)
/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1x4x32x128 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x4x8x128 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x4x8x128 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x8x128 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1024x8x128 .fp8e4m3 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x8x64x1024 .i8 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x8x1024 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x4x32x128 .bf16 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x4x8x128 .fp8e4m3 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S1x4x8x64 .i8 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S1x4x8 .f32 := spec0_10.stage ((cfgM m hO).slots t 10)
abbrev hs0_10 (hO : Ok m) (t : Fin (cfgM m hO).N) : (ms0_10 m hO t).IsWhole := hstage0_10 (((cfgM m hO).slots t 10).cast nbuf0_10)
/-- The scratch operands: whole scoped buffers of the kernel's own, passed beside the windows. -/
abbrev scM0_0 : Memref sig .tc .vmem S128x512 .bf16 := Memref.whole cc0_scratch0
abbrev scM0_1 : Memref sig .tc .vmem S128x128 .f32 := Memref.whole cc0_scratch1
abbrev scM0_2 : Memref sig .tc .vmem S128x128 .f32 := Memref.whole cc0_scratch2
abbrev scM0_3 : Memref sig .tc .vmem S4x128x256 .f32 := Memref.whole cc0_scratch3
abbrev scM0_4 : Memref sig .tc .vmem S128x128 .f32 := Memref.whole cc0_scratch4
/-- The scratch `arg14` the kernel carries between points, as a view: what it holds is stated through it. -/
abbrev VS0_0 : View sig .tc .vmem S128x512 .bf16 := scM0_0.view
/-- The scratch `arg15` the kernel carries between points, as a view: what it holds is stated through it. -/
abbrev VS0_1 : View sig .tc .vmem S128x128 .f32 := scM0_1.view
/-- The scratch `arg16` the kernel carries between points, as a view: what it holds is stated through it. -/
abbrev VS0_2 : View sig .tc .vmem S128x128 .f32 := scM0_2.view
/-- The scratch `arg17` the kernel carries between points, as a view: what it holds is stated through it. -/
abbrev VS0_3 : View sig .tc .vmem S4x128x256 .f32 := scM0_3.view
/-- The scratch `arg18` the kernel carries between points, as a view: what it holds is stated through it. -/
abbrev VS0_4 : View sig .tc .vmem S128x128 .f32 := scM0_4.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.KernelIdeal.Hand

end
-- ==== Proof.OkKernelIdeal.lean ====
/-
  The side condition of KernelIdeal's prefetched table: where every length is at least one, every block that an index map names is
  inside its array.
-/
module

public import proofs.«01_k».proof.Defs
public import proofs.«01_k».proof.Proof.Words
public import proofs.«01_k».proof.Proof.Gen.Pre_lengths
public import proofs.«01_k».proof.Proof.KitKernelIdeal
public import proofs.«01_k».proof.Proof.Gen.Pre_usable

@[expose] public section

set_option maxRecDepth 16384

noncomputable section

namespace Cert.KernelIdeal.Hand

open Idealize.ShloMosaic Idealize.ShloMosaic.TcCoe Cert.KernelIdeal Cert.KernelIdeal.Gen

variable {F : FTy → Type} [FloatOps F]
variable (m : (ℓ : Loc nD τ sig) → Buf (Elt F) ℓ)

/-- Every length is at least one, and not negative read as a signed word. -/
def LengthsOk : Prop := ∀ i : S4.Idx, 1 ≤ (m ((0 : Dev nD).tc.loc main_arg7) i).toNat ∧ (m ((0 : Dev nD).tc.loc main_arg7) i).toNat < 2 ^ 31

variable {m}

/-- The word that an index map reads at a grid point. -/
theorem at_word (h : LengthsOk m) (i : grid0.Coords) (r : Rect S4) (hr : r.shape.numel = 1) :
    1 ≤ ((tbl m).at 0 r hr).toNat ∧ ((tbl m).at 0 r hr).toNat < 2 ^ 31 := by
  have e : tbl m 0 = m ((0 : Dev nD).tc.loc main_arg7) := V_main_arg7 m 0
  show 1 ≤ (tbl m 0 _).toNat ∧ (tbl m 0 _).toNat < 2 ^ 31
  rw [e]; exact h _

/-- The block that the cache windows take at a grid point is one of the eight. -/
theorem blk_lt (h : LengthsOk m) (i : grid0.Coords) (r : Rect S4) (hr : r.shape.numel = 1) :
    (Cert.Words.blockWord (BitVec.ofNat 32 (i 1).val) ((tbl m).at 0 r hr)).toNat < 8 := by
  have h8 : (i 1).val < 8 := (i 1).isLt
  have hi : (BitVec.ofNat 32 (i 1).val).toNat < 8 := by rw [BitVec.toNat_ofNat]; omega
  rw [Cert.Words.blockWord_toNat hi (at_word h i r hr).1 (at_word h i r hr).2]; omega

/-- The table's side condition. -/
theorem ok_of (h : LengthsOk m) : Ok m := by
  have h4 : ∀ i : grid0.Coords, (i 0).val < 4 := fun i => (i 0).isLt
  have w4 : ∀ i : grid0.Coords, (BitVec.ofNat 32 (i 0).val).toNat < 4 := fun i => by
    have := h4 i; rw [BitVec.toNat_ofNat]; omega
  refine ⟨fun i => ⟨?_, .inr (Affine.block_words_dvd (of_decide_eq_true rfl) (by decide))⟩,
    fun i => ⟨?_, .inr (Affine.block_words_dvd (of_decide_eq_true rfl) (by decide))⟩, fun i => ⟨?_, .inl rfl⟩⟩
  · intro a
    have hb := blk_lt h i (Rect.unit (s := S4) ![(Scalar.indexCast (BitVec.ofNat 32 (i 0).val)).toNat] S1.size (k0_off1_inb i)) numel1_S1
    have hw := w4 i
    match a with
    | 0 => show ((BitVec.ofNat 32 (i 0).val).toNat + 1) * 1 ≤ 4; omega
    | 1 => show ((Cert.Words.blockWord _ _).toNat + 1) * 1024 ≤ 8192; omega
    | 2 => show (0 + 1) * 8 ≤ 8; omega
    | 3 => show (0 + 1) * 128 ≤ 128; omega
  · intro a
    have hb := blk_lt h i (Rect.unit (s := S4) ![(Scalar.indexCast (BitVec.ofNat 32 (i 0).val)).toNat] S1.size (k0_off1_inb i)) numel1_S1
    have hw := w4 i
    match a with
    | 0 => show ((BitVec.ofNat 32 (i 0).val).toNat + 1) * 1 ≤ 4; omega
    | 1 => show (0 + 1) * 8 ≤ 8; omega
    | 2 => show (0 + 1) * 64 ≤ 64; omega
    | 3 => show ((Cert.Words.blockWord _ _).toNat + 1) * 1024 ≤ 8192; omega
  · intro a
    have hb := blk_lt h i (Rect.unit (s := S4) ![(Scalar.indexCast (BitVec.ofNat 32 (i 0).val)).toNat] S1.size (k0_off1_inb i)) numel1_S1
    have hw := w4 i
    match a with
    | 0 => show ((BitVec.ofNat 32 (i 0).val).toNat + 1) * 1 ≤ 4; omega
    | 1 => show (0 + 1) * 8 ≤ 8; omega
    | 2 => show ((Cert.Words.blockWord _ _).toNat + 1) * 1024 ≤ 8192; omega

/-- The precondition says so of the launch memory. -/
theorem lengths_of_pre {m : (ℓ : Loc nD τ sig) → Buf (Elt Ideal) ℓ} (h : Cert.Pre_KernelIdeal m) : LengthsOk m := by
  intro i
  have e := congrFun (h 0) (fun a => a.elim0)
  haveI : Subsingleton Cert.Pre_lengths.S_.Idx := ⟨fun a b => funext fun x => x.elim0⟩
  exact Cert.Words.length_pos (Host.reduce_andi_all _ _ _ _ _ e i)

/-- An extended real whose magnitude is below infinity is a real. -/
theorem real_of_abs_lt {x : EReal} (h : max x (-x) < ⊤) : ∃ r : ℝ, x = (r : EReal) := by
  induction x using EReal.rec with
  | bot => simp at h
  | top => simp at h
  | coe r => exact ⟨r, rfl⟩

theorem inf_bf16 : (Ideal.ofBits .bf16 0x7F80#16 : EReal) = ⊤ := by simp [Ideal.ofBits, Ideal.ieee]
theorem inf_f32 : (Ideal.ofBits .f32 0x7F800000#32 : EReal) = ⊤ := by simp [Ideal.ofBits, Ideal.ieee]

/-- The comparison of a magnitude with infinity, read as a proposition. -/
theorem real_of_cmp {x y : EReal} (hy : y = ⊤) (h : Ideal.cmp .olt (max x (-x)) y = 1#1) : ∃ r : ℝ, x = (r : EReal) := by
  subst hy
  apply real_of_abs_lt
  by_contra hn
  simp [Ideal.cmp, hn] at h

/-- An eight-bit float that is neither of its two NaNs is a real. -/
theorem fp8_real {b : BitVec 8} (h1 : b ≠ 127#8) (h2 : b ≠ 255#8) : ∃ r : ℝ, (Ideal.ofBits .fp8e4m3 b : EReal) = (r : EReal) := by
  have hb : ¬ ((b.extractLsb' 3 4).toNat = 15 ∧ (b.extractLsb' 0 3).toNat = 7) := by
    revert b; decide
  show ∃ r : ℝ, Ideal.e4m3fn b = _
  unfold Ideal.e4m3fn
  simp only [hb, if_false]
  split_ifs <;> exact ⟨_, rfl⟩

/-- What the precondition of the value claim says: the lengths are at least one, the float arguments but the new keys hold reals, and
    so do the cached keys. -/
structure Usable (m : (ℓ : Loc nD τ sig) → Buf (Elt Ideal) ℓ) : Prop where
  lengths : LengthsOk m
  x : ∀ j, ∃ r : ℝ, m ((0 : Dev nD).tc.loc main_arg0) j = (r : EReal)
  vn : ∀ j, ∃ r : ℝ, m ((0 : Dev nD).tc.loc main_arg2) j = (r : EReal)
  ck : ∀ j, ∃ r : ℝ, Ideal.ofBits .fp8e4m3 (m ((0 : Dev nD).tc.loc main_arg3) j) = (r : EReal)
  ks : ∀ j, ∃ r : ℝ, m ((0 : Dev nD).tc.loc main_arg4) j = (r : EReal)
  vs : ∀ j, ∃ r : ℝ, m ((0 : Dev nD).tc.loc main_arg6) j = (r : EReal)

/-- The comparison of two words, read as a proposition. -/
theorem ne_of_cmpi {a b : BitVec 8} (h : IntOp.cmpi .ne a b = 1#1) : a ≠ b := by
  rintro rfl
  simp [IntOp.cmpi] at h

theorem usable_of_pre {m : (ℓ : Loc nD τ sig) → Buf (Elt Ideal) ℓ} (h : Cert.Pre_KernelIdeal_usable m) : Usable m := by
  have e := congrFun (h 0) (fun a => a.elim0)
  haveI : Subsingleton Cert.Pre_usable.S_.Idx := ⟨fun a b => funext fun x => x.elim0⟩
  obtain ⟨e, e6⟩ := IntOp.andi_eq_one.mp e
  obtain ⟨e, e4⟩ := IntOp.andi_eq_one.mp e
  obtain ⟨e, e3⟩ := IntOp.andi_eq_one.mp e
  obtain ⟨e, e2⟩ := IntOp.andi_eq_one.mp e
  obtain ⟨e7, e0⟩ := IntOp.andi_eq_one.mp e
  refine ⟨fun i => Cert.Words.length_pos (Host.reduce_andi_all _ _ _ _ _ e7 i), fun j => ?_, fun j => ?_, fun j => ?_, fun j => ?_, fun j => ?_⟩
  · exact real_of_cmp inf_bf16 (Host.reduce_andi_all _ _ _ _ _ e0 j)
  · exact real_of_cmp inf_bf16 (Host.reduce_andi_all _ _ _ _ _ e2 j)
  · obtain ⟨n1, n2⟩ := IntOp.andi_eq_one.mp (Host.reduce_andi_all _ _ _ _ _ e3 j)
    exact fp8_real (ne_of_cmpi n1) (ne_of_cmpi n2)
  · exact real_of_cmp inf_f32 (Host.reduce_andi_all _ _ _ _ _ e4 j)
  · exact real_of_cmp inf_f32 (Host.reduce_andi_all _ _ _ _ _ e6 j)

end Cert.KernelIdeal.Hand

end
-- ==== Proof.Segments.lean ====
/-
  The kernel's body in three stretches: the first point's, a block's, the last point's.
-/
module

public import proofs.«01_k».proof.Proof.KitKernelIdeal

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- What the body runs at the first point of a batch row. -/
def startSeg (i : grid0.Coords) (arg2 : Memref sig .tc .smem S4 .i32) (harg2 : arg2.IsWhole) (arg3 : Memref sig .tc .vmem S1x4x32x128 .bf16) (harg3 : arg3.IsWhole) (arg4 : Memref sig .tc .vmem S1x4x8x128 .bf16) (harg4 : arg4.IsWhole) (arg5 : Memref sig .tc .vmem S1x4x8x128 .bf16) (harg5 : arg5.IsWhole) (arg6 : Memref sig .tc .vmem S1x8x128 .f32) (harg6 : arg6.IsWhole) (arg7 : Memref sig .tc .vmem S1x1024x8x128 .fp8e4m3) (harg7 : arg7.IsWhole) (arg8 : Memref sig .tc .vmem S1x8x64x1024 .i8) (harg8 : arg8.IsWhole) (arg9 : Memref sig .tc .vmem S1x8x1024 .f32) (harg9 : arg9.IsWhole) (arg10 : Memref sig .tc .vmem S1x4x32x128 .bf16) (harg10 : arg10.IsWhole) (arg11 : Memref sig .tc .vmem S1x4x8x128 .fp8e4m3) (harg11 : arg11.IsWhole) (arg12 : Memref sig .tc .vmem S1x4x8x64 .i8) (harg12 : arg12.IsWhole) (arg13 : Memref sig .tc .vmem S1x4x8 .f32) (harg13 : arg13.IsWhole) (arg14 : Memref sig .tc .vmem S128x512 .bf16) (harg14 : arg14.IsWhole) (arg15 : Memref sig .tc .vmem S128x128 .f32) (harg15 : arg15.IsWhole) (arg16 : Memref sig .tc .vmem S128x128 .f32) (harg16 : arg16.IsWhole) (arg17 : Memref sig .tc .vmem S4x128x256 .f32) (harg17 : arg17.IsWhole) (arg18 : Memref sig .tc .vmem S128x128 .f32) (harg18 : arg18.IsWhole) (k0_h1 : k0_cond1 i = 1#1) : Prog (TpuEff nD τ sig (Elt F) Λ₀ .tc) PUnit := do
  k0_part13 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
  let v577 : Vec F S4x128x256 .f32 ← Prog.lift (.load arg17 (Rect.unit (s := S4x128x256) ![0, 0, 0] S4x128x256.size inb_S4x128x256_S4x128x256_0_0_0).toLoadRect (View.loadsAt_vmem h_S4x128x256))
  Prog.lift (.store arg17 (Rect.unit (s := S4x128x256) ![0, 0, 0] S4x128x256.size inb_S4x128x256_S4x128x256_0_0_0) (k0_pay1 (F := F)) Finset.univ (View.stores_vmem_bits_univ h_S4x128x256 rfl) (.inl rfl))
  pure ⟨⟩

/-- What the body runs at a point whose block holds valid rows. -/
def blockSeg (i : grid0.Coords) (arg2 : Memref sig .tc .smem S4 .i32) (harg2 : arg2.IsWhole) (arg3 : Memref sig .tc .vmem S1x4x32x128 .bf16) (harg3 : arg3.IsWhole) (arg4 : Memref sig .tc .vmem S1x4x8x128 .bf16) (harg4 : arg4.IsWhole) (arg5 : Memref sig .tc .vmem S1x4x8x128 .bf16) (harg5 : arg5.IsWhole) (arg6 : Memref sig .tc .vmem S1x8x128 .f32) (harg6 : arg6.IsWhole) (arg7 : Memref sig .tc .vmem S1x1024x8x128 .fp8e4m3) (harg7 : arg7.IsWhole) (arg8 : Memref sig .tc .vmem S1x8x64x1024 .i8) (harg8 : arg8.IsWhole) (arg9 : Memref sig .tc .vmem S1x8x1024 .f32) (harg9 : arg9.IsWhole) (arg10 : Memref sig .tc .vmem S1x4x32x128 .bf16) (harg10 : arg10.IsWhole) (arg11 : Memref sig .tc .vmem S1x4x8x128 .fp8e4m3) (harg11 : arg11.IsWhole) (arg12 : Memref sig .tc .vmem S1x4x8x64 .i8) (harg12 : arg12.IsWhole) (arg13 : Memref sig .tc .vmem S1x4x8 .f32) (harg13 : arg13.IsWhole) (arg14 : Memref sig .tc .vmem S128x512 .bf16) (harg14 : arg14.IsWhole) (arg15 : Memref sig .tc .vmem S128x128 .f32) (harg15 : arg15.IsWhole) (arg16 : Memref sig .tc .vmem S128x128 .f32) (harg16 : arg16.IsWhole) (arg17 : Memref sig .tc .vmem S4x128x256 .f32) (harg17 : arg17.IsWhole) (arg18 : Memref sig .tc .vmem S128x128 .f32) (harg18 : arg18.IsWhole) (v1 : Elt F .i32) : Prog (TpuEff nD τ sig (Elt F) Λ₀ .tc) PUnit := do
  let arg1 : BitVec 32 := BitVec.ofNat 32 (i 1).val
  let ⟨v16, v20, v24, v28, v32, v36, v40⟩ : Σ' (v16 : IVec S256x1024 16) (v20 : FVec F S512x128 .fp8e4m3) (v24 : FVec F S512x128 .fp8e4m3) (v28 : FVec F S512x128 .fp8e4m3) (v32 : FVec F S512x128 .fp8e4m3) (v36 : FVec F S512x128 .fp8e4m3), FVec F S512x128 .fp8e4m3 ← k0_part14 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
  let ⟨v51, v55, v59, v63, v67, v71⟩ : Σ' (v51 : FVec F S64x1024 .f32) (v55 : FVec F S512x128 .fp8e4m3) (v59 : FVec F S512x128 .fp8e4m3) (v63 : FVec F S512x128 .fp8e4m3) (v67 : FVec F S512x128 .fp8e4m3), FVec F S512x128 .fp8e4m3 ← k0_part15 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v20 v24 v28 v32 v36 v40
  let ⟨v100, v102, v105, v108⟩ : Σ' (v100 : FVec F S128x1 .f32) (v102 : FVec F S128x1 .f32) (v105 : FVec F S128x1024 .f32), FVec F S128x128 .f32 ← k0_part16 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v1 v51 v55 v59 v63 v67 v71
  let ⟨v151, v154, v157, v159⟩ : Σ' (v151 : FVec F S128x1024 .bf16) (v154 : IVec S64x256 32) (v157 : IVec S64x256 32), IVec S128x256 16 ← k0_part17 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v16 v100 v105 v108
  let ⟨v160, v163, v166, v169, v172, v175, v184, v193, v202, v204, v205⟩ : Σ' (v160 : IVec S64x256 32) (v163 : IVec S64x256 32) (v166 : IVec S64x256 32) (v169 : IVec S64x256 32) (v172 : IVec S64x256 32) (v175 : IVec S64x256 32) (v184 : FVec F S128x256 .bf16) (v193 : FVec F S128x256 .bf16) (v202 : FVec F S128x256 .bf16) (v204 : IVec S64x256 32), IVec S64x256 32 ← k0_part18 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v16 v154 v157 v159
  let ⟨v211, v220, v229, v238, v247⟩ : Σ' (v211 : FVec F S128x256 .bf16) (v220 : FVec F S128x256 .bf16) (v229 : FVec F S128x256 .bf16) (v238 : FVec F S128x256 .bf16), FVec F S128x256 .bf16 ← k0_part19 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v166 v169 v172 v175 v204 v205
  let ⟨v266, v275, v284, v286⟩ : Σ' (v266 : FVec F S128x256 .bf16) (v275 : FVec F S128x256 .bf16) (v284 : FVec F S128x256 .bf16), IVec S64x256 32 ← k0_part20 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v102 v151 v154 v157 v160 v163 v184 v193 v202 v211 v220 v229 v238 v247
  let ⟨v293, v302, v311, v320, v327, cst_149⟩ : Σ' (v293 : FVec F S128x256 .bf16) (v302 : FVec F S128x256 .bf16) (v311 : FVec F S128x256 .bf16) (v320 : FVec F S128x256 .bf16) (v327 : FVec F S128x256 .bf16), F .bf16 ← k0_part21 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v166 v169 v172 v175 v286
  let ⟨v348, v357, v366, c8_i32_167⟩ : Σ' (v348 : FVec F S128x256 .bf16) (v357 : FVec F S128x256 .bf16) (v366 : FVec F S128x256 .bf16), BitVec 32 ← k0_part22 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v102 v151 v154 v157 v160 v266 v275 v284 v293 v302 v311 v320 v327 cst_149
  let ⟨v375, v384, v393, v402, v408⟩ : Σ' (v375 : FVec F S128x256 .bf16) (v384 : FVec F S128x256 .bf16) (v393 : FVec F S128x256 .bf16) (v402 : FVec F S128x256 .bf16), IVec S64x256 32 ← k0_part23 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v163 v166 v169 v172 v175 c8_i32_167
  let ⟨v430, v439, v446, v447⟩ : Σ' (v430 : FVec F S128x256 .bf16) (v439 : FVec F S128x256 .bf16) (v446 : FVec F S128x256 .bf16), FVec F S128x256 .bf16 ← k0_part24 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v102 v151 v154 v157 v160 v348 v357 v366 v375 v384 v393 v402 v408
  let ⟨v448, v457, v466, v475, v484, v488, c1124614920_i32_222⟩ : Σ' (v448 : FVec F S128x256 .bf16) (v457 : FVec F S128x256 .bf16) (v466 : FVec F S128x256 .bf16) (v475 : FVec F S128x256 .bf16) (v484 : FVec F S128x256 .bf16) (v488 : IVec S64x256 32), BitVec 32 ← k0_part25 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v163 v166 v169 v172 v175 v446 v447
  let v494 : Vec F S1x128x256 .f32 ← Prog.lift (.load arg17 (Rect.unit (s := S4x128x256) ![3, 0, 0] S1x128x256.size inb_S4x128x256_S1x128x256_3_0_0).toLoadRect (View.loadsAt_vmem h_S1x128x256))
  let v501 : Vec F S1x128x256 .f32 ← Prog.lift (.load arg17 (Rect.unit (s := S4x128x256) ![3, 0, 0] S1x128x256.size inb_S4x128x256_S1x128x256_3_0_0).toLoadRect (View.loadsAt_vmem h_S1x128x256))
  Prog.lift (.store arg17 (Rect.unit (s := S4x128x256) ![3, 0, 0] S1x128x256.size inb_S4x128x256_S1x128x256_3_0_0) (k0_pay2 v102 v151 v430 v439 v448 v457 v466 v475 v484 v488 c1124614920_i32_222 v494) Finset.univ (View.stores_vmem_bits_univ h_S1x128x256 rfl) (.inl rfl))
  let v504 : Vec F S128x128 .f32 ← Prog.lift (.load arg18 (Rect.unit (s := S128x128) ![0, 0] S128x128.size inb_S128x128_S128x128_0_0).toLoadRect (View.loadsAt_vmem h_S128x128))
  let v507 : Vec F S128x128 .f32 ← Prog.lift (.load arg18 (Rect.unit (s := S128x128) ![0, 0] S128x128.size inb_S128x128_S128x128_0_0).toLoadRect (View.loadsAt_vmem h_S128x128))
  Prog.lift (.store arg18 (Rect.unit (s := S128x128) ![0, 0] S128x128.size inb_S128x128_S128x128_0_0) (k0_pay3 v102 v504) Finset.univ (View.stores_vmem_bits_univ h_S128x128 rfl) (.inl rfl))
  pure ⟨⟩

/-- What the body runs at the last point of a batch row. -/
def finishSeg (i : grid0.Coords) (arg2 : Memref sig .tc .smem S4 .i32) (harg2 : arg2.IsWhole) (arg3 : Memref sig .tc .vmem S1x4x32x128 .bf16) (harg3 : arg3.IsWhole) (arg4 : Memref sig .tc .vmem S1x4x8x128 .bf16) (harg4 : arg4.IsWhole) (arg5 : Memref sig .tc .vmem S1x4x8x128 .bf16) (harg5 : arg5.IsWhole) (arg6 : Memref sig .tc .vmem S1x8x128 .f32) (harg6 : arg6.IsWhole) (arg7 : Memref sig .tc .vmem S1x1024x8x128 .fp8e4m3) (harg7 : arg7.IsWhole) (arg8 : Memref sig .tc .vmem S1x8x64x1024 .i8) (harg8 : arg8.IsWhole) (arg9 : Memref sig .tc .vmem S1x8x1024 .f32) (harg9 : arg9.IsWhole) (arg10 : Memref sig .tc .vmem S1x4x32x128 .bf16) (harg10 : arg10.IsWhole) (arg11 : Memref sig .tc .vmem S1x4x8x128 .fp8e4m3) (harg11 : arg11.IsWhole) (arg12 : Memref sig .tc .vmem S1x4x8x64 .i8) (harg12 : arg12.IsWhole) (arg13 : Memref sig .tc .vmem S1x4x8 .f32) (harg13 : arg13.IsWhole) (arg14 : Memref sig .tc .vmem S128x512 .bf16) (harg14 : arg14.IsWhole) (arg15 : Memref sig .tc .vmem S128x128 .f32) (harg15 : arg15.IsWhole) (arg16 : Memref sig .tc .vmem S128x128 .f32) (harg16 : arg16.IsWhole) (arg17 : Memref sig .tc .vmem S4x128x256 .f32) (harg17 : arg17.IsWhole) (arg18 : Memref sig .tc .vmem S128x128 .f32) (harg18 : arg18.IsWhole) (k0_h3 : k0_cond3 i = 1#1) : Prog (TpuEff nD τ sig (Elt F) Λ₀ .tc) PUnit := do
  let ⟨v12, v13, v38, v40, v54, v56, c0_i32_13⟩ : Σ' (v12 : Vec F S128x1 .f32) (v13 : IVec S128x256 32) (v38 : IVec S128x256 32) (v40 : IVec S128x256 32) (v54 : IVec S128x256 1) (v56 : IVec S128x256 32), BitVec 32 ← k0_part26 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
  let ⟨v64, v82, v101, c1_i32_26⟩ : Σ' (v64 : IVec S128x256 32) (v82 : IVec S128x256 32) (v101 : IVec S128x256 1), BitVec 32 ← k0_part27 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v13 v40 v54 v56 c0_i32_13
  let ⟨v106, v107, v135, v138, v140, v144, cst_42⟩ : Σ' (v106 : IVec S128x256 1) (v107 : Vec F S128x128 .f32) (v135 : FVec F S128x256 .bf16) (v138 : FVec F S128x256 .bf16) (v140 : FVec F S128x256 .f32) (v144 : FVec F S256x128 .bf16), FVec F S128x128 .f32 ← k0_part28 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v38 v64 v82 v101 c1_i32_26
  let ⟨v151, v179, v182, v184, v188⟩ : Σ' (v151 : FVec F S128x128 .f32) (v179 : FVec F S128x256 .bf16) (v182 : FVec F S128x256 .bf16) (v184 : FVec F S128x256 .f32), FVec F S256x128 .bf16 ← k0_part29 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v106 v107 v135 v138 v140 v144 cst_42
  let ⟨v195, v223, v226, v228, v231⟩ : Σ' (v195 : FVec F S128x128 .f32) (v223 : FVec F S128x256 .bf16) (v226 : FVec F S128x256 .bf16) (v228 : FVec F S128x256 .f32), FVec F S256x128 .f32 ← k0_part30 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v106 v151 v179 v182 v184 v188
  let ⟨v239, v262, v267, v270, v272, v273, v274⟩ : Σ' (v239 : FVec F S128x128 .f32) (v262 : IVec S256x128 1) (v267 : FVec F S128x256 .bf16) (v270 : FVec F S128x256 .bf16) (v272 : FVec F S128x256 .f32) (v273 : FVec F S256x128 .f32), FVec F S256x128 .f32 ← k0_part31 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v106 v195 v223 v226 v228 v231
  let ⟨v286, v307⟩ : Σ' (v286 : FVec F S128x128 .bf16), FVec F S16x128 .bf16 ← k0_part32 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v12 v239 v262 v267 v270 v272 v273 v274
  let v308 : Vec F S1x1x16x128 .bf16 ← Prog.lift (.load arg10 (Rect.unit (s := S1x4x32x128) ![0, 0, 16, 0] S1x1x16x128.size inb_S1x4x32x128_S1x1x16x128_0_0_16_0).toLoadRect (View.loadsAt_vmem h_S1x1x16x128))
  Prog.lift (.store arg10 (Rect.unit (s := S1x4x32x128) ![0, 0, 16, 0] S1x1x16x128.size inb_S1x4x32x128_S1x1x16x128_0_0_16_0) (k0_pay4 v307) Finset.univ (View.stores_vmem h_S1x1x16x128 (harg10.storeExact_slice rfl _ packedbf16_S1x4x32x128_S1x1x16x128_0_0_16_0) (fun _ => rfl)) (.inl rfl))
  let v313 : Vec F S1x1x16x128 .bf16 ← Prog.lift (.load arg10 (Rect.unit (s := S1x4x32x128) ![0, 1, 16, 0] S1x1x16x128.size inb_S1x4x32x128_S1x1x16x128_0_1_16_0).toLoadRect (View.loadsAt_vmem h_S1x1x16x128))
  Prog.lift (.store arg10 (Rect.unit (s := S1x4x32x128) ![0, 1, 16, 0] S1x1x16x128.size inb_S1x4x32x128_S1x1x16x128_0_1_16_0) (k0_pay5 v286) Finset.univ (View.stores_vmem h_S1x1x16x128 (harg10.storeExact_slice rfl _ packedbf16_S1x4x32x128_S1x1x16x128_0_1_16_0) (fun _ => rfl)) (.inl rfl))
  let v318 : Vec F S1x1x16x128 .bf16 ← Prog.lift (.load arg10 (Rect.unit (s := S1x4x32x128) ![0, 2, 16, 0] S1x1x16x128.size inb_S1x4x32x128_S1x1x16x128_0_2_16_0).toLoadRect (View.loadsAt_vmem h_S1x1x16x128))
  Prog.lift (.store arg10 (Rect.unit (s := S1x4x32x128) ![0, 2, 16, 0] S1x1x16x128.size inb_S1x4x32x128_S1x1x16x128_0_2_16_0) (k0_pay6 v286) Finset.univ (View.stores_vmem h_S1x1x16x128 (harg10.storeExact_slice rfl _ packedbf16_S1x4x32x128_S1x1x16x128_0_2_16_0) (fun _ => rfl)) (.inl rfl))
  let v322 : Vec F S1x1x16x128 .bf16 ← Prog.lift (.load arg10 (Rect.unit (s := S1x4x32x128) ![0, 3, 16, 0] S1x1x16x128.size inb_S1x4x32x128_S1x1x16x128_0_3_16_0).toLoadRect (View.loadsAt_vmem h_S1x1x16x128))
  Prog.lift (.store arg10 (Rect.unit (s := S1x4x32x128) ![0, 3, 16, 0] S1x1x16x128.size inb_S1x4x32x128_S1x1x16x128_0_3_16_0) (k0_pay7 v286) Finset.univ (View.stores_vmem h_S1x1x16x128 (harg10.storeExact_slice rfl _ packedbf16_S1x4x32x128_S1x1x16x128_0_3_16_0) (fun _ => rfl)) (.inl rfl))
  pure ⟨⟩

set_option maxRecDepth 65536 in
/-- The body is its three stretches, each under its condition. -/
theorem body_eq (i : grid0.Coords) (arg2 : Memref sig .tc .smem S4 .i32) (harg2 : arg2.IsWhole) (arg3 : Memref sig .tc .vmem S1x4x32x128 .bf16) (harg3 : arg3.IsWhole) (arg4 : Memref sig .tc .vmem S1x4x8x128 .bf16) (harg4 : arg4.IsWhole) (arg5 : Memref sig .tc .vmem S1x4x8x128 .bf16) (harg5 : arg5.IsWhole) (arg6 : Memref sig .tc .vmem S1x8x128 .f32) (harg6 : arg6.IsWhole) (arg7 : Memref sig .tc .vmem S1x1024x8x128 .fp8e4m3) (harg7 : arg7.IsWhole) (arg8 : Memref sig .tc .vmem S1x8x64x1024 .i8) (harg8 : arg8.IsWhole) (arg9 : Memref sig .tc .vmem S1x8x1024 .f32) (harg9 : arg9.IsWhole) (arg10 : Memref sig .tc .vmem S1x4x32x128 .bf16) (harg10 : arg10.IsWhole) (arg11 : Memref sig .tc .vmem S1x4x8x128 .fp8e4m3) (harg11 : arg11.IsWhole) (arg12 : Memref sig .tc .vmem S1x4x8x64 .i8) (harg12 : arg12.IsWhole) (arg13 : Memref sig .tc .vmem S1x4x8 .f32) (harg13 : arg13.IsWhole) (arg14 : Memref sig .tc .vmem S128x512 .bf16) (harg14 : arg14.IsWhole) (arg15 : Memref sig .tc .vmem S128x128 .f32) (harg15 : arg15.IsWhole) (arg16 : Memref sig .tc .vmem S128x128 .f32) (harg16 : arg16.IsWhole) (arg17 : Memref sig .tc .vmem S4x128x256 .f32) (harg17 : arg17.IsWhole) (arg18 : Memref sig .tc .vmem S128x128 .f32) (harg18 : arg18.IsWhole) :
    cc0_decode_attn (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 = (do
      let v1 : Elt F .i32 ← smemLoad arg2 (Rect.unit (s := S4) (k0_off1 i) S1.size (k0_off1_inb i)) numel1_S1 rfl
      if k0_h1 : k0_cond1 i = 1#1 then startSeg i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 else pure ⟨⟩
      if cond0_1 i v1 then blockSeg i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 else pure ⟨⟩
      if k0_h3 : k0_cond3 i = 1#1 then finishSeg i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h3 else pure ⟨⟩
      pure ⟨⟩) := rfl

end Cert.KernelIdeal.Hand

end
-- ==== Proof.StartRun.lean ====
/-
  The run of the first point's stretch.
-/
module

public import proofs.«01_k».proof.Proof.Segments

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the run's proof term is large: the definition's last pass walks it beyond the usual budget
set_option maxHeartbeats 1600000 in
/-- The stretch run: the buffers it writes end with the pieces found here, the ones it only reads are as they were. -/
def startRun (c : Dev nD) (i : grid0.Coords) (arg2 : Memref sig .tc .smem S4 .i32) (harg2 : arg2.IsWhole) (arg3 : Memref sig .tc .vmem S1x4x32x128 .bf16) (harg3 : arg3.IsWhole) (arg4 : Memref sig .tc .vmem S1x4x8x128 .bf16) (harg4 : arg4.IsWhole) (arg5 : Memref sig .tc .vmem S1x4x8x128 .bf16) (harg5 : arg5.IsWhole) (arg6 : Memref sig .tc .vmem S1x8x128 .f32) (harg6 : arg6.IsWhole) (arg7 : Memref sig .tc .vmem S1x1024x8x128 .fp8e4m3) (harg7 : arg7.IsWhole) (arg8 : Memref sig .tc .vmem S1x8x64x1024 .i8) (harg8 : arg8.IsWhole) (arg9 : Memref sig .tc .vmem S1x8x1024 .f32) (harg9 : arg9.IsWhole) (arg10 : Memref sig .tc .vmem S1x4x32x128 .bf16) (harg10 : arg10.IsWhole) (arg11 : Memref sig .tc .vmem S1x4x8x128 .fp8e4m3) (harg11 : arg11.IsWhole) (arg12 : Memref sig .tc .vmem S1x4x8x64 .i8) (harg12 : arg12.IsWhole) (arg13 : Memref sig .tc .vmem S1x4x8 .f32) (harg13 : arg13.IsWhole) (arg14 : Memref sig .tc .vmem S128x512 .bf16) (harg14 : arg14.IsWhole) (arg15 : Memref sig .tc .vmem S128x128 .f32) (harg15 : arg15.IsWhole) (arg16 : Memref sig .tc .vmem S128x128 .f32) (harg16 : arg16.IsWhole) (arg17 : Memref sig .tc .vmem S4x128x256 .f32) (harg17 : arg17.IsWhole) (arg18 : Memref sig .tc .vmem S128x128 .f32) (harg18 : arg18.IsWhole) (k0_h1 : k0_cond1 i = 1#1) (x3 : Vec F S1x4x32x128 .bf16) (x4 : Vec F S1x4x8x128 .bf16) (x5 : Vec F S1x4x8x128 .bf16) (x6 : Vec F S1x8x128 .f32) :
    Σ' (L11 : List (View.Piece (Elt F) S1x4x8x128 .fp8e4m3)), Σ' (L12 : List (View.Piece (Elt F) S1x4x8x64 .i8)), Σ' (L13 : List (View.Piece (Elt F) S1x4x8 .f32)), Σ' (L14 : List (View.Piece (Elt F) S128x512 .bf16)), Σ' (L15 : List (View.Piece (Elt F) S128x128 .f32)), Σ' (L16 : List (View.Piece (Elt F) S128x128 .f32)), Σ' (L17 : List (View.Piece (Elt F) S4x128x256 .f32)), { L18 : List (View.Piece (Elt F) S128x128 .f32) //
      ∀ (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg3 fullShare x3 ∗ owns (c : Thread nD τ) arg4 fullShare x4 ∗ owns (c : Thread nD τ) arg5 fullShare x5 ∗ owns (c : Thread nD τ) arg6 fullShare x6 ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14) ∗ (∃ f, arg15.view.loc (c : Thread nD τ) ↦[arg15.view.set]{fullShare} arg15.view.writes (Elt F) f L15) ∗ (∃ f, arg16.view.loc (c : Thread nD τ) ↦[arg16.view.set]{fullShare} arg16.view.writes (Elt F) f L16) ∗ (∃ f, arg17.view.loc (c : Thread nD τ) ↦[arg17.view.set]{fullShare} arg17.view.writes (Elt F) f L17) ∗ (∃ f, arg18.view.loc (c : Thread nD τ) ↦[arg18.view.set]{fullShare} arg18.view.writes (Elt F) f L18)) -∗ K ⟨⟩))
          ⊢ wp frame (wpE (defs₀ (F := F)) Variants.none c none) E (startSeg i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1) K } := by
  refine ⟨?_, ?_, ?_, ?_, ?_, ?_, ?_, ?_, fun E K => ?run⟩
  case run =>
    unfold startSeg
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f3, %hf3, H3⟩, ⟨%f4, %hf4, H4⟩, ⟨%f5, %hf5, H5⟩, ⟨%f6, %hf6, H6⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, Hk⟩
    obtain rfl := harg3.eq_unread hf3; obtain rfl := harg4.eq_unread hf4; obtain rfl := harg5.eq_unread hf5; obtain rfl := harg6.eq_unread hf6
    sl_exec
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    iexists _; iexact H18

end Cert.KernelIdeal.Hand

end
-- ==== Proof.BlockRun.lean ====
/-
  The run of a block's stretch.
-/
module

public import proofs.«01_k».proof.Proof.Segments

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the run's proof term is large: the definition's last pass walks it beyond the usual budget
set_option maxHeartbeats 1600000 in
/-- The stretch run: the buffers it writes end with the pieces found here, the ones it only reads are as they were. -/
def blockRun (c : Dev nD) (i : grid0.Coords) (arg2 : Memref sig .tc .smem S4 .i32) (harg2 : arg2.IsWhole) (arg3 : Memref sig .tc .vmem S1x4x32x128 .bf16) (harg3 : arg3.IsWhole) (arg4 : Memref sig .tc .vmem S1x4x8x128 .bf16) (harg4 : arg4.IsWhole) (arg5 : Memref sig .tc .vmem S1x4x8x128 .bf16) (harg5 : arg5.IsWhole) (arg6 : Memref sig .tc .vmem S1x8x128 .f32) (harg6 : arg6.IsWhole) (arg7 : Memref sig .tc .vmem S1x1024x8x128 .fp8e4m3) (harg7 : arg7.IsWhole) (arg8 : Memref sig .tc .vmem S1x8x64x1024 .i8) (harg8 : arg8.IsWhole) (arg9 : Memref sig .tc .vmem S1x8x1024 .f32) (harg9 : arg9.IsWhole) (arg10 : Memref sig .tc .vmem S1x4x32x128 .bf16) (harg10 : arg10.IsWhole) (arg11 : Memref sig .tc .vmem S1x4x8x128 .fp8e4m3) (harg11 : arg11.IsWhole) (arg12 : Memref sig .tc .vmem S1x4x8x64 .i8) (harg12 : arg12.IsWhole) (arg13 : Memref sig .tc .vmem S1x4x8 .f32) (harg13 : arg13.IsWhole) (arg14 : Memref sig .tc .vmem S128x512 .bf16) (harg14 : arg14.IsWhole) (arg15 : Memref sig .tc .vmem S128x128 .f32) (harg15 : arg15.IsWhole) (arg16 : Memref sig .tc .vmem S128x128 .f32) (harg16 : arg16.IsWhole) (arg17 : Memref sig .tc .vmem S4x128x256 .f32) (harg17 : arg17.IsWhole) (arg18 : Memref sig .tc .vmem S128x128 .f32) (harg18 : arg18.IsWhole) (v1 : Elt F .i32) (x7 : Vec F S1x1024x8x128 .fp8e4m3) (x8 : Vec F S1x8x64x1024 .i8) (x9 : Vec F S1x8x1024 .f32) (x14 : Vec F S128x512 .bf16) (x15 : Vec F S128x128 .f32) (x16 : Vec F S128x128 .f32) (x17 : Vec F S4x128x256 .f32) (x18 : Vec F S128x128 .f32) :
    Σ' (L15 : List (View.Piece (Elt F) S128x128 .f32)), Σ' (L16 : List (View.Piece (Elt F) S128x128 .f32)), Σ' (L17 : List (View.Piece (Elt F) S4x128x256 .f32)), { L18 : List (View.Piece (Elt F) S128x128 .f32) //
      ∀ (E : Set ℕ) (K : PUnit → sProp 𝕄),
        iprop(owns (c : Thread nD τ) arg7 fullShare x7 ∗ owns (c : Thread nD τ) arg8 fullShare x8 ∗ owns (c : Thread nD τ) arg9 fullShare x9 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18
            ∗ (iprop(owns (c : Thread nD τ) arg7 fullShare x7 ∗ owns (c : Thread nD τ) arg8 fullShare x8 ∗ owns (c : Thread nD τ) arg9 fullShare x9 ∗ owns (c : Thread nD τ) arg14 fullShare x14 ∗ (∃ f, arg15.view.loc (c : Thread nD τ) ↦[arg15.view.set]{fullShare} arg15.view.writes (Elt F) f L15) ∗ (∃ f, arg16.view.loc (c : Thread nD τ) ↦[arg16.view.set]{fullShare} arg16.view.writes (Elt F) f L16) ∗ (∃ f, arg17.view.loc (c : Thread nD τ) ↦[arg17.view.set]{fullShare} arg17.view.writes (Elt F) f L17) ∗ (∃ f, arg18.view.loc (c : Thread nD τ) ↦[arg18.view.set]{fullShare} arg18.view.writes (Elt F) f L18)) -∗ K ⟨⟩))
          ⊢ wp frame (wpE (defs₀ (F := F)) Variants.none c none) E (blockSeg i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1) K } := by
  refine ⟨?_, ?_, ?_, ?_, fun E K => ?run⟩
  case run =>
    unfold blockSeg
    simp only [k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
    unfold owns
    iintro ⟨⟨%f7, %hf7, H7⟩, ⟨%f8, %hf8, H8⟩, ⟨%f9, %hf9, H9⟩, ⟨%f14, %hf14, H14⟩, ⟨%f15, %hf15, H15⟩, ⟨%f16, %hf16, H16⟩, ⟨%f17, %hf17, H17⟩, ⟨%f18, %hf18, H18⟩, Hk⟩
    obtain rfl := harg7.eq_unread hf7; obtain rfl := harg8.eq_unread hf8; obtain rfl := harg9.eq_unread hf9; obtain rfl := harg14.eq_unread hf14; obtain rfl := harg15.eq_unread hf15; obtain rfl := harg16.eq_unread hf16; obtain rfl := harg17.eq_unread hf17; obtain rfl := harg18.eq_unread hf18
    sl_exec
    sl_step
    iapply Hk
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H14]
    · iexists _; isplitr; · ipureintro; exact harg14.read_unread _
      iexact H14
    isplitl [H15]; · iexists _; iexact H15
    isplitl [H16]; · iexists _; iexact H16
    isplitl [H17]; · iexists _; iexact H17
    iexists _; iexact H18

end Cert.KernelIdeal.Hand

end
-- ==== Proof.FinishRun.lean ====
/-
  The run of the last point's stretch.
-/
module

public import proofs.«01_k».proof.Proof.Segments

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the run's proof term is large: the definition's last pass walks it beyond the usual budget
set_option maxHeartbeats 1600000 in
/-- The stretch run: the buffers it writes end with the pieces found here, the ones it only reads are as they were. -/
def finishRun (c : Dev nD) (i : grid0.Coords) (arg2 : Memref sig .tc .smem S4 .i32) (harg2 : arg2.IsWhole) (arg3 : Memref sig .tc .vmem S1x4x32x128 .bf16) (harg3 : arg3.IsWhole) (arg4 : Memref sig .tc .vmem S1x4x8x128 .bf16) (harg4 : arg4.IsWhole) (arg5 : Memref sig .tc .vmem S1x4x8x128 .bf16) (harg5 : arg5.IsWhole) (arg6 : Memref sig .tc .vmem S1x8x128 .f32) (harg6 : arg6.IsWhole) (arg7 : Memref sig .tc .vmem S1x1024x8x128 .fp8e4m3) (harg7 : arg7.IsWhole) (arg8 : Memref sig .tc .vmem S1x8x64x1024 .i8) (harg8 : arg8.IsWhole) (arg9 : Memref sig .tc .vmem S1x8x1024 .f32) (harg9 : arg9.IsWhole) (arg10 : Memref sig .tc .vmem S1x4x32x128 .bf16) (harg10 : arg10.IsWhole) (arg11 : Memref sig .tc .vmem S1x4x8x128 .fp8e4m3) (harg11 : arg11.IsWhole) (arg12 : Memref sig .tc .vmem S1x4x8x64 .i8) (harg12 : arg12.IsWhole) (arg13 : Memref sig .tc .vmem S1x4x8 .f32) (harg13 : arg13.IsWhole) (arg14 : Memref sig .tc .vmem S128x512 .bf16) (harg14 : arg14.IsWhole) (arg15 : Memref sig .tc .vmem S128x128 .f32) (harg15 : arg15.IsWhole) (arg16 : Memref sig .tc .vmem S128x128 .f32) (harg16 : arg16.IsWhole) (arg17 : Memref sig .tc .vmem S4x128x256 .f32) (harg17 : arg17.IsWhole) (arg18 : Memref sig .tc .vmem S128x128 .f32) (harg18 : arg18.IsWhole) (k0_h3 : k0_cond3 i = 1#1) (x16 : Vec F S128x128 .f32) (x17 : Vec F S4x128x256 .f32) (x18 : Vec F S128x128 .f32) :
    { L10 : List (View.Piece (Elt F) S1x4x32x128 .bf16) //
      ∀ (E : Set ℕ) (K : PUnit → sProp 𝕄),
        iprop(owns (c : Thread nD τ) arg16 fullShare x16 ∗ owns (c : Thread nD τ) arg17 fullShare x17 ∗ owns (c : Thread nD τ) arg18 fullShare x18 ∗ (∃ d, owns (c : Thread nD τ) arg10 fullShare d)
            ∗ (iprop(owns (c : Thread nD τ) arg16 fullShare x16 ∗ owns (c : Thread nD τ) arg17 fullShare x17 ∗ owns (c : Thread nD τ) arg18 fullShare x18 ∗ (∃ f, arg10.view.loc (c : Thread nD τ) ↦[arg10.view.set]{fullShare} arg10.view.writes (Elt F) f L10)) -∗ K ⟨⟩))
          ⊢ wp frame (wpE (defs₀ (F := F)) Variants.none c none) E (finishSeg i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h3) K } := by
  refine ⟨?_, fun E K => ?run⟩
  case run =>
    unfold finishSeg
    simp only [k0_part26_eq_skeleton, k0_part27_eq_skeleton, k0_part28_eq_skeleton, k0_part29_eq_skeleton, k0_part30_eq_skeleton, k0_part31_eq_skeleton, k0_part32_eq_skeleton]
    unfold owns
    iintro ⟨⟨%f16, %hf16, H16⟩, ⟨%f17, %hf17, H17⟩, ⟨%f18, %hf18, H18⟩, ⟨%d10, %f10, -, H10⟩, Hk⟩
    obtain rfl := harg16.eq_unread hf16; obtain rfl := harg17.eq_unread hf17; obtain rfl := harg18.eq_unread hf18
    sl_exec
    sl_step
    iapply Hk
    isplitl [H16]
    · iexists _; isplitr; · ipureintro; exact harg16.read_unread _
      iexact H16
    isplitl [H17]
    · iexists _; isplitr; · ipureintro; exact harg17.read_unread _
      iexact H17
    isplitl [H18]
    · iexists _; isplitr; · ipureintro; exact harg18.read_unread _
      iexact H18
    iexists _; iexact H10

end Cert.KernelIdeal.Hand

end
-- ==== Proof.Body.lean ====
/-
  One point of the kernel's grid: what the buffers hold after it, given what they held before.
-/
module

public import proofs.«01_k».proof.Proof.StartRun
public import proofs.«01_k».proof.Proof.BlockRun
public import proofs.«01_k».proof.Proof.FinishRun

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem dite_seq {C : Prop} [Decidable C] (p : C → Prog (TpuEff nD τ sig (Elt F) Λ₀ .tc) PUnit) (k : PUnit → Prog (TpuEff nD τ sig (Elt F) Λ₀ .tc) PUnit) :
    (if h : C then p h >>= k else k ⟨⟩) = (if h : C then p h else pure ⟨⟩) >>= k := by
  by_cases h : C
  · rw [dif_pos h, dif_pos h]
  · rw [dif_neg h, dif_neg h]; rfl

theorem ite_seq {C : Prop} [Decidable C] (p : Prog (TpuEff nD τ sig (Elt F) Λ₀ .tc) PUnit) (k : PUnit → Prog (TpuEff nD τ sig (Elt F) Λ₀ .tc) PUnit) :
    (if C then p >>= k else k ⟨⟩) = (if C then p else pure ⟨⟩) >>= k := by
  by_cases h : C
  · rw [if_pos h, if_pos h]
  · rw [if_neg h, if_neg h]; rfl

/-- A program followed by another: run the first, then the second. -/
theorem wp_seq {α β : Type} (c : Dev nD) (E : Set ℕ) (p : Prog (TpuEff nD τ sig (Elt F) Λ₀ .tc) α) (k : α → Prog (TpuEff nD τ sig (Elt F) Λ₀ .tc) β) (Q : β → sProp 𝕄) :
    wp frame (wpE (defs₀ (F := F)) Variants.none c none) E p (fun a => wp frame (wpE (defs₀ (F := F)) Variants.none c none) E (k a) Q)
      ⊢ wp frame (wpE (defs₀ (F := F)) Variants.none c none) E (p >>= k) Q := by
  rw [wp_bind]

/-- What the buffers the kernel writes hold: the four results' blocks and the five scratch buffers. -/
structure St (F : FTy → Type) where
  /-- output rows -/
  o : Vec F S1x4x32x128 .bf16
  /-- stored codes of the new keys -/
  kc : Vec F S1x4x8x128 .fp8e4m3
  /-- stored codes of the new values -/
  vc : Vec F S1x4x8x64 .i8
  /-- stored scales -/
  sc : Vec F S1x4x8 .f32
  /-- scaled queries -/
  q : Vec F S128x512 .bf16
  /-- running maxima -/
  m : Vec F S128x128 .f32
  /-- running sums -/
  l : Vec F S128x128 .f32
  /-- weighted sums of cached values -/
  acc : Vec F S4x128x256 .f32
  /-- weighted sums of new values -/
  accn : Vec F S128x128 .f32

/-- All buffers but the table, held at the operands' blocks and at the state. -/
def ownSt (c : Dev nD) (arg3 : Memref sig .tc .vmem S1x4x32x128 .bf16) (harg3 : arg3.IsWhole) (arg4 : Memref sig .tc .vmem S1x4x8x128 .bf16) (harg4 : arg4.IsWhole) (arg5 : Memref sig .tc .vmem S1x4x8x128 .bf16) (harg5 : arg5.IsWhole) (arg6 : Memref sig .tc .vmem S1x8x128 .f32) (harg6 : arg6.IsWhole) (arg7 : Memref sig .tc .vmem S1x1024x8x128 .fp8e4m3) (harg7 : arg7.IsWhole) (arg8 : Memref sig .tc .vmem S1x8x64x1024 .i8) (harg8 : arg8.IsWhole) (arg9 : Memref sig .tc .vmem S1x8x1024 .f32) (harg9 : arg9.IsWhole) (arg10 : Memref sig .tc .vmem S1x4x32x128 .bf16) (harg10 : arg10.IsWhole) (arg11 : Memref sig .tc .vmem S1x4x8x128 .fp8e4m3) (harg11 : arg11.IsWhole) (arg12 : Memref sig .tc .vmem S1x4x8x64 .i8) (harg12 : arg12.IsWhole) (arg13 : Memref sig .tc .vmem S1x4x8 .f32) (harg13 : arg13.IsWhole) (arg14 : Memref sig .tc .vmem S128x512 .bf16) (harg14 : arg14.IsWhole) (arg15 : Memref sig .tc .vmem S128x128 .f32) (harg15 : arg15.IsWhole) (arg16 : Memref sig .tc .vmem S128x128 .f32) (harg16 : arg16.IsWhole) (arg17 : Memref sig .tc .vmem S4x128x256 .f32) (harg17 : arg17.IsWhole) (arg18 : Memref sig .tc .vmem S128x128 .f32) (harg18 : arg18.IsWhole) (x3 : Vec F S1x4x32x128 .bf16) (x4 : Vec F S1x4x8x128 .bf16) (x5 : Vec F S1x4x8x128 .bf16) (x6 : Vec F S1x8x128 .f32) (x7 : Vec F S1x1024x8x128 .fp8e4m3) (x8 : Vec F S1x8x64x1024 .i8) (x9 : Vec F S1x8x1024 .f32) (st : St F) : sProp 𝕄 :=
  iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare st.o ∗ owns (c : Thread nD τ) arg11 fullShare st.kc ∗ owns (c : Thread nD τ) arg12 fullShare st.vc ∗ owns (c : Thread nD τ) arg13 fullShare st.sc ∗ owns (c : Thread nD τ) arg14 fullShare st.q ∗ owns (c : Thread nD τ) arg15 fullShare st.m ∗ owns (c : Thread nD τ) arg16 fullShare st.l ∗ owns (c : Thread nD τ) arg17 fullShare st.acc ∗ owns (c : Thread nD τ) arg18 fullShare st.accn)

/-- The state after the stretch `start`, where it is taken. -/
def startSt (c : Dev nD) (i : grid0.Coords) (arg2 : Memref sig .tc .smem S4 .i32) (harg2 : arg2.IsWhole) (arg3 : Memref sig .tc .vmem S1x4x32x128 .bf16) (harg3 : arg3.IsWhole) (arg4 : Memref sig .tc .vmem S1x4x8x128 .bf16) (harg4 : arg4.IsWhole) (arg5 : Memref sig .tc .vmem S1x4x8x128 .bf16) (harg5 : arg5.IsWhole) (arg6 : Memref sig .tc .vmem S1x8x128 .f32) (harg6 : arg6.IsWhole) (arg7 : Memref sig .tc .vmem S1x1024x8x128 .fp8e4m3) (harg7 : arg7.IsWhole) (arg8 : Memref sig .tc .vmem S1x8x64x1024 .i8) (harg8 : arg8.IsWhole) (arg9 : Memref sig .tc .vmem S1x8x1024 .f32) (harg9 : arg9.IsWhole) (arg10 : Memref sig .tc .vmem S1x4x32x128 .bf16) (harg10 : arg10.IsWhole) (arg11 : Memref sig .tc .vmem S1x4x8x128 .fp8e4m3) (harg11 : arg11.IsWhole) (arg12 : Memref sig .tc .vmem S1x4x8x64 .i8) (harg12 : arg12.IsWhole) (arg13 : Memref sig .tc .vmem S1x4x8 .f32) (harg13 : arg13.IsWhole) (arg14 : Memref sig .tc .vmem S128x512 .bf16) (harg14 : arg14.IsWhole) (arg15 : Memref sig .tc .vmem S128x128 .f32) (harg15 : arg15.IsWhole) (arg16 : Memref sig .tc .vmem S128x128 .f32) (harg16 : arg16.IsWhole) (arg17 : Memref sig .tc .vmem S4x128x256 .f32) (harg17 : arg17.IsWhole) (arg18 : Memref sig .tc .vmem S128x128 .f32) (harg18 : arg18.IsWhole) (x3 : Vec F S1x4x32x128 .bf16) (x4 : Vec F S1x4x8x128 .bf16) (x5 : Vec F S1x4x8x128 .bf16) (x6 : Vec F S1x8x128 .f32) (x7 : Vec F S1x1024x8x128 .fp8e4m3) (x8 : Vec F S1x8x64x1024 .i8) (x9 : Vec F S1x8x1024 .f32) (st : St F) : St F :=
  if h : k0_cond1 i = 1#1 then
    { st with kc := View.canon (startRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h x3 x4 x5 x6).1, vc := View.canon (startRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h x3 x4 x5 x6).2.1, sc := View.canon (startRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h x3 x4 x5 x6).2.2.1, q := View.canon (startRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h x3 x4 x5 x6).2.2.2.1, m := View.canon (startRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h x3 x4 x5 x6).2.2.2.2.1, l := View.canon (startRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h x3 x4 x5 x6).2.2.2.2.2.1, acc := View.canon (startRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h x3 x4 x5 x6).2.2.2.2.2.2.1, accn := View.canon (startRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h x3 x4 x5 x6).2.2.2.2.2.2.2.1 }
  else st

theorem start_cover11 (c : Dev nD) (i : grid0.Coords) (arg2 : Memref sig .tc .smem S4 .i32) (harg2 : arg2.IsWhole) (arg3 : Memref sig .tc .vmem S1x4x32x128 .bf16) (harg3 : arg3.IsWhole) (arg4 : Memref sig .tc .vmem S1x4x8x128 .bf16) (harg4 : arg4.IsWhole) (arg5 : Memref sig .tc .vmem S1x4x8x128 .bf16) (harg5 : arg5.IsWhole) (arg6 : Memref sig .tc .vmem S1x8x128 .f32) (harg6 : arg6.IsWhole) (arg7 : Memref sig .tc .vmem S1x1024x8x128 .fp8e4m3) (harg7 : arg7.IsWhole) (arg8 : Memref sig .tc .vmem S1x8x64x1024 .i8) (harg8 : arg8.IsWhole) (arg9 : Memref sig .tc .vmem S1x8x1024 .f32) (harg9 : arg9.IsWhole) (arg10 : Memref sig .tc .vmem S1x4x32x128 .bf16) (harg10 : arg10.IsWhole) (arg11 : Memref sig .tc .vmem S1x4x8x128 .fp8e4m3) (harg11 : arg11.IsWhole) (arg12 : Memref sig .tc .vmem S1x4x8x64 .i8) (harg12 : arg12.IsWhole) (arg13 : Memref sig .tc .vmem S1x4x8 .f32) (harg13 : arg13.IsWhole) (arg14 : Memref sig .tc .vmem S128x512 .bf16) (harg14 : arg14.IsWhole) (arg15 : Memref sig .tc .vmem S128x128 .f32) (harg15 : arg15.IsWhole) (arg16 : Memref sig .tc .vmem S128x128 .f32) (harg16 : arg16.IsWhole) (arg17 : Memref sig .tc .vmem S4x128x256 .f32) (harg17 : arg17.IsWhole) (arg18 : Memref sig .tc .vmem S128x128 .f32) (harg18 : arg18.IsWhole) (h : k0_cond1 i = 1#1) (x3 : Vec F S1x4x32x128 .bf16) (x4 : Vec F S1x4x8x128 .bf16) (x5 : Vec F S1x4x8x128 .bf16) (x6 : Vec F S1x8x128 .f32) (y : S1x4x8x128.Idx) :
    ∃ pc ∈ (startRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h x3 x4 x5 x6).1, y ∈ pc.1.set :=
  View.cover_of_tiledL ((startRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h x3 x4 x5 x6).1) S1x4x8x128.size (by sl_kernel_rfl) y

theorem start_cover12 (c : Dev nD) (i : grid0.Coords) (arg2 : Memref sig .tc .smem S4 .i32) (harg2 : arg2.IsWhole) (arg3 : Memref sig .tc .vmem S1x4x32x128 .bf16) (harg3 : arg3.IsWhole) (arg4 : Memref sig .tc .vmem S1x4x8x128 .bf16) (harg4 : arg4.IsWhole) (arg5 : Memref sig .tc .vmem S1x4x8x128 .bf16) (harg5 : arg5.IsWhole) (arg6 : Memref sig .tc .vmem S1x8x128 .f32) (harg6 : arg6.IsWhole) (arg7 : Memref sig .tc .vmem S1x1024x8x128 .fp8e4m3) (harg7 : arg7.IsWhole) (arg8 : Memref sig .tc .vmem S1x8x64x1024 .i8) (harg8 : arg8.IsWhole) (arg9 : Memref sig .tc .vmem S1x8x1024 .f32) (harg9 : arg9.IsWhole) (arg10 : Memref sig .tc .vmem S1x4x32x128 .bf16) (harg10 : arg10.IsWhole) (arg11 : Memref sig .tc .vmem S1x4x8x128 .fp8e4m3) (harg11 : arg11.IsWhole) (arg12 : Memref sig .tc .vmem S1x4x8x64 .i8) (harg12 : arg12.IsWhole) (arg13 : Memref sig .tc .vmem S1x4x8 .f32) (harg13 : arg13.IsWhole) (arg14 : Memref sig .tc .vmem S128x512 .bf16) (harg14 : arg14.IsWhole) (arg15 : Memref sig .tc .vmem S128x128 .f32) (harg15 : arg15.IsWhole) (arg16 : Memref sig .tc .vmem S128x128 .f32) (harg16 : arg16.IsWhole) (arg17 : Memref sig .tc .vmem S4x128x256 .f32) (harg17 : arg17.IsWhole) (arg18 : Memref sig .tc .vmem S128x128 .f32) (harg18 : arg18.IsWhole) (h : k0_cond1 i = 1#1) (x3 : Vec F S1x4x32x128 .bf16) (x4 : Vec F S1x4x8x128 .bf16) (x5 : Vec F S1x4x8x128 .bf16) (x6 : Vec F S1x8x128 .f32) (y : S1x4x8x64.Idx) :
    ∃ pc ∈ (startRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h x3 x4 x5 x6).2.1, y ∈ pc.1.set :=
  View.cover_of_tiledL ((startRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h x3 x4 x5 x6).2.1) S1x4x8x64.size (by sl_kernel_rfl) y

theorem start_cover13 (c : Dev nD) (i : grid0.Coords) (arg2 : Memref sig .tc .smem S4 .i32) (harg2 : arg2.IsWhole) (arg3 : Memref sig .tc .vmem S1x4x32x128 .bf16) (harg3 : arg3.IsWhole) (arg4 : Memref sig .tc .vmem S1x4x8x128 .bf16) (harg4 : arg4.IsWhole) (arg5 : Memref sig .tc .vmem S1x4x8x128 .bf16) (harg5 : arg5.IsWhole) (arg6 : Memref sig .tc .vmem S1x8x128 .f32) (harg6 : arg6.IsWhole) (arg7 : Memref sig .tc .vmem S1x1024x8x128 .fp8e4m3) (harg7 : arg7.IsWhole) (arg8 : Memref sig .tc .vmem S1x8x64x1024 .i8) (harg8 : arg8.IsWhole) (arg9 : Memref sig .tc .vmem S1x8x1024 .f32) (harg9 : arg9.IsWhole) (arg10 : Memref sig .tc .vmem S1x4x32x128 .bf16) (harg10 : arg10.IsWhole) (arg11 : Memref sig .tc .vmem S1x4x8x128 .fp8e4m3) (harg11 : arg11.IsWhole) (arg12 : Memref sig .tc .vmem S1x4x8x64 .i8) (harg12 : arg12.IsWhole) (arg13 : Memref sig .tc .vmem S1x4x8 .f32) (harg13 : arg13.IsWhole) (arg14 : Memref sig .tc .vmem S128x512 .bf16) (harg14 : arg14.IsWhole) (arg15 : Memref sig .tc .vmem S128x128 .f32) (harg15 : arg15.IsWhole) (arg16 : Memref sig .tc .vmem S128x128 .f32) (harg16 : arg16.IsWhole) (arg17 : Memref sig .tc .vmem S4x128x256 .f32) (harg17 : arg17.IsWhole) (arg18 : Memref sig .tc .vmem S128x128 .f32) (harg18 : arg18.IsWhole) (h : k0_cond1 i = 1#1) (x3 : Vec F S1x4x32x128 .bf16) (x4 : Vec F S1x4x8x128 .bf16) (x5 : Vec F S1x4x8x128 .bf16) (x6 : Vec F S1x8x128 .f32) (y : S1x4x8.Idx) :
    ∃ pc ∈ (startRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h x3 x4 x5 x6).2.2.1, y ∈ pc.1.set :=
  View.cover_of_tiledL ((startRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h x3 x4 x5 x6).2.2.1) S1x4x8.size (by sl_kernel_rfl) y

theorem start_cover14 (c : Dev nD) (i : grid0.Coords) (arg2 : Memref sig .tc .smem S4 .i32) (harg2 : arg2.IsWhole) (arg3 : Memref sig .tc .vmem S1x4x32x128 .bf16) (harg3 : arg3.IsWhole) (arg4 : Memref sig .tc .vmem S1x4x8x128 .bf16) (harg4 : arg4.IsWhole) (arg5 : Memref sig .tc .vmem S1x4x8x128 .bf16) (harg5 : arg5.IsWhole) (arg6 : Memref sig .tc .vmem S1x8x128 .f32) (harg6 : arg6.IsWhole) (arg7 : Memref sig .tc .vmem S1x1024x8x128 .fp8e4m3) (harg7 : arg7.IsWhole) (arg8 : Memref sig .tc .vmem S1x8x64x1024 .i8) (harg8 : arg8.IsWhole) (arg9 : Memref sig .tc .vmem S1x8x1024 .f32) (harg9 : arg9.IsWhole) (arg10 : Memref sig .tc .vmem S1x4x32x128 .bf16) (harg10 : arg10.IsWhole) (arg11 : Memref sig .tc .vmem S1x4x8x128 .fp8e4m3) (harg11 : arg11.IsWhole) (arg12 : Memref sig .tc .vmem S1x4x8x64 .i8) (harg12 : arg12.IsWhole) (arg13 : Memref sig .tc .vmem S1x4x8 .f32) (harg13 : arg13.IsWhole) (arg14 : Memref sig .tc .vmem S128x512 .bf16) (harg14 : arg14.IsWhole) (arg15 : Memref sig .tc .vmem S128x128 .f32) (harg15 : arg15.IsWhole) (arg16 : Memref sig .tc .vmem S128x128 .f32) (harg16 : arg16.IsWhole) (arg17 : Memref sig .tc .vmem S4x128x256 .f32) (harg17 : arg17.IsWhole) (arg18 : Memref sig .tc .vmem S128x128 .f32) (harg18 : arg18.IsWhole) (h : k0_cond1 i = 1#1) (x3 : Vec F S1x4x32x128 .bf16) (x4 : Vec F S1x4x8x128 .bf16) (x5 : Vec F S1x4x8x128 .bf16) (x6 : Vec F S1x8x128 .f32) (y : S128x512.Idx) :
    ∃ pc ∈ (startRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h x3 x4 x5 x6).2.2.2.1, y ∈ pc.1.set :=
  View.cover_of_tiledL ((startRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h x3 x4 x5 x6).2.2.2.1) S128x512.size (by sl_kernel_rfl) y

theorem start_cover15 (c : Dev nD) (i : grid0.Coords) (arg2 : Memref sig .tc .smem S4 .i32) (harg2 : arg2.IsWhole) (arg3 : Memref sig .tc .vmem S1x4x32x128 .bf16) (harg3 : arg3.IsWhole) (arg4 : Memref sig .tc .vmem S1x4x8x128 .bf16) (harg4 : arg4.IsWhole) (arg5 : Memref sig .tc .vmem S1x4x8x128 .bf16) (harg5 : arg5.IsWhole) (arg6 : Memref sig .tc .vmem S1x8x128 .f32) (harg6 : arg6.IsWhole) (arg7 : Memref sig .tc .vmem S1x1024x8x128 .fp8e4m3) (harg7 : arg7.IsWhole) (arg8 : Memref sig .tc .vmem S1x8x64x1024 .i8) (harg8 : arg8.IsWhole) (arg9 : Memref sig .tc .vmem S1x8x1024 .f32) (harg9 : arg9.IsWhole) (arg10 : Memref sig .tc .vmem S1x4x32x128 .bf16) (harg10 : arg10.IsWhole) (arg11 : Memref sig .tc .vmem S1x4x8x128 .fp8e4m3) (harg11 : arg11.IsWhole) (arg12 : Memref sig .tc .vmem S1x4x8x64 .i8) (harg12 : arg12.IsWhole) (arg13 : Memref sig .tc .vmem S1x4x8 .f32) (harg13 : arg13.IsWhole) (arg14 : Memref sig .tc .vmem S128x512 .bf16) (harg14 : arg14.IsWhole) (arg15 : Memref sig .tc .vmem S128x128 .f32) (harg15 : arg15.IsWhole) (arg16 : Memref sig .tc .vmem S128x128 .f32) (harg16 : arg16.IsWhole) (arg17 : Memref sig .tc .vmem S4x128x256 .f32) (harg17 : arg17.IsWhole) (arg18 : Memref sig .tc .vmem S128x128 .f32) (harg18 : arg18.IsWhole) (h : k0_cond1 i = 1#1) (x3 : Vec F S1x4x32x128 .bf16) (x4 : Vec F S1x4x8x128 .bf16) (x5 : Vec F S1x4x8x128 .bf16) (x6 : Vec F S1x8x128 .f32) (y : S128x128.Idx) :
    ∃ pc ∈ (startRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h x3 x4 x5 x6).2.2.2.2.1, y ∈ pc.1.set :=
  View.cover_of_tiledL ((startRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h x3 x4 x5 x6).2.2.2.2.1) S128x128.size (by sl_kernel_rfl) y

theorem start_cover16 (c : Dev nD) (i : grid0.Coords) (arg2 : Memref sig .tc .smem S4 .i32) (harg2 : arg2.IsWhole) (arg3 : Memref sig .tc .vmem S1x4x32x128 .bf16) (harg3 : arg3.IsWhole) (arg4 : Memref sig .tc .vmem S1x4x8x128 .bf16) (harg4 : arg4.IsWhole) (arg5 : Memref sig .tc .vmem S1x4x8x128 .bf16) (harg5 : arg5.IsWhole) (arg6 : Memref sig .tc .vmem S1x8x128 .f32) (harg6 : arg6.IsWhole) (arg7 : Memref sig .tc .vmem S1x1024x8x128 .fp8e4m3) (harg7 : arg7.IsWhole) (arg8 : Memref sig .tc .vmem S1x8x64x1024 .i8) (harg8 : arg8.IsWhole) (arg9 : Memref sig .tc .vmem S1x8x1024 .f32) (harg9 : arg9.IsWhole) (arg10 : Memref sig .tc .vmem S1x4x32x128 .bf16) (harg10 : arg10.IsWhole) (arg11 : Memref sig .tc .vmem S1x4x8x128 .fp8e4m3) (harg11 : arg11.IsWhole) (arg12 : Memref sig .tc .vmem S1x4x8x64 .i8) (harg12 : arg12.IsWhole) (arg13 : Memref sig .tc .vmem S1x4x8 .f32) (harg13 : arg13.IsWhole) (arg14 : Memref sig .tc .vmem S128x512 .bf16) (harg14 : arg14.IsWhole) (arg15 : Memref sig .tc .vmem S128x128 .f32) (harg15 : arg15.IsWhole) (arg16 : Memref sig .tc .vmem S128x128 .f32) (harg16 : arg16.IsWhole) (arg17 : Memref sig .tc .vmem S4x128x256 .f32) (harg17 : arg17.IsWhole) (arg18 : Memref sig .tc .vmem S128x128 .f32) (harg18 : arg18.IsWhole) (h : k0_cond1 i = 1#1) (x3 : Vec F S1x4x32x128 .bf16) (x4 : Vec F S1x4x8x128 .bf16) (x5 : Vec F S1x4x8x128 .bf16) (x6 : Vec F S1x8x128 .f32) (y : S128x128.Idx) :
    ∃ pc ∈ (startRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h x3 x4 x5 x6).2.2.2.2.2.1, y ∈ pc.1.set :=
  View.cover_of_tiledL ((startRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h x3 x4 x5 x6).2.2.2.2.2.1) S128x128.size (by sl_kernel_rfl) y

theorem start_cover17 (c : Dev nD) (i : grid0.Coords) (arg2 : Memref sig .tc .smem S4 .i32) (harg2 : arg2.IsWhole) (arg3 : Memref sig .tc .vmem S1x4x32x128 .bf16) (harg3 : arg3.IsWhole) (arg4 : Memref sig .tc .vmem S1x4x8x128 .bf16) (harg4 : arg4.IsWhole) (arg5 : Memref sig .tc .vmem S1x4x8x128 .bf16) (harg5 : arg5.IsWhole) (arg6 : Memref sig .tc .vmem S1x8x128 .f32) (harg6 : arg6.IsWhole) (arg7 : Memref sig .tc .vmem S1x1024x8x128 .fp8e4m3) (harg7 : arg7.IsWhole) (arg8 : Memref sig .tc .vmem S1x8x64x1024 .i8) (harg8 : arg8.IsWhole) (arg9 : Memref sig .tc .vmem S1x8x1024 .f32) (harg9 : arg9.IsWhole) (arg10 : Memref sig .tc .vmem S1x4x32x128 .bf16) (harg10 : arg10.IsWhole) (arg11 : Memref sig .tc .vmem S1x4x8x128 .fp8e4m3) (harg11 : arg11.IsWhole) (arg12 : Memref sig .tc .vmem S1x4x8x64 .i8) (harg12 : arg12.IsWhole) (arg13 : Memref sig .tc .vmem S1x4x8 .f32) (harg13 : arg13.IsWhole) (arg14 : Memref sig .tc .vmem S128x512 .bf16) (harg14 : arg14.IsWhole) (arg15 : Memref sig .tc .vmem S128x128 .f32) (harg15 : arg15.IsWhole) (arg16 : Memref sig .tc .vmem S128x128 .f32) (harg16 : arg16.IsWhole) (arg17 : Memref sig .tc .vmem S4x128x256 .f32) (harg17 : arg17.IsWhole) (arg18 : Memref sig .tc .vmem S128x128 .f32) (harg18 : arg18.IsWhole) (h : k0_cond1 i = 1#1) (x3 : Vec F S1x4x32x128 .bf16) (x4 : Vec F S1x4x8x128 .bf16) (x5 : Vec F S1x4x8x128 .bf16) (x6 : Vec F S1x8x128 .f32) (y : S4x128x256.Idx) :
    ∃ pc ∈ (startRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h x3 x4 x5 x6).2.2.2.2.2.2.1, y ∈ pc.1.set :=
  View.cover_of_tiledL ((startRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h x3 x4 x5 x6).2.2.2.2.2.2.1) S4x128x256.size (by sl_kernel_rfl) y

theorem start_cover18 (c : Dev nD) (i : grid0.Coords) (arg2 : Memref sig .tc .smem S4 .i32) (harg2 : arg2.IsWhole) (arg3 : Memref sig .tc .vmem S1x4x32x128 .bf16) (harg3 : arg3.IsWhole) (arg4 : Memref sig .tc .vmem S1x4x8x128 .bf16) (harg4 : arg4.IsWhole) (arg5 : Memref sig .tc .vmem S1x4x8x128 .bf16) (harg5 : arg5.IsWhole) (arg6 : Memref sig .tc .vmem S1x8x128 .f32) (harg6 : arg6.IsWhole) (arg7 : Memref sig .tc .vmem S1x1024x8x128 .fp8e4m3) (harg7 : arg7.IsWhole) (arg8 : Memref sig .tc .vmem S1x8x64x1024 .i8) (harg8 : arg8.IsWhole) (arg9 : Memref sig .tc .vmem S1x8x1024 .f32) (harg9 : arg9.IsWhole) (arg10 : Memref sig .tc .vmem S1x4x32x128 .bf16) (harg10 : arg10.IsWhole) (arg11 : Memref sig .tc .vmem S1x4x8x128 .fp8e4m3) (harg11 : arg11.IsWhole) (arg12 : Memref sig .tc .vmem S1x4x8x64 .i8) (harg12 : arg12.IsWhole) (arg13 : Memref sig .tc .vmem S1x4x8 .f32) (harg13 : arg13.IsWhole) (arg14 : Memref sig .tc .vmem S128x512 .bf16) (harg14 : arg14.IsWhole) (arg15 : Memref sig .tc .vmem S128x128 .f32) (harg15 : arg15.IsWhole) (arg16 : Memref sig .tc .vmem S128x128 .f32) (harg16 : arg16.IsWhole) (arg17 : Memref sig .tc .vmem S4x128x256 .f32) (harg17 : arg17.IsWhole) (arg18 : Memref sig .tc .vmem S128x128 .f32) (harg18 : arg18.IsWhole) (h : k0_cond1 i = 1#1) (x3 : Vec F S1x4x32x128 .bf16) (x4 : Vec F S1x4x8x128 .bf16) (x5 : Vec F S1x4x8x128 .bf16) (x6 : Vec F S1x8x128 .f32) (y : S128x128.Idx) :
    ∃ pc ∈ (startRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h x3 x4 x5 x6).2.2.2.2.2.2.2.1, y ∈ pc.1.set :=
  View.cover_of_tiledL ((startRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h x3 x4 x5 x6).2.2.2.2.2.2.2.1) S128x128.size (by sl_kernel_rfl) y

theorem start_ok (c : Dev nD) (i : grid0.Coords) (arg2 : Memref sig .tc .smem S4 .i32) (harg2 : arg2.IsWhole) (arg3 : Memref sig .tc .vmem S1x4x32x128 .bf16) (harg3 : arg3.IsWhole) (arg4 : Memref sig .tc .vmem S1x4x8x128 .bf16) (harg4 : arg4.IsWhole) (arg5 : Memref sig .tc .vmem S1x4x8x128 .bf16) (harg5 : arg5.IsWhole) (arg6 : Memref sig .tc .vmem S1x8x128 .f32) (harg6 : arg6.IsWhole) (arg7 : Memref sig .tc .vmem S1x1024x8x128 .fp8e4m3) (harg7 : arg7.IsWhole) (arg8 : Memref sig .tc .vmem S1x8x64x1024 .i8) (harg8 : arg8.IsWhole) (arg9 : Memref sig .tc .vmem S1x8x1024 .f32) (harg9 : arg9.IsWhole) (arg10 : Memref sig .tc .vmem S1x4x32x128 .bf16) (harg10 : arg10.IsWhole) (arg11 : Memref sig .tc .vmem S1x4x8x128 .fp8e4m3) (harg11 : arg11.IsWhole) (arg12 : Memref sig .tc .vmem S1x4x8x64 .i8) (harg12 : arg12.IsWhole) (arg13 : Memref sig .tc .vmem S1x4x8 .f32) (harg13 : arg13.IsWhole) (arg14 : Memref sig .tc .vmem S128x512 .bf16) (harg14 : arg14.IsWhole) (arg15 : Memref sig .tc .vmem S128x128 .f32) (harg15 : arg15.IsWhole) (arg16 : Memref sig .tc .vmem S128x128 .f32) (harg16 : arg16.IsWhole) (arg17 : Memref sig .tc .vmem S4x128x256 .f32) (harg17 : arg17.IsWhole) (arg18 : Memref sig .tc .vmem S128x128 .f32) (harg18 : arg18.IsWhole) (x3 : Vec F S1x4x32x128 .bf16) (x4 : Vec F S1x4x8x128 .bf16) (x5 : Vec F S1x4x8x128 .bf16) (x6 : Vec F S1x8x128 .f32) (x7 : Vec F S1x1024x8x128 .fp8e4m3) (x8 : Vec F S1x8x64x1024 .i8) (x9 : Vec F S1x8x1024 .f32) (st : St F) (E : Set ℕ) (K : PUnit → sProp 𝕄) :
    iprop(ownSt c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 x6 x7 x8 x9 st ∗ (ownSt c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 x6 x7 x8 x9 (startSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 x6 x7 x8 x9 st) -∗ K ⟨⟩))
      ⊢ wp frame (wpE (defs₀ (F := F)) Variants.none c none) E (if k0_h1 : k0_cond1 i = 1#1 then startSeg i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 else pure ⟨⟩) K := by
  by_cases h : k0_cond1 i = 1#1
  · unfold startSt ownSt
    simp only [dif_pos h]
    iintro ⟨⟨H3, H4, H5, H6, H7, H8, H9, H10, H11, H12, H13, H14, H15, H16, H17, H18⟩, Hk⟩
    iapply ((startRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h x3 x4 x5 x6).2.2.2.2.2.2.2.2 E K)
    isplitl [H3]; · iexact H3
    isplitl [H4]; · iexact H4
    isplitl [H5]; · iexact H5
    isplitl [H6]; · iexact H6
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    iintro ⟨H3, H4, H5, H6, ⟨%e11, H11⟩, ⟨%e12, H12⟩, ⟨%e13, H13⟩, ⟨%e14, H14⟩, ⟨%e15, H15⟩, ⟨%e16, H16⟩, ⟨%e17, H17⟩, ⟨%e18, H18⟩⟩
    iapply Hk
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · unfold owns; iexists _; isplitr
      swap; · iexact H11
      ipureintro; exact View.read_writes_eq_canon _ _ _ (start_cover11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h x3 x4 x5 x6)
    isplitl [H12]
    · unfold owns; iexists _; isplitr
      swap; · iexact H12
      ipureintro; exact View.read_writes_eq_canon _ _ _ (start_cover12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h x3 x4 x5 x6)
    isplitl [H13]
    · unfold owns; iexists _; isplitr
      swap; · iexact H13
      ipureintro; exact View.read_writes_eq_canon _ _ _ (start_cover13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h x3 x4 x5 x6)
    isplitl [H14]
    · unfold owns; iexists _; isplitr
      swap; · iexact H14
      ipureintro; exact View.read_writes_eq_canon _ _ _ (start_cover14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h x3 x4 x5 x6)
    isplitl [H15]
    · unfold owns; iexists _; isplitr
      swap; · iexact H15
      ipureintro; exact View.read_writes_eq_canon _ _ _ (start_cover15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h x3 x4 x5 x6)
    isplitl [H16]
    · unfold owns; iexists _; isplitr
      swap; · iexact H16
      ipureintro; exact View.read_writes_eq_canon _ _ _ (start_cover16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h x3 x4 x5 x6)
    isplitl [H17]
    · unfold owns; iexists _; isplitr
      swap; · iexact H17
      ipureintro; exact View.read_writes_eq_canon _ _ _ (start_cover17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h x3 x4 x5 x6)
    unfold owns; iexists _; isplitr
    swap; · iexact H18
    ipureintro; exact View.read_writes_eq_canon _ _ _ (start_cover18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h x3 x4 x5 x6)
  · unfold startSt
    simp only [dif_neg h]
    iintro ⟨H, Hk⟩
    sl_step
    iapply Hk
    iexact H

/-- The state after the stretch `block`, where it is taken. -/
def blockSt (c : Dev nD) (i : grid0.Coords) (arg2 : Memref sig .tc .smem S4 .i32) (harg2 : arg2.IsWhole) (arg3 : Memref sig .tc .vmem S1x4x32x128 .bf16) (harg3 : arg3.IsWhole) (arg4 : Memref sig .tc .vmem S1x4x8x128 .bf16) (harg4 : arg4.IsWhole) (arg5 : Memref sig .tc .vmem S1x4x8x128 .bf16) (harg5 : arg5.IsWhole) (arg6 : Memref sig .tc .vmem S1x8x128 .f32) (harg6 : arg6.IsWhole) (arg7 : Memref sig .tc .vmem S1x1024x8x128 .fp8e4m3) (harg7 : arg7.IsWhole) (arg8 : Memref sig .tc .vmem S1x8x64x1024 .i8) (harg8 : arg8.IsWhole) (arg9 : Memref sig .tc .vmem S1x8x1024 .f32) (harg9 : arg9.IsWhole) (arg10 : Memref sig .tc .vmem S1x4x32x128 .bf16) (harg10 : arg10.IsWhole) (arg11 : Memref sig .tc .vmem S1x4x8x128 .fp8e4m3) (harg11 : arg11.IsWhole) (arg12 : Memref sig .tc .vmem S1x4x8x64 .i8) (harg12 : arg12.IsWhole) (arg13 : Memref sig .tc .vmem S1x4x8 .f32) (harg13 : arg13.IsWhole) (arg14 : Memref sig .tc .vmem S128x512 .bf16) (harg14 : arg14.IsWhole) (arg15 : Memref sig .tc .vmem S128x128 .f32) (harg15 : arg15.IsWhole) (arg16 : Memref sig .tc .vmem S128x128 .f32) (harg16 : arg16.IsWhole) (arg17 : Memref sig .tc .vmem S4x128x256 .f32) (harg17 : arg17.IsWhole) (arg18 : Memref sig .tc .vmem S128x128 .f32) (harg18 : arg18.IsWhole) (x3 : Vec F S1x4x32x128 .bf16) (x4 : Vec F S1x4x8x128 .bf16) (x5 : Vec F S1x4x8x128 .bf16) (x6 : Vec F S1x8x128 .f32) (x7 : Vec F S1x1024x8x128 .fp8e4m3) (x8 : Vec F S1x8x64x1024 .i8) (x9 : Vec F S1x8x1024 .f32) (v1 : Elt F .i32) (st : St F) : St F :=
  if cond0_1 i v1 then
    { st with m := View.canon (blockRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 x7 x8 x9 st.q st.m st.l st.acc st.accn).1, l := View.canon (blockRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 x7 x8 x9 st.q st.m st.l st.acc st.accn).2.1, acc := View.canon (blockRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 x7 x8 x9 st.q st.m st.l st.acc st.accn).2.2.1, accn := View.canon (blockRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 x7 x8 x9 st.q st.m st.l st.acc st.accn).2.2.2.1 }
  else st

theorem block_cover15 (c : Dev nD) (i : grid0.Coords) (arg2 : Memref sig .tc .smem S4 .i32) (harg2 : arg2.IsWhole) (arg3 : Memref sig .tc .vmem S1x4x32x128 .bf16) (harg3 : arg3.IsWhole) (arg4 : Memref sig .tc .vmem S1x4x8x128 .bf16) (harg4 : arg4.IsWhole) (arg5 : Memref sig .tc .vmem S1x4x8x128 .bf16) (harg5 : arg5.IsWhole) (arg6 : Memref sig .tc .vmem S1x8x128 .f32) (harg6 : arg6.IsWhole) (arg7 : Memref sig .tc .vmem S1x1024x8x128 .fp8e4m3) (harg7 : arg7.IsWhole) (arg8 : Memref sig .tc .vmem S1x8x64x1024 .i8) (harg8 : arg8.IsWhole) (arg9 : Memref sig .tc .vmem S1x8x1024 .f32) (harg9 : arg9.IsWhole) (arg10 : Memref sig .tc .vmem S1x4x32x128 .bf16) (harg10 : arg10.IsWhole) (arg11 : Memref sig .tc .vmem S1x4x8x128 .fp8e4m3) (harg11 : arg11.IsWhole) (arg12 : Memref sig .tc .vmem S1x4x8x64 .i8) (harg12 : arg12.IsWhole) (arg13 : Memref sig .tc .vmem S1x4x8 .f32) (harg13 : arg13.IsWhole) (arg14 : Memref sig .tc .vmem S128x512 .bf16) (harg14 : arg14.IsWhole) (arg15 : Memref sig .tc .vmem S128x128 .f32) (harg15 : arg15.IsWhole) (arg16 : Memref sig .tc .vmem S128x128 .f32) (harg16 : arg16.IsWhole) (arg17 : Memref sig .tc .vmem S4x128x256 .f32) (harg17 : arg17.IsWhole) (arg18 : Memref sig .tc .vmem S128x128 .f32) (harg18 : arg18.IsWhole) (v1 : Elt F .i32) (x7 : Vec F S1x1024x8x128 .fp8e4m3) (x8 : Vec F S1x8x64x1024 .i8) (x9 : Vec F S1x8x1024 .f32) (x14 : Vec F S128x512 .bf16) (x15 : Vec F S128x128 .f32) (x16 : Vec F S128x128 .f32) (x17 : Vec F S4x128x256 .f32) (x18 : Vec F S128x128 .f32) (y : S128x128.Idx) :
    ∃ pc ∈ (blockRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 x7 x8 x9 x14 x15 x16 x17 x18).1, y ∈ pc.1.set :=
  View.cover_of_tiledL ((blockRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 x7 x8 x9 x14 x15 x16 x17 x18).1) S128x128.size (by sl_kernel_rfl) y

theorem block_cover16 (c : Dev nD) (i : grid0.Coords) (arg2 : Memref sig .tc .smem S4 .i32) (harg2 : arg2.IsWhole) (arg3 : Memref sig .tc .vmem S1x4x32x128 .bf16) (harg3 : arg3.IsWhole) (arg4 : Memref sig .tc .vmem S1x4x8x128 .bf16) (harg4 : arg4.IsWhole) (arg5 : Memref sig .tc .vmem S1x4x8x128 .bf16) (harg5 : arg5.IsWhole) (arg6 : Memref sig .tc .vmem S1x8x128 .f32) (harg6 : arg6.IsWhole) (arg7 : Memref sig .tc .vmem S1x1024x8x128 .fp8e4m3) (harg7 : arg7.IsWhole) (arg8 : Memref sig .tc .vmem S1x8x64x1024 .i8) (harg8 : arg8.IsWhole) (arg9 : Memref sig .tc .vmem S1x8x1024 .f32) (harg9 : arg9.IsWhole) (arg10 : Memref sig .tc .vmem S1x4x32x128 .bf16) (harg10 : arg10.IsWhole) (arg11 : Memref sig .tc .vmem S1x4x8x128 .fp8e4m3) (harg11 : arg11.IsWhole) (arg12 : Memref sig .tc .vmem S1x4x8x64 .i8) (harg12 : arg12.IsWhole) (arg13 : Memref sig .tc .vmem S1x4x8 .f32) (harg13 : arg13.IsWhole) (arg14 : Memref sig .tc .vmem S128x512 .bf16) (harg14 : arg14.IsWhole) (arg15 : Memref sig .tc .vmem S128x128 .f32) (harg15 : arg15.IsWhole) (arg16 : Memref sig .tc .vmem S128x128 .f32) (harg16 : arg16.IsWhole) (arg17 : Memref sig .tc .vmem S4x128x256 .f32) (harg17 : arg17.IsWhole) (arg18 : Memref sig .tc .vmem S128x128 .f32) (harg18 : arg18.IsWhole) (v1 : Elt F .i32) (x7 : Vec F S1x1024x8x128 .fp8e4m3) (x8 : Vec F S1x8x64x1024 .i8) (x9 : Vec F S1x8x1024 .f32) (x14 : Vec F S128x512 .bf16) (x15 : Vec F S128x128 .f32) (x16 : Vec F S128x128 .f32) (x17 : Vec F S4x128x256 .f32) (x18 : Vec F S128x128 .f32) (y : S128x128.Idx) :
    ∃ pc ∈ (blockRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 x7 x8 x9 x14 x15 x16 x17 x18).2.1, y ∈ pc.1.set :=
  View.cover_of_tiledL ((blockRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 x7 x8 x9 x14 x15 x16 x17 x18).2.1) S128x128.size (by sl_kernel_rfl) y

theorem block_cover17 (c : Dev nD) (i : grid0.Coords) (arg2 : Memref sig .tc .smem S4 .i32) (harg2 : arg2.IsWhole) (arg3 : Memref sig .tc .vmem S1x4x32x128 .bf16) (harg3 : arg3.IsWhole) (arg4 : Memref sig .tc .vmem S1x4x8x128 .bf16) (harg4 : arg4.IsWhole) (arg5 : Memref sig .tc .vmem S1x4x8x128 .bf16) (harg5 : arg5.IsWhole) (arg6 : Memref sig .tc .vmem S1x8x128 .f32) (harg6 : arg6.IsWhole) (arg7 : Memref sig .tc .vmem S1x1024x8x128 .fp8e4m3) (harg7 : arg7.IsWhole) (arg8 : Memref sig .tc .vmem S1x8x64x1024 .i8) (harg8 : arg8.IsWhole) (arg9 : Memref sig .tc .vmem S1x8x1024 .f32) (harg9 : arg9.IsWhole) (arg10 : Memref sig .tc .vmem S1x4x32x128 .bf16) (harg10 : arg10.IsWhole) (arg11 : Memref sig .tc .vmem S1x4x8x128 .fp8e4m3) (harg11 : arg11.IsWhole) (arg12 : Memref sig .tc .vmem S1x4x8x64 .i8) (harg12 : arg12.IsWhole) (arg13 : Memref sig .tc .vmem S1x4x8 .f32) (harg13 : arg13.IsWhole) (arg14 : Memref sig .tc .vmem S128x512 .bf16) (harg14 : arg14.IsWhole) (arg15 : Memref sig .tc .vmem S128x128 .f32) (harg15 : arg15.IsWhole) (arg16 : Memref sig .tc .vmem S128x128 .f32) (harg16 : arg16.IsWhole) (arg17 : Memref sig .tc .vmem S4x128x256 .f32) (harg17 : arg17.IsWhole) (arg18 : Memref sig .tc .vmem S128x128 .f32) (harg18 : arg18.IsWhole) (v1 : Elt F .i32) (x7 : Vec F S1x1024x8x128 .fp8e4m3) (x8 : Vec F S1x8x64x1024 .i8) (x9 : Vec F S1x8x1024 .f32) (x14 : Vec F S128x512 .bf16) (x15 : Vec F S128x128 .f32) (x16 : Vec F S128x128 .f32) (x17 : Vec F S4x128x256 .f32) (x18 : Vec F S128x128 .f32) (y : S4x128x256.Idx) :
    ∃ pc ∈ (blockRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 x7 x8 x9 x14 x15 x16 x17 x18).2.2.1, y ∈ pc.1.set :=
  View.cover_of_tiledL ((blockRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 x7 x8 x9 x14 x15 x16 x17 x18).2.2.1) S1x128x256.size (by sl_kernel_rfl) y

theorem block_cover18 (c : Dev nD) (i : grid0.Coords) (arg2 : Memref sig .tc .smem S4 .i32) (harg2 : arg2.IsWhole) (arg3 : Memref sig .tc .vmem S1x4x32x128 .bf16) (harg3 : arg3.IsWhole) (arg4 : Memref sig .tc .vmem S1x4x8x128 .bf16) (harg4 : arg4.IsWhole) (arg5 : Memref sig .tc .vmem S1x4x8x128 .bf16) (harg5 : arg5.IsWhole) (arg6 : Memref sig .tc .vmem S1x8x128 .f32) (harg6 : arg6.IsWhole) (arg7 : Memref sig .tc .vmem S1x1024x8x128 .fp8e4m3) (harg7 : arg7.IsWhole) (arg8 : Memref sig .tc .vmem S1x8x64x1024 .i8) (harg8 : arg8.IsWhole) (arg9 : Memref sig .tc .vmem S1x8x1024 .f32) (harg9 : arg9.IsWhole) (arg10 : Memref sig .tc .vmem S1x4x32x128 .bf16) (harg10 : arg10.IsWhole) (arg11 : Memref sig .tc .vmem S1x4x8x128 .fp8e4m3) (harg11 : arg11.IsWhole) (arg12 : Memref sig .tc .vmem S1x4x8x64 .i8) (harg12 : arg12.IsWhole) (arg13 : Memref sig .tc .vmem S1x4x8 .f32) (harg13 : arg13.IsWhole) (arg14 : Memref sig .tc .vmem S128x512 .bf16) (harg14 : arg14.IsWhole) (arg15 : Memref sig .tc .vmem S128x128 .f32) (harg15 : arg15.IsWhole) (arg16 : Memref sig .tc .vmem S128x128 .f32) (harg16 : arg16.IsWhole) (arg17 : Memref sig .tc .vmem S4x128x256 .f32) (harg17 : arg17.IsWhole) (arg18 : Memref sig .tc .vmem S128x128 .f32) (harg18 : arg18.IsWhole) (v1 : Elt F .i32) (x7 : Vec F S1x1024x8x128 .fp8e4m3) (x8 : Vec F S1x8x64x1024 .i8) (x9 : Vec F S1x8x1024 .f32) (x14 : Vec F S128x512 .bf16) (x15 : Vec F S128x128 .f32) (x16 : Vec F S128x128 .f32) (x17 : Vec F S4x128x256 .f32) (x18 : Vec F S128x128 .f32) (y : S128x128.Idx) :
    ∃ pc ∈ (blockRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 x7 x8 x9 x14 x15 x16 x17 x18).2.2.2.1, y ∈ pc.1.set :=
  View.cover_of_tiledL ((blockRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 x7 x8 x9 x14 x15 x16 x17 x18).2.2.2.1) S128x128.size (by sl_kernel_rfl) y

theorem block_ok (c : Dev nD) (i : grid0.Coords) (arg2 : Memref sig .tc .smem S4 .i32) (harg2 : arg2.IsWhole) (arg3 : Memref sig .tc .vmem S1x4x32x128 .bf16) (harg3 : arg3.IsWhole) (arg4 : Memref sig .tc .vmem S1x4x8x128 .bf16) (harg4 : arg4.IsWhole) (arg5 : Memref sig .tc .vmem S1x4x8x128 .bf16) (harg5 : arg5.IsWhole) (arg6 : Memref sig .tc .vmem S1x8x128 .f32) (harg6 : arg6.IsWhole) (arg7 : Memref sig .tc .vmem S1x1024x8x128 .fp8e4m3) (harg7 : arg7.IsWhole) (arg8 : Memref sig .tc .vmem S1x8x64x1024 .i8) (harg8 : arg8.IsWhole) (arg9 : Memref sig .tc .vmem S1x8x1024 .f32) (harg9 : arg9.IsWhole) (arg10 : Memref sig .tc .vmem S1x4x32x128 .bf16) (harg10 : arg10.IsWhole) (arg11 : Memref sig .tc .vmem S1x4x8x128 .fp8e4m3) (harg11 : arg11.IsWhole) (arg12 : Memref sig .tc .vmem S1x4x8x64 .i8) (harg12 : arg12.IsWhole) (arg13 : Memref sig .tc .vmem S1x4x8 .f32) (harg13 : arg13.IsWhole) (arg14 : Memref sig .tc .vmem S128x512 .bf16) (harg14 : arg14.IsWhole) (arg15 : Memref sig .tc .vmem S128x128 .f32) (harg15 : arg15.IsWhole) (arg16 : Memref sig .tc .vmem S128x128 .f32) (harg16 : arg16.IsWhole) (arg17 : Memref sig .tc .vmem S4x128x256 .f32) (harg17 : arg17.IsWhole) (arg18 : Memref sig .tc .vmem S128x128 .f32) (harg18 : arg18.IsWhole) (x3 : Vec F S1x4x32x128 .bf16) (x4 : Vec F S1x4x8x128 .bf16) (x5 : Vec F S1x4x8x128 .bf16) (x6 : Vec F S1x8x128 .f32) (x7 : Vec F S1x1024x8x128 .fp8e4m3) (x8 : Vec F S1x8x64x1024 .i8) (x9 : Vec F S1x8x1024 .f32) (v1 : Elt F .i32) (st : St F) (E : Set ℕ) (K : PUnit → sProp 𝕄) :
    iprop(ownSt c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 x6 x7 x8 x9 st ∗ (ownSt c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 x6 x7 x8 x9 (blockSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 x6 x7 x8 x9 v1 st) -∗ K ⟨⟩))
      ⊢ wp frame (wpE (defs₀ (F := F)) Variants.none c none) E (if cond0_1 i v1 then blockSeg i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 else pure ⟨⟩) K := by
  by_cases h : cond0_1 i v1
  · unfold blockSt ownSt
    simp only [if_pos h]
    iintro ⟨⟨H3, H4, H5, H6, H7, H8, H9, H10, H11, H12, H13, H14, H15, H16, H17, H18⟩, Hk⟩
    iapply ((blockRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 x7 x8 x9 st.q st.m st.l st.acc st.accn).2.2.2.2 E K)
    isplitl [H7]; · iexact H7
    isplitl [H8]; · iexact H8
    isplitl [H9]; · iexact H9
    isplitl [H14]; · iexact H14
    isplitl [H15]; · iexact H15
    isplitl [H16]; · iexact H16
    isplitl [H17]; · iexact H17
    isplitl [H18]; · iexact H18
    iintro ⟨H7, H8, H9, H14, ⟨%e15, H15⟩, ⟨%e16, H16⟩, ⟨%e17, H17⟩, ⟨%e18, H18⟩⟩
    iapply Hk
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · unfold owns; iexists _; isplitr
      swap; · iexact H15
      ipureintro; exact View.read_writes_eq_canon _ _ _ (block_cover15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 x7 x8 x9 st.q st.m st.l st.acc st.accn)
    isplitl [H16]
    · unfold owns; iexists _; isplitr
      swap; · iexact H16
      ipureintro; exact View.read_writes_eq_canon _ _ _ (block_cover16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 x7 x8 x9 st.q st.m st.l st.acc st.accn)
    isplitl [H17]
    · unfold owns; iexists _; isplitr
      swap; · iexact H17
      ipureintro; exact View.read_writes_eq_canon _ _ _ (block_cover17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 x7 x8 x9 st.q st.m st.l st.acc st.accn)
    unfold owns; iexists _; isplitr
    swap; · iexact H18
    ipureintro; exact View.read_writes_eq_canon _ _ _ (block_cover18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 x7 x8 x9 st.q st.m st.l st.acc st.accn)
  · unfold blockSt
    simp only [if_neg h]
    iintro ⟨H, Hk⟩
    sl_step
    iapply Hk
    iexact H

/-- The state after the stretch `finish`, where it is taken. -/
def finishSt (c : Dev nD) (i : grid0.Coords) (arg2 : Memref sig .tc .smem S4 .i32) (harg2 : arg2.IsWhole) (arg3 : Memref sig .tc .vmem S1x4x32x128 .bf16) (harg3 : arg3.IsWhole) (arg4 : Memref sig .tc .vmem S1x4x8x128 .bf16) (harg4 : arg4.IsWhole) (arg5 : Memref sig .tc .vmem S1x4x8x128 .bf16) (harg5 : arg5.IsWhole) (arg6 : Memref sig .tc .vmem S1x8x128 .f32) (harg6 : arg6.IsWhole) (arg7 : Memref sig .tc .vmem S1x1024x8x128 .fp8e4m3) (harg7 : arg7.IsWhole) (arg8 : Memref sig .tc .vmem S1x8x64x1024 .i8) (harg8 : arg8.IsWhole) (arg9 : Memref sig .tc .vmem S1x8x1024 .f32) (harg9 : arg9.IsWhole) (arg10 : Memref sig .tc .vmem S1x4x32x128 .bf16) (harg10 : arg10.IsWhole) (arg11 : Memref sig .tc .vmem S1x4x8x128 .fp8e4m3) (harg11 : arg11.IsWhole) (arg12 : Memref sig .tc .vmem S1x4x8x64 .i8) (harg12 : arg12.IsWhole) (arg13 : Memref sig .tc .vmem S1x4x8 .f32) (harg13 : arg13.IsWhole) (arg14 : Memref sig .tc .vmem S128x512 .bf16) (harg14 : arg14.IsWhole) (arg15 : Memref sig .tc .vmem S128x128 .f32) (harg15 : arg15.IsWhole) (arg16 : Memref sig .tc .vmem S128x128 .f32) (harg16 : arg16.IsWhole) (arg17 : Memref sig .tc .vmem S4x128x256 .f32) (harg17 : arg17.IsWhole) (arg18 : Memref sig .tc .vmem S128x128 .f32) (harg18 : arg18.IsWhole) (x3 : Vec F S1x4x32x128 .bf16) (x4 : Vec F S1x4x8x128 .bf16) (x5 : Vec F S1x4x8x128 .bf16) (x6 : Vec F S1x8x128 .f32) (x7 : Vec F S1x1024x8x128 .fp8e4m3) (x8 : Vec F S1x8x64x1024 .i8) (x9 : Vec F S1x8x1024 .f32) (st : St F) : St F :=
  if h : k0_cond3 i = 1#1 then
    { st with o := View.canon (finishRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h st.l st.acc st.accn).1 }
  else st

theorem finish_cover10 (c : Dev nD) (i : grid0.Coords) (arg2 : Memref sig .tc .smem S4 .i32) (harg2 : arg2.IsWhole) (arg3 : Memref sig .tc .vmem S1x4x32x128 .bf16) (harg3 : arg3.IsWhole) (arg4 : Memref sig .tc .vmem S1x4x8x128 .bf16) (harg4 : arg4.IsWhole) (arg5 : Memref sig .tc .vmem S1x4x8x128 .bf16) (harg5 : arg5.IsWhole) (arg6 : Memref sig .tc .vmem S1x8x128 .f32) (harg6 : arg6.IsWhole) (arg7 : Memref sig .tc .vmem S1x1024x8x128 .fp8e4m3) (harg7 : arg7.IsWhole) (arg8 : Memref sig .tc .vmem S1x8x64x1024 .i8) (harg8 : arg8.IsWhole) (arg9 : Memref sig .tc .vmem S1x8x1024 .f32) (harg9 : arg9.IsWhole) (arg10 : Memref sig .tc .vmem S1x4x32x128 .bf16) (harg10 : arg10.IsWhole) (arg11 : Memref sig .tc .vmem S1x4x8x128 .fp8e4m3) (harg11 : arg11.IsWhole) (arg12 : Memref sig .tc .vmem S1x4x8x64 .i8) (harg12 : arg12.IsWhole) (arg13 : Memref sig .tc .vmem S1x4x8 .f32) (harg13 : arg13.IsWhole) (arg14 : Memref sig .tc .vmem S128x512 .bf16) (harg14 : arg14.IsWhole) (arg15 : Memref sig .tc .vmem S128x128 .f32) (harg15 : arg15.IsWhole) (arg16 : Memref sig .tc .vmem S128x128 .f32) (harg16 : arg16.IsWhole) (arg17 : Memref sig .tc .vmem S4x128x256 .f32) (harg17 : arg17.IsWhole) (arg18 : Memref sig .tc .vmem S128x128 .f32) (harg18 : arg18.IsWhole) (h : k0_cond3 i = 1#1) (x16 : Vec F S128x128 .f32) (x17 : Vec F S4x128x256 .f32) (x18 : Vec F S128x128 .f32) (y : S1x4x32x128.Idx) :
    ∃ pc ∈ (finishRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h x16 x17 x18).1, y ∈ pc.1.set :=
  View.cover_of_tiledL ((finishRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h x16 x17 x18).1) S1x1x16x128.size (by sl_kernel_rfl) y

theorem finish_ok (c : Dev nD) (i : grid0.Coords) (arg2 : Memref sig .tc .smem S4 .i32) (harg2 : arg2.IsWhole) (arg3 : Memref sig .tc .vmem S1x4x32x128 .bf16) (harg3 : arg3.IsWhole) (arg4 : Memref sig .tc .vmem S1x4x8x128 .bf16) (harg4 : arg4.IsWhole) (arg5 : Memref sig .tc .vmem S1x4x8x128 .bf16) (harg5 : arg5.IsWhole) (arg6 : Memref sig .tc .vmem S1x8x128 .f32) (harg6 : arg6.IsWhole) (arg7 : Memref sig .tc .vmem S1x1024x8x128 .fp8e4m3) (harg7 : arg7.IsWhole) (arg8 : Memref sig .tc .vmem S1x8x64x1024 .i8) (harg8 : arg8.IsWhole) (arg9 : Memref sig .tc .vmem S1x8x1024 .f32) (harg9 : arg9.IsWhole) (arg10 : Memref sig .tc .vmem S1x4x32x128 .bf16) (harg10 : arg10.IsWhole) (arg11 : Memref sig .tc .vmem S1x4x8x128 .fp8e4m3) (harg11 : arg11.IsWhole) (arg12 : Memref sig .tc .vmem S1x4x8x64 .i8) (harg12 : arg12.IsWhole) (arg13 : Memref sig .tc .vmem S1x4x8 .f32) (harg13 : arg13.IsWhole) (arg14 : Memref sig .tc .vmem S128x512 .bf16) (harg14 : arg14.IsWhole) (arg15 : Memref sig .tc .vmem S128x128 .f32) (harg15 : arg15.IsWhole) (arg16 : Memref sig .tc .vmem S128x128 .f32) (harg16 : arg16.IsWhole) (arg17 : Memref sig .tc .vmem S4x128x256 .f32) (harg17 : arg17.IsWhole) (arg18 : Memref sig .tc .vmem S128x128 .f32) (harg18 : arg18.IsWhole) (x3 : Vec F S1x4x32x128 .bf16) (x4 : Vec F S1x4x8x128 .bf16) (x5 : Vec F S1x4x8x128 .bf16) (x6 : Vec F S1x8x128 .f32) (x7 : Vec F S1x1024x8x128 .fp8e4m3) (x8 : Vec F S1x8x64x1024 .i8) (x9 : Vec F S1x8x1024 .f32) (st : St F) (E : Set ℕ) (K : PUnit → sProp 𝕄) :
    iprop(ownSt c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 x6 x7 x8 x9 st ∗ (ownSt c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 x6 x7 x8 x9 (finishSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 x6 x7 x8 x9 st) -∗ K ⟨⟩))
      ⊢ wp frame (wpE (defs₀ (F := F)) Variants.none c none) E (if k0_h3 : k0_cond3 i = 1#1 then finishSeg i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h3 else pure ⟨⟩) K := by
  by_cases h : k0_cond3 i = 1#1
  · unfold finishSt ownSt
    simp only [dif_pos h]
    iintro ⟨⟨H3, H4, H5, H6, H7, H8, H9, H10, H11, H12, H13, H14, H15, H16, H17, H18⟩, Hk⟩
    iapply ((finishRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h st.l st.acc st.accn).2 E K)
    isplitl [H16]; · iexact H16
    isplitl [H17]; · iexact H17
    isplitl [H18]; · iexact H18
    isplitl [H10]; · iexists _; iexact H10
    iintro ⟨H16, H17, H18, ⟨%e10, H10⟩⟩
    iapply Hk
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · unfold owns; iexists _; isplitr
      swap; · iexact H10
      ipureintro; exact View.read_writes_eq_canon _ _ _ (finish_cover10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h st.l st.acc st.accn)
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    iexact H18
  · unfold finishSt
    simp only [dif_neg h]
    iintro ⟨H, Hk⟩
    sl_step
    iapply Hk
    iexact H

/-- The body is a load of the length, then the three stretches one after another. -/
theorem body_seq (i : grid0.Coords) (arg2 : Memref sig .tc .smem S4 .i32) (harg2 : arg2.IsWhole) (arg3 : Memref sig .tc .vmem S1x4x32x128 .bf16) (harg3 : arg3.IsWhole) (arg4 : Memref sig .tc .vmem S1x4x8x128 .bf16) (harg4 : arg4.IsWhole) (arg5 : Memref sig .tc .vmem S1x4x8x128 .bf16) (harg5 : arg5.IsWhole) (arg6 : Memref sig .tc .vmem S1x8x128 .f32) (harg6 : arg6.IsWhole) (arg7 : Memref sig .tc .vmem S1x1024x8x128 .fp8e4m3) (harg7 : arg7.IsWhole) (arg8 : Memref sig .tc .vmem S1x8x64x1024 .i8) (harg8 : arg8.IsWhole) (arg9 : Memref sig .tc .vmem S1x8x1024 .f32) (harg9 : arg9.IsWhole) (arg10 : Memref sig .tc .vmem S1x4x32x128 .bf16) (harg10 : arg10.IsWhole) (arg11 : Memref sig .tc .vmem S1x4x8x128 .fp8e4m3) (harg11 : arg11.IsWhole) (arg12 : Memref sig .tc .vmem S1x4x8x64 .i8) (harg12 : arg12.IsWhole) (arg13 : Memref sig .tc .vmem S1x4x8 .f32) (harg13 : arg13.IsWhole) (arg14 : Memref sig .tc .vmem S128x512 .bf16) (harg14 : arg14.IsWhole) (arg15 : Memref sig .tc .vmem S128x128 .f32) (harg15 : arg15.IsWhole) (arg16 : Memref sig .tc .vmem S128x128 .f32) (harg16 : arg16.IsWhole) (arg17 : Memref sig .tc .vmem S4x128x256 .f32) (harg17 : arg17.IsWhole) (arg18 : Memref sig .tc .vmem S128x128 .f32) (harg18 : arg18.IsWhole) :
    cc0_decode_attn (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 = (smemLoad arg2 (Rect.unit (s := S4) (k0_off1 i) S1.size (k0_off1_inb i)) numel1_S1 rfl >>= fun v1 =>
      (if k0_h1 : k0_cond1 i = 1#1 then startSeg i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 else pure ⟨⟩) >>= fun _ =>
      (if cond0_1 i v1 then blockSeg i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 else pure ⟨⟩) >>= fun _ =>
      (if k0_h3 : k0_cond3 i = 1#1 then finishSeg i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h3 else pure ⟨⟩) >>= fun _ => pure ⟨⟩) := by
  rw [body_eq]
  refine congrArg (fun k : Elt F .i32 → Prog (TpuEff nD τ sig (Elt F) Λ₀ .tc) PUnit => smemLoad arg2 (Rect.unit (s := S4) (k0_off1 i) S1.size (k0_off1_inb i)) numel1_S1 rfl >>= k) (funext fun v1 => ?_)
  exact (dite_seq _ _).trans (congrArg (fun k => (if k0_h1 : k0_cond1 i = 1#1 then startSeg i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 else pure ⟨⟩) >>= k) (funext fun _ =>
    (ite_seq _ _).trans (congrArg (fun k => (if cond0_1 i v1 then blockSeg i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 else pure ⟨⟩) >>= k) (funext fun _ => dite_seq _ _))))

/-- The state after the body. -/
def bodySt (c : Dev nD) (i : grid0.Coords) (arg3 : Memref sig .tc .vmem S1x4x32x128 .bf16) (harg3 : arg3.IsWhole) (arg4 : Memref sig .tc .vmem S1x4x8x128 .bf16) (harg4 : arg4.IsWhole) (arg5 : Memref sig .tc .vmem S1x4x8x128 .bf16) (harg5 : arg5.IsWhole) (arg6 : Memref sig .tc .vmem S1x8x128 .f32) (harg6 : arg6.IsWhole) (arg7 : Memref sig .tc .vmem S1x1024x8x128 .fp8e4m3) (harg7 : arg7.IsWhole) (arg8 : Memref sig .tc .vmem S1x8x64x1024 .i8) (harg8 : arg8.IsWhole) (arg9 : Memref sig .tc .vmem S1x8x1024 .f32) (harg9 : arg9.IsWhole) (arg10 : Memref sig .tc .vmem S1x4x32x128 .bf16) (harg10 : arg10.IsWhole) (arg11 : Memref sig .tc .vmem S1x4x8x128 .fp8e4m3) (harg11 : arg11.IsWhole) (arg12 : Memref sig .tc .vmem S1x4x8x64 .i8) (harg12 : arg12.IsWhole) (arg13 : Memref sig .tc .vmem S1x4x8 .f32) (harg13 : arg13.IsWhole) (arg14 : Memref sig .tc .vmem S128x512 .bf16) (harg14 : arg14.IsWhole) (arg15 : Memref sig .tc .vmem S128x128 .f32) (harg15 : arg15.IsWhole) (arg16 : Memref sig .tc .vmem S128x128 .f32) (harg16 : arg16.IsWhole) (arg17 : Memref sig .tc .vmem S4x128x256 .f32) (harg17 : arg17.IsWhole) (arg18 : Memref sig .tc .vmem S128x128 .f32) (harg18 : arg18.IsWhole) (x3 : Vec F S1x4x32x128 .bf16) (x4 : Vec F S1x4x8x128 .bf16) (x5 : Vec F S1x4x8x128 .bf16) (x6 : Vec F S1x8x128 .f32) (x7 : Vec F S1x1024x8x128 .fp8e4m3) (x8 : Vec F S1x8x64x1024 .i8) (x9 : Vec F S1x8x1024 .f32) (xt : TbBuf0 (F := F) c tbM0_0) (st : St F) : St F :=
  finishSt c i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 x6 x7 x8 x9 (blockSt c i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 x6 x7 x8 x9 (tbM0_0.view.readAt (Elt F) (Rect.unit (s := S4) (k0_off1 i) S1.size (k0_off1_inb i)).toLoadRect xt (Shape.Idx.first (numel1_S1.symm ▸ Nat.one_pos))) (startSt c i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 x6 x7 x8 x9 st))

theorem body_run (c : Dev nD) (i : grid0.Coords) (arg3 : Memref sig .tc .vmem S1x4x32x128 .bf16) (harg3 : arg3.IsWhole) (arg4 : Memref sig .tc .vmem S1x4x8x128 .bf16) (harg4 : arg4.IsWhole) (arg5 : Memref sig .tc .vmem S1x4x8x128 .bf16) (harg5 : arg5.IsWhole) (arg6 : Memref sig .tc .vmem S1x8x128 .f32) (harg6 : arg6.IsWhole) (arg7 : Memref sig .tc .vmem S1x1024x8x128 .fp8e4m3) (harg7 : arg7.IsWhole) (arg8 : Memref sig .tc .vmem S1x8x64x1024 .i8) (harg8 : arg8.IsWhole) (arg9 : Memref sig .tc .vmem S1x8x1024 .f32) (harg9 : arg9.IsWhole) (arg10 : Memref sig .tc .vmem S1x4x32x128 .bf16) (harg10 : arg10.IsWhole) (arg11 : Memref sig .tc .vmem S1x4x8x128 .fp8e4m3) (harg11 : arg11.IsWhole) (arg12 : Memref sig .tc .vmem S1x4x8x64 .i8) (harg12 : arg12.IsWhole) (arg13 : Memref sig .tc .vmem S1x4x8 .f32) (harg13 : arg13.IsWhole) (arg14 : Memref sig .tc .vmem S128x512 .bf16) (harg14 : arg14.IsWhole) (arg15 : Memref sig .tc .vmem S128x128 .f32) (harg15 : arg15.IsWhole) (arg16 : Memref sig .tc .vmem S128x128 .f32) (harg16 : arg16.IsWhole) (arg17 : Memref sig .tc .vmem S4x128x256 .f32) (harg17 : arg17.IsWhole) (arg18 : Memref sig .tc .vmem S128x128 .f32) (harg18 : arg18.IsWhole) (x3 : Vec F S1x4x32x128 .bf16) (x4 : Vec F S1x4x8x128 .bf16) (x5 : Vec F S1x4x8x128 .bf16) (x6 : Vec F S1x8x128 .f32) (x7 : Vec F S1x1024x8x128 .fp8e4m3) (x8 : Vec F S1x8x64x1024 .i8) (x9 : Vec F S1x8x1024 .f32) (xt : TbBuf0 (F := F) c tbM0_0) (st : St F) (E : Set ℕ) (K : PUnit → sProp 𝕄) :
    iprop(ownSt c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 x6 x7 x8 x9 st ∗ tbPt0 c tbM0_0 xt ∗ (iprop(ownSt c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 x6 x7 x8 x9 (bodySt c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 x6 x7 x8 x9 xt st) ∗ tbPt0 c tbM0_0 xt) -∗ K ⟨⟩))
      ⊢ wp frame (wpE (defs₀ (F := F)) Variants.none c none) E (cc0_decode_attn (F := F) i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  rw [body_seq]
  iintro ⟨H, HT, Hk⟩
  sl_exec
  iapply wp_seq
  iapply (start_ok c i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 x6 x7 x8 x9 st E _)
  isplitl [H]; · iexact H
  iintro H
  iapply wp_seq
  iapply (block_ok c i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 x6 x7 x8 x9 (tbM0_0.view.readAt (Elt F) (Rect.unit (s := S4) (k0_off1 i) S1.size (k0_off1_inb i)).toLoadRect xt (Shape.Idx.first (numel1_S1.symm ▸ Nat.one_pos))) _ E _)
  isplitl [H]; · iexact H
  iintro H
  iapply wp_seq
  iapply (finish_ok c i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 x6 x7 x8 x9 _ E _)
  isplitl [H]; · iexact H
  iintro H
  sl_step
  iapply Hk
  isplitl [H]
  · iexact H
  iexact HT

end Cert.KernelIdeal.Hand

end
-- ==== Proof.Obl.lean ====
/-
  The launch: a point's obligation from what the body makes of the buffers, for any facts that hold of the scratch between points and of the results' blocks.
-/
module

public import proofs.«01_k».proof.Proof.Body
public import Idealize.ShloMosaic.Lib.Pipeline.DatRel
public import Idealize.ShloMosaic.Lib.Pipeline.ArrRel

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What is known: of the scratch before each point, and of each result's block after each point. -/
structure Facts (F : FTy → Type) where
  Inv : ℕ → Vec F S128x512 .bf16 → Vec F S128x128 .f32 → Vec F S128x128 .f32 → Vec F S4x128x256 .f32 → Vec F S128x128 .f32 → Prop
  R7 : ℕ → Vec F S1x4x32x128 .bf16 → Prop
  R8 : ℕ → Vec F S1x4x8x128 .fp8e4m3 → Prop
  R9 : ℕ → Vec F S1x4x8x64 .i8 → Prop
  R10 : ℕ → Vec F S1x4x8 .f32 → Prop

/-- The windows held to a fact: the results. -/
def marks : Fin 11 → Bool := fun w => w.val == 7 || w.val == 8 || w.val == 9 || w.val == 10

/-- The facts window by window. -/
def rel (hO : Ok m) (P : Facts F) (w : Fin (cfgM m hO).W) (t : Fin (cfgM m hO).N) : (((cfgM m hO).win w).block.Idx → Elt F ((cfgM m hO).win w).elt) → Prop :=
  match w with
  | ⟨7, _⟩ => fun X => P.R7 t.val X
  | ⟨8, _⟩ => fun X => P.R8 t.val X
  | ⟨9, _⟩ => fun X => P.R9 t.val X
  | ⟨10, _⟩ => fun X => P.R10 t.val X
  | _ => fun _ => True

/-- The scratch at some contents that the facts allow. -/
def scr (P : Facts F) (c : Dev nD) (n : ℕ) : sProp 𝕄 :=
  iprop(∃ d0, ∃ d1, ∃ d2, ∃ d3, ∃ d4, ⌜P.Inv n d0 d1 d2 d3 d4⌝ ∗ owns (c : Thread nD τ) scM0_0 fullShare d0 ∗ owns (c : Thread nD τ) scM0_1 fullShare d1 ∗ owns (c : Thread nD τ) scM0_2 fullShare d2 ∗ owns (c : Thread nD τ) scM0_3 fullShare d3 ∗ owns (c : Thread nD τ) scM0_4 fullShare d4)

/-- The scratch, the generator register and the table. -/
def phi (P : Facts F) (c : Dev nD) (n : ℕ) : sProp 𝕄 :=
  iprop((scr P c n ∗ (∃ r, prngReg c r)) ∗ tbPt0 c tbM0_0 (tbl m 0))

/-- The data of the launch: the arrays as the region finds them, each operand's buffer at its block. -/
def datP (hO : Ok m) (P : Facts F) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, h⟩ => Pipeline.Dat.unnamed (cfg := (cfgM m hO)) ⟨7, h⟩ t
    | ⟨8, h⟩ => Pipeline.Dat.unnamed (cfg := (cfgM m hO)) ⟨8, h⟩ t
    | ⟨9, h⟩ => Pipeline.Dat.unnamed (cfg := (cfgM m hO)) ⟨9, h⟩ t
    | ⟨10, h⟩ => Pipeline.Dat.unnamed (cfg := (cfgM m hO)) ⟨10, h⟩ t
  Φ t := phi m P c t.val
  q _ := fullShare
  owed _ := 0

theorem datP_A (hO : Ok m) (P : Facts F) (c : Dev nD) (w : Fin (cfgM m hO).W) : (datP m hO P c).A w = V m c (Pipeline.arrRef spec0 w) := by
  dsimp only [datP]

theorem kept0 (hO : Ok m) (P : Facts F) (c : Dev nD) (t : Fin (cfgM m hO).N) : (datP m hO P c).after 0 t = iblk m hO c 0 t := by dsimp only [datP]; try rfl
theorem found0 (hO : Ok m) (P : Facts F) (c : Dev nD) (t : Fin (cfgM m hO).N) (d) : (datP m hO P c).before 0 t d = iblk m hO c 0 t :=
  before0_0_of m hO (datP m hO P c) (datP_A m hO P c 0) (kept0 m hO P c) t d
theorem leave0 (hO : Ok m) (P : Facts F) (c : Dev nD) (t : Fin (cfgM m hO).N) : (datP m hO P c).leaves 0 t = owns (c : Thread nD τ) (ms0_0 m hO t) fullShare (iblk m hO c 0 t) := by
  unfold Dat.leaves; rw [liveAt0_0 m hO t]; first | rw [← kept0 m hO P c t]; rfl | rfl
theorem kept1 (hO : Ok m) (P : Facts F) (c : Dev nD) (t : Fin (cfgM m hO).N) : (datP m hO P c).after 1 t = iblk m hO c 1 t := by dsimp only [datP]; try rfl
theorem found1 (hO : Ok m) (P : Facts F) (c : Dev nD) (t : Fin (cfgM m hO).N) (d) : (datP m hO P c).before 1 t d = iblk m hO c 1 t :=
  before0_1_of m hO (datP m hO P c) (datP_A m hO P c 1) (kept1 m hO P c) t d
theorem leave1 (hO : Ok m) (P : Facts F) (c : Dev nD) (t : Fin (cfgM m hO).N) : (datP m hO P c).leaves 1 t = owns (c : Thread nD τ) (ms0_1 m hO t) fullShare (iblk m hO c 1 t) := by
  unfold Dat.leaves; rw [liveAt0_1 m hO t]; first | rw [← kept1 m hO P c t]; rfl | rfl
theorem kept2 (hO : Ok m) (P : Facts F) (c : Dev nD) (t : Fin (cfgM m hO).N) : (datP m hO P c).after 2 t = iblk m hO c 2 t := by dsimp only [datP]; try rfl
theorem found2 (hO : Ok m) (P : Facts F) (c : Dev nD) (t : Fin (cfgM m hO).N) (d) : (datP m hO P c).before 2 t d = iblk m hO c 2 t :=
  before0_2_of m hO (datP m hO P c) (datP_A m hO P c 2) (kept2 m hO P c) t d
theorem leave2 (hO : Ok m) (P : Facts F) (c : Dev nD) (t : Fin (cfgM m hO).N) : (datP m hO P c).leaves 2 t = owns (c : Thread nD τ) (ms0_2 m hO t) fullShare (iblk m hO c 2 t) := by
  unfold Dat.leaves; rw [liveAt0_2 m hO t]; first | rw [← kept2 m hO P c t]; rfl | rfl
theorem kept3 (hO : Ok m) (P : Facts F) (c : Dev nD) (t : Fin (cfgM m hO).N) : (datP m hO P c).after 3 t = iblk m hO c 3 t := by dsimp only [datP]; try rfl
theorem found3 (hO : Ok m) (P : Facts F) (c : Dev nD) (t : Fin (cfgM m hO).N) (d) : (datP m hO P c).before 3 t d = iblk m hO c 3 t :=
  before0_3_of m hO (datP m hO P c) (datP_A m hO P c 3) (kept3 m hO P c) t d
theorem leave3 (hO : Ok m) (P : Facts F) (c : Dev nD) (t : Fin (cfgM m hO).N) : (datP m hO P c).leaves 3 t = owns (c : Thread nD τ) (ms0_3 m hO t) fullShare (iblk m hO c 3 t) := by
  unfold Dat.leaves; rw [liveAt0_3 m hO t]; first | rw [← kept3 m hO P c t]; rfl | rfl
theorem kept4 (hO : Ok m) (P : Facts F) (c : Dev nD) (t : Fin (cfgM m hO).N) : (datP m hO P c).after 4 t = iblk m hO c 4 t := by dsimp only [datP]; try rfl
theorem found4 (hO : Ok m) (P : Facts F) (c : Dev nD) (t : Fin (cfgM m hO).N) (d) : (datP m hO P c).before 4 t d = iblk m hO c 4 t :=
  before0_4_of m hO (datP m hO P c) (datP_A m hO P c 4) (kept4 m hO P c) t d
theorem leave4 (hO : Ok m) (P : Facts F) (c : Dev nD) (t : Fin (cfgM m hO).N) : (datP m hO P c).leaves 4 t = owns (c : Thread nD τ) (ms0_4 m hO t) fullShare (iblk m hO c 4 t) := by
  unfold Dat.leaves; rw [liveAt0_4 m hO t]; first | rw [← kept4 m hO P c t]; rfl | rfl
theorem kept5 (hO : Ok m) (P : Facts F) (c : Dev nD) (t : Fin (cfgM m hO).N) : (datP m hO P c).after 5 t = iblk m hO c 5 t := by dsimp only [datP]; try rfl
theorem found5 (hO : Ok m) (P : Facts F) (c : Dev nD) (t : Fin (cfgM m hO).N) (d) : (datP m hO P c).before 5 t d = iblk m hO c 5 t :=
  before0_5_of m hO (datP m hO P c) (datP_A m hO P c 5) (kept5 m hO P c) t d
theorem leave5 (hO : Ok m) (P : Facts F) (c : Dev nD) (t : Fin (cfgM m hO).N) : (datP m hO P c).leaves 5 t = owns (c : Thread nD τ) (ms0_5 m hO t) fullShare (iblk m hO c 5 t) := by
  unfold Dat.leaves; rw [liveAt0_5 m hO t]; first | rw [← kept5 m hO P c t]; rfl | rfl
theorem kept6 (hO : Ok m) (P : Facts F) (c : Dev nD) (t : Fin (cfgM m hO).N) : (datP m hO P c).after 6 t = iblk m hO c 6 t := by dsimp only [datP]; try rfl
theorem found6 (hO : Ok m) (P : Facts F) (c : Dev nD) (t : Fin (cfgM m hO).N) (d) : (datP m hO P c).before 6 t d = iblk m hO c 6 t :=
  before0_6_of m hO (datP m hO P c) (datP_A m hO P c 6) (kept6 m hO P c) t d
theorem leave6 (hO : Ok m) (P : Facts F) (c : Dev nD) (t : Fin (cfgM m hO).N) : (datP m hO P c).leaves 6 t = owns (c : Thread nD τ) (ms0_6 m hO t) fullShare (iblk m hO c 6 t) := by
  unfold Dat.leaves; rw [liveAt0_6 m hO t]; first | rw [← kept6 m hO P c t]; rfl | rfl

/-- The state after the body at a point of the grid. -/
def stepAt (hO : Ok m) (c : Dev nD) (t : Fin (cfgM m hO).N) (st : St F) : St F :=
  bodySt c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) scM0_1 (Memref.isWhole_whole _) scM0_2 (Memref.isWhole_whole _) scM0_3 (Memref.isWhole_whole _) scM0_4 (Memref.isWhole_whole _) (iblk m hO c 0 t) (iblk m hO c 1 t) (iblk m hO c 2 t) (iblk m hO c 3 t) (iblk m hO c 4 t) (iblk m hO c 5 t) (iblk m hO c 6 t) (tbl m 0) st

/-- The facts carry over a point. -/
def Steps (hO : Ok m) (P : Facts F) (c : Dev nD) : Prop := ∀ (t : Fin (cfgM m hO).N) (st : St F),
  P.Inv t.val st.q st.m st.l st.acc st.accn → (¬ t.val % 8 = 0 → P.R8 (t.val - 1) st.kc ∧ P.R9 (t.val - 1) st.vc ∧ P.R10 (t.val - 1) st.sc) →
  P.Inv (t.val + 1) (stepAt m hO c t st).q (stepAt m hO c t st).m (stepAt m hO c t st).l (stepAt m hO c t st).acc (stepAt m hO c t st).accn
    ∧ P.R7 t.val (stepAt m hO c t st).o ∧ P.R8 t.val (stepAt m hO c t st).kc ∧ P.R9 t.val (stepAt m hO c t st).vc ∧ P.R10 t.val (stepAt m hO c t st).sc

theorem prev8 (hO : Ok m) (P : Facts F) (c : Dev nD) (t : Fin (cfgM m hO).N) (h : ¬ t.val % 8 = 0) (Y : Vec F S1x4x8x128 .fp8e4m3)
    (hY : ((datP m hO P c).toRRel marks (rel m hO P)).Finds 8 t Y) : P.R8 (t.val - 1) Y := by
  have h0 : t.val ≠ 0 := fun e => h (by omega)
  rcases (((datP m hO P c).toRRel marks (rel m hO P)).finds_of_pos (w := 8) (t := t) rfl h0 Y).mp hY with h1 | h1
  · exact absurd ((flush0_8 (adm m hO) _).mp h1) (by show ¬ (t.val - 1) % 8 = 7; omega)
  · exact Dat.toRRel_leaves (w := 8) _ rfl h1

theorem prev9 (hO : Ok m) (P : Facts F) (c : Dev nD) (t : Fin (cfgM m hO).N) (h : ¬ t.val % 8 = 0) (Y : Vec F S1x4x8x64 .i8)
    (hY : ((datP m hO P c).toRRel marks (rel m hO P)).Finds 9 t Y) : P.R9 (t.val - 1) Y := by
  have h0 : t.val ≠ 0 := fun e => h (by omega)
  rcases (((datP m hO P c).toRRel marks (rel m hO P)).finds_of_pos (w := 9) (t := t) rfl h0 Y).mp hY with h1 | h1
  · exact absurd ((flush0_9 (adm m hO) _).mp h1) (by show ¬ (t.val - 1) % 8 = 7; omega)
  · exact Dat.toRRel_leaves (w := 9) _ rfl h1

theorem prev10 (hO : Ok m) (P : Facts F) (c : Dev nD) (t : Fin (cfgM m hO).N) (h : ¬ t.val % 8 = 0) (Y : Vec F S1x4x8 .f32)
    (hY : ((datP m hO P c).toRRel marks (rel m hO P)).Finds 10 t Y) : P.R10 (t.val - 1) Y := by
  have h0 : t.val ≠ 0 := fun e => h (by omega)
  rcases (((datP m hO P c).toRRel marks (rel m hO P)).finds_of_pos (w := 10) (t := t) rfl h0 Y).mp hY with h1 | h1
  · exact absurd ((flush0_10 (adm m hO) _).mp h1) (by show ¬ (t.val - 1) % 8 = 7; omega)
  · exact Dat.toRRel_leaves (w := 10) _ rfl h1

def ptPre (hO : Ok m) (P : Facts F) (c : Dev nD) (t : Fin (cfgM m hO).N) : sProp 𝕄 :=
  iprop((datP m hO P c).Φ t.castSucc ∗ (datP m hO P c).owesAt () t.castSucc
    ∗ (∃ d, owns (c : Thread nD τ) (ms0_0 m hO t) fullShare ((datP m hO P c).before 0 t d))
    ∗ (∃ d, owns (c : Thread nD τ) (ms0_1 m hO t) fullShare ((datP m hO P c).before 1 t d))
    ∗ (∃ d, owns (c : Thread nD τ) (ms0_2 m hO t) fullShare ((datP m hO P c).before 2 t d))
    ∗ (∃ d, owns (c : Thread nD τ) (ms0_3 m hO t) fullShare ((datP m hO P c).before 3 t d))
    ∗ (∃ d, owns (c : Thread nD τ) (ms0_4 m hO t) fullShare ((datP m hO P c).before 4 t d))
    ∗ (∃ d, owns (c : Thread nD τ) (ms0_5 m hO t) fullShare ((datP m hO P c).before 5 t d))
    ∗ (∃ d, owns (c : Thread nD τ) (ms0_6 m hO t) fullShare ((datP m hO P c).before 6 t d))
    ∗ (∃ Y, ⌜((datP m hO P c).toRRel marks (rel m hO P)).Finds 7 t Y⌝ ∗ owns (c : Thread nD τ) (ms0_7 m hO t) fullShare Y)
    ∗ (∃ Y, ⌜((datP m hO P c).toRRel marks (rel m hO P)).Finds 8 t Y⌝ ∗ owns (c : Thread nD τ) (ms0_8 m hO t) fullShare Y)
    ∗ (∃ Y, ⌜((datP m hO P c).toRRel marks (rel m hO P)).Finds 9 t Y⌝ ∗ owns (c : Thread nD τ) (ms0_9 m hO t) fullShare Y)
    ∗ (∃ Y, ⌜((datP m hO P c).toRRel marks (rel m hO P)).Finds 10 t Y⌝ ∗ owns (c : Thread nD τ) (ms0_10 m hO t) fullShare Y))

def ptPost (hO : Ok m) (P : Facts F) (c : Dev nD) (t : Fin (cfgM m hO).N) : sProp 𝕄 :=
  iprop((datP m hO P c).Φ t.succ ∗ (datP m hO P c).owesAt () t.succ
    ∗ (datP m hO P c).leaves 0 t
    ∗ (datP m hO P c).leaves 1 t
    ∗ (datP m hO P c).leaves 2 t
    ∗ (datP m hO P c).leaves 3 t
    ∗ (datP m hO P c).leaves 4 t
    ∗ (datP m hO P c).leaves 5 t
    ∗ (datP m hO P c).leaves 6 t
    ∗ (∃ X, ⌜rel m hO P 7 t X⌝ ∗ owns (c : Thread nD τ) (ms0_7 m hO t) fullShare X)
    ∗ (∃ X, ⌜rel m hO P 8 t X⌝ ∗ owns (c : Thread nD τ) (ms0_8 m hO t) fullShare X)
    ∗ (∃ X, ⌜rel m hO P 9 t X⌝ ∗ owns (c : Thread nD τ) (ms0_9 m hO t) fullShare X)
    ∗ (∃ X, ⌜rel m hO P 10 t X⌝ ∗ owns (c : Thread nD τ) (ms0_10 m hO t) fullShare X))

/-- The body at a point, from what it is handed to what it must give back. -/
theorem point_ok (hO : Ok m) (P : Facts F) (c : Dev nD) (hs : Steps m hO P c) (t : Fin (cfgM m hO).N) :
    ptPre m hO P c t ⊢ wp frame (wpE (defs₀ (F := F)) Variants.none c none) Set.univ (bodyAt0 (adm m hO) t) (fun _ => ptPost m hO P c t) := by
  unfold ptPre ptPost bodyAt0
  simp only [found0, found1, found2, found3, found4, found5, found6]
  rw [leave0 m hO P c t, leave1 m hO P c t, leave2 m hO P c t, leave3 m hO P c t, leave4 m hO P c t, leave5 m hO P c t, leave6 m hO P c t]
  rw [show (datP m hO P c).owesAt () t.succ = (datP m hO P c).owesAt () t.castSucc from rfl]
  rw [show (datP m hO P c).Φ t.castSucc = phi m P c t.val from rfl, show (datP m hO P c).Φ t.succ = phi m P c (t.val + 1) from rfl]
  unfold phi scr
  iintro ⟨⟨⟨⟨%s0, %s1, %s2, %s3, %s4, %hI, S0, S1, S2, S3, S4⟩, Hg⟩, HT⟩, Ho, ⟨%d0, H0⟩, ⟨%d1, H1⟩, ⟨%d2, H2⟩, ⟨%d3, H3⟩, ⟨%d4, H4⟩, ⟨%d5, H5⟩, ⟨%d6, H6⟩, ⟨%Y7, %hY7, H7⟩, ⟨%Y8, %hY8, H8⟩, ⟨%Y9, %hY9, H9⟩, ⟨%Y10, %hY10, H10⟩⟩
  have hst := hs t ⟨Y7, Y8, Y9, Y10, s0, s1, s2, s3, s4⟩ hI fun h => ⟨prev8 m hO P c t h Y8 hY8, prev9 m hO P c t h Y9 hY9, prev10 m hO P c t h Y10 hY10⟩
  iapply (body_run c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) scM0_1 (Memref.isWhole_whole _) scM0_2 (Memref.isWhole_whole _) scM0_3 (Memref.isWhole_whole _) scM0_4 (Memref.isWhole_whole _) (iblk m hO c 0 t) (iblk m hO c 1 t) (iblk m hO c 2 t) (iblk m hO c 3 t) (iblk m hO c 4 t) (iblk m hO c 5 t) (iblk m hO c 6 t) (tbl m 0) ⟨Y7, Y8, Y9, Y10, s0, s1, s2, s3, s4⟩ Set.univ _)
  isplitl [H0 H1 H2 H3 H4 H5 H6 H7 H8 H9 H10 S0 S1 S2 S3 S4]
  · unfold ownSt
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [S0]; · iexact S0
    isplitl [S1]; · iexact S1
    isplitl [S2]; · iexact S2
    isplitl [S3]; · iexact S3
    iexact S4
  isplitl [HT]; · iexact HT
  unfold ownSt
  iintro ⟨⟨H0, H1, H2, H3, H4, H5, H6, H7, H8, H9, H10, S0, S1, S2, S3, S4⟩, HT⟩
  isplitl [S0 S1 S2 S3 S4 Hg HT]
  · isplitl [S0 S1 S2 S3 S4 Hg]
    · isplitl [S0 S1 S2 S3 S4]
      · iexists _; iexists _; iexists _; iexists _; iexists _
        isplitr
        swap
        · isplitl [S0]; · iexact S0
          isplitl [S1]; · iexact S1
          isplitl [S2]; · iexact S2
          isplitl [S3]; · iexact S3
          iexact S4
        ipureintro; exact hst.1
      iexact Hg
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists _; isplitr
    swap; · iexact H7
    ipureintro; exact hst.2.1
  isplitl [H8]
  · iexists _; isplitr
    swap; · iexact H8
    ipureintro; exact hst.2.2.1
  isplitl [H9]
  · iexists _; isplitr
    swap; · iexact H9
    ipureintro; exact hst.2.2.2.1
  iexists _; isplitr
  swap; · iexact H10
  ipureintro; exact hst.2.2.2.2

theorem row_eq (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem obligation (hO : Ok m) (P : Facts F) (c : Dev nD) (hs : Steps m hO P c) :
    Pipeline.BodyObligationRel (datP (F := F) m hO P c) (defs₀ (F := F)) Variants.none () Set.univ marks (rel m hO P) := fun t => by
  rw [bigSep_W0, bigSep_W0, row_eq m hO]
  exact triple_restated (point_ok m hO P c hs t) rfl .rfl fun _ => .rfl

theorem enter (hO : Ok m) (P : Facts F) (c : Dev nD) (h0 : ∀ d0 d1 d2 d3 d4, P.Inv 0 d0 d1 d2 d3 d4) :
    iprop(Pipeline.ΦA spec0 c ∗ Pipeline.ΦT pre0 (tbl m) c) ⊢ (datP m hO P c).Φ 0 := by
  rw [show (datP m hO P c).Φ 0 = phi m P c 0 from rfl, PhiT0_eq, PhiA0_eq]
  unfold phi scr
  iintro ⟨⟨⟨⟨%d0, S0⟩, ⟨%d1, S1⟩, ⟨%d2, S2⟩, ⟨%d3, S3⟩, ⟨%d4, S4⟩⟩, Hg⟩, HT⟩
  isplitl [S0 S1 S2 S3 S4 Hg]
  · isplitl [S0 S1 S2 S3 S4]
    · iexists _; iexists _; iexists _; iexists _; iexists _
      isplitr
      swap
      · isplitl [S0]; · iexact S0
        isplitl [S1]; · iexact S1
        isplitl [S2]; · iexact S2
        isplitl [S3]; · iexact S3
        iexact S4
      ipureintro; exact h0 _ _ _ _ _
    iexact Hg
  iexact HT

theorem leave (hO : Ok m) (P : Facts F) (c : Dev nD) : (datP m hO P c).Φ (Fin.last (cfgM m hO).N) ⊢ Pipeline.ΦA spec0 c := by
  rw [show (datP m hO P c).Φ (Fin.last (cfgM m hO).N) = phi m P c (cfgM m hO).N from rfl, PhiA0_eq]
  unfold phi scr
  iintro ⟨⟨⟨%d0, %d1, %d2, %d3, %d4, -, S0, S1, S2, S3, S4⟩, Hg⟩, -⟩
  isplitl [S0 S1 S2 S3 S4]
  · isplitl [S0]
    · iexists _; iexact S0
    isplitl [S1]
    · iexists _; iexact S1
    isplitl [S2]
    · iexists _; iexact S2
    isplitl [S3]
    · iexists _; iexact S3
    iexists _; iexact S4
  iexact Hg

set_option backward.isDefEq.respectTransparency.types false in
/-- The launch: the facts hold of what the run leaves, and the counters end at zero. -/
theorem run_rel (hO : Ok m) (P : Facts F) (h0 : ∀ d0 d1 d2 d3 d4, P.Inv 0 d0 d1 d2 d3 d4) (hs : ∀ c, Steps m hO P c) :
    θ_run defs (onTc (τ := τ) (main (F := F))) (s₀ m ρ) (fun r => (Pipeline.RDat.FramePost ((Pipeline.pin pcfgs fun _ => adm m hO) 0) (fun c => (datP m hO P c).toRRel marks (rel m hO P)) (V m)) r ∧ r.2.sem = fun _ => 0) :=
  Pipeline.RDat.θ_run_frameP_track (Q' := _) pcfgs (fun _ => adm m hO) (0 : Fin 1) launch0 defs₀ Variants.none (fun c => (datP m hO P c).toRRel marks (rel m hO P)) m ρ main
    (hbody := fun c => (obligation m hO P c (hs c)).toRRel) (hshare := fun c => (datP m hO P c).share_full fun _ => rfl)
    (howed := fun _ _ => rfl) (V := V m) (hmain := hmain m Variants.none) (hA := datP_A m hO P) (hpf := V_pre m) (hin := fun c => enter m hO P c h0) (hout := leave m hO P)

end Cert.KernelIdeal.Hand

end
-- ==== Proof.Blocks.lean ====
/-
  The operands' blocks at a point, read at an index.
-/
module

public import proofs.«01_k».proof.Proof.Obl
public import Idealize.ShloMosaic.Lib.Pipeline.ValueKit
public import Idealize.ShloMosaic.Lib.Pointwise

@[expose] public section

set_option maxRecDepth 16384

noncomputable section

namespace Cert.KernelIdeal.Hand

open Idealize.ShloMosaic Idealize.ShloMosaic.TcCoe
open Idealize.ShloMosaic.Pipeline (Dat Cfg Window BodyObligation cellOf)
open Cert.KernelIdeal Cert.KernelIdeal.Gen

variable {F : FTy → Type} [FloatOps F]
variable (m : (ℓ : Loc nD τ sig) → Buf (Elt F) ℓ) (ρ : Dev nD → PrngReg)

/-- The sequence that a point works on. -/
def bOf (n : ℕ) : Fin 4 := ⟨n / 8 % 4, by omega⟩

theorem coord0 (t : Fin grid0.N) : (grid0.coords t 0).val = t.val / 8 % 4 := Pipeline.Grid.coords_val t 0 (by decide) rfl
theorem coord1 (t : Fin grid0.N) : (grid0.coords t 1).val = t.val % 8 := (Pipeline.Grid.coords_val t 1 (S := 1) (by decide) rfl).trans (by rw [Nat.div_one]; rfl)

theorem index0 (a : (pcfg0 (F := F)).Adm) (t : Fin (cfg0 a).N) : ((cfg0 a).win 0).index t = ![(bOf t.val).val, 0, 0, 0] := by
  show cc0_transform_0 (grid0.coords t) = _
  unfold cc0_transform_0; dsimp only; rw [BitVec.toNat_ofNat, Nat.mod_eq_of_lt (lt_of_lt_of_le (grid0.coords t 0).isLt (by decide)), coord0]; rfl

theorem index1 (a : (pcfg0 (F := F)).Adm) (t : Fin (cfg0 a).N) : ((cfg0 a).win 1).index t = ![(bOf t.val).val, 0, 0, 0] := by
  show cc0_transform_1 (grid0.coords t) = _
  unfold cc0_transform_1; dsimp only; rw [BitVec.toNat_ofNat, Nat.mod_eq_of_lt (lt_of_lt_of_le (grid0.coords t 0).isLt (by decide)), coord0]; rfl

theorem index2 (a : (pcfg0 (F := F)).Adm) (t : Fin (cfg0 a).N) : ((cfg0 a).win 2).index t = ![(bOf t.val).val, 0, 0, 0] := by
  show cc0_transform_2 (grid0.coords t) = _
  unfold cc0_transform_2; dsimp only; rw [BitVec.toNat_ofNat, Nat.mod_eq_of_lt (lt_of_lt_of_le (grid0.coords t 0).isLt (by decide)), coord0]; rfl

theorem index3 (a : (pcfg0 (F := F)).Adm) (t : Fin (cfg0 a).N) : ((cfg0 a).win 3).index t = ![(bOf t.val).val, 0, 0] := by
  show cc0_transform_3 (grid0.coords t) = _
  unfold cc0_transform_3; dsimp only; rw [BitVec.toNat_ofNat, Nat.mod_eq_of_lt (lt_of_lt_of_le (grid0.coords t 0).isLt (by decide)), coord0]; rfl

theorem index7 (a : (pcfg0 (F := F)).Adm) (t : Fin (cfg0 a).N) : ((cfg0 a).win 7).index t = ![(bOf t.val).val, 0, 0, 0] := by
  show cc0_transform_7 (grid0.coords t) = _
  unfold cc0_transform_7; dsimp only; rw [BitVec.toNat_ofNat, Nat.mod_eq_of_lt (lt_of_lt_of_le (grid0.coords t 0).isLt (by decide)), coord0]; rfl

theorem index8 (a : (pcfg0 (F := F)).Adm) (t : Fin (cfg0 a).N) : ((cfg0 a).win 8).index t = ![(bOf t.val).val, 0, 0, 0] := by
  show cc0_transform_8 (grid0.coords t) = _
  unfold cc0_transform_8; dsimp only; rw [BitVec.toNat_ofNat, Nat.mod_eq_of_lt (lt_of_lt_of_le (grid0.coords t 0).isLt (by decide)), coord0]; rfl

theorem index9 (a : (pcfg0 (F := F)).Adm) (t : Fin (cfg0 a).N) : ((cfg0 a).win 9).index t = ![(bOf t.val).val, 0, 0, 0] := by
  show cc0_transform_9 (grid0.coords t) = _
  unfold cc0_transform_9; dsimp only; rw [BitVec.toNat_ofNat, Nat.mod_eq_of_lt (lt_of_lt_of_le (grid0.coords t 0).isLt (by decide)), coord0]; rfl

theorem index10 (a : (pcfg0 (F := F)).Adm) (t : Fin (cfg0 a).N) : ((cfg0 a).win 10).index t = ![(bOf t.val).val, 0, 0] := by
  show cc0_transform_10 (grid0.coords t) = _
  unfold cc0_transform_10; dsimp only; rw [BitVec.toNat_ofNat, Nat.mod_eq_of_lt (lt_of_lt_of_le (grid0.coords t 0).isLt (by decide)), coord0]; rfl

theorem iblk0_at (hO : Ok m) (c : Dev nD) (t : Fin (cfgM m hO).N) (a : Fin 4) (b : Fin 32) (d : Fin 128) :
    iblk m hO c 0 t (ix4 0 a b d) = m ((c : Thread nD τ).loc main_arg0) (ix4 (bOf t.val) a b d) := by
  rw [← V_main_arg0 m c]
  unfold iblk
  have e := index0 (F := F) (adm m hO) t
  blk_ext [e] <;> (rw [show (pcfg0.win (adm m hO) 0).index t = _ from e]; simp [bOf])

theorem iblk1_at (hO : Ok m) (c : Dev nD) (t : Fin (cfgM m hO).N) (a : Fin 4) (b : Fin 8) (d : Fin 128) :
    iblk m hO c 1 t (ix4 0 a b d) = m ((c : Thread nD τ).loc main_arg1) (ix4 (bOf t.val) a b d) := by
  rw [← V_main_arg1 m c]
  unfold iblk
  have e := index1 (F := F) (adm m hO) t
  blk_ext [e] <;> (rw [show (pcfg0.win (adm m hO) 1).index t = _ from e]; simp [bOf])

theorem iblk2_at (hO : Ok m) (c : Dev nD) (t : Fin (cfgM m hO).N) (a : Fin 4) (b : Fin 8) (d : Fin 128) :
    iblk m hO c 2 t (ix4 0 a b d) = m ((c : Thread nD τ).loc main_arg2) (ix4 (bOf t.val) a b d) := by
  rw [← V_main_arg2 m c]
  unfold iblk
  have e := index2 (F := F) (adm m hO) t
  blk_ext [e] <;> (rw [show (pcfg0.win (adm m hO) 2).index t = _ from e]; simp [bOf])

theorem iblk3_at (hO : Ok m) (c : Dev nD) (t : Fin (cfgM m hO).N) (b : Fin 8) (d : Fin 128) :
    iblk m hO c 3 t (ix3 0 b d) = m ((c : Thread nD τ).loc main_arg4) (ix3 (bOf t.val) b d) := by
  rw [← V_main_arg4 m c]
  unfold iblk
  have e := index3 (F := F) (adm m hO) t
  blk_ext [e] <;> (rw [show (pcfg0.win (adm m hO) 3).index t = _ from e]; simp [bOf])

end Cert.KernelIdeal.Hand

end
-- ==== Proof.Readback.lean ====
/-
  What the launch leaves in the results' arrays, read at an index.
-/
module

public import proofs.«01_k».proof.Proof.Blocks
public import Idealize.ShloMosaic.Lib.Pipeline.ValueKit
public import Idealize.ShloMosaic.Lib.Pointwise

@[expose] public section

set_option maxRecDepth 16384

noncomputable section

namespace Cert.KernelIdeal.Hand

open Idealize.ShloMosaic Idealize.ShloMosaic.TcCoe
open Idealize.ShloMosaic.Rounds
open Idealize.ShloMosaic.Pipeline (Dat Cfg Window BodyObligation cellOf)
open Cert.KernelIdeal Cert.KernelIdeal.Gen

variable {F : FTy → Type} [FloatOps F]
variable (m : (ℓ : Loc nD τ sig) → Buf (Elt F) ℓ) (ρ : Dev nD → PrngReg)

/-- The point that writes a sequence's results back. -/
def lastPt (hO : Ok m) (b : Fin 4) : Fin (cfgM m hO).N := ⟨8 * b.val + 7, by show _ < grid0.N; rw [N_0]; omega⟩

theorem bOf_last (b : Fin 4) : bOf (8 * b.val + 7) = b := Fin.ext (by simp only [bOf]; omega)

theorem bOf_inj {n k : ℕ} (hn : n < 32) (hk : k < 32) (h1 : n % 8 = 7) (h2 : k % 8 = 7) (h : (bOf n).val = (bOf k).val) : n = k := by
  simp only [bOf] at h; omega

theorem arr7_at (hO : Ok m) (c : Dev nD) (D : Dat τ (Elt F) Unit ℕ (UR sig nD τ) ℕ (cfgM m hO) c) (b : Fin 4) (a : Fin 4) (e : Fin 32) (d : Fin 128) :
    D.arrAt 7 (cfgM m hO).N (ix4 b a e d) = D.after 7 (lastPt m hO b) (ix4 0 a e d) := by
  have hd := ((cfgM m hO).win 7).hdisj_of_index_inj (fun t t' hf hf' he => Fin.ext (bOf_inj
    (Nat.lt_of_lt_of_eq t.isLt N_0) (Nat.lt_of_lt_of_eq t'.isLt N_0) ((flush0_7 (adm m hO) t).mp hf) ((flush0_7 (adm m hO) t').mp hf')
    (by have := congrFun ((index7 (F := F) (adm m hO) t).symm.trans (he.trans (index7 (F := F) (adm m hO) t'))) 0; exact this)))
  have hf : ((cfgM m hO).win 7).flush (lastPt m hO b) = true := (flush0_7 (adm m hO) (lastPt m hO b)).mpr (by show (8 * b.val + 7) % 8 = 7; omega)
  have h := D.arrAt_emb_eq_flushed 7 hd (lastPt m hO b) hf (ix4 0 a e d)
  have e := index7 (F := F) (adm m hO) (lastPt m hO b)
  refine Eq.trans (congrArg _ ?_) (h.trans ?_)
  · blk_ext [e] <;> simp [lastPt, bOf_last]
  · rfl

theorem arr8_at (hO : Ok m) (c : Dev nD) (D : Dat τ (Elt F) Unit ℕ (UR sig nD τ) ℕ (cfgM m hO) c) (b : Fin 4) (a : Fin 4) (e : Fin 8) (d : Fin 128) :
    D.arrAt 8 (cfgM m hO).N (ix4 b a e d) = D.after 8 (lastPt m hO b) (ix4 0 a e d) := by
  have hd := ((cfgM m hO).win 8).hdisj_of_index_inj (fun t t' hf hf' he => Fin.ext (bOf_inj
    (Nat.lt_of_lt_of_eq t.isLt N_0) (Nat.lt_of_lt_of_eq t'.isLt N_0) ((flush0_8 (adm m hO) t).mp hf) ((flush0_8 (adm m hO) t').mp hf')
    (by have := congrFun ((index8 (F := F) (adm m hO) t).symm.trans (he.trans (index8 (F := F) (adm m hO) t'))) 0; exact this)))
  have hf : ((cfgM m hO).win 8).flush (lastPt m hO b) = true := (flush0_8 (adm m hO) (lastPt m hO b)).mpr (by show (8 * b.val + 7) % 8 = 7; omega)
  have h := D.arrAt_emb_eq_flushed 8 hd (lastPt m hO b) hf (ix4 0 a e d)
  have e := index8 (F := F) (adm m hO) (lastPt m hO b)
  refine Eq.trans (congrArg _ ?_) (h.trans ?_)
  · blk_ext [e] <;> simp [lastPt, bOf_last]
  · rfl

theorem arr9_at (hO : Ok m) (c : Dev nD) (D : Dat τ (Elt F) Unit ℕ (UR sig nD τ) ℕ (cfgM m hO) c) (b : Fin 4) (a : Fin 4) (e : Fin 8) (d : Fin 64) :
    D.arrAt 9 (cfgM m hO).N (ix4 b a e d) = D.after 9 (lastPt m hO b) (ix4 0 a e d) := by
  have hd := ((cfgM m hO).win 9).hdisj_of_index_inj (fun t t' hf hf' he => Fin.ext (bOf_inj
    (Nat.lt_of_lt_of_eq t.isLt N_0) (Nat.lt_of_lt_of_eq t'.isLt N_0) ((flush0_9 (adm m hO) t).mp hf) ((flush0_9 (adm m hO) t').mp hf')
    (by have := congrFun ((index9 (F := F) (adm m hO) t).symm.trans (he.trans (index9 (F := F) (adm m hO) t'))) 0; exact this)))
  have hf : ((cfgM m hO).win 9).flush (lastPt m hO b) = true := (flush0_9 (adm m hO) (lastPt m hO b)).mpr (by show (8 * b.val + 7) % 8 = 7; omega)
  have h := D.arrAt_emb_eq_flushed 9 hd (lastPt m hO b) hf (ix4 0 a e d)
  have e := index9 (F := F) (adm m hO) (lastPt m hO b)
  refine Eq.trans (congrArg _ ?_) (h.trans ?_)
  · blk_ext [e] <;> simp [lastPt, bOf_last]
  · rfl

theorem arr10_at (hO : Ok m) (c : Dev nD) (D : Dat τ (Elt F) Unit ℕ (UR sig nD τ) ℕ (cfgM m hO) c) (b : Fin 4) (a : Fin 4) (e : Fin 8) :
    D.arrAt 10 (cfgM m hO).N (ix3 b a e) = D.after 10 (lastPt m hO b) (ix3 0 a e) := by
  have hd := ((cfgM m hO).win 10).hdisj_of_index_inj (fun t t' hf hf' he => Fin.ext (bOf_inj
    (Nat.lt_of_lt_of_eq t.isLt N_0) (Nat.lt_of_lt_of_eq t'.isLt N_0) ((flush0_10 (adm m hO) t).mp hf) ((flush0_10 (adm m hO) t').mp hf')
    (by have := congrFun ((index10 (F := F) (adm m hO) t).symm.trans (he.trans (index10 (F := F) (adm m hO) t'))) 0; exact this)))
  have hf : ((cfgM m hO).win 10).flush (lastPt m hO b) = true := (flush0_10 (adm m hO) (lastPt m hO b)).mpr (by show (8 * b.val + 7) % 8 = 7; omega)
  have h := D.arrAt_emb_eq_flushed 10 hd (lastPt m hO b) hf (ix3 0 a e)
  have e := index10 (F := F) (adm m hO) (lastPt m hO b)
  refine Eq.trans (congrArg _ ?_) (h.trans ?_)
  · blk_ext [e] <;> simp [lastPt, bOf_last]
  · rfl

/-- What the run leaves in the results' arrays: sequence by sequence, a block that the facts allow. -/
theorem run_read (hO : Ok m) (P : Facts F) (h0 : ∀ d0 d1 d2 d3 d4, P.Inv 0 d0 d1 d2 d3 d4) (hs : ∀ c, Steps m hO P c) :
    θ_run defs (onTc (τ := τ) (main (F := F))) (s₀ m ρ) (fun r => ∀ c : Dev nD,
      (∀ b : Fin 4, ∃ X, P.R7 (8 * b.val + 7) X ∧ ∀ (a : Fin 4) (e : Fin 32) (d : Fin 128), r.2.mem ((c.tc : Thread nD τ).loc main_v3_0) (ix4 b a e d) = X (ix4 0 a e d))
      ∧ (∀ b : Fin 4, ∃ X, P.R8 (8 * b.val + 7) X ∧ ∀ (a : Fin 4) (e : Fin 8) (d : Fin 128), r.2.mem ((c.tc : Thread nD τ).loc main_v3_1) (ix4 b a e d) = X (ix4 0 a e d))
      ∧ (∀ b : Fin 4, ∃ X, P.R9 (8 * b.val + 7) X ∧ ∀ (a : Fin 4) (e : Fin 8) (d : Fin 64), r.2.mem ((c.tc : Thread nD τ).loc main_v3_2) (ix4 b a e d) = X (ix4 0 a e d))
      ∧ (∀ b : Fin 4, ∃ X, P.R10 (8 * b.val + 7) X ∧ ∀ (a : Fin 4) (e : Fin 8), r.2.mem ((c.tc : Thread nD τ).loc main_v3_3) (ix3 b a e) = X (ix3 0 a e))) := by
  refine (θ_run defs _ _).mono (fun r h c => ?_) (run_rel m ρ hO P h0 hs)
  obtain ⟨after, hl, ha⟩ := h.1.exists_exact c
  refine ⟨fun b => ?_, fun b => ?_, fun b => ?_, fun b => ?_⟩
  · have hf : ((cfgM m hO).win 7).flush (lastPt m hO b) = true := (flush0_7 (adm m hO) (lastPt m hO b)).mpr (by show (8 * b.val + 7) % 8 = 7; omega)
    refine ⟨after 7 (lastPt m hO b), Dat.toRRel_leaves (w := 7) _ rfl (hl 7 (lastPt m hO b) hf), fun a e d => ?_⟩
    refine (congrFun (ha 7) _).trans ?_
    exact arr7_at m hO c _ b a e d
  · have hf : ((cfgM m hO).win 8).flush (lastPt m hO b) = true := (flush0_8 (adm m hO) (lastPt m hO b)).mpr (by show (8 * b.val + 7) % 8 = 7; omega)
    refine ⟨after 8 (lastPt m hO b), Dat.toRRel_leaves (w := 8) _ rfl (hl 8 (lastPt m hO b) hf), fun a e d => ?_⟩
    refine (congrFun (ha 8) _).trans ?_
    exact arr8_at m hO c _ b a e d
  · have hf : ((cfgM m hO).win 9).flush (lastPt m hO b) = true := (flush0_9 (adm m hO) (lastPt m hO b)).mpr (by show (8 * b.val + 7) % 8 = 7; omega)
    refine ⟨after 9 (lastPt m hO b), Dat.toRRel_leaves (w := 9) _ rfl (hl 9 (lastPt m hO b) hf), fun a e d => ?_⟩
    refine (congrFun (ha 9) _).trans ?_
    exact arr9_at m hO c _ b a e d
  · have hf : ((cfgM m hO).win 10).flush (lastPt m hO b) = true := (flush0_10 (adm m hO) (lastPt m hO b)).mpr (by show (8 * b.val + 7) % 8 = 7; omega)
    refine ⟨after 10 (lastPt m hO b), Dat.toRRel_leaves (w := 10) _ rfl (hl 10 (lastPt m hO b) hf), fun a e => ?_⟩
    refine (congrFun (ha 10) _).trans ?_
    exact arr10_at m hO c _ b a e

end Cert.KernelIdeal.Hand

end
-- ==== Proof.StartValue.lean ====
/-
  What the first stretch leaves in the buffers it writes.
-/
module

public import proofs.«01_k».proof.Proof.Body
public import Idealize.ShloMosaic.Lib.Pipeline.Value
public import Idealize.ShloMosaic.Lib.WholeRead

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- A load of the whole of a buffer reads what it holds. -/
theorem read_whole {sig : RefSig} {κ : Kind} {sp : Space} {S : Shape} {e : EltTy} {Val : EltTy → Type} {m : Memref sig κ sp S e} (h : m.IsWhole) (X : S.Idx → Val e)
    {off : Fin S.rank → Nat} (h0 : off = fun _ => 0) (inb : ∀ a, off a + S.size a ≤ S.size a) :
    View.readAt Val m.view (Rect.unit off S.size inb).toLoadRect (h.unread X) = X := by
  funext x
  refine (h.readAt_unread X _ x).trans ?_
  exact congrFun (View.ld_unit_zero h0 inb X) x

theorem start_kc (c : Dev nD) (i : grid0.Coords) (arg2 : Memref sig .tc .smem S4 .i32) (harg2 : arg2.IsWhole) (arg3 : Memref sig .tc .vmem S1x4x32x128 .bf16) (harg3 : arg3.IsWhole) (arg4 : Memref sig .tc .vmem S1x4x8x128 .bf16) (harg4 : arg4.IsWhole) (arg5 : Memref sig .tc .vmem S1x4x8x128 .bf16) (harg5 : arg5.IsWhole) (arg6 : Memref sig .tc .vmem S1x8x128 .f32) (harg6 : arg6.IsWhole) (arg7 : Memref sig .tc .vmem S1x1024x8x128 .fp8e4m3) (harg7 : arg7.IsWhole) (arg8 : Memref sig .tc .vmem S1x8x64x1024 .i8) (harg8 : arg8.IsWhole) (arg9 : Memref sig .tc .vmem S1x8x1024 .f32) (harg9 : arg9.IsWhole) (arg10 : Memref sig .tc .vmem S1x4x32x128 .bf16) (harg10 : arg10.IsWhole) (arg11 : Memref sig .tc .vmem S1x4x8x128 .fp8e4m3) (harg11 : arg11.IsWhole) (arg12 : Memref sig .tc .vmem S1x4x8x64 .i8) (harg12 : arg12.IsWhole) (arg13 : Memref sig .tc .vmem S1x4x8 .f32) (harg13 : arg13.IsWhole) (arg14 : Memref sig .tc .vmem S128x512 .bf16) (harg14 : arg14.IsWhole) (arg15 : Memref sig .tc .vmem S128x128 .f32) (harg15 : arg15.IsWhole) (arg16 : Memref sig .tc .vmem S128x128 .f32) (harg16 : arg16.IsWhole) (arg17 : Memref sig .tc .vmem S4x128x256 .f32) (harg17 : arg17.IsWhole) (arg18 : Memref sig .tc .vmem S128x128 .f32) (harg18 : arg18.IsWhole) (x3 : Vec F S1x4x32x128 .bf16) (x4 : Vec F S1x4x8x128 .bf16) (x5 : Vec F S1x4x8x128 .bf16) (x6 : Vec F S1x8x128 .f32) (x7 : Vec F S1x1024x8x128 .fp8e4m3) (x8 : Vec F S1x8x64x1024 .i8) (x9 : Vec F S1x8x1024 .f32) (st : St F) (h : k0_cond1 i = 1#1) :
    (startSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 x6 x7 x8 x9 st).kc = k0_pay43 (k0_pay25 x4) (k0_pay26 (k0_pay9 x6)) (k0_pay38 (k0_pay26 (k0_pay9 x6)) (k0_pay27 (k0_pay9 x6)) (k0_pay28 (k0_pay9 x6))) (k0_pay39 (k0_pay26 (k0_pay9 x6)) (k0_pay27 (k0_pay9 x6)) (k0_pay28 (k0_pay9 x6))) (k0_pay40 (k0_pay26 (k0_pay9 x6)) (k0_pay27 (k0_pay9 x6)) (k0_pay28 (k0_pay9 x6))) (k0_pay41 (k0_pay26 (k0_pay9 x6)) (k0_pay27 (k0_pay9 x6)) (k0_pay28 (k0_pay9 x6))) := by
  unfold startSt
  rw [dif_pos h]
  dsimp only
  unfold startRun
  dsimp only
  refine (View.canon_unit_zero (S := S1x4x8x128) (by funext a; fin_cases a <;> rfl) _ _).trans ?_
  have e4 : ∀ inb, View.readAt (Elt F) arg4.view (Rect.unit (s := S1x4x8x128) ![0, 0, 0, 0] ![1, 4, 8, 128] inb).toLoadRect (harg4.unread x4) = x4 := fun inb => read_whole (S := S1x4x8x128) harg4 x4 (by funext a; fin_cases a <;> rfl) inb
  have e6 : ∀ inb, View.readAt (Elt F) arg6.view (Rect.unit (s := S1x8x128) ![0, 0, 0] ![1, 8, 128] inb).toLoadRect (harg6.unread x6) = x6 := fun inb => read_whole (S := S1x8x128) harg6 x6 (by funext a; fin_cases a <;> rfl) inb
  simp only [startRun.sl.r_2, startRun.sl.r_3, startRun.sl.r_4, startRun.sl.r_5, startRun.sl.r_6, startRun.sl.r_7, startRun.sl.r_8, startRun.sl.r_9, startRun.sl.v16, e4, e6]
  rfl

theorem start_vc (c : Dev nD) (i : grid0.Coords) (arg2 : Memref sig .tc .smem S4 .i32) (harg2 : arg2.IsWhole) (arg3 : Memref sig .tc .vmem S1x4x32x128 .bf16) (harg3 : arg3.IsWhole) (arg4 : Memref sig .tc .vmem S1x4x8x128 .bf16) (harg4 : arg4.IsWhole) (arg5 : Memref sig .tc .vmem S1x4x8x128 .bf16) (harg5 : arg5.IsWhole) (arg6 : Memref sig .tc .vmem S1x8x128 .f32) (harg6 : arg6.IsWhole) (arg7 : Memref sig .tc .vmem S1x1024x8x128 .fp8e4m3) (harg7 : arg7.IsWhole) (arg8 : Memref sig .tc .vmem S1x8x64x1024 .i8) (harg8 : arg8.IsWhole) (arg9 : Memref sig .tc .vmem S1x8x1024 .f32) (harg9 : arg9.IsWhole) (arg10 : Memref sig .tc .vmem S1x4x32x128 .bf16) (harg10 : arg10.IsWhole) (arg11 : Memref sig .tc .vmem S1x4x8x128 .fp8e4m3) (harg11 : arg11.IsWhole) (arg12 : Memref sig .tc .vmem S1x4x8x64 .i8) (harg12 : arg12.IsWhole) (arg13 : Memref sig .tc .vmem S1x4x8 .f32) (harg13 : arg13.IsWhole) (arg14 : Memref sig .tc .vmem S128x512 .bf16) (harg14 : arg14.IsWhole) (arg15 : Memref sig .tc .vmem S128x128 .f32) (harg15 : arg15.IsWhole) (arg16 : Memref sig .tc .vmem S128x128 .f32) (harg16 : arg16.IsWhole) (arg17 : Memref sig .tc .vmem S4x128x256 .f32) (harg17 : arg17.IsWhole) (arg18 : Memref sig .tc .vmem S128x128 .f32) (harg18 : arg18.IsWhole) (x3 : Vec F S1x4x32x128 .bf16) (x4 : Vec F S1x4x8x128 .bf16) (x5 : Vec F S1x4x8x128 .bf16) (x6 : Vec F S1x8x128 .f32) (x7 : Vec F S1x1024x8x128 .fp8e4m3) (x8 : Vec F S1x8x64x1024 .i8) (x9 : Vec F S1x8x1024 .f32) (st : St F) (h : k0_cond1 i = 1#1) :
    (startSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 x6 x7 x8 x9 st).vc = k0_pay53 (k0_pay49 (k0_pay44 x5) (k0_pay45 x5) k0_pay46) k0_pay50 (iota Kind.tc S128x64 32 [0] iota_S128x64_d0_w32) 2#32 k0_pay51 k0_pay52 := by
  unfold startSt
  rw [dif_pos h]
  dsimp only
  unfold startRun
  dsimp only
  refine (View.canon_unit_zero (S := S1x4x8x64) (by funext a; fin_cases a <;> rfl) _ _).trans ?_
  have e5 : ∀ inb, View.readAt (Elt F) arg5.view (Rect.unit (s := S1x4x8x128) ![0, 0, 0, 0] ![1, 4, 8, 128] inb).toLoadRect (harg5.unread x5) = x5 := fun inb => read_whole (S := S1x4x8x128) harg5 x5 (by funext a; fin_cases a <;> rfl) inb
  simp only [startRun.sl.r_15, startRun.sl.r_11, startRun.sl.r_12, startRun.sl.v311, e5]

theorem start_sc (c : Dev nD) (i : grid0.Coords) (arg2 : Memref sig .tc .smem S4 .i32) (harg2 : arg2.IsWhole) (arg3 : Memref sig .tc .vmem S1x4x32x128 .bf16) (harg3 : arg3.IsWhole) (arg4 : Memref sig .tc .vmem S1x4x8x128 .bf16) (harg4 : arg4.IsWhole) (arg5 : Memref sig .tc .vmem S1x4x8x128 .bf16) (harg5 : arg5.IsWhole) (arg6 : Memref sig .tc .vmem S1x8x128 .f32) (harg6 : arg6.IsWhole) (arg7 : Memref sig .tc .vmem S1x1024x8x128 .fp8e4m3) (harg7 : arg7.IsWhole) (arg8 : Memref sig .tc .vmem S1x8x64x1024 .i8) (harg8 : arg8.IsWhole) (arg9 : Memref sig .tc .vmem S1x8x1024 .f32) (harg9 : arg9.IsWhole) (arg10 : Memref sig .tc .vmem S1x4x32x128 .bf16) (harg10 : arg10.IsWhole) (arg11 : Memref sig .tc .vmem S1x4x8x128 .fp8e4m3) (harg11 : arg11.IsWhole) (arg12 : Memref sig .tc .vmem S1x4x8x64 .i8) (harg12 : arg12.IsWhole) (arg13 : Memref sig .tc .vmem S1x4x8 .f32) (harg13 : arg13.IsWhole) (arg14 : Memref sig .tc .vmem S128x512 .bf16) (harg14 : arg14.IsWhole) (arg15 : Memref sig .tc .vmem S128x128 .f32) (harg15 : arg15.IsWhole) (arg16 : Memref sig .tc .vmem S128x128 .f32) (harg16 : arg16.IsWhole) (arg17 : Memref sig .tc .vmem S4x128x256 .f32) (harg17 : arg17.IsWhole) (arg18 : Memref sig .tc .vmem S128x128 .f32) (harg18 : arg18.IsWhole) (x3 : Vec F S1x4x32x128 .bf16) (x4 : Vec F S1x4x8x128 .bf16) (x5 : Vec F S1x4x8x128 .bf16) (x6 : Vec F S1x8x128 .f32) (x7 : Vec F S1x1024x8x128 .fp8e4m3) (x8 : Vec F S1x8x64x1024 .i8) (x9 : Vec F S1x8x1024 .f32) (st : St F) (h : k0_cond1 i = 1#1) :
    (startSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 x6 x7 x8 x9 st).sc = k0_pay57 (k0_pay47 (k0_pay45 x5) k0_pay46) k0_pay54 (k0_pay55 (k0_pay47 (k0_pay45 x5) k0_pay46)) (FloatOps.ofBits .f32 0#32) (k0_pay56 (k0_pay47 (k0_pay45 x5) k0_pay46)) := by
  unfold startSt
  rw [dif_pos h]
  dsimp only
  unfold startRun
  dsimp only
  refine (View.canon_unit_zero (S := S1x4x8) (by funext a; fin_cases a <;> rfl) _ _).trans ?_
  have e5 : ∀ inb, View.readAt (Elt F) arg5.view (Rect.unit (s := S1x4x8x128) ![0, 0, 0, 0] ![1, 4, 8, 128] inb).toLoadRect (harg5.unread x5) = x5 := fun inb => read_whole (S := S1x4x8x128) harg5 x5 (by funext a; fin_cases a <;> rfl) inb
  simp only [startRun.sl.r_13, startRun.sl.r_16, startRun.sl.r_17, startRun.sl.r_12, startRun.sl.cst_122, e5]

theorem start_q (c : Dev nD) (i : grid0.Coords) (arg2 : Memref sig .tc .smem S4 .i32) (harg2 : arg2.IsWhole) (arg3 : Memref sig .tc .vmem S1x4x32x128 .bf16) (harg3 : arg3.IsWhole) (arg4 : Memref sig .tc .vmem S1x4x8x128 .bf16) (harg4 : arg4.IsWhole) (arg5 : Memref sig .tc .vmem S1x4x8x128 .bf16) (harg5 : arg5.IsWhole) (arg6 : Memref sig .tc .vmem S1x8x128 .f32) (harg6 : arg6.IsWhole) (arg7 : Memref sig .tc .vmem S1x1024x8x128 .fp8e4m3) (harg7 : arg7.IsWhole) (arg8 : Memref sig .tc .vmem S1x8x64x1024 .i8) (harg8 : arg8.IsWhole) (arg9 : Memref sig .tc .vmem S1x8x1024 .f32) (harg9 : arg9.IsWhole) (arg10 : Memref sig .tc .vmem S1x4x32x128 .bf16) (harg10 : arg10.IsWhole) (arg11 : Memref sig .tc .vmem S1x4x8x128 .fp8e4m3) (harg11 : arg11.IsWhole) (arg12 : Memref sig .tc .vmem S1x4x8x64 .i8) (harg12 : arg12.IsWhole) (arg13 : Memref sig .tc .vmem S1x4x8 .f32) (harg13 : arg13.IsWhole) (arg14 : Memref sig .tc .vmem S128x512 .bf16) (harg14 : arg14.IsWhole) (arg15 : Memref sig .tc .vmem S128x128 .f32) (harg15 : arg15.IsWhole) (arg16 : Memref sig .tc .vmem S128x128 .f32) (harg16 : arg16.IsWhole) (arg17 : Memref sig .tc .vmem S4x128x256 .f32) (harg17 : arg17.IsWhole) (arg18 : Memref sig .tc .vmem S128x128 .f32) (harg18 : arg18.IsWhole) (x3 : Vec F S1x4x32x128 .bf16) (x4 : Vec F S1x4x8x128 .bf16) (x5 : Vec F S1x4x8x128 .bf16) (x6 : Vec F S1x8x128 .f32) (x7 : Vec F S1x1024x8x128 .fp8e4m3) (x8 : Vec F S1x8x64x1024 .i8) (x9 : Vec F S1x8x1024 .f32) (st : St F) (h : k0_cond1 i = 1#1) :
    (startSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 x6 x7 x8 x9 st).q = k0_pay24 (k0_pay20 (k0_pay15 (k0_pay8 x3) (k0_pay9 x6) k0_pay11 k0_pay12 k0_pay13 k0_pay14) k0_pay16 k0_pay17 k0_pay18 k0_pay19) k0_pay21 4#32 k0_pay22 k0_pay23 := by
  unfold startSt
  rw [dif_pos h]
  dsimp only
  unfold startRun
  dsimp only
  refine (View.canon_unit_zero (S := S128x512) (by funext a; fin_cases a <;> rfl) _ _).trans ?_
  have e3 : ∀ inb, View.readAt (Elt F) arg3.view (Rect.unit (s := S1x4x32x128) ![0, 0, 0, 0] ![1, 4, 32, 128] inb).toLoadRect (harg3.unread x3) = x3 := fun inb => read_whole (S := S1x4x32x128) harg3 x3 (by funext a; fin_cases a <;> rfl) inb
  have e6 : ∀ inb, View.readAt (Elt F) arg6.view (Rect.unit (s := S1x8x128) ![0, 0, 0] ![1, 8, 128] inb).toLoadRect (harg6.unread x6) = x6 := fun inb => read_whole (S := S1x8x128) harg6 x6 (by funext a; fin_cases a <;> rfl) inb
  simp only [startRun.sl.r_1, startRun.sl.r, startRun.sl.v14, startRun.sl.v13, startRun.sl.v16, e3, e6]
  rfl

end Cert.KernelIdeal.Hand

end
-- ==== Proof.Stages.lean ====
/-
  A point's three stretches.
-/
module

public import proofs.«01_k».proof.Proof.Blocks
public import proofs.«01_k».proof.Proof.StartValue
public import Idealize.ShloMosaic.Lib.Pipeline.ValueKit
public import Idealize.ShloMosaic.Lib.Pointwise

@[expose] public section

set_option maxRecDepth 16384

noncomputable section

namespace Cert.KernelIdeal.Hand

open Idealize.ShloMosaic Idealize.ShloMosaic.TcCoe
open Idealize.ShloMosaic.Pipeline (Dat Cfg Window BodyObligation cellOf)
open Cert.KernelIdeal Cert.KernelIdeal.Gen

variable {F : FTy → Type} [FloatOps F]

theorem finish_kc (c : Dev nD) (i : grid0.Coords) (arg2 : Memref sig .tc .smem S4 .i32) (harg2 : arg2.IsWhole) (arg3 : Memref sig .tc .vmem S1x4x32x128 .bf16) (harg3 : arg3.IsWhole) (arg4 : Memref sig .tc .vmem S1x4x8x128 .bf16) (harg4 : arg4.IsWhole) (arg5 : Memref sig .tc .vmem S1x4x8x128 .bf16) (harg5 : arg5.IsWhole) (arg6 : Memref sig .tc .vmem S1x8x128 .f32) (harg6 : arg6.IsWhole) (arg7 : Memref sig .tc .vmem S1x1024x8x128 .fp8e4m3) (harg7 : arg7.IsWhole) (arg8 : Memref sig .tc .vmem S1x8x64x1024 .i8) (harg8 : arg8.IsWhole) (arg9 : Memref sig .tc .vmem S1x8x1024 .f32) (harg9 : arg9.IsWhole) (arg10 : Memref sig .tc .vmem S1x4x32x128 .bf16) (harg10 : arg10.IsWhole) (arg11 : Memref sig .tc .vmem S1x4x8x128 .fp8e4m3) (harg11 : arg11.IsWhole) (arg12 : Memref sig .tc .vmem S1x4x8x64 .i8) (harg12 : arg12.IsWhole) (arg13 : Memref sig .tc .vmem S1x4x8 .f32) (harg13 : arg13.IsWhole) (arg14 : Memref sig .tc .vmem S128x512 .bf16) (harg14 : arg14.IsWhole) (arg15 : Memref sig .tc .vmem S128x128 .f32) (harg15 : arg15.IsWhole) (arg16 : Memref sig .tc .vmem S128x128 .f32) (harg16 : arg16.IsWhole) (arg17 : Memref sig .tc .vmem S4x128x256 .f32) (harg17 : arg17.IsWhole) (arg18 : Memref sig .tc .vmem S128x128 .f32) (harg18 : arg18.IsWhole) (x3 : Vec F S1x4x32x128 .bf16) (x4 : Vec F S1x4x8x128 .bf16) (x5 : Vec F S1x4x8x128 .bf16) (x6 : Vec F S1x8x128 .f32) (x7 : Vec F S1x1024x8x128 .fp8e4m3) (x8 : Vec F S1x8x64x1024 .i8) (x9 : Vec F S1x8x1024 .f32) (st : St F) : (finishSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 x6 x7 x8 x9 st).kc = st.kc := by
  unfold finishSt; split <;> rfl
theorem finish_vc (c : Dev nD) (i : grid0.Coords) (arg2 : Memref sig .tc .smem S4 .i32) (harg2 : arg2.IsWhole) (arg3 : Memref sig .tc .vmem S1x4x32x128 .bf16) (harg3 : arg3.IsWhole) (arg4 : Memref sig .tc .vmem S1x4x8x128 .bf16) (harg4 : arg4.IsWhole) (arg5 : Memref sig .tc .vmem S1x4x8x128 .bf16) (harg5 : arg5.IsWhole) (arg6 : Memref sig .tc .vmem S1x8x128 .f32) (harg6 : arg6.IsWhole) (arg7 : Memref sig .tc .vmem S1x1024x8x128 .fp8e4m3) (harg7 : arg7.IsWhole) (arg8 : Memref sig .tc .vmem S1x8x64x1024 .i8) (harg8 : arg8.IsWhole) (arg9 : Memref sig .tc .vmem S1x8x1024 .f32) (harg9 : arg9.IsWhole) (arg10 : Memref sig .tc .vmem S1x4x32x128 .bf16) (harg10 : arg10.IsWhole) (arg11 : Memref sig .tc .vmem S1x4x8x128 .fp8e4m3) (harg11 : arg11.IsWhole) (arg12 : Memref sig .tc .vmem S1x4x8x64 .i8) (harg12 : arg12.IsWhole) (arg13 : Memref sig .tc .vmem S1x4x8 .f32) (harg13 : arg13.IsWhole) (arg14 : Memref sig .tc .vmem S128x512 .bf16) (harg14 : arg14.IsWhole) (arg15 : Memref sig .tc .vmem S128x128 .f32) (harg15 : arg15.IsWhole) (arg16 : Memref sig .tc .vmem S128x128 .f32) (harg16 : arg16.IsWhole) (arg17 : Memref sig .tc .vmem S4x128x256 .f32) (harg17 : arg17.IsWhole) (arg18 : Memref sig .tc .vmem S128x128 .f32) (harg18 : arg18.IsWhole) (x3 : Vec F S1x4x32x128 .bf16) (x4 : Vec F S1x4x8x128 .bf16) (x5 : Vec F S1x4x8x128 .bf16) (x6 : Vec F S1x8x128 .f32) (x7 : Vec F S1x1024x8x128 .fp8e4m3) (x8 : Vec F S1x8x64x1024 .i8) (x9 : Vec F S1x8x1024 .f32) (st : St F) : (finishSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 x6 x7 x8 x9 st).vc = st.vc := by
  unfold finishSt; split <;> rfl
theorem finish_sc (c : Dev nD) (i : grid0.Coords) (arg2 : Memref sig .tc .smem S4 .i32) (harg2 : arg2.IsWhole) (arg3 : Memref sig .tc .vmem S1x4x32x128 .bf16) (harg3 : arg3.IsWhole) (arg4 : Memref sig .tc .vmem S1x4x8x128 .bf16) (harg4 : arg4.IsWhole) (arg5 : Memref sig .tc .vmem S1x4x8x128 .bf16) (harg5 : arg5.IsWhole) (arg6 : Memref sig .tc .vmem S1x8x128 .f32) (harg6 : arg6.IsWhole) (arg7 : Memref sig .tc .vmem S1x1024x8x128 .fp8e4m3) (harg7 : arg7.IsWhole) (arg8 : Memref sig .tc .vmem S1x8x64x1024 .i8) (harg8 : arg8.IsWhole) (arg9 : Memref sig .tc .vmem S1x8x1024 .f32) (harg9 : arg9.IsWhole) (arg10 : Memref sig .tc .vmem S1x4x32x128 .bf16) (harg10 : arg10.IsWhole) (arg11 : Memref sig .tc .vmem S1x4x8x128 .fp8e4m3) (harg11 : arg11.IsWhole) (arg12 : Memref sig .tc .vmem S1x4x8x64 .i8) (harg12 : arg12.IsWhole) (arg13 : Memref sig .tc .vmem S1x4x8 .f32) (harg13 : arg13.IsWhole) (arg14 : Memref sig .tc .vmem S128x512 .bf16) (harg14 : arg14.IsWhole) (arg15 : Memref sig .tc .vmem S128x128 .f32) (harg15 : arg15.IsWhole) (arg16 : Memref sig .tc .vmem S128x128 .f32) (harg16 : arg16.IsWhole) (arg17 : Memref sig .tc .vmem S4x128x256 .f32) (harg17 : arg17.IsWhole) (arg18 : Memref sig .tc .vmem S128x128 .f32) (harg18 : arg18.IsWhole) (x3 : Vec F S1x4x32x128 .bf16) (x4 : Vec F S1x4x8x128 .bf16) (x5 : Vec F S1x4x8x128 .bf16) (x6 : Vec F S1x8x128 .f32) (x7 : Vec F S1x1024x8x128 .fp8e4m3) (x8 : Vec F S1x8x64x1024 .i8) (x9 : Vec F S1x8x1024 .f32) (st : St F) : (finishSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 x6 x7 x8 x9 st).sc = st.sc := by
  unfold finishSt; split <;> rfl
theorem finish_q (c : Dev nD) (i : grid0.Coords) (arg2 : Memref sig .tc .smem S4 .i32) (harg2 : arg2.IsWhole) (arg3 : Memref sig .tc .vmem S1x4x32x128 .bf16) (harg3 : arg3.IsWhole) (arg4 : Memref sig .tc .vmem S1x4x8x128 .bf16) (harg4 : arg4.IsWhole) (arg5 : Memref sig .tc .vmem S1x4x8x128 .bf16) (harg5 : arg5.IsWhole) (arg6 : Memref sig .tc .vmem S1x8x128 .f32) (harg6 : arg6.IsWhole) (arg7 : Memref sig .tc .vmem S1x1024x8x128 .fp8e4m3) (harg7 : arg7.IsWhole) (arg8 : Memref sig .tc .vmem S1x8x64x1024 .i8) (harg8 : arg8.IsWhole) (arg9 : Memref sig .tc .vmem S1x8x1024 .f32) (harg9 : arg9.IsWhole) (arg10 : Memref sig .tc .vmem S1x4x32x128 .bf16) (harg10 : arg10.IsWhole) (arg11 : Memref sig .tc .vmem S1x4x8x128 .fp8e4m3) (harg11 : arg11.IsWhole) (arg12 : Memref sig .tc .vmem S1x4x8x64 .i8) (harg12 : arg12.IsWhole) (arg13 : Memref sig .tc .vmem S1x4x8 .f32) (harg13 : arg13.IsWhole) (arg14 : Memref sig .tc .vmem S128x512 .bf16) (harg14 : arg14.IsWhole) (arg15 : Memref sig .tc .vmem S128x128 .f32) (harg15 : arg15.IsWhole) (arg16 : Memref sig .tc .vmem S128x128 .f32) (harg16 : arg16.IsWhole) (arg17 : Memref sig .tc .vmem S4x128x256 .f32) (harg17 : arg17.IsWhole) (arg18 : Memref sig .tc .vmem S128x128 .f32) (harg18 : arg18.IsWhole) (x3 : Vec F S1x4x32x128 .bf16) (x4 : Vec F S1x4x8x128 .bf16) (x5 : Vec F S1x4x8x128 .bf16) (x6 : Vec F S1x8x128 .f32) (x7 : Vec F S1x1024x8x128 .fp8e4m3) (x8 : Vec F S1x8x64x1024 .i8) (x9 : Vec F S1x8x1024 .f32) (st : St F) : (finishSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 x6 x7 x8 x9 st).q = st.q := by
  unfold finishSt; split <;> rfl
theorem finish_m (c : Dev nD) (i : grid0.Coords) (arg2 : Memref sig .tc .smem S4 .i32) (harg2 : arg2.IsWhole) (arg3 : Memref sig .tc .vmem S1x4x32x128 .bf16) (harg3 : arg3.IsWhole) (arg4 : Memref sig .tc .vmem S1x4x8x128 .bf16) (harg4 : arg4.IsWhole) (arg5 : Memref sig .tc .vmem S1x4x8x128 .bf16) (harg5 : arg5.IsWhole) (arg6 : Memref sig .tc .vmem S1x8x128 .f32) (harg6 : arg6.IsWhole) (arg7 : Memref sig .tc .vmem S1x1024x8x128 .fp8e4m3) (harg7 : arg7.IsWhole) (arg8 : Memref sig .tc .vmem S1x8x64x1024 .i8) (harg8 : arg8.IsWhole) (arg9 : Memref sig .tc .vmem S1x8x1024 .f32) (harg9 : arg9.IsWhole) (arg10 : Memref sig .tc .vmem S1x4x32x128 .bf16) (harg10 : arg10.IsWhole) (arg11 : Memref sig .tc .vmem S1x4x8x128 .fp8e4m3) (harg11 : arg11.IsWhole) (arg12 : Memref sig .tc .vmem S1x4x8x64 .i8) (harg12 : arg12.IsWhole) (arg13 : Memref sig .tc .vmem S1x4x8 .f32) (harg13 : arg13.IsWhole) (arg14 : Memref sig .tc .vmem S128x512 .bf16) (harg14 : arg14.IsWhole) (arg15 : Memref sig .tc .vmem S128x128 .f32) (harg15 : arg15.IsWhole) (arg16 : Memref sig .tc .vmem S128x128 .f32) (harg16 : arg16.IsWhole) (arg17 : Memref sig .tc .vmem S4x128x256 .f32) (harg17 : arg17.IsWhole) (arg18 : Memref sig .tc .vmem S128x128 .f32) (harg18 : arg18.IsWhole) (x3 : Vec F S1x4x32x128 .bf16) (x4 : Vec F S1x4x8x128 .bf16) (x5 : Vec F S1x4x8x128 .bf16) (x6 : Vec F S1x8x128 .f32) (x7 : Vec F S1x1024x8x128 .fp8e4m3) (x8 : Vec F S1x8x64x1024 .i8) (x9 : Vec F S1x8x1024 .f32) (st : St F) : (finishSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 x6 x7 x8 x9 st).m = st.m := by
  unfold finishSt; split <;> rfl
theorem finish_l (c : Dev nD) (i : grid0.Coords) (arg2 : Memref sig .tc .smem S4 .i32) (harg2 : arg2.IsWhole) (arg3 : Memref sig .tc .vmem S1x4x32x128 .bf16) (harg3 : arg3.IsWhole) (arg4 : Memref sig .tc .vmem S1x4x8x128 .bf16) (harg4 : arg4.IsWhole) (arg5 : Memref sig .tc .vmem S1x4x8x128 .bf16) (harg5 : arg5.IsWhole) (arg6 : Memref sig .tc .vmem S1x8x128 .f32) (harg6 : arg6.IsWhole) (arg7 : Memref sig .tc .vmem S1x1024x8x128 .fp8e4m3) (harg7 : arg7.IsWhole) (arg8 : Memref sig .tc .vmem S1x8x64x1024 .i8) (harg8 : arg8.IsWhole) (arg9 : Memref sig .tc .vmem S1x8x1024 .f32) (harg9 : arg9.IsWhole) (arg10 : Memref sig .tc .vmem S1x4x32x128 .bf16) (harg10 : arg10.IsWhole) (arg11 : Memref sig .tc .vmem S1x4x8x128 .fp8e4m3) (harg11 : arg11.IsWhole) (arg12 : Memref sig .tc .vmem S1x4x8x64 .i8) (harg12 : arg12.IsWhole) (arg13 : Memref sig .tc .vmem S1x4x8 .f32) (harg13 : arg13.IsWhole) (arg14 : Memref sig .tc .vmem S128x512 .bf16) (harg14 : arg14.IsWhole) (arg15 : Memref sig .tc .vmem S128x128 .f32) (harg15 : arg15.IsWhole) (arg16 : Memref sig .tc .vmem S128x128 .f32) (harg16 : arg16.IsWhole) (arg17 : Memref sig .tc .vmem S4x128x256 .f32) (harg17 : arg17.IsWhole) (arg18 : Memref sig .tc .vmem S128x128 .f32) (harg18 : arg18.IsWhole) (x3 : Vec F S1x4x32x128 .bf16) (x4 : Vec F S1x4x8x128 .bf16) (x5 : Vec F S1x4x8x128 .bf16) (x6 : Vec F S1x8x128 .f32) (x7 : Vec F S1x1024x8x128 .fp8e4m3) (x8 : Vec F S1x8x64x1024 .i8) (x9 : Vec F S1x8x1024 .f32) (st : St F) : (finishSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 x6 x7 x8 x9 st).l = st.l := by
  unfold finishSt; split <;> rfl
theorem finish_acc (c : Dev nD) (i : grid0.Coords) (arg2 : Memref sig .tc .smem S4 .i32) (harg2 : arg2.IsWhole) (arg3 : Memref sig .tc .vmem S1x4x32x128 .bf16) (harg3 : arg3.IsWhole) (arg4 : Memref sig .tc .vmem S1x4x8x128 .bf16) (harg4 : arg4.IsWhole) (arg5 : Memref sig .tc .vmem S1x4x8x128 .bf16) (harg5 : arg5.IsWhole) (arg6 : Memref sig .tc .vmem S1x8x128 .f32) (harg6 : arg6.IsWhole) (arg7 : Memref sig .tc .vmem S1x1024x8x128 .fp8e4m3) (harg7 : arg7.IsWhole) (arg8 : Memref sig .tc .vmem S1x8x64x1024 .i8) (harg8 : arg8.IsWhole) (arg9 : Memref sig .tc .vmem S1x8x1024 .f32) (harg9 : arg9.IsWhole) (arg10 : Memref sig .tc .vmem S1x4x32x128 .bf16) (harg10 : arg10.IsWhole) (arg11 : Memref sig .tc .vmem S1x4x8x128 .fp8e4m3) (harg11 : arg11.IsWhole) (arg12 : Memref sig .tc .vmem S1x4x8x64 .i8) (harg12 : arg12.IsWhole) (arg13 : Memref sig .tc .vmem S1x4x8 .f32) (harg13 : arg13.IsWhole) (arg14 : Memref sig .tc .vmem S128x512 .bf16) (harg14 : arg14.IsWhole) (arg15 : Memref sig .tc .vmem S128x128 .f32) (harg15 : arg15.IsWhole) (arg16 : Memref sig .tc .vmem S128x128 .f32) (harg16 : arg16.IsWhole) (arg17 : Memref sig .tc .vmem S4x128x256 .f32) (harg17 : arg17.IsWhole) (arg18 : Memref sig .tc .vmem S128x128 .f32) (harg18 : arg18.IsWhole) (x3 : Vec F S1x4x32x128 .bf16) (x4 : Vec F S1x4x8x128 .bf16) (x5 : Vec F S1x4x8x128 .bf16) (x6 : Vec F S1x8x128 .f32) (x7 : Vec F S1x1024x8x128 .fp8e4m3) (x8 : Vec F S1x8x64x1024 .i8) (x9 : Vec F S1x8x1024 .f32) (st : St F) : (finishSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 x6 x7 x8 x9 st).acc = st.acc := by
  unfold finishSt; split <;> rfl
theorem finish_accn (c : Dev nD) (i : grid0.Coords) (arg2 : Memref sig .tc .smem S4 .i32) (harg2 : arg2.IsWhole) (arg3 : Memref sig .tc .vmem S1x4x32x128 .bf16) (harg3 : arg3.IsWhole) (arg4 : Memref sig .tc .vmem S1x4x8x128 .bf16) (harg4 : arg4.IsWhole) (arg5 : Memref sig .tc .vmem S1x4x8x128 .bf16) (harg5 : arg5.IsWhole) (arg6 : Memref sig .tc .vmem S1x8x128 .f32) (harg6 : arg6.IsWhole) (arg7 : Memref sig .tc .vmem S1x1024x8x128 .fp8e4m3) (harg7 : arg7.IsWhole) (arg8 : Memref sig .tc .vmem S1x8x64x1024 .i8) (harg8 : arg8.IsWhole) (arg9 : Memref sig .tc .vmem S1x8x1024 .f32) (harg9 : arg9.IsWhole) (arg10 : Memref sig .tc .vmem S1x4x32x128 .bf16) (harg10 : arg10.IsWhole) (arg11 : Memref sig .tc .vmem S1x4x8x128 .fp8e4m3) (harg11 : arg11.IsWhole) (arg12 : Memref sig .tc .vmem S1x4x8x64 .i8) (harg12 : arg12.IsWhole) (arg13 : Memref sig .tc .vmem S1x4x8 .f32) (harg13 : arg13.IsWhole) (arg14 : Memref sig .tc .vmem S128x512 .bf16) (harg14 : arg14.IsWhole) (arg15 : Memref sig .tc .vmem S128x128 .f32) (harg15 : arg15.IsWhole) (arg16 : Memref sig .tc .vmem S128x128 .f32) (harg16 : arg16.IsWhole) (arg17 : Memref sig .tc .vmem S4x128x256 .f32) (harg17 : arg17.IsWhole) (arg18 : Memref sig .tc .vmem S128x128 .f32) (harg18 : arg18.IsWhole) (x3 : Vec F S1x4x32x128 .bf16) (x4 : Vec F S1x4x8x128 .bf16) (x5 : Vec F S1x4x8x128 .bf16) (x6 : Vec F S1x8x128 .f32) (x7 : Vec F S1x1024x8x128 .fp8e4m3) (x8 : Vec F S1x8x64x1024 .i8) (x9 : Vec F S1x8x1024 .f32) (st : St F) : (finishSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 x6 x7 x8 x9 st).accn = st.accn := by
  unfold finishSt; split <;> rfl
theorem block_kc (c : Dev nD) (i : grid0.Coords) (arg2 : Memref sig .tc .smem S4 .i32) (harg2 : arg2.IsWhole) (arg3 : Memref sig .tc .vmem S1x4x32x128 .bf16) (harg3 : arg3.IsWhole) (arg4 : Memref sig .tc .vmem S1x4x8x128 .bf16) (harg4 : arg4.IsWhole) (arg5 : Memref sig .tc .vmem S1x4x8x128 .bf16) (harg5 : arg5.IsWhole) (arg6 : Memref sig .tc .vmem S1x8x128 .f32) (harg6 : arg6.IsWhole) (arg7 : Memref sig .tc .vmem S1x1024x8x128 .fp8e4m3) (harg7 : arg7.IsWhole) (arg8 : Memref sig .tc .vmem S1x8x64x1024 .i8) (harg8 : arg8.IsWhole) (arg9 : Memref sig .tc .vmem S1x8x1024 .f32) (harg9 : arg9.IsWhole) (arg10 : Memref sig .tc .vmem S1x4x32x128 .bf16) (harg10 : arg10.IsWhole) (arg11 : Memref sig .tc .vmem S1x4x8x128 .fp8e4m3) (harg11 : arg11.IsWhole) (arg12 : Memref sig .tc .vmem S1x4x8x64 .i8) (harg12 : arg12.IsWhole) (arg13 : Memref sig .tc .vmem S1x4x8 .f32) (harg13 : arg13.IsWhole) (arg14 : Memref sig .tc .vmem S128x512 .bf16) (harg14 : arg14.IsWhole) (arg15 : Memref sig .tc .vmem S128x128 .f32) (harg15 : arg15.IsWhole) (arg16 : Memref sig .tc .vmem S128x128 .f32) (harg16 : arg16.IsWhole) (arg17 : Memref sig .tc .vmem S4x128x256 .f32) (harg17 : arg17.IsWhole) (arg18 : Memref sig .tc .vmem S128x128 .f32) (harg18 : arg18.IsWhole) (x3 : Vec F S1x4x32x128 .bf16) (x4 : Vec F S1x4x8x128 .bf16) (x5 : Vec F S1x4x8x128 .bf16) (x6 : Vec F S1x8x128 .f32) (x7 : Vec F S1x1024x8x128 .fp8e4m3) (x8 : Vec F S1x8x64x1024 .i8) (x9 : Vec F S1x8x1024 .f32) (v1 : Elt F .i32) (st : St F) : (blockSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 x6 x7 x8 x9 v1 st).kc = st.kc := by
  unfold blockSt; split <;> rfl
theorem block_vc (c : Dev nD) (i : grid0.Coords) (arg2 : Memref sig .tc .smem S4 .i32) (harg2 : arg2.IsWhole) (arg3 : Memref sig .tc .vmem S1x4x32x128 .bf16) (harg3 : arg3.IsWhole) (arg4 : Memref sig .tc .vmem S1x4x8x128 .bf16) (harg4 : arg4.IsWhole) (arg5 : Memref sig .tc .vmem S1x4x8x128 .bf16) (harg5 : arg5.IsWhole) (arg6 : Memref sig .tc .vmem S1x8x128 .f32) (harg6 : arg6.IsWhole) (arg7 : Memref sig .tc .vmem S1x1024x8x128 .fp8e4m3) (harg7 : arg7.IsWhole) (arg8 : Memref sig .tc .vmem S1x8x64x1024 .i8) (harg8 : arg8.IsWhole) (arg9 : Memref sig .tc .vmem S1x8x1024 .f32) (harg9 : arg9.IsWhole) (arg10 : Memref sig .tc .vmem S1x4x32x128 .bf16) (harg10 : arg10.IsWhole) (arg11 : Memref sig .tc .vmem S1x4x8x128 .fp8e4m3) (harg11 : arg11.IsWhole) (arg12 : Memref sig .tc .vmem S1x4x8x64 .i8) (harg12 : arg12.IsWhole) (arg13 : Memref sig .tc .vmem S1x4x8 .f32) (harg13 : arg13.IsWhole) (arg14 : Memref sig .tc .vmem S128x512 .bf16) (harg14 : arg14.IsWhole) (arg15 : Memref sig .tc .vmem S128x128 .f32) (harg15 : arg15.IsWhole) (arg16 : Memref sig .tc .vmem S128x128 .f32) (harg16 : arg16.IsWhole) (arg17 : Memref sig .tc .vmem S4x128x256 .f32) (harg17 : arg17.IsWhole) (arg18 : Memref sig .tc .vmem S128x128 .f32) (harg18 : arg18.IsWhole) (x3 : Vec F S1x4x32x128 .bf16) (x4 : Vec F S1x4x8x128 .bf16) (x5 : Vec F S1x4x8x128 .bf16) (x6 : Vec F S1x8x128 .f32) (x7 : Vec F S1x1024x8x128 .fp8e4m3) (x8 : Vec F S1x8x64x1024 .i8) (x9 : Vec F S1x8x1024 .f32) (v1 : Elt F .i32) (st : St F) : (blockSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 x6 x7 x8 x9 v1 st).vc = st.vc := by
  unfold blockSt; split <;> rfl
theorem block_sc (c : Dev nD) (i : grid0.Coords) (arg2 : Memref sig .tc .smem S4 .i32) (harg2 : arg2.IsWhole) (arg3 : Memref sig .tc .vmem S1x4x32x128 .bf16) (harg3 : arg3.IsWhole) (arg4 : Memref sig .tc .vmem S1x4x8x128 .bf16) (harg4 : arg4.IsWhole) (arg5 : Memref sig .tc .vmem S1x4x8x128 .bf16) (harg5 : arg5.IsWhole) (arg6 : Memref sig .tc .vmem S1x8x128 .f32) (harg6 : arg6.IsWhole) (arg7 : Memref sig .tc .vmem S1x1024x8x128 .fp8e4m3) (harg7 : arg7.IsWhole) (arg8 : Memref sig .tc .vmem S1x8x64x1024 .i8) (harg8 : arg8.IsWhole) (arg9 : Memref sig .tc .vmem S1x8x1024 .f32) (harg9 : arg9.IsWhole) (arg10 : Memref sig .tc .vmem S1x4x32x128 .bf16) (harg10 : arg10.IsWhole) (arg11 : Memref sig .tc .vmem S1x4x8x128 .fp8e4m3) (harg11 : arg11.IsWhole) (arg12 : Memref sig .tc .vmem S1x4x8x64 .i8) (harg12 : arg12.IsWhole) (arg13 : Memref sig .tc .vmem S1x4x8 .f32) (harg13 : arg13.IsWhole) (arg14 : Memref sig .tc .vmem S128x512 .bf16) (harg14 : arg14.IsWhole) (arg15 : Memref sig .tc .vmem S128x128 .f32) (harg15 : arg15.IsWhole) (arg16 : Memref sig .tc .vmem S128x128 .f32) (harg16 : arg16.IsWhole) (arg17 : Memref sig .tc .vmem S4x128x256 .f32) (harg17 : arg17.IsWhole) (arg18 : Memref sig .tc .vmem S128x128 .f32) (harg18 : arg18.IsWhole) (x3 : Vec F S1x4x32x128 .bf16) (x4 : Vec F S1x4x8x128 .bf16) (x5 : Vec F S1x4x8x128 .bf16) (x6 : Vec F S1x8x128 .f32) (x7 : Vec F S1x1024x8x128 .fp8e4m3) (x8 : Vec F S1x8x64x1024 .i8) (x9 : Vec F S1x8x1024 .f32) (v1 : Elt F .i32) (st : St F) : (blockSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 x6 x7 x8 x9 v1 st).sc = st.sc := by
  unfold blockSt; split <;> rfl
theorem block_q (c : Dev nD) (i : grid0.Coords) (arg2 : Memref sig .tc .smem S4 .i32) (harg2 : arg2.IsWhole) (arg3 : Memref sig .tc .vmem S1x4x32x128 .bf16) (harg3 : arg3.IsWhole) (arg4 : Memref sig .tc .vmem S1x4x8x128 .bf16) (harg4 : arg4.IsWhole) (arg5 : Memref sig .tc .vmem S1x4x8x128 .bf16) (harg5 : arg5.IsWhole) (arg6 : Memref sig .tc .vmem S1x8x128 .f32) (harg6 : arg6.IsWhole) (arg7 : Memref sig .tc .vmem S1x1024x8x128 .fp8e4m3) (harg7 : arg7.IsWhole) (arg8 : Memref sig .tc .vmem S1x8x64x1024 .i8) (harg8 : arg8.IsWhole) (arg9 : Memref sig .tc .vmem S1x8x1024 .f32) (harg9 : arg9.IsWhole) (arg10 : Memref sig .tc .vmem S1x4x32x128 .bf16) (harg10 : arg10.IsWhole) (arg11 : Memref sig .tc .vmem S1x4x8x128 .fp8e4m3) (harg11 : arg11.IsWhole) (arg12 : Memref sig .tc .vmem S1x4x8x64 .i8) (harg12 : arg12.IsWhole) (arg13 : Memref sig .tc .vmem S1x4x8 .f32) (harg13 : arg13.IsWhole) (arg14 : Memref sig .tc .vmem S128x512 .bf16) (harg14 : arg14.IsWhole) (arg15 : Memref sig .tc .vmem S128x128 .f32) (harg15 : arg15.IsWhole) (arg16 : Memref sig .tc .vmem S128x128 .f32) (harg16 : arg16.IsWhole) (arg17 : Memref sig .tc .vmem S4x128x256 .f32) (harg17 : arg17.IsWhole) (arg18 : Memref sig .tc .vmem S128x128 .f32) (harg18 : arg18.IsWhole) (x3 : Vec F S1x4x32x128 .bf16) (x4 : Vec F S1x4x8x128 .bf16) (x5 : Vec F S1x4x8x128 .bf16) (x6 : Vec F S1x8x128 .f32) (x7 : Vec F S1x1024x8x128 .fp8e4m3) (x8 : Vec F S1x8x64x1024 .i8) (x9 : Vec F S1x8x1024 .f32) (v1 : Elt F .i32) (st : St F) : (blockSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 x6 x7 x8 x9 v1 st).q = st.q := by
  unfold blockSt; split <;> rfl
theorem block_o (c : Dev nD) (i : grid0.Coords) (arg2 : Memref sig .tc .smem S4 .i32) (harg2 : arg2.IsWhole) (arg3 : Memref sig .tc .vmem S1x4x32x128 .bf16) (harg3 : arg3.IsWhole) (arg4 : Memref sig .tc .vmem S1x4x8x128 .bf16) (harg4 : arg4.IsWhole) (arg5 : Memref sig .tc .vmem S1x4x8x128 .bf16) (harg5 : arg5.IsWhole) (arg6 : Memref sig .tc .vmem S1x8x128 .f32) (harg6 : arg6.IsWhole) (arg7 : Memref sig .tc .vmem S1x1024x8x128 .fp8e4m3) (harg7 : arg7.IsWhole) (arg8 : Memref sig .tc .vmem S1x8x64x1024 .i8) (harg8 : arg8.IsWhole) (arg9 : Memref sig .tc .vmem S1x8x1024 .f32) (harg9 : arg9.IsWhole) (arg10 : Memref sig .tc .vmem S1x4x32x128 .bf16) (harg10 : arg10.IsWhole) (arg11 : Memref sig .tc .vmem S1x4x8x128 .fp8e4m3) (harg11 : arg11.IsWhole) (arg12 : Memref sig .tc .vmem S1x4x8x64 .i8) (harg12 : arg12.IsWhole) (arg13 : Memref sig .tc .vmem S1x4x8 .f32) (harg13 : arg13.IsWhole) (arg14 : Memref sig .tc .vmem S128x512 .bf16) (harg14 : arg14.IsWhole) (arg15 : Memref sig .tc .vmem S128x128 .f32) (harg15 : arg15.IsWhole) (arg16 : Memref sig .tc .vmem S128x128 .f32) (harg16 : arg16.IsWhole) (arg17 : Memref sig .tc .vmem S4x128x256 .f32) (harg17 : arg17.IsWhole) (arg18 : Memref sig .tc .vmem S128x128 .f32) (harg18 : arg18.IsWhole) (x3 : Vec F S1x4x32x128 .bf16) (x4 : Vec F S1x4x8x128 .bf16) (x5 : Vec F S1x4x8x128 .bf16) (x6 : Vec F S1x8x128 .f32) (x7 : Vec F S1x1024x8x128 .fp8e4m3) (x8 : Vec F S1x8x64x1024 .i8) (x9 : Vec F S1x8x1024 .f32) (v1 : Elt F .i32) (st : St F) : (blockSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 x6 x7 x8 x9 v1 st).o = st.o := by
  unfold blockSt; split <;> rfl

variable (m : (ℓ : Loc nD τ sig) → Buf (Elt F) ℓ) (ρ : Dev nD → PrngReg)

/-- The length of the sequence that a point works on, as the body loads it. -/
def lenAt (hO : Ok m) (c : Dev nD) (t : Fin (cfgM m hO).N) : BitVec 32 :=
  tbM0_0.view.readAt (Elt F) (Rect.unit (s := S4) (k0_off1 (grid0.coords t)) S1.size (k0_off1_inb (grid0.coords t))).toLoadRect ((tbl m 0 : TbBuf0 (F := F) c tbM0_0)) (Shape.Idx.first (numel1_S1.symm ▸ Nat.one_pos))

/-- The first stretch at a point. -/
def startAt (hO : Ok m) (c : Dev nD) (t : Fin (cfgM m hO).N) (st : St F) : St F :=
  startSt c (grid0.coords t) tbM0_0 htbM0_0 (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) scM0_1 (Memref.isWhole_whole _) scM0_2 (Memref.isWhole_whole _) scM0_3 (Memref.isWhole_whole _) scM0_4 (Memref.isWhole_whole _) (iblk m hO c 0 t) (iblk m hO c 1 t) (iblk m hO c 2 t) (iblk m hO c 3 t) (iblk m hO c 4 t) (iblk m hO c 5 t) (iblk m hO c 6 t) st

/-- The second stretch at a point. -/
def blockAt (hO : Ok m) (c : Dev nD) (t : Fin (cfgM m hO).N) (st : St F) : St F :=
  blockSt c (grid0.coords t) tbM0_0 htbM0_0 (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) scM0_1 (Memref.isWhole_whole _) scM0_2 (Memref.isWhole_whole _) scM0_3 (Memref.isWhole_whole _) scM0_4 (Memref.isWhole_whole _) (iblk m hO c 0 t) (iblk m hO c 1 t) (iblk m hO c 2 t) (iblk m hO c 3 t) (iblk m hO c 4 t) (iblk m hO c 5 t) (iblk m hO c 6 t) (lenAt m hO c t) st

/-- The last stretch at a point. -/
def finishAt (hO : Ok m) (c : Dev nD) (t : Fin (cfgM m hO).N) (st : St F) : St F :=
  finishSt c (grid0.coords t) tbM0_0 htbM0_0 (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) scM0_1 (Memref.isWhole_whole _) scM0_2 (Memref.isWhole_whole _) scM0_3 (Memref.isWhole_whole _) scM0_4 (Memref.isWhole_whole _) (iblk m hO c 0 t) (iblk m hO c 1 t) (iblk m hO c 2 t) (iblk m hO c 3 t) (iblk m hO c 4 t) (iblk m hO c 5 t) (iblk m hO c 6 t) st

theorem stepAt_eq (hO : Ok m) (c : Dev nD) (t : Fin (cfgM m hO).N) (st : St F) :
    stepAt m hO c t st = finishAt m hO c t (blockAt m hO c t (startAt m hO c t st)) := rfl

theorem cond1_iff (t : Fin grid0.N) : k0_cond1 (grid0.coords t) = 1#1 ↔ t.val % 8 = 0 := hcond0_0 t

theorem startAt_later (hO : Ok m) (c : Dev nD) (t : Fin (cfgM m hO).N) (st : St F) (h : ¬ t.val % 8 = 0) : startAt m hO c t st = st := by
  unfold startAt startSt
  exact dif_neg fun h' => h ((cond1_iff t).mp h')

theorem stepAt_kc (hO : Ok m) (c : Dev nD) (t : Fin (cfgM m hO).N) (st : St F) : (stepAt m hO c t st).kc = (startAt m hO c t st).kc := by
  rw [stepAt_eq]; exact (finish_kc ..).trans (block_kc ..)
theorem stepAt_vc (hO : Ok m) (c : Dev nD) (t : Fin (cfgM m hO).N) (st : St F) : (stepAt m hO c t st).vc = (startAt m hO c t st).vc := by
  rw [stepAt_eq]; exact (finish_vc ..).trans (block_vc ..)
theorem stepAt_sc (hO : Ok m) (c : Dev nD) (t : Fin (cfgM m hO).N) (st : St F) : (stepAt m hO c t st).sc = (startAt m hO c t st).sc := by
  rw [stepAt_eq]; exact (finish_sc ..).trans (block_sc ..)

end Cert.KernelIdeal.Hand

end
-- ==== Proof.Scalars.lean ====
module

public import Idealize.ShloMosaic.Lib.WordCmp
public import Idealize.ShloMosaic.Lib.Pointwise

@[expose] public section

set_option maxRecDepth 16384

noncomputable section

namespace Cert.Vals

open Idealize.ShloMosaic

/-- A select on the equality of two words is an `if`. -/
theorem sel_eq {α : Type} {n : ℕ} (a b : BitVec n) (x y : α) :
    Scalar.select (IntOp.cmpi .eq a b) x y = if a = b then x else y := by
  unfold Scalar.select IntOp.cmpi
  by_cases h : a = b
  · simp [h]
  · have hb : (a == b) = false := by simpa using h
    simp [h, hb]

theorem sel_one {α : Type} (x y : α) : Scalar.select 1#1 x y = x := rfl
theorem sel_zero {α : Type} (x y : α) : Scalar.select 0#1 x y = y := rfl

/-- Two small numbers are equal as words exactly when they are equal. -/
theorem ofNat_eq_iff {a b : ℕ} (ha : a < 4294967296) (hb : b < 4294967296) :
    BitVec.ofNat 32 a = BitVec.ofNat 32 b ↔ a = b := by
  constructor
  · intro h
    have := congrArg BitVec.toNat h
    simp only [BitVec.toNat_ofNat] at this
    omega
  · rintro rfl; rfl

/-- A sum that keeps the one term whose position a word names is that term. -/
theorem sum_pick {n : ℕ} (hn : n ≤ 1024) (f : Fin n → EReal) (k : ℕ) (hk : k < n) :
    (∑ x : Fin n, Scalar.select (IntOp.cmpi .eq (BitVec.ofNat 32 k) (BitVec.ofNat 32 x.val)) (f x) 0) = f ⟨k, hk⟩ := by
  rw [Finset.sum_eq_single (⟨k, hk⟩ : Fin n)]
  · rw [sel_eq, if_pos rfl]
  · intro b _ hb
    rw [sel_eq, if_neg]
    rw [ofNat_eq_iff (by omega) (by have := b.isLt; omega)]
    intro h
    exact hb (Fin.ext h.symm)
  · intro h; exact absurd (Finset.mem_univ _) h

/-- Of a row of the reordered queries: the position, -/
def posOf (r : Fin 128) : Fin 4 := ⟨r.val % 64 / 16, by omega⟩
/-- the query head, -/
def headOf (r : Fin 128) : Fin 32 := ⟨r.val / 64 * 16 + r.val % 16, by omega⟩
/-- and the head of keys and values that query head reads. -/
def kvOf (r : Fin 128) : Fin 8 := ⟨r.val / 64 * 4 + r.val % 16 / 4, by omega⟩

end Cert.Vals
end
-- ==== Proof.Power.lean ====
module

public import proofs.«01_k».proof.Proof.Scalars
public import Idealize.ShloMosaic.Lib.Pointwise

@[expose] public section

set_option maxRecDepth 16384

noncomputable section

namespace Cert.Vals

open Idealize.ShloMosaic

theorem c_2p126 : Ideal.ofBits .f32 0x7E800000#32 = (((2:ℝ)^(126:ℤ) : ℝ) : EReal) := by
  rw [show ((2:ℝ) ^ (126:ℤ)) = (2:ℝ) ^ 126 from zpow_natCast 2 126]
  simp [Ideal.ofBits, Ideal.ieee, -EReal.coe_mul, -EReal.coe_pow]; norm_num
theorem c_2p64 : Ideal.ofBits .f32 0x5F800000#32 = (((2:ℝ)^64 : ℝ) : EReal) := by
  simp [Ideal.ofBits, Ideal.ieee, -EReal.coe_mul, -EReal.coe_pow]; norm_num
theorem c_2m64 : Ideal.ofBits .f32 0x1F800000#32 = ((((2:ℝ)^64)⁻¹ : ℝ) : EReal) := by
  simp [Ideal.ofBits, Ideal.ieee, -EReal.coe_mul, -EReal.coe_pow]; norm_num
theorem c_2p32 : Ideal.ofBits .f32 0x4F800000#32 = (((2:ℝ)^32 : ℝ) : EReal) := by
  simp [Ideal.ofBits, Ideal.ieee, -EReal.coe_mul, -EReal.coe_pow]; norm_num
theorem c_2m32 : Ideal.ofBits .f32 0x2F800000#32 = ((((2:ℝ)^32)⁻¹ : ℝ) : EReal) := by
  simp [Ideal.ofBits, Ideal.ieee, -EReal.coe_mul, -EReal.coe_pow]; norm_num
theorem c_2p16 : Ideal.ofBits .f32 0x47800000#32 = (((2:ℝ)^16 : ℝ) : EReal) := by
  simp [Ideal.ofBits, Ideal.ieee, -EReal.coe_mul, -EReal.coe_pow]; norm_num
theorem c_2m16 : Ideal.ofBits .f32 0x37800000#32 = ((((2:ℝ)^16)⁻¹ : ℝ) : EReal) := by
  simp [Ideal.ofBits, Ideal.ieee, -EReal.coe_mul, -EReal.coe_pow]; norm_num
theorem c_2p8 : Ideal.ofBits .f32 0x43800000#32 = (((2:ℝ)^8 : ℝ) : EReal) := by
  simp [Ideal.ofBits, Ideal.ieee, -EReal.coe_mul, -EReal.coe_pow]; norm_num
theorem c_2m8 : Ideal.ofBits .f32 0x3B800000#32 = ((((2:ℝ)^8)⁻¹ : ℝ) : EReal) := by
  simp [Ideal.ofBits, Ideal.ieee, -EReal.coe_mul, -EReal.coe_pow]; norm_num
theorem c_2p4 : Ideal.ofBits .f32 0x41800000#32 = (((2:ℝ)^4 : ℝ) : EReal) := by
  simp [Ideal.ofBits, Ideal.ieee, -EReal.coe_mul, -EReal.coe_pow]; norm_num
theorem c_2m4 : Ideal.ofBits .f32 0x3D800000#32 = ((((2:ℝ)^4)⁻¹ : ℝ) : EReal) := by
  simp [Ideal.ofBits, Ideal.ieee, -EReal.coe_mul, -EReal.coe_pow]; norm_num
theorem c_2p2 : Ideal.ofBits .f32 0x40800000#32 = (((2:ℝ)^2 : ℝ) : EReal) := by
  simp [Ideal.ofBits, Ideal.ieee, -EReal.coe_mul, -EReal.coe_pow]; norm_num
theorem c_2m2 : Ideal.ofBits .f32 0x3E800000#32 = ((((2:ℝ)^2)⁻¹ : ℝ) : EReal) := by
  simp [Ideal.ofBits, Ideal.ieee, -EReal.coe_mul, -EReal.coe_pow]; norm_num
theorem c_2p1 : Ideal.ofBits .f32 0x40000000#32 = (((2:ℝ)^1 : ℝ) : EReal) := by
  simp [Ideal.ofBits, Ideal.ieee, -EReal.coe_mul, -EReal.coe_pow]; norm_num
theorem c_2m1 : Ideal.ofBits .f32 0x3F000000#32 = ((((2:ℝ)^1)⁻¹ : ℝ) : EReal) := by
  simp [Ideal.ofBits, Ideal.ieee, -EReal.coe_mul, -EReal.coe_pow]; norm_num
theorem c_2m126 : Ideal.ofBits .f32 0x00800000#32 = (((2:ℝ)^(-126:ℤ) : ℝ) : EReal) := by
  simp [Ideal.ofBits, Ideal.ieee, -EReal.coe_mul, -EReal.coe_pow]; norm_num [zpow_ofNat]
theorem c_top : Ideal.ofBits .f32 0x7F800000#32 = ⊤ := by
  simp [Ideal.ofBits, Ideal.ieee, -EReal.coe_mul]
theorem c_bot : Ideal.ofBits .f32 0xFF800000#32 = ⊥ := by
  simp [Ideal.ofBits, Ideal.ieee, -EReal.coe_mul]
theorem c_448 : Ideal.ofBits .f32 0x43E00000#32 = ((448 : ℝ) : EReal) := by
  simp [Ideal.ofBits, Ideal.ieee, -EReal.coe_mul]; norm_num
theorem c_m448 : Ideal.ofBits .f32 0xC3E00000#32 = ((-448 : ℝ) : EReal) := by
  simp [Ideal.ofBits, Ideal.ieee, -EReal.coe_mul]; norm_num

/-- A stretch of the search for the power of two below `s`: `L = s·I` with `I` a power of two, and what is left lies below `2^k`
    or the exponent has reached what the stretches so far can remove. -/
def Search (k : ℕ) (s : ℝ) (L I : EReal) : Prop :=
  ∃ (l i : ℝ) (e : ℤ), L = l ∧ I = i ∧ i = 2 ^ (-e) ∧ l = s * i ∧ 1 ≤ l ∧ (l < 2 ^ k ∨ e = 128 - k) ∧ e + k ≤ 128

theorem Search.step {n : ℕ} {s : ℝ} {L I : EReal} (h : Search (2 * n) s L I) {C C' : EReal}
    (hC : C = (((2:ℝ) ^ n : ℝ) : EReal)) (hC' : C' = ((((2:ℝ) ^ n)⁻¹ : ℝ) : EReal)) :
    Search n s (if C ≤ L then L * C' else L) (if C ≤ L then I * C' else I) := by
  obtain ⟨l, i, e, rfl, rfl, hi, hl, h1, h2, h3⟩ := h
  subst hC hC'
  have hp : (0:ℝ) < 2 ^ n := by positivity
  by_cases hc : (2:ℝ) ^ n ≤ l
  · rw [if_pos (EReal.coe_le_coe_iff.mpr hc), if_pos (EReal.coe_le_coe_iff.mpr hc), ← EReal.coe_mul, ← EReal.coe_mul]
    refine ⟨_, _, e + n, rfl, rfl, ?_, ?_, ?_, ?_, ?_⟩
    · rw [hi, neg_add, zpow_add₀ (by norm_num), zpow_neg _ (n : ℤ), zpow_natCast]
    · rw [hl]; ring
    · rw [← div_eq_mul_inv, le_div_iff₀ hp]; linarith
    · rcases h2 with h2 | h2
      · left
        rw [← div_eq_mul_inv, div_lt_iff₀ hp, ← pow_add]
        rwa [two_mul] at h2
      · right; push_cast at h2 ⊢; omega
    · push_cast at h3 ⊢; omega
  · rw [if_neg (fun h => hc (EReal.coe_le_coe_iff.mp h)), if_neg (fun h => hc (EReal.coe_le_coe_iff.mp h))]
    refine ⟨l, i, e, rfl, rfl, hi, hl, h1, Or.inl (not_le.mp hc), ?_⟩
    push_cast at h3 ⊢; omega

open Classical in
/-- The inverse of the greatest of the powers of two from 2⁻¹²⁶ to 2¹²⁷ that is at most `s`, and 2 where there is none. -/
def invPow (s : ℝ) : ℝ :=
  if s < 2 ^ (-126 : ℤ) then 2 else 2 ^ (-((Nat.findGreatest (fun n => (2:ℝ) ^ ((n : ℤ) - 126) ≤ s) 253 : ℕ) : ℤ) + 126)

/-- A power of two that is at most `s` while the next is above it, or is the last one, is the greatest. -/
theorem invPow_eq {s : ℝ} {e : ℤ} (hs : (2:ℝ) ^ (-126 : ℤ) ≤ s) (hle : (2:ℝ) ^ e ≤ s) (h127 : e ≤ 127)
    (h : s < (2:ℝ) ^ (e + 1) ∨ e = 127) : invPow s = 2 ^ (-e) := by
  classical
  have he : -126 ≤ e := by
    rcases h with h | h
    · have := (zpow_lt_zpow_iff_right₀ (show (1:ℝ) < 2 by norm_num)).mp (lt_of_le_of_lt hs h)
      omega
    · omega
  obtain ⟨n, hn⟩ := Int.eq_ofNat_of_zero_le (show 0 ≤ e + 126 by omega)
  have hg : Nat.findGreatest (fun n => (2:ℝ) ^ ((n : ℤ) - 126) ≤ s) 253 = n := by
    rw [Nat.findGreatest_eq_iff]
    refine ⟨by omega, fun _ => ?_, fun k hk hk' hks => ?_⟩
    · rw [show (n : ℤ) - 126 = e by omega]; exact hle
    · rcases h with h | h
      · have := (zpow_lt_zpow_iff_right₀ (show (1:ℝ) < 2 by norm_num)).mp (lt_of_le_of_lt hks h)
        omega
      · omega
  rw [invPow, if_neg (not_lt.mpr hs)]
  rw [show (Nat.findGreatest (fun n => (2:ℝ) ^ ((n : ℤ) - 126) ≤ s) 253) = n from by convert hg]
  congr 1
  omega

theorem Search.done {s : ℝ} {L I : EReal} (hs : (2:ℝ) ^ (-126 : ℤ) ≤ s) (h : Search 1 s L I) : I = (invPow s : ℝ) := by
  obtain ⟨l, i, e, rfl, rfl, hi, hl, h1, h2, h3⟩ := h
  have hp : (0:ℝ) < 2 ^ e := by positivity
  rw [hi, zpow_neg] at hl
  have hle : (2:ℝ) ^ e ≤ s := by
    rw [hl, ← div_eq_mul_inv, le_div_iff₀ hp] at h1; linarith
  rw [invPow_eq (e := e) hs hle (by push_cast at h3; omega), hi]
  rcases h2 with h2 | h2
  · left
    rw [hl, ← div_eq_mul_inv, div_lt_iff₀ hp] at h2
    rw [zpow_add₀ (by norm_num)]; linarith
  · right; push_cast at h2; omega

theorem Search.start_small {s : ℝ} (hs : (2:ℝ) ^ (-126 : ℤ) ≤ s) (h1 : s < 1) :
    Search 128 s ((s : EReal) * (((2:ℝ)^(126:ℤ) : ℝ) : EReal)) (((2:ℝ)^(126:ℤ) : ℝ) : EReal) := by
  rw [← EReal.coe_mul]
  refine ⟨_, _, -126, rfl, rfl, by norm_num, rfl, ?_, Or.inl ?_, by norm_num⟩
  · have : (2:ℝ) ^ (-126 : ℤ) * 2 ^ (126 : ℤ) = 1 := by rw [← zpow_add₀ (by norm_num)]; norm_num
    nlinarith [show (0:ℝ) < 2 ^ (126 : ℤ) by positivity]
  · have : (2:ℝ) ^ (126 : ℤ) < 2 ^ 128 := by rw [← zpow_natCast]; exact zpow_lt_zpow_right₀ (by norm_num) (by norm_num)
    nlinarith [show (0:ℝ) < 2 ^ (126 : ℤ) by positivity]

theorem Search.start_big {s : ℝ} (h1 : 1 ≤ s) : Search 128 s (s : EReal) ((1 : ℝ) : EReal) :=
  ⟨s, 1, 0, rfl, rfl, by norm_num, by ring, h1, Or.inr (by norm_num), by norm_num⟩

/-- A new key's code: the key times the inverse power of two, clipped at ±448. -/
def codeOf (k : EReal) (s : ℝ) : EReal := min ((448 : ℝ) : EReal) (max ((-448 : ℝ) : EReal) (k * (invPow |s| : ℝ)))

theorem absf_coe (s : ℝ) : FloatOps.absf (F := Ideal) (φ := .f32) (s : EReal) = ((|s| : ℝ) : EReal) := by
  show max (s : EReal) (-(s : EReal)) = _
  rw [← EReal.coe_neg, abs_eq_max_neg]
  exact (EReal.coe_strictMono.monotone.map_max (a := s) (b := -s)).symm

end Cert.Vals
end
-- ==== Proof.CodesValue.lean ====
module

public import proofs.«01_k».proof.Proof.Gen.KernelIdeal.Skeleton
public import Idealize.ShloMosaic.Lib.Pointwise
public import proofs.«01_k».proof.Proof.Scalars
public import proofs.«01_k».proof.Proof.Power

@[expose] public section

set_option maxRecDepth 16384

noncomputable section

namespace Cert.KernelIdeal.Hand

open Idealize.ShloMosaic
open Cert.Vals Cert.KernelIdeal Cert.KernelIdeal.Gen

theorem pay26_at (v : FVec Ideal S8x128 .f32) (j : Fin 32) (d : Fin 128) :
    k0_pay26 v (ix2 j d) = FloatOps.absf (F := Ideal) (φ := .f32) (v (ix2 ⟨j.val % 8, by omega⟩ d)) := by
  pointwise [k0_pay26]
  congr 1
  split_ifs <;> (congr 2; apply Fin.ext; simp only; omega)

/-- The codes of the new keys, given the search's start. -/
theorem search_at (a : FVec Ideal S32x128 .f32) (b : IVec S32x128 1) (c : FVec Ideal S32x128 .f32) (j : Fin 32) (d : Fin 128) (s : ℝ)
    (h : Search 128 s (k0_pay29 a b c (ix2 j d)) (Scalar.select (b (ix2 j d)) (Ideal.ofBits .f32 0x7E800000#32) 1)) :
    Search 4 s (k0_pay40 a b c (ix2 j d)) (Scalar.select (k0_pay39 a b c (ix2 j d)) (k0_pay41 a b c (ix2 j d)) (k0_pay38 a b c (ix2 j d))) := by
  have h1 := (h.step (n := 64) c_2p64 c_2m64)
  have h2 := h1.step (n := 32) c_2p32 c_2m32
  have h3 := h2.step (n := 16) c_2p16 c_2m16
  have h4 := h3.step (n := 8) c_2p8 c_2m8
  have h5 := h4.step (n := 4) c_2p4 c_2m4
  pointwise [k0_pay40, k0_pay41, k0_pay38, k0_pay39, k0_pay37, k0_pay36, k0_pay35, k0_pay34, k0_pay33, k0_pay32, k0_pay31, k0_pay30]
  exact h5

/-- The codes of the new keys, before they are laid out: row `8·t + kv`. -/
def codesVal (x4 : Vec Ideal S1x4x8x128 .bf16) (x6 : Vec Ideal S1x8x128 .f32) : FVec Ideal S32x128 .fp8e4m3 :=
  k0_pay42 (k0_pay25 x4) (k0_pay26 (k0_pay9 x6))
    (k0_pay38 (k0_pay26 (k0_pay9 x6)) (k0_pay27 (k0_pay9 x6)) (k0_pay28 (k0_pay9 x6)))
    (k0_pay39 (k0_pay26 (k0_pay9 x6)) (k0_pay27 (k0_pay9 x6)) (k0_pay28 (k0_pay9 x6)))
    (k0_pay40 (k0_pay26 (k0_pay9 x6)) (k0_pay27 (k0_pay9 x6)) (k0_pay28 (k0_pay9 x6)))
    (k0_pay41 (k0_pay26 (k0_pay9 x6)) (k0_pay27 (k0_pay9 x6)) (k0_pay28 (k0_pay9 x6)))

theorem codesVal_at (x4 : Vec Ideal S1x4x8x128 .bf16) (x6 : Vec Ideal S1x8x128 .f32) (j : Fin 32) (d : Fin 128) (s : ℝ)
    (hs : x6 (ix3 0 ⟨j.val % 8, by omega⟩ d) = (s : EReal)) :
    codesVal x4 x6 (ix2 j d) = codeOf (x4 (ix4 0 ⟨j.val / 8, by omega⟩ ⟨j.val % 8, by omega⟩ d)) s := by
  have ha : k0_pay26 (k0_pay9 x6) (ix2 j d) = ((|s| : ℝ) : EReal) := by
    rw [pay26_at, ← absf_coe]
    congr 1
    pointwise [k0_pay9]
    exact hs
  have hx : k0_pay25 x4 (ix2 j d) = x4 (ix4 0 ⟨j.val / 8, by omega⟩ ⟨j.val % 8, by omega⟩ d) := by
    pointwise [k0_pay25]
  have hm := search_at (k0_pay26 (k0_pay9 x6)) (k0_pay27 (k0_pay9 x6)) (k0_pay28 (k0_pay9 x6)) j d |s|
  have hb : k0_pay27 (k0_pay9 x6) (ix2 j d) = BitVec.ofBool (decide (|s| < 1)) := by
    pointwise [k0_pay27]
    rw [ha, show (1 : EReal) = ((1:ℝ) : EReal) from rfl]
    simp only [EReal.coe_lt_coe_iff]
  have hc : k0_pay28 (k0_pay9 x6) (ix2 j d) = ((|s| : ℝ) : EReal) * (((2:ℝ)^(126:ℤ) : ℝ) : EReal) := by
    pointwise [k0_pay28]
    rw [ha, c_2p126]
  have hv := fun h => ((hm h).step (n := 2) c_2p2 c_2m2).step (n := 1) c_2p1 c_2m1
  unfold codesVal codeOf
  pointwise [k0_pay42]
  rw [hx, ha, c_448, c_m448, c_top, c_2m126]
  congr 3
  simp only [EReal.coe_le_coe_iff, EReal.coe_lt_top, decide_true]
  by_cases hsm : |s| < (2:ℝ) ^ (-126 : ℤ)
  · have : ¬ (2:ℝ) ^ (-126 : ℤ) ≤ |s| := not_le.mpr hsm
    rw [show decide ((2:ℝ) ^ (-126 : ℤ) ≤ |s|) = false by simpa using this]
    rw [invPow, if_pos hsm]
    rw [show IntOp.andi (BitVec.ofBool false) (BitVec.ofBool true) = 0#1 from rfl, sel_zero]
    rw [c_2p1, pow_one]
  · have h2 : (2:ℝ) ^ (-126 : ℤ) ≤ |s| := not_lt.mp hsm
    rw [show decide ((2:ℝ) ^ (-126 : ℤ) ≤ |s|) = true by simpa using h2]
    rw [show IntOp.andi (BitVec.ofBool true) (BitVec.ofBool true) = 1#1 from rfl, sel_one]
    refine Search.done h2 (hv ?_)
    pointwise [k0_pay29]
    rw [hb, hc, ha, c_2p126]
    by_cases h1 : |s| < 1
    · rw [show decide (|s| < 1) = true by simpa using h1]
      exact Search.start_small h2 h1
    · rw [show decide (|s| < 1) = false by simpa using h1]
      exact Search.start_big (not_lt.mp h1)

/-- The codes as they are stored. -/
theorem pay43_at (x4 : Vec Ideal S1x4x8x128 .bf16) (x6 : Vec Ideal S1x8x128 .f32) (t : Fin 4) (kv : Fin 8) (d : Fin 128) (s : ℝ)
    (hs : x6 (ix3 0 kv d) = (s : EReal)) :
  k0_pay43 (k0_pay25 x4) (k0_pay26 (k0_pay9 x6))
    (k0_pay38 (k0_pay26 (k0_pay9 x6)) (k0_pay27 (k0_pay9 x6)) (k0_pay28 (k0_pay9 x6)))
    (k0_pay39 (k0_pay26 (k0_pay9 x6)) (k0_pay27 (k0_pay9 x6)) (k0_pay28 (k0_pay9 x6)))
    (k0_pay40 (k0_pay26 (k0_pay9 x6)) (k0_pay27 (k0_pay9 x6)) (k0_pay28 (k0_pay9 x6)))
    (k0_pay41 (k0_pay26 (k0_pay9 x6)) (k0_pay27 (k0_pay9 x6)) (k0_pay28 (k0_pay9 x6))) (ix4 0 t kv d)
   = codeOf (x4 (ix4 0 t kv d)) s := by
  pointwise [k0_pay43]
  have e1 : (⟨(t.val * 8 + kv.val) % 8, by omega⟩ : Fin 8) = kv := Fin.ext (by simp only; omega)
  have e2 : (⟨(t.val * 8 + kv.val) / 8, by omega⟩ : Fin 4) = t := Fin.ext (by simp only; omega)
  have := codesVal_at x4 x6 ⟨t.val * 8 + kv.val, by omega⟩ d s (by simp only [e1]; exact hs)
  simp only [e1, e2] at this
  exact this

end Cert.KernelIdeal.Hand
end
-- ==== Proof.Spec.lean ====
module

public import proofs.«01_k».proof.Proof.Scalars
public import proofs.«01_k».proof.Proof.Power
public import Idealize.ShloMosaic.Lib.Pointwise

@[expose] public section

set_option maxRecDepth 16384

noncomputable section

namespace Cert.Vals

open Idealize.ShloMosaic

/-! ## The quantised values -/

/-- The largest size in a row of values, -/
def amaxR (f : Fin 128 → ℝ) : ℝ := Finset.univ.sup' ⟨0, Finset.mem_univ _⟩ fun d => |f d|
/-- the row's scale, -/
def vscaleR (f : Fin 128 → ℝ) : ℝ := if amaxR f = 0 then 1 else amaxR f / 7
/-- the codes, as integers from −7 to 7, -/
def vqZ (f : Fin 128 → ℝ) (d : Fin 128) : ℤ := min 7 (max (-7) (Ideal.roundHalfEven (f d / vscaleR f)))
/-- a code as four bits, -/
def nib (z : ℤ) : ℕ := (z % 16).toNat
/-- and two codes in a byte. -/
def vbyte (f : Fin 128 → ℝ) (c : Fin 64) : BitVec 8 :=
  BitVec.ofNat 8 (nib (vqZ f ⟨2 * c.val, by omega⟩) + 16 * nib (vqZ f ⟨2 * c.val + 1, by omega⟩))

theorem nib_lt (z : ℤ) : nib z < 16 := by unfold nib; omega
theorem vqZ_le (f : Fin 128 → ℝ) (d : Fin 128) : vqZ f d ≤ 7 := min_le_left _ _
theorem le_vqZ (f : Fin 128 → ℝ) (d : Fin 128) : -7 ≤ vqZ f d := le_min (by norm_num) (le_max_left _ _)

theorem vscaleR_ne (f : Fin 128 → ℝ) : vscaleR f ≠ 0 := by
  unfold vscaleR
  split_ifs with h
  · norm_num
  · exact div_ne_zero h (by norm_num)

theorem max_coe (a b : ℝ) : max (a : EReal) (b : EReal) = ((max a b : ℝ) : EReal) :=
  (EReal.coe_strictMono.monotone.map_max (a := a) (b := b)).symm
theorem min_coe (a b : ℝ) : min (a : EReal) (b : EReal) = ((min a b : ℝ) : EReal) :=
  (EReal.coe_strictMono.monotone.map_min (a := a) (b := b)).symm

theorem absf_real (s : ℝ) : FloatOps.absf (F := Ideal) (φ := .f32) (s : EReal) = ((|s| : ℝ) : EReal) := by
  show max (s : EReal) (-(s : EReal)) = _
  rw [← EReal.coe_neg, abs_eq_max_neg, max_coe]

theorem div_coe {a b : ℝ} (hb : b ≠ 0) : Ideal.div (a : EReal) (b : EReal) = ((a / b : ℝ) : EReal) := by
  unfold Ideal.div
  rw [if_neg (by exact_mod_cast hb), div_eq_mul_inv, EReal.coe_mul, EReal.coe_inv]

/-- The largest of finitely many reals, as a running maximum from −∞. -/
theorem fold_max_coe {n : ℕ} (f : Fin (n + 1) → ℝ) :
    Finset.fold max (⊥ : EReal) (fun x => (f x : EReal)) Finset.univ = ((Finset.univ.sup' ⟨0, Finset.mem_univ _⟩ f : ℝ) : EReal) := by
  apply le_antisymm
  · rw [Finset.fold_max_le]
    exact ⟨bot_le, fun x hx => EReal.coe_le_coe_iff.mpr (Finset.le_sup' f hx)⟩
  · rw [Finset.le_fold_max]
    right
    obtain ⟨x, hx, he⟩ := Finset.exists_mem_eq_sup' (s := Finset.univ) ⟨(0 : Fin (n + 1)), Finset.mem_univ _⟩ f
    exact ⟨x, hx, le_of_eq (congrArg _ he)⟩

theorem c_7 : Ideal.ofBits .f32 0x40E00000#32 = ((7 : ℝ) : EReal) := by
  simp [Ideal.ofBits, Ideal.ieee, -EReal.coe_mul]; norm_num
theorem c_m7 : Ideal.ofBits .f32 0xC0E00000#32 = ((-7 : ℝ) : EReal) := by
  simp [Ideal.ofBits, Ideal.ieee, -EReal.coe_mul]; norm_num
theorem c_16 : Ideal.ofBits .f32 0x41800000#32 = ((16 : ℝ) : EReal) := by
  simp [Ideal.ofBits, Ideal.ieee, -EReal.coe_mul]; norm_num

/-- The scale, as either program takes it. -/
theorem vscale_eq (f : Fin 128 → ℝ) :
    (if Finset.fold max (⊥ : EReal) (fun x => FloatOps.absf (F := Ideal) (φ := .f32) (f x : EReal)) Finset.univ = 0 then (1 : EReal)
      else Ideal.div (Finset.fold max (⊥ : EReal) (fun x => FloatOps.absf (F := Ideal) (φ := .f32) (f x : EReal)) Finset.univ) ((7 : ℝ) : EReal))
      = ((vscaleR f : ℝ) : EReal) := by
  simp only [absf_real]
  rw [fold_max_coe (fun d => |f d|), div_coe (by norm_num)]
  show (if ((amaxR f : ℝ) : EReal) = 0 then (1 : EReal) else ((amaxR f / 7 : ℝ) : EReal)) = _
  unfold vscaleR
  by_cases h : amaxR f = 0
  · rw [if_pos h, if_pos (by rw [h]; rfl)]; rfl
  · rw [if_neg h, if_neg (by exact_mod_cast h)]

/-- A code, as either program takes it. -/
theorem vq_eq (f : Fin 128 → ℝ) (d : Fin 128) :
    min ((7 : ℝ) : EReal) (max ((-7 : ℝ) : EReal) (Ideal.liftRound Ideal.roundHalfEven (Ideal.div (f d : EReal) (vscaleR f : EReal))))
      = (((vqZ f d : ℤ) : ℝ) : EReal) := by
  rw [div_coe (vscaleR_ne f)]
  show min ((7 : ℝ) : EReal) (max ((-7 : ℝ) : EReal) (((Ideal.roundHalfEven (f d / vscaleR f) : ℤ) : ℝ) : EReal)) = _
  rw [max_coe, min_coe]
  unfold vqZ
  push_cast
  rfl

/-- An integer in range, read off an extended real. -/
theorem fptosi_int (z : ℤ) (h1 : -2147483648 ≤ z) (h2 : z ≤ 2147483647) : Ideal.fptosi 32 (((z : ℤ) : ℝ) : EReal) = BitVec.ofInt 32 z := by
  unfold Ideal.fptosi
  congr 1
  show max (-((2 ^ (32 - 1) : ℕ) : ℤ)) (min (((2 ^ (32 - 1) : ℕ) : ℤ) - 1) (if 0 ≤ ((z : ℤ) : ℝ) then ⌊((z : ℤ) : ℝ)⌋ else ⌈((z : ℤ) : ℝ)⌉)) = z
  rw [Int.floor_intCast, Int.ceil_intCast, ite_self]
  norm_num
  omega

theorem nib_word (z : ℤ) (h1 : -7 ≤ z) (h2 : z ≤ 7) : (BitVec.ofInt 32 z &&& 15#32) = BitVec.ofNat 32 (nib z) := by
  have : z = -7 ∨ z = -6 ∨ z = -5 ∨ z = -4 ∨ z = -3 ∨ z = -2 ∨ z = -1 ∨ z = 0 ∨ z = 1 ∨ z = 2 ∨ z = 3 ∨ z = 4 ∨ z = 5 ∨ z = 6 ∨ z = 7 := by omega
  rcases this with rfl | rfl | rfl | rfl | rfl | rfl | rfl | rfl | rfl | rfl | rfl | rfl | rfl | rfl | rfl <;> decide

theorem nib_toInt (n : ℕ) (h : n < 16) : (BitVec.ofNat 32 n).toInt = (n : ℤ) := by
  interval_cases n <;> decide

/-- A code's four bits as a number, as the kernel takes them. -/
theorem low4_eq (z : ℤ) (h1 : -7 ≤ z) (h2 : z ≤ 7) :
    FloatOps.sitofp (F := Ideal) .f32 (IntOp.andi (FloatOps.fptosi (F := Ideal) (φ := .f32) 32 (((z : ℤ) : ℝ) : EReal)) 15#32) = ((nib z : ℝ) : EReal) := by
  show FloatOps.sitofp (F := Ideal) .f32 (Ideal.fptosi 32 (((z : ℤ) : ℝ) : EReal) &&& 15#32) = _
  rw [fptosi_int z (by omega) (by omega), nib_word z h1 h2]
  show (((BitVec.ofNat 32 (nib z)).toInt : ℝ) : EReal) = _
  rw [nib_toInt _ (nib_lt z)]
  rfl

/-- Two codes' bits, read as a number and cut to a byte. -/
theorem byte_eq (a b : ℕ) (ha : a < 16) (hb : b < 16) :
    BitVec.setWidth 8 (FloatOps.fptosi (F := Ideal) (φ := .f32) 32 (((a : ℝ) * 1 + (b : ℝ) * 16 : ℝ) : EReal)) = BitVec.ofNat 8 (a + 16 * b) := by
  show BitVec.setWidth 8 (Ideal.fptosi 32 _) = _
  rw [show ((a : ℝ) * 1 + (b : ℝ) * 16 : ℝ) = (((a + 16 * b : ℕ) : ℤ) : ℝ) by push_cast; ring, fptosi_int _ (by omega) (by omega)]
  apply BitVec.eq_of_toNat_eq
  simp only [BitVec.toNat_setWidth, BitVec.ofInt_natCast, BitVec.toNat_ofNat]
  omega

/-- A sum with two terms that are not zero. -/
theorem sum_two {n : ℕ} (f : Fin n → EReal) (a b : Fin n) (hab : a ≠ b) (h : ∀ c, c ≠ a → c ≠ b → f c = 0) :
    ∑ x, f x = f a + f b :=
  Finset.sum_eq_add a b hab (fun c _ hc => h c hc.1 hc.2) (fun h => absurd (Finset.mem_univ _) h) (fun h => absurd (Finset.mem_univ _) h)

end Cert.Vals
end
-- ==== Proof.NewValue.lean ====
module

public import proofs.«01_k».proof.Proof.Gen.KernelIdeal.Skeleton
public import Idealize.ShloMosaic.Lib.Pointwise
public import proofs.«01_k».proof.Proof.Scalars
public import proofs.«01_k».proof.Proof.Power
public import proofs.«01_k».proof.Proof.Spec

@[expose] public section

set_option maxRecDepth 16384

noncomputable section

namespace Cert.KernelIdeal.Hand

open Idealize.ShloMosaic
open Cert.Vals Cert.KernelIdeal Cert.KernelIdeal.Gen

/-- Row `8·t + kv` of the new values. -/
theorem pay44_at (v : Vec Ideal S1x4x8x128 .bf16) (n : Fin 32) (d : Fin 128) :
    k0_pay44 v (ix2 n d) = v (ix4 0 ⟨n.val / 8, by omega⟩ ⟨n.val % 8, by omega⟩ d) := by
  pointwise [k0_pay44]

/-- The scale of a row of new values. -/
theorem vscale_at (v : Vec Ideal S1x4x8x128 .bf16) (n : Fin 32) (f : Fin 128 → ℝ)
    (hf : ∀ d, v (ix4 0 ⟨n.val / 8, by omega⟩ ⟨n.val % 8, by omega⟩ d) = (f d : EReal)) :
    k0_pay47 (k0_pay45 v) k0_pay46 (ix2 n 0) = (vscaleR f : EReal) := by
  pointwise [k0_pay47, k0_pay46, k0_pay45, k0_pay44]
  simp only [hf, c_bot, c_7]
  exact vscale_eq f

/-- A code of a row of new values. -/
theorem vq_at (v : Vec Ideal S1x4x8x128 .bf16) (n : Fin 32) (d : Fin 128) (f : Fin 128 → ℝ)
    (hf : ∀ d, v (ix4 0 ⟨n.val / 8, by omega⟩ ⟨n.val % 8, by omega⟩ d) = (f d : EReal)) :
    k0_pay48 (k0_pay44 v) (k0_pay45 v) k0_pay46 (ix2 n d) = ((vqZ f d : ℤ) : ℝ) := by
  pointwise [k0_pay48]
  rw [vscale_at v n f hf, pay44_at, hf, c_7, c_m7]
  exact vq_eq f d

theorem low4_at (v : Vec Ideal S1x4x8x128 .bf16) (n : Fin 32) (d : Fin 128) (f : Fin 128 → ℝ)
    (hf : ∀ d, v (ix4 0 ⟨n.val / 8, by omega⟩ ⟨n.val % 8, by omega⟩ d) = (f d : EReal)) :
    k0_pay49 (k0_pay44 v) (k0_pay45 v) k0_pay46 (ix2 n d) = (nib (vqZ f d) : ℝ) := by
  pointwise [k0_pay49]
  rw [vq_at v n d f hf]
  exact low4_eq _ (le_vqZ f d) (vqZ_le f d)

theorem pay50_at (n : Fin 128) (d : Fin 64) :
    k0_pay50 (F := Ideal) (ix2 n d) = if n.val % 2 = 0 then ((1 : ℝ) : EReal) else ((16 : ℝ) : EReal) := by
  pointwise [k0_pay50]
  rw [c_16, sel_eq]
  refine if_congr ?_ rfl rfl
  clear d
  revert n; decide +kernel

theorem pack_word (x : Fin 128) (e : Fin 64) :
    Scalar.select
                (IntOp.andi
                  (IntOp.cmpi CmpIPredicate.ne
                    (IntOp.subi (BitVec.setWidth 32 (k0_pay52 (ix2 x e)))
                      (BitVec.setWidth 32 (IntOp.cmpi CmpIPredicate.slt (iota Kind.tc S128x64 32 [0] iota_S128x64_d0_w32 (ix2 x e)) 0#32)))
                    (Scalar.subi (Scalar.extui (Scalar.cmpi CmpIPredicate.sgt 2#32 0#32))
                      (Scalar.extui (Scalar.cmpi CmpIPredicate.slt 2#32 0#32))))
                  (IntOp.cmpi CmpIPredicate.ne (IntOp.remsi ArithUnit.vector (iota Kind.tc S128x64 32 [0] iota_S128x64_d0_w32 (ix2 x e)) 2#32) 0#32))
                (IntOp.subi (k0_pay51 (ix2 x e)) 1#32) (k0_pay51 (ix2 x e)) = BitVec.ofNat 32 (x.val / 2) := by
  pointwise [k0_pay52, k0_pay51]
  clear e
  revert x; decide +kernel

/-- The packed codes as they are stored. -/
theorem vbyte_at (v : Vec Ideal S1x4x8x128 .bf16) (t : Fin 4) (kv : Fin 8) (e : Fin 64) (f : Fin 128 → ℝ)
    (hf : ∀ d, v (ix4 0 t kv d) = (f d : EReal)) :
    k0_pay53 (k0_pay49 (k0_pay44 v) (k0_pay45 v) k0_pay46) k0_pay50 (iota Kind.tc S128x64 32 [0] iota_S128x64_d0_w32) 2#32 k0_pay51 k0_pay52
      (ix4 0 t kv e) = vbyte f e := by
  have e1 : (⟨(t.val * 8 + kv.val) % 8, by omega⟩ : Fin 8) = kv := Fin.ext (by simp only; omega)
  have e2 : (⟨(t.val * 8 + kv.val) / 8, by omega⟩ : Fin 4) = t := Fin.ext (by simp only; omega)
  have hl := fun x => low4_at v ⟨t.val * 8 + kv.val, by omega⟩ x f (by simp only [e1, e2]; exact hf)
  generalize hi : iota Kind.tc S128x64 32 [0] iota_S128x64_d0_w32 = io
  pointwise [k0_pay53]
  subst hi
  refine (congrArg (fun s => BitVec.setWidth 8 (FloatOps.fptosi (F := Ideal) (φ := .f32) 32 s)) (Finset.sum_congr rfl (fun x _ => congrArg (fun w => Scalar.select (IntOp.cmpi .eq w (BitVec.ofNat 32 e.val)) (_ * _ : EReal) 0) (pack_word x e)))).trans ?_
  simp only [hl, pay50_at, sel_eq]
  rw [sum_two _ (⟨2 * e.val, by omega⟩ : Fin 128) ⟨2 * e.val + 1, by omega⟩ (by simp)]
  · rw [if_pos (by congr 1; simp), if_pos (by simp), if_pos (by congr 1; show (2 * e.val + 1) / 2 = e.val; omega), if_neg (by show ¬ (2 * e.val + 1) % 2 = 0; omega),
      ← EReal.coe_mul, ← EReal.coe_mul, ← EReal.coe_add]
    exact byte_eq _ _ (nib_lt _) (nib_lt _)
  · intro c h1 h2
    rw [if_neg]
    rw [ofNat_eq_iff (by omega) (by omega)]
    intro h
    have : c.val = 2 * e.val ∨ c.val = 2 * e.val + 1 := by omega
    rcases this with h | h
    · exact h1 (Fin.ext h)
    · exact h2 (Fin.ext h)

theorem sum_pick' {n : ℕ} (hn : n ≤ 1024) (f : Fin n → EReal) (k : ℕ) (hk : k < n) :
    (∑ x : Fin n, Scalar.select (IntOp.cmpi .eq (BitVec.ofNat 32 x.val) (BitVec.ofNat 32 k)) (f x) 0) = f ⟨k, hk⟩ := by
  rw [← sum_pick hn f k hk]
  refine Finset.sum_congr rfl fun x _ => ?_
  rw [sel_eq, sel_eq]
  exact if_congr eq_comm rfl rfl

/-- The scales as they are stored. -/
theorem pay57_at (v : FVec Ideal S32x1 .f32) (t : Fin 4) (kv : Fin 8) :
    k0_pay57 v k0_pay54 (k0_pay55 v) (FloatOps.ofBits .f32 0#32) (k0_pay56 v) (ix3 0 t kv) = v (ix2 ⟨t.val * 8 + kv.val, by omega⟩ 0) := by
  pointwise [k0_pay57, k0_pay54, k0_pay55, k0_pay56]
  fin_vals t with hk
  all_goals simp only [hk, Nat.reduceSub, Nat.reduceLT, ↓reduceDIte, ↓reduceIte]
  · rw [sum_pick' (by decide) (fun x : Fin 8 => v (ix2 ⟨x.val, by omega⟩ 0)) kv.val kv.isLt]; congr 2; apply Fin.ext; simp
  · rw [sum_pick' (by decide) (fun x : Fin 8 => v (ix2 ⟨8 + x.val, by omega⟩ 0)) kv.val kv.isLt]
  · rw [sum_pick' (by decide) (fun x : Fin 8 => v (ix2 ⟨16 + x.val, by omega⟩ 0)) kv.val kv.isLt]
  · rw [sum_pick' (by decide) (fun x : Fin 8 => v (ix2 ⟨24 + x.val, by omega⟩ 0)) kv.val kv.isLt]

theorem vscale_stored (v : Vec Ideal S1x4x8x128 .bf16) (t : Fin 4) (kv : Fin 8) (f : Fin 128 → ℝ)
    (hf : ∀ d, v (ix4 0 t kv d) = (f d : EReal)) :
    k0_pay57 (k0_pay47 (k0_pay45 v) k0_pay46) k0_pay54 (k0_pay55 (k0_pay47 (k0_pay45 v) k0_pay46)) (FloatOps.ofBits .f32 0#32)
      (k0_pay56 (k0_pay47 (k0_pay45 v) k0_pay46)) (ix3 0 t kv) = (vscaleR f : EReal) := by
  rw [pay57_at]
  have e1 : (⟨(t.val * 8 + kv.val) % 8, by omega⟩ : Fin 8) = kv := Fin.ext (by simp only; omega)
  have e2 : (⟨(t.val * 8 + kv.val) / 8, by omega⟩ : Fin 4) = t := Fin.ext (by simp only; omega)
  exact vscale_at v ⟨t.val * 8 + kv.val, by omega⟩ f (by simp only [e1, e2]; exact hf)

end Cert.KernelIdeal.Hand
end
-- ==== Proof.CodesStep.lean ====
/-
  The three quantised results: what every point leaves of them, and what the launch leaves in their arrays.
-/
module

public import proofs.«01_k».proof.Proof.Stages
public import proofs.«01_k».proof.Proof.CodesValue
public import proofs.«01_k».proof.Proof.NewValue
public import Idealize.ShloMosaic.Lib.Pipeline.ValueKit
public import Idealize.ShloMosaic.Lib.Pointwise

@[expose] public section

set_option maxRecDepth 16384

noncomputable section

namespace Cert.KernelIdeal.Hand

open Idealize.ShloMosaic Idealize.ShloMosaic.TcCoe
open Idealize.ShloMosaic.Pipeline (Dat Cfg Window BodyObligation cellOf)
open Cert.Vals Cert.KernelIdeal Cert.KernelIdeal.Gen

variable (m : (ℓ : Loc nD τ sig) → Buf (Elt Ideal) ℓ) (ρ : Dev nD → PrngReg)

/-- The codes of the new keys. -/
def Codes (ks : S4x8x128.Idx → ℝ) (kn : S4x4x8x128.Idx → EReal) (n : ℕ) (X : Vec Ideal S1x4x8x128 .fp8e4m3) : Prop :=
  ∀ t kv d, X (ix4 0 t kv d) = codeOf (kn (ix4 (bOf n) t kv d)) (ks (ix3 (bOf n) kv d))

/-- The packed codes of the new values. -/
def Bytes (vn : S4x4x8x128.Idx → ℝ) (n : ℕ) (X : Vec Ideal S1x4x8x64 .i8) : Prop :=
  ∀ t kv e, X (ix4 0 t kv e) = vbyte (fun d => vn (ix4 (bOf n) t kv d)) e

/-- The scales of the new values. -/
def Scales (vn : S4x4x8x128.Idx → ℝ) (n : ℕ) (X : Vec Ideal S1x4x8 .f32) : Prop :=
  ∀ t kv, X (ix3 0 t kv) = (vscaleR (fun d => vn (ix4 (bOf n) t kv d)) : EReal)

theorem bOf_pred {n : ℕ} (h : ¬ n % 8 = 0) : bOf (n - 1) = bOf n := Fin.ext (by simp only [bOf]; omega)

variable (ks : S4x8x128.Idx → ℝ) (vn : S4x4x8x128.Idx → ℝ) (hO : Ok m) (c : Dev nD)
  (hks : ∀ j, m ((c : Thread nD τ).loc main_arg4) j = (ks j : EReal)) (hvn : ∀ j, m ((c : Thread nD τ).loc main_arg2) j = (vn j : EReal))

include hks in
theorem codes_step (t : Fin (cfgM m hO).N) (st : St Ideal)
    (h : ¬ t.val % 8 = 0 → Codes ks (m ((c : Thread nD τ).loc main_arg1)) (t.val - 1) st.kc) :
    Codes ks (m ((c : Thread nD τ).loc main_arg1)) t.val (stepAt m hO c t st).kc := by
  rw [stepAt_kc]
  by_cases ht : t.val % 8 = 0
  · intro t' kv d
    refine (congrFun (start_kc _ _ _ _ _ _ _ _ _ _ _ _ _ _ _ _ _ _ _ _ _ _ _ _ _ _ _ _ _ _ _ _ _ _ _ _ _ _ _ _ _ _ _ _ ((cond1_iff t).mpr ht)) (ix4 0 t' kv d)).trans ?_
    refine (pay43_at (iblk m hO c 1 t) (iblk m hO c 3 t) t' kv d (ks (ix3 (bOf t.val) kv d)) ((iblk3_at m hO c t kv d).trans (hks _))).trans ?_
    rw [iblk1_at m hO c t]
  · rw [startAt_later m hO c t st ht]
    have := h ht
    unfold Codes at this ⊢
    rwa [bOf_pred ht] at this

include hvn in
theorem bytes_step (t : Fin (cfgM m hO).N) (st : St Ideal)
    (h : ¬ t.val % 8 = 0 → Bytes vn (t.val - 1) st.vc) : Bytes vn t.val (stepAt m hO c t st).vc := by
  rw [stepAt_vc]
  by_cases ht : t.val % 8 = 0
  · intro t' kv e
    refine (congrFun (start_vc _ _ _ _ _ _ _ _ _ _ _ _ _ _ _ _ _ _ _ _ _ _ _ _ _ _ _ _ _ _ _ _ _ _ _ _ _ _ _ _ _ _ _ _ ((cond1_iff t).mpr ht)) (ix4 0 t' kv e)).trans ?_
    exact vbyte_at (iblk m hO c 2 t) t' kv e (fun d => vn (ix4 (bOf t.val) t' kv d)) (fun d => (iblk2_at m hO c t t' kv d).trans (hvn _))
  · rw [startAt_later m hO c t st ht]
    have := h ht
    unfold Bytes at this ⊢
    rwa [bOf_pred ht] at this

include hvn in
theorem scales_step (t : Fin (cfgM m hO).N) (st : St Ideal)
    (h : ¬ t.val % 8 = 0 → Scales vn (t.val - 1) st.sc) : Scales vn t.val (stepAt m hO c t st).sc := by
  rw [stepAt_sc]
  by_cases ht : t.val % 8 = 0
  · intro t' kv
    refine (congrFun (start_sc _ _ _ _ _ _ _ _ _ _ _ _ _ _ _ _ _ _ _ _ _ _ _ _ _ _ _ _ _ _ _ _ _ _ _ _ _ _ _ _ _ _ _ _ ((cond1_iff t).mpr ht)) (ix3 0 t' kv)).trans ?_
    exact vscale_stored (iblk m hO c 2 t) t' kv (fun d => vn (ix4 (bOf t.val) t' kv d)) (fun d => (iblk2_at m hO c t t' kv d).trans (hvn _))
  · rw [startAt_later m hO c t st ht]
    have := h ht
    unfold Scales at this ⊢
    rwa [bOf_pred ht] at this

end Cert.KernelIdeal.Hand

end
-- ==== Proof.Results.lean ====
/-
  The kernel's run as the claims read it: its frame, and the three quantised results.
-/
module

public import proofs.«01_k».proof.Proof.Readback
public import proofs.«01_k».proof.Proof.CodesStep
public import Idealize.ShloMosaic.Lib.Claim

@[expose] public section

set_option maxRecDepth 16384

noncomputable section

namespace Cert.KernelIdeal.Hand

open Idealize.ShloMosaic Idealize.ShloMosaic.TcCoe Idealize.SL.Sem
open Cert.Vals Cert.KernelIdeal Cert.KernelIdeal.Gen

section
variable {F : FTy → Type} [FloatOps F] (m : (ℓ : Loc nD τ sig) → Buf (Elt F) ℓ) (ρ : Dev nD → PrngReg)

/-- Nothing known. -/
def noFacts : Facts F := ⟨fun _ _ _ _ _ _ => True, fun _ _ => True, fun _ _ => True, fun _ _ => True, fun _ _ => True⟩

/-- The frame: the arguments end unchanged and the counters at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ hO (fun c => (datP m hO noFacts c).toRRel marks (rel m hO noFacts)) (datP_A m hO noFacts)
    ((θ_run defs _ _).mono (fun _ h => h.1) (run_rel m ρ hO noFacts (fun _ _ _ _ _ => trivial) fun _ _ _ _ _ => ⟨trivial, trivial, trivial, trivial, trivial⟩)))
    ((θ_run defs _ _).mono (fun _ h => h.2) (run_rel m ρ hO noFacts (fun _ _ _ _ _ => trivial) fun _ _ _ _ _ => ⟨trivial, trivial, trivial, trivial, trivial⟩))
end

variable (m : (ℓ : Loc nD τ sig) → Buf (Elt Ideal) ℓ) (ρ : Dev nD → PrngReg)
variable (ks : S4x8x128.Idx → ℝ) (vn : S4x4x8x128.Idx → ℝ)

/-- What holds of the quantised results' blocks at every point. -/
def quantFacts (kn : S4x4x8x128.Idx → EReal) : Facts Ideal :=
  ⟨fun _ _ _ _ _ _ => True, fun _ _ => True, Codes ks kn, Bytes vn, Scales vn⟩

/-- The three quantised results after the run. -/
theorem quant_read (hO : Ok m) (hks : ∀ j, m ((0 : Dev nD).tc.loc main_arg4) j = (ks j : EReal)) (hvn : ∀ j, m ((0 : Dev nD).tc.loc main_arg2) j = (vn j : EReal)) :
    θ_run defs (onTc (τ := τ) (main (F := Ideal))) (s₀ m ρ) (fun r => ∀ c : Dev nD,
      (∀ (b t : Fin 4) (kv : Fin 8) (d : Fin 128), r.2.mem ((c.tc : Thread nD τ).loc main_v3_1) (ix4 b t kv d) = codeOf (m ((0 : Dev nD).tc.loc main_arg1) (ix4 b t kv d)) (ks (ix3 b kv d)))
      ∧ (∀ (b t : Fin 4) (kv : Fin 8) (e : Fin 64), r.2.mem ((c.tc : Thread nD τ).loc main_v3_2) (ix4 b t kv e) = vbyte (fun d => vn (ix4 b t kv d)) e)
      ∧ (∀ (b t : Fin 4) (kv : Fin 8), r.2.mem ((c.tc : Thread nD τ).loc main_v3_3) (ix3 b t kv) = (vscaleR (fun d => vn (ix4 b t kv d)) : EReal))) := by
  have hs : ∀ c : Dev nD, Steps m hO (quantFacts ks vn (m ((0 : Dev nD).tc.loc main_arg1))) c := fun c t st _ h => by
    obtain rfl : c = 0 := Subsingleton.elim _ _
    exact ⟨trivial, trivial, codes_step m ks hO 0 hks t st fun ht => (h ht).1, bytes_step m vn hO 0 hvn t st fun ht => (h ht).2.1,
      scales_step m vn hO 0 hvn t st fun ht => (h ht).2.2⟩
  refine (θ_run defs _ _).mono (fun r h c => ?_) (run_read m ρ hO (quantFacts ks vn (m ((0 : Dev nD).tc.loc main_arg1))) (fun _ _ _ _ _ => trivial) hs)
  obtain ⟨-, h8, h9, h10⟩ := h c
  refine ⟨fun b t kv d => ?_, fun b t kv e => ?_, fun b t kv => ?_⟩
  · obtain ⟨X, hX, e⟩ := h8 b
    rw [e t kv d, hX t kv d, bOf_last]
  · obtain ⟨X, hX, e'⟩ := h9 b
    rw [e' t kv e, hX t kv e, bOf_last]
  · obtain ⟨X, hX, e⟩ := h10 b
    rw [e t kv, hX t kv, bOf_last]

end Cert.KernelIdeal.Hand

end
-- ==== Proof.KFrame.lean ====
/-
  The frame of the kernel. Its idealization is the same program, printed with other names, and the frame of that is proved of any floats.
-/
module

public import proofs.«01_k».proof.Defs
public import proofs.«01_k».proof.Proof.Gen.Kernel
public import proofs.«01_k».proof.Proof.OkKernelIdeal
public import proofs.«01_k».proof.Proof.Results

@[expose] public section

set_option maxRecDepth 16384
set_option maxHeartbeats 4000000

noncomputable section

namespace Cert.Kernel.Hand

open Idealize.ShloMosaic Idealize.ShloMosaic.TcCoe Idealize.SL.Sem Cert.Kernel Cert.Kernel.Gen

/-- The precondition says that the lengths are at least one. -/
theorem lengths_of_pre {m : (ℓ : Loc nD τ sig) → Buf (Elt Bits) ℓ} (h : Cert.Pre_Kernel m) : Cert.KernelIdeal.Hand.LengthsOk (F := Bits) m := by
  intro i
  have e := congrFun (h 0) (fun a => a.elim0)
  haveI : Subsingleton Cert.Pre_lengths.S_.Idx := ⟨fun a b => funext fun x => x.elim0⟩
  exact Cert.Words.length_pos (Host.reduce_andi_all _ _ _ _ _ e i)

variable {F : FTy → Type} [FloatOps F]

/-- The kernel's body is its idealization's, -/
theorem body_eq : cc0_decode_attn (F := F) = Cert.KernelIdeal.cc0_decode_attn (F := F) := rfl

/-- so is the table of the bodies, -/
theorem defs₀_eq : defs₀ (F := F) = Cert.KernelIdeal.defs₀ (F := F) := by
  unfold defs₀ Cert.KernelIdeal.defs₀
  refine congrArg Defs.onTc ?_
  funext l x
  match l, x with
  | 0, (t, s) =>
    dsimp only
    rw [body_eq]
    rfl
  | ⟨_ + 1, h⟩, _ => exact absurd h (Nat.not_lt.2 (Nat.le_add_left _ _))

/-- the table with the region and its pipeline, -/
theorem defs_eq : defs (F := F) = Cert.KernelIdeal.defs (F := F) := by
  unfold defs Cert.KernelIdeal.defs
  rw [defs₀_eq]
  rfl

/-- and the program. -/
theorem main_eq : main (F := F) = Cert.KernelIdeal.main (F := F) := rfl

/-- The frame: the arguments end unchanged and the counters at zero. -/
theorem frame (m : (ℓ : Loc nD τ sig) → Buf (Elt Bits) ℓ) (ρ : Dev nD → PrngReg) (h : Cert.Pre_Kernel m) :
    θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) := by
  rw [defs_eq, main_eq]
  exact Cert.KernelIdeal.Hand.frame (F := Bits) m ρ (Cert.KernelIdeal.Hand.ok_of (lengths_of_pre h))

end Cert.Kernel.Hand

end
-- ==== Proof.RefFrame.lean ====
/-
  The reference's frame: its host lines up to the cast, the cast, and the host lines behind it leave every argument as it was.
-/
module

public import proofs.«01_k».proof.Proof.Gen.ReferenceIdeal.Launch
public import proofs.«01_k».proof.Proof.Gen.ReferenceIdeal.Skeleton
public import Idealize.ShloMosaic.Lib.Claim
public import Idealize.ShloMosaic.Lib.Pipeline.FrameBody
public import Idealize.ShloMosaic.Lib.Pipeline.FrameSuffix
public import Idealize.ShloMosaic.Lib.Pipeline.ValueKit
public import Idealize.ShloMosaic.Lib.Tactic
public import Idealize.ShloMosaic.Adequacy
public import Idealize.ShloMosaic.Init

@[expose] public section

set_option synthInstance.maxSize 4096

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ
section
variable (m : (ℓ : Loc nD τ sig) → Buf (Elt F) ℓ) (ρ : Dev nD → PrngReg)

/-! ## @main around the region -/

/-- Core `c`'s TensorCore buffer contents when the region is entered, as a valuation: after the host operations before
    the region (`hostOps0`, `hostOps0_1`, `hostOps0_2`, `hostOps0_3`, `hostOps0_4`, `hostOps0_5`). -/
abbrev V0 (c : Dev nD) : Valuation τ sig (Elt F) := StableHlo.after (List.flatten [hostOps0, hostOps0_1, hostOps0_2, hostOps0_3, hostOps0_4, hostOps0_5]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v26, main_v27, main_cst_7, main_v28, main_cst_8, main_v29, main_v30, main_cst_9, main_v31, main_v32, main_cst_10]
theorem hostOps1_writes : (hostOps1 : List (HloOp τ sig (Elt F))).Forall fun op => op.writes ⊆ (hostOps1_W.map (Proc.devRef (τ := τ) .tc)).toFinset :=
  StableHlo.forall_writes_sub_of_map rfl
theorem hostOps1_1_fresh : (hostOps1_1 : List (HloOp τ sig (Elt F))).Forall fun op => op.fresh = ∅ := by
  simp only [List.Forall]; repeat' constructor
/-- The reference each operation of `hostOps1_1` writes, in order. -/
abbrev hostOps1_1_W : List (Ref sig .tc) := [main_call3_v0, main_call3_v1, main_v33]
theorem hostOps1_1_writes : (hostOps1_1 : List (HloOp τ sig (Elt F))).Forall fun op => op.writes ⊆ (hostOps1_1_W.map (Proc.devRef (τ := τ) .tc)).toFinset :=
  StableHlo.forall_writes_sub_of_map rfl
theorem hostOps1_2_fresh : (hostOps1_2 : List (HloOp τ sig (Elt F))).Forall fun op => op.fresh = ∅ := by
  simp only [List.Forall]; repeat' constructor
/-- The reference each operation of `hostOps1_2` writes, in order. -/
abbrev hostOps1_2_W : List (Ref sig .tc) := [main_v34, main_v35, main_v36]
theorem hostOps1_2_writes : (hostOps1_2 : List (HloOp τ sig (Elt F))).Forall fun op => op.writes ⊆ (hostOps1_2_W.map (Proc.devRef (τ := τ) .tc)).toFinset :=
  StableHlo.forall_writes_sub_of_map rfl
theorem hostOps1_3_fresh : (hostOps1_3 : List (HloOp τ sig (Elt F))).Forall fun op => op.fresh = ∅ := by
  simp only [List.Forall]; repeat' constructor
/-- The reference each operation of `hostOps1_3` writes, in order. -/
abbrev hostOps1_3_W : List (Ref sig .tc) := [main_v37]
theorem hostOps1_3_writes : (hostOps1_3 : List (HloOp τ sig (Elt F))).Forall fun op => op.writes ⊆ (hostOps1_3_W.map (Proc.devRef (τ := τ) .tc)).toFinset :=
  StableHlo.forall_writes_sub_of_map rfl
theorem hostOps1_4_fresh : (hostOps1_4 : List (HloOp τ sig (Elt F))).Forall fun op => op.fresh = ∅ := by
  simp only [List.Forall]; repeat' constructor
/-- The reference each operation of `hostOps1_4` writes, in order. -/
abbrev hostOps1_4_W : List (Ref sig .tc) := [main_cst_11, main_cst_12]
theorem hostOps1_4_writes : (hostOps1_4 : List (HloOp τ sig (Elt F))).Forall fun op => op.writes ⊆ (hostOps1_4_W.map (Proc.devRef (τ := τ) .tc)).toFinset :=
  StableHlo.forall_writes_sub_of_map rfl
theorem hostOps1_5_fresh : (hostOps1_5 : List (HloOp τ sig (Elt F))).Forall fun op => op.fresh = ∅ := by
  simp only [List.Forall]; repeat' constructor
/-- The reference each operation of `hostOps1_5` writes, in order. -/
abbrev hostOps1_5_W : List (Ref sig .tc) := [main_call5_v0, main_call5_v1, main_call5_v2, main_call5_v3, main_call5_v4, main_v38]
theorem hostOps1_5_writes : (hostOps1_5 : List (HloOp τ sig (Elt F))).Forall fun op => op.writes ⊆ (hostOps1_5_W.map (Proc.devRef (τ := τ) .tc)).toFinset :=
  StableHlo.forall_writes_sub_of_map rfl
theorem hostOps1_6_fresh : (hostOps1_6 : List (HloOp τ sig (Elt F))).Forall fun op => op.fresh = ∅ := by
  simp only [List.Forall]; repeat' constructor
/-- The reference each operation of `hostOps1_6` writes, in order. -/
abbrev hostOps1_6_W : List (Ref sig .tc) := [main_v39, main_v40, main_c_13, main_v41, main_v42, main_v43, main_c_14, main_v44, main_v45, main_c_15, main_v46, main_v47, main_v48, main_v49, main_v50, main_v51, main_v52, main_v53, main_v54, main_v55, main_v56, main_cst_16, main_v57, main_v58, main_v59, main_v60, main_cst_17, main_v61, main_v62, main_v63, main_v64, main_v65, main_v66, main_v67, main_v68, main_v69, main_cst_18]
theorem hostOps1_6_writes : (hostOps1_6 : List (HloOp τ sig (Elt F))).Forall fun op => op.writes ⊆ (hostOps1_6_W.map (Proc.devRef (τ := τ) .tc)).toFinset :=
  StableHlo.forall_writes_sub_of_map rfl
theorem hostOps1_7_fresh : (hostOps1_7 : List (HloOp τ sig (Elt F))).Forall fun op => op.fresh = ∅ := by
  simp only [List.Forall]; repeat' constructor
/-- The reference each operation of `hostOps1_7` writes, in order. -/
abbrev hostOps1_7_W : List (Ref sig .tc) := [main_call6_v0, main_call6_v1, main_call6_v2, main_v70]
theorem hostOps1_7_writes : (hostOps1_7 : List (HloOp τ sig (Elt F))).Forall fun op => op.writes ⊆ (hostOps1_7_W.map (Proc.devRef (τ := τ) .tc)).toFinset :=
  StableHlo.forall_writes_sub_of_map rfl
theorem hostOps1_8_fresh : (hostOps1_8 : List (HloOp τ sig (Elt F))).Forall fun op => op.fresh = ∅ := by
  simp only [List.Forall]; repeat' constructor
/-- The reference each operation of `hostOps1_8` writes, in order. -/
abbrev hostOps1_8_W : List (Ref sig .tc) := [main_v71, main_v72, main_v73, main_v74, main_v75, main_v76, main_v77, main_cst_19]
theorem hostOps1_8_writes : (hostOps1_8 : List (HloOp τ sig (Elt F))).Forall fun op => op.writes ⊆ (hostOps1_8_W.map (Proc.devRef (τ := τ) .tc)).toFinset :=
  StableHlo.forall_writes_sub_of_map rfl
theorem hostOps1_9_fresh : (hostOps1_9 : List (HloOp τ sig (Elt F))).Forall fun op => op.fresh = ∅ := by
  simp only [List.Forall]; repeat' constructor
/-- The reference each operation of `hostOps1_9` writes, in order. -/
abbrev hostOps1_9_W : List (Ref sig .tc) := [main_call7_v0, main_call7_v1, main_call7_v2, main_v78]
theorem hostOps1_9_writes : (hostOps1_9 : List (HloOp τ sig (Elt F))).Forall fun op => op.writes ⊆ (hostOps1_9_W.map (Proc.devRef (τ := τ) .tc)).toFinset :=
  StableHlo.forall_writes_sub_of_map rfl
theorem hostOps1_10_fresh : (hostOps1_10 : List (HloOp τ sig (Elt F))).Forall fun op => op.fresh = ∅ := by
  simp only [List.Forall]; repeat' constructor
/-- The reference each operation of `hostOps1_10` writes, in order. -/
abbrev hostOps1_10_W : List (Ref sig .tc) := [main_cst_20, main_v79, main_v80, main_cst_21, main_v81, main_v82, main_v83, main_v84, main_v85, main_v86, main_v87, main_v88, main_v89, main_cst_22, main_v90, main_v91, main_cst_23, main_v92, main_v93, main_v94, main_v95, main_v96, main_v97, main_v98, main_v99, main_v100, main_v101, main_v102, main_v103, main_v104, main_v105, main_v106, main_v107, main_v108, main_v109, main_c_24, main_v110, main_v111, main_c_25, main_v112, main_v113, main_c_26, main_v114, main_v115, main_c_27, main_v116, main_v117, main_c_28, main_v118, main_v119, main_c_29, main_v120, main_v121, main_c_30, main_v122, main_v123, main_v124, main_v125, main_v126, main_v127, main_v128, main_c_31, main_v129, main_v130, main_c_32, main_v131, main_v132, main_c_33, main_v133, main_v134, main_c_34, main_v135, main_v136, main_c_35, main_v137, main_v138, main_c_36, main_v139, main_v140, main_c_37, main_v141, main_v142, main_v143, main_v144, main_v145, main_v146, main_v147, main_v148, main_v149, main_v150, main_v151, main_v152, main_v153, main_v154, main_v155, main_v156, main_v157, main_v158, main_v159, main_v160, main_v161]
theorem hostOps1_10_writes : (hostOps1_10 : List (HloOp τ sig (Elt F))).Forall fun op => op.writes ⊆ (hostOps1_10_W.map (Proc.devRef (τ := τ) .tc)).toFinset :=
  StableHlo.forall_writes_sub_of_map rfl

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1, hostOps1_1, hostOps1_2, hostOps1_3, hostOps1_4, hostOps1_5, hostOps1_6, hostOps1_7, hostOps1_8, hostOps1_9, hostOps1_10].map StableHlo.seq)) :=
  Pipeline.hmain_around cfgs 0 defs₀ 𝒱₀ m main [hostOps0, hostOps0_1, hostOps0_2, hostOps0_3, hostOps0_4, hostOps0_5] [hostOps1, hostOps1_1, hostOps1_2, hostOps1_3, hostOps1_4, hostOps1_5, hostOps1_6, hostOps1_7, hostOps1_8, hostOps1_9, hostOps1_10] (by simp only [List.Forall]; exact ⟨hostOps0_sub, hostOps0_1_sub, hostOps0_2_sub, hostOps0_3_sub, hostOps0_4_sub, hostOps0_5_sub⟩)
    (by simp only [List.Forall]; exact ⟨hostOps0_fresh, hostOps0_1_fresh, hostOps0_2_fresh, hostOps0_3_fresh, hostOps0_4_fresh, hostOps0_5_fresh⟩) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1, hostOps1_1, hostOps1_2, hostOps1_3, hostOps1_4, hostOps1_5, hostOps1_6, hostOps1_7, hostOps1_8, hostOps1_9, hostOps1_10] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
  · exact Pipeline.sub_ucRefs op ((List.forall_iff_forall_mem.mp hostOps1_10_sub) op hop)
/-- They allocate nothing. -/
theorem sfx_fresh : ∀ ops ∈ ([hostOps1, hostOps1_1, hostOps1_2, hostOps1_3, hostOps1_4, hostOps1_5, hostOps1_6, hostOps1_7, hostOps1_8, hostOps1_9, hostOps1_10] : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
  · exact (List.forall_iff_forall_mem.mp hostOps1_9_fresh) op hop
  · exact (List.forall_iff_forall_mem.mp hostOps1_10_fresh) op hop
/-- And write no array of the pipeline: every operation's writes lie within its line's list (`hostOps1_W` to `hostOps1_10_W`), and no
    window's array is in such a list (decided). -/
theorem sfx_keeps : ∀ ops ∈ ([hostOps1, hostOps1_1, hostOps1_2, hostOps1_3, hostOps1_4, hostOps1_5, hostOps1_6, hostOps1_7, hostOps1_8, hostOps1_9, hostOps1_10] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl | rfl | rfl | rfl | rfl | rfl
  · intro w hb
    obtain ⟨y, hy, he⟩ := List.mem_map.mp (List.mem_toFinset.mp ((List.forall_iff_forall_mem.mp hostOps1_writes) op hop hb))
    exact (by decide +kernel : ∀ w, Pipeline.arrRef spec0 w ∉ hostOps1_W) w (Proc.devRef_injective _ he ▸ hy)
  · intro w hb
    obtain ⟨y, hy, he⟩ := List.mem_map.mp (List.mem_toFinset.mp ((List.forall_iff_forall_mem.mp hostOps1_1_writes) op hop hb))
    exact (by decide +kernel : ∀ w, Pipeline.arrRef spec0 w ∉ hostOps1_1_W) w (Proc.devRef_injective _ he ▸ hy)
  · intro w hb
    obtain ⟨y, hy, he⟩ := List.mem_map.mp (List.mem_toFinset.mp ((List.forall_iff_forall_mem.mp hostOps1_2_writes) op hop hb))
    exact (by decide +kernel : ∀ w, Pipeline.arrRef spec0 w ∉ hostOps1_2_W) w (Proc.devRef_injective _ he ▸ hy)
  · intro w hb
    obtain ⟨y, hy, he⟩ := List.mem_map.mp (List.mem_toFinset.mp ((List.forall_iff_forall_mem.mp hostOps1_3_writes) op hop hb))
    exact (by decide +kernel : ∀ w, Pipeline.arrRef spec0 w ∉ hostOps1_3_W) w (Proc.devRef_injective _ he ▸ hy)
  · intro w hb
    obtain ⟨y, hy, he⟩ := List.mem_map.mp (List.mem_toFinset.mp ((List.forall_iff_forall_mem.mp hostOps1_4_writes) op hop hb))
    exact (by decide +kernel : ∀ w, Pipeline.arrRef spec0 w ∉ hostOps1_4_W) w (Proc.devRef_injective _ he ▸ hy)
  · intro w hb
    obtain ⟨y, hy, he⟩ := List.mem_map.mp (List.mem_toFinset.mp ((List.forall_iff_forall_mem.mp hostOps1_5_writes) op hop hb))
    exact (by decide +kernel : ∀ w, Pipeline.arrRef spec0 w ∉ hostOps1_5_W) w (Proc.devRef_injective _ he ▸ hy)
  · intro w hb
    obtain ⟨y, hy, he⟩ := List.mem_map.mp (List.mem_toFinset.mp ((List.forall_iff_forall_mem.mp hostOps1_6_writes) op hop hb))
    exact (by decide +kernel : ∀ w, Pipeline.arrRef spec0 w ∉ hostOps1_6_W) w (Proc.devRef_injective _ he ▸ hy)
  · intro w hb
    obtain ⟨y, hy, he⟩ := List.mem_map.mp (List.mem_toFinset.mp ((List.forall_iff_forall_mem.mp hostOps1_7_writes) op hop hb))
    exact (by decide +kernel : ∀ w, Pipeline.arrRef spec0 w ∉ hostOps1_7_W) w (Proc.devRef_injective _ he ▸ hy)
  · intro w hb
    obtain ⟨y, hy, he⟩ := List.mem_map.mp (List.mem_toFinset.mp ((List.forall_iff_forall_mem.mp hostOps1_8_writes) op hop hb))
    exact (by decide +kernel : ∀ w, Pipeline.arrRef spec0 w ∉ hostOps1_8_W) w (Proc.devRef_injective _ he ▸ hy)
  · intro w hb
    obtain ⟨y, hy, he⟩ := List.mem_map.mp (List.mem_toFinset.mp ((List.forall_iff_forall_mem.mp hostOps1_9_writes) op hop hb))
    exact (by decide +kernel : ∀ w, Pipeline.arrRef spec0 w ∉ hostOps1_9_W) w (Proc.devRef_injective _ he ▸ hy)
  · intro w hb
    obtain ⟨y, hy, he⟩ := List.mem_map.mp (List.mem_toFinset.mp ((List.forall_iff_forall_mem.mp hostOps1_10_writes) op hop hb))
    exact (by decide +kernel : ∀ w, Pipeline.arrRef spec0 w ∉ hostOps1_10_W) w (Proc.devRef_injective _ he ▸ hy)

/-- The buffers the lines after the region WRITE, as references: results computed from contents the run does not name
    (an operand the body wrote by its own DMA, or a forgotten output), so nothing is stated of them either. -/
def T0 : Finset (Ref sig .tc) := {main_c_13, main_c_14, main_c_15, main_c_24, main_c_25, main_c_26, main_c_27, main_c_28, main_c_29, main_c_30, main_c_31, main_c_32, main_c_33, main_c_34, main_c_35, main_c_36, main_c_37, main_call3_v0, main_call3_v1, main_call5_v0, main_call5_v1, main_call5_v2, main_call5_v3, main_call5_v4, main_call6_v0, main_call6_v1, main_call6_v2, main_call7_v0, main_call7_v1, main_call7_v2, main_cst_10, main_cst_11, main_cst_12, main_cst_16, main_cst_17, main_cst_18, main_cst_19, main_cst_20, main_cst_21, main_cst_22, main_cst_23, main_cst_7, main_cst_8, main_cst_9, main_v100, main_v101, main_v102, main_v103, main_v104, main_v105, main_v106, main_v107, main_v108, main_v109, main_v110, main_v111, main_v112, main_v113, main_v114, main_v115, main_v116, main_v117, main_v118, main_v119, main_v120, main_v121, main_v122, main_v123, main_v124, main_v125, main_v126, main_v127, main_v128, main_v129, main_v130, main_v131, main_v132, main_v133, main_v134, main_v135, main_v136, main_v137, main_v138, main_v139, main_v140, main_v141, main_v142, main_v143, main_v144, main_v145, main_v146, main_v147, main_v148, main_v149, main_v150, main_v151, main_v152, main_v153, main_v154, main_v155, main_v156, main_v157, main_v158, main_v159, main_v160, main_v161, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_v53, main_v54, main_v55, main_v56, main_v57, main_v58, main_v59, main_v60, main_v61, main_v62, main_v63, main_v64, main_v65, main_v66, main_v67, main_v68, main_v69, main_v70, main_v71, main_v72, main_v73, main_v74, main_v75, main_v76, main_v77, main_v78, main_v79, main_v80, main_v81, main_v82, main_v83, main_v84, main_v85, main_v86, main_v87, main_v88, main_v89, main_v90, main_v91, main_v92, main_v93, main_v94, main_v95, main_v96, main_v97, main_v98, main_v99}
set_option maxHeartbeats 4000000 in
/-- Every reference a later line writes is in `T0`: each line's list (`hostOps1_W` to `hostOps1_10_W`) lies within it (decided). -/
theorem sfx_writes : ∀ ops ∈ ([hostOps1, hostOps1_1, hostOps1_2, hostOps1_3, hostOps1_4, hostOps1_5, hostOps1_6, hostOps1_7, hostOps1_8, hostOps1_9, hostOps1_10] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl | rfl | rfl | rfl | rfl | rfl | rfl | rfl | rfl | rfl | rfl
  · intro b hb
    obtain ⟨y, hy, he⟩ := List.mem_map.mp (List.mem_toFinset.mp ((List.forall_iff_forall_mem.mp hostOps1_writes) op hop hb))
    exact Proc.devRef_injective _ he ▸ (ListAll.forall_mem_of_all_decide (by decide +kernel) : ∀ r ∈ hostOps1_W, r ∈ T0) y hy
  · intro b hb
    obtain ⟨y, hy, he⟩ := List.mem_map.mp (List.mem_toFinset.mp ((List.forall_iff_forall_mem.mp hostOps1_1_writes) op hop hb))
    exact Proc.devRef_injective _ he ▸ (ListAll.forall_mem_of_all_decide (by decide +kernel) : ∀ r ∈ hostOps1_1_W, r ∈ T0) y hy
  · intro b hb
    obtain ⟨y, hy, he⟩ := List.mem_map.mp (List.mem_toFinset.mp ((List.forall_iff_forall_mem.mp hostOps1_2_writes) op hop hb))
    exact Proc.devRef_injective _ he ▸ (ListAll.forall_mem_of_all_decide (by decide +kernel) : ∀ r ∈ hostOps1_2_W, r ∈ T0) y hy
  · intro b hb
    obtain ⟨y, hy, he⟩ := List.mem_map.mp (List.mem_toFinset.mp ((List.forall_iff_forall_mem.mp hostOps1_3_writes) op hop hb))
    exact Proc.devRef_injective _ he ▸ (ListAll.forall_mem_of_all_decide (by decide +kernel) : ∀ r ∈ hostOps1_3_W, r ∈ T0) y hy
  · intro b hb
    obtain ⟨y, hy, he⟩ := List.mem_map.mp (List.mem_toFinset.mp ((List.forall_iff_forall_mem.mp hostOps1_4_writes) op hop hb))
    exact Proc.devRef_injective _ he ▸ (ListAll.forall_mem_of_all_decide (by decide +kernel) : ∀ r ∈ hostOps1_4_W, r ∈ T0) y hy
  · intro b hb
    obtain ⟨y, hy, he⟩ := List.mem_map.mp (List.mem_toFinset.mp ((List.forall_iff_forall_mem.mp hostOps1_5_writes) op hop hb))
    exact Proc.devRef_injective _ he ▸ (ListAll.forall_mem_of_all_decide (by decide +kernel) : ∀ r ∈ hostOps1_5_W, r ∈ T0) y hy
  · intro b hb
    obtain ⟨y, hy, he⟩ := List.mem_map.mp (List.mem_toFinset.mp ((List.forall_iff_forall_mem.mp hostOps1_6_writes) op hop hb))
    exact Proc.devRef_injective _ he ▸ (ListAll.forall_mem_of_all_decide (by decide +kernel) : ∀ r ∈ hostOps1_6_W, r ∈ T0) y hy
  · intro b hb
    obtain ⟨y, hy, he⟩ := List.mem_map.mp (List.mem_toFinset.mp ((List.forall_iff_forall_mem.mp hostOps1_7_writes) op hop hb))
    exact Proc.devRef_injective _ he ▸ (ListAll.forall_mem_of_all_decide (by decide +kernel) : ∀ r ∈ hostOps1_7_W, r ∈ T0) y hy
  · intro b hb
    obtain ⟨y, hy, he⟩ := List.mem_map.mp (List.mem_toFinset.mp ((List.forall_iff_forall_mem.mp hostOps1_8_writes) op hop hb))
    exact Proc.devRef_injective _ he ▸ (ListAll.forall_mem_of_all_decide (by decide +kernel) : ∀ r ∈ hostOps1_8_W, r ∈ T0) y hy
  · intro b hb
    obtain ⟨y, hy, he⟩ := List.mem_map.mp (List.mem_toFinset.mp ((List.forall_iff_forall_mem.mp hostOps1_9_writes) op hop hb))
    exact Proc.devRef_injective _ he ▸ (ListAll.forall_mem_of_all_decide (by decide +kernel) : ∀ r ∈ hostOps1_9_W, r ∈ T0) y hy
  · intro b hb
    obtain ⟨y, hy, he⟩ := List.mem_map.mp (List.mem_toFinset.mp ((List.forall_iff_forall_mem.mp hostOps1_10_writes) op hop hb))
    exact Proc.devRef_injective _ he ▸ (ListAll.forall_mem_of_all_decide (by decide +kernel) : ∀ r ∈ hostOps1_10_W, r ∈ T0) y hy

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem ref_before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem ref_before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_ReferenceIdeal`, Defs.lean, at any `F`). -/
theorem ref_frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c),
      ((h c).2 main_arg5 (Finset.mem_sdiff.mpr ⟨Pipeline.mem_restRefs_of main_arg5 (by decide) (by decide), by decide⟩)).trans (V_main_arg5 m c),
      ((h c).2 main_arg6 (Finset.mem_sdiff.mpr ⟨Pipeline.mem_restRefs_of main_arg6 (by decide) (by decide), by decide⟩)).trans (V_main_arg6 m c),
      ((h c).2 main_arg7 (Finset.mem_sdiff.mpr ⟨Pipeline.mem_restRefs_of main_arg7 (by decide) (by decide), by decide⟩)).trans (V_main_arg7 m c)⟩) h

/-! ## The kernel body on any staging memrefs: a subtype the run finds -/

/-- The kernel body at point `t`, on what the pipeline calls it with. -/
abbrev bodyAt0 (t : Fin cfg0.N) : Prog (TpuEff nD τ sig (Elt F) Λ₀ .tc) PUnit :=
  cc0__casts (win0_0.stage (cfg0.slots t 0)) (hstage0_0 0) (win0_1.stage (cfg0.slots t 1)) (hstage0_1 0) (win0_2.stage (cfg0.slots t 2)) (hstage0_2 0) (win0_3.stage (cfg0.slots t 3)) (hstage0_3 0) (win0_4.stage (cfg0.slots t 4)) (hstage0_4 0)

/-- Each window's current staging memref at point `t`, spelled as the pipeline passes it (`bodyAt0`), and its wholeness. -/
abbrev ms0_0 (t : Fin cfg0.N) : Memref sig .tc .vmem S4x4x8x128 .f32 := win0_0.stage (cfg0.slots t 0)
abbrev hs0_0 (t : Fin cfg0.N) : (ms0_0 t).IsWhole := hstage0_0 0
abbrev ms0_1 (t : Fin cfg0.N) : Memref sig .tc .vmem S4x8192x8x128 .fp8e4m3 := win0_1.stage (cfg0.slots t 1)
abbrev hs0_1 (t : Fin cfg0.N) : (ms0_1 t).IsWhole := hstage0_1 0
abbrev ms0_2 (t : Fin cfg0.N) : Memref sig .tc .vmem S4x4x8x128 .fp8e4m3 := win0_2.stage (cfg0.slots t 2)
abbrev hs0_2 (t : Fin cfg0.N) : (ms0_2 t).IsWhole := hstage0_2 0
abbrev ms0_3 (t : Fin cfg0.N) : Memref sig .tc .vmem S4x4x8x128 .bf16 := win0_3.stage (cfg0.slots t 3)
abbrev hs0_3 (t : Fin cfg0.N) : (ms0_3 t).IsWhole := hstage0_3 0
abbrev ms0_4 (t : Fin cfg0.N) : Memref sig .tc .vmem S4x8192x8x128 .bf16 := win0_4.stage (cfg0.slots t 4)
abbrev hs0_4 (t : Fin cfg0.N) : (ms0_4 t).IsWhole := hstage0_4 0

end

-- (the run's proof term is large: checking it walks past the default budget)
set_option maxHeartbeats 1000000 in
/-- The body's triple: on whole staging memrefs — the inputs' at their contents,
    the FORGOTTEN outputs' (2, 3, 4) at anything, handed back at some contents nothing names —
    the body runs to the continuation holding the inputs' as they were: the printed functions are their skeletons (`*_eq_skeleton`),
    which `sl_exec` runs (Lib/Exec.lean). -/
theorem ref_kernelRun0_A (c : Dev nD) (arg0 : Memref sig .tc .vmem S4x4x8x128 .f32) (harg0 : arg0.IsWhole) (arg1 : Memref sig .tc .vmem S4x8192x8x128 .fp8e4m3) (harg1 : arg1.IsWhole) (arg2 : Memref sig .tc .vmem S4x4x8x128 .fp8e4m3) (harg2 : arg2.IsWhole) (arg3 : Memref sig .tc .vmem S4x4x8x128 .bf16) (harg3 : arg3.IsWhole) (arg4 : Memref sig .tc .vmem S4x8192x8x128 .bf16) (harg4 : arg4.IsWhole)
    (x0 : Vec F S4x4x8x128 .f32) (x1 : Vec F S4x8192x8x128 .fp8e4m3) :
      ∀ (E : Set ℕ) (K : PUnit → sProp 𝕄),
        iprop(owns (c : Thread nD τ) arg0 fullShare x0 ∗ owns (c : Thread nD τ) arg1 fullShare x1 ∗ (∃ d, owns (c : Thread nD τ) arg2 fullShare d) ∗ (∃ d, owns (c : Thread nD τ) arg3 fullShare d) ∗ (∃ d, owns (c : Thread nD τ) arg4 fullShare d)
            ∗ (iprop(owns (c : Thread nD τ) arg0 fullShare x0 ∗ owns (c : Thread nD τ) arg1 fullShare x1 ∗ (∃ d, owns (c : Thread nD τ) arg2 fullShare d) ∗ (∃ d, owns (c : Thread nD τ) arg3 fullShare d) ∗ (∃ d, owns (c : Thread nD τ) arg4 fullShare d)) -∗ K ⟨⟩))
          ⊢ wp frame (wpE (defs₀ (F := F)) Variants.none c none) E (cc0__casts arg0 harg0 arg1 harg1 arg2 harg2 arg3 harg3 arg4 harg4) K := by
    intro E K
    simp only [cc0__casts_eq_skeleton]; unfold cc0__casts_skel
    unfold owns
    iintro ⟨⟨%f0, %hf0, H0⟩, ⟨%f1, %hf1, H1⟩, ⟨%d2, %f2, -, H2⟩, ⟨%d3, %f3, -, H3⟩, ⟨%d4, %f4, -, H4⟩, Hk⟩
    obtain rfl := harg0.eq_unread hf0; obtain rfl := harg1.eq_unread hf1
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _, _; isplitr; swap; · iexact H2
      ipureintro; rfl
    isplitl [H3]
    · iexists _, _; isplitr; swap; · iexact H3
      ipureintro; rfl
    iexists _, _; isplitr; swap; · iexact H4
    ipureintro; rfl

section
variable (m : (ℓ : Loc nD τ sig) → Buf (Elt F) ℓ) (ρ : Dev nD → PrngReg)

/-! ## The pipeline's proof data -/

/-- The output windows this certificate FORGETS (2, 3, 4): nothing reads what the kernel leaves in them, so nothing
    of it is named (Lib/Pipeline/Dat.lean `Dat.toRForget`). -/
def forgets0 : Fin 5 → Bool := fun w => w.val == 2 || w.val == 3 || w.val == 4

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def ref_dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, h⟩ => Pipeline.Dat.unnamed (cfg := cfg0) ⟨2, h⟩ t
    | ⟨3, h⟩ => Pipeline.Dat.unnamed (cfg := cfg0) ⟨3, h⟩ t
    | ⟨4, h⟩ => Pipeline.Dat.unnamed (cfg := cfg0) ⟨4, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (ref_dats m 0 c).A w = V m c (Pipeline.arrRef spec0 w) := by
  dsimp only [ref_dats]

/-- What the body leaves, window by window (the proof data's `match` reduced by `dsimp`). -/
theorem ref_after0_0 (c : Dev nD) (t : Fin cfg0.N) : (ref_dats m 0 c).after 0 t = iblk m c 0 t := by dsimp only [ref_dats]
theorem ref_after0_1 (c : Dev nD) (t : Fin cfg0.N) : (ref_dats m 0 c).after 1 t = iblk m c 1 t := by dsimp only [ref_dats]

/-- Each input's current staging buffer holds its block at every point, fetched there or not (`beforeK_W_of`). -/
theorem before0_0 (c : Dev nD) (t : Fin cfg0.N) (d) : (ref_dats m 0 c).before 0 t d = iblk m c 0 t :=
  ref_before0_0_of m (ref_dats m 0 c) (A_eq m c 0) (ref_after0_0 m c) t d
theorem before0_1 (c : Dev nD) (t : Fin cfg0.N) (d) : (ref_dats m 0 c).before 1 t d = iblk m c 1 t :=
  ref_before0_1_of m (ref_dats m 0 c) (A_eq m c 1) (ref_after0_1 m c) t d

/-! ## The body obligation, at a generic point -/

/-- What the body is called with at point `t` (Lib/Pipeline.lean `BodyObligation`'s precondition, the windows one by one), -/
def ref_bodyPre (c : Dev nD) (t : Fin cfg0.N) : sProp 𝕄 :=
  iprop((ref_dats m 0 c).Φ t.castSucc ∗ (ref_dats m 0 c).owesAt () t.castSucc
    ∗ (∃ d, owns (c : Thread nD τ) (ms0_0 t) fullShare ((ref_dats m 0 c).before 0 t d))
    ∗ (∃ d, owns (c : Thread nD τ) (ms0_1 t) fullShare ((ref_dats m 0 c).before 1 t d))
    ∗ (∃ d, owns (c : Thread nD τ) (ms0_2 t) fullShare d)
    ∗ (∃ d, owns (c : Thread nD τ) (ms0_3 t) fullShare d)
    ∗ (∃ d, owns (c : Thread nD τ) (ms0_4 t) fullShare d))

/-- and what it returns. -/
def ref_bodyPost (c : Dev nD) (t : Fin cfg0.N) : sProp 𝕄 :=
  iprop((ref_dats m 0 c).Φ t.succ ∗ (ref_dats m 0 c).owesAt () t.succ
    ∗ owns (c : Thread nD τ) (ms0_0 t) fullShare ((ref_dats m 0 c).after 0 t)
    ∗ owns (c : Thread nD τ) (ms0_1 t) fullShare ((ref_dats m 0 c).after 1 t)
    ∗ (∃ d, owns (c : Thread nD τ) (ms0_2 t) fullShare d)
    ∗ (∃ d, owns (c : Thread nD τ) (ms0_3 t) fullShare d)
    ∗ (∃ d, owns (c : Thread nD τ) (ms0_4 t) fullShare d))

/-- The body at any point: the inputs' memrefs hold their blocks (`before0_W`); so the
    run applies; the invariant passes through unread; the core owes nothing throughout. -/
theorem ref_sound_body (c : Dev nD) (t : Fin cfg0.N) :
    ref_bodyPre m c t ⊢ wp frame (wpE (defs₀ (F := F)) Variants.none c none) Set.univ (bodyAt0 t) (fun _ => ref_bodyPost m c t) := by
  unfold ref_bodyPre ref_bodyPost bodyAt0
  simp only [before0_0, before0_1]
  rw [show (ref_dats m 0 c).Φ t.succ = (ref_dats m 0 c).Φ t.castSucc from rfl,
    show (ref_dats m 0 c).owesAt () t.succ = (ref_dats m 0 c).owesAt () t.castSucc from rfl,
    ref_after0_0, ref_after0_1]
  iintro ⟨HΦ, Ho, ⟨%d0, H0⟩, ⟨%d1, H1⟩, ⟨%d2, H2⟩, ⟨%d3, H3⟩, ⟨%d4, H4⟩⟩
  iapply ((ref_kernelRun0_A c _ _ _ _ _ _ _ _ _ _ (iblk m c 0 t) (iblk m c 1 t)) Set.univ _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem ref_body_obligation (c : Dev nD) : BodyObligation (ref_dats (F := F) m 0 c) (defs₀ (F := F)) Variants.none () Set.univ forgets0 := fun t => by
  rw [bigSep_W0, bigSep_W0, defs₀_row]
  exact triple_restated (ref_sound_body m c t) rfl .rfl fun _ => .rfl

/-! ## The run and the frame -/

-- `θ_run_frame_around_T_forget`'s implicit arguments are found by unifying its conclusion with this one, which takes unfolding plain
-- definitions in a metavariable's type
set_option backward.isDefEq.respectTransparency.types false in
set_option maxHeartbeats 800000 in
set_option maxRecDepth 17792 in
/-- THE LAUNCH: `ref_run_main`'s statement, and every semaphore counter of the machine at zero at every final state. -/
theorem run_main_quiescent : θ_run defs (onTc (τ := τ) (main (F := F))) (s₀ m ρ) (fun r => (Pipeline.RDat.FramePostR (cfgs 0) (fun c => (ref_dats m 0 c).toRForget forgets0) T0 (V m)) r ∧ r.2.sem = fun _ => 0) :=
  Pipeline.θ_run_frame_around_T_forget (Q' := _) cfgs (ref_dats m) (0 : Fin 1) launch0 defs₀ Variants.none forgets0 T0 m ρ main
    (hbody := fun c => (ref_body_obligation m c).loose) (hshare := fun c => (ref_dats m 0 c).share_full fun _ => rfl)
    (howed := fun _ _ => rfl) (V₀ := V0 m) (opss := [hostOps1, hostOps1_1, hostOps1_2, hostOps1_3, hostOps1_4, hostOps1_5, hostOps1_6, hostOps1_7, hostOps1_8, hostOps1_9, hostOps1_10]) (hsub := sfx_sub) (hfresh := sfx_fresh) (hkeep := sfx_keeps) (hT := sfx_writes)
    (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 2, 3, 4) (Lib/Pipeline/Frame.lean `RDat.FramePostR` over the proof data with those windows
    forgotten, Dat.lean `Dat.toRForget`), and every other unscoped buffer outside `T0` at its region-entry contents. -/
theorem ref_run_main : θ_run defs (onTc (τ := τ) (main (F := F))) (s₀ m ρ) (Pipeline.RDat.FramePostR (cfgs 0) (fun c => (ref_dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  ref_frame_of m ρ (fun c => (ref_dats m 0 c).toRForget forgets0) (A_eq m) (ref_run_main m ρ)

/-- THE FRAME: `Cert.quiescent_ReferenceIdeal`'s statement at any `F`. -/
theorem ref_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end

end Cert.ReferenceIdeal.Hand

end
-- ==== Proof.RefRun.lean ====
/-
  The reference's run: what every buffer holds at the end.
-/
module

public import proofs.«01_k».proof.Proof.RefFrame
public import proofs.«01_k».proof.Proof.Gen.ReferenceIdeal.Launch
public import proofs.«01_k».proof.Proof.Gen.ReferenceIdeal.Skeleton
public import Idealize.ShloMosaic.Lib.Claim
public import Idealize.ShloMosaic.Lib.Pipeline.FrameBody
public import Idealize.ShloMosaic.Lib.Pipeline.FrameSuffix
public import Idealize.ShloMosaic.Lib.Pipeline.ValueKit
public import Idealize.ShloMosaic.Lib.Tactic
public import Idealize.ShloMosaic.Lib.WholeRead
public import Idealize.ShloMosaic.Adequacy
public import Idealize.ShloMosaic.Init

@[expose] public section

set_option synthInstance.maxSize 4096

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ
theorem read_whole {sig : RefSig} {κ : Kind} {sp : Space} {S : Shape} {e : EltTy} {Val : EltTy → Type} {m : Memref sig κ sp S e} (h : m.IsWhole) (X : S.Idx → Val e)
    {off : Fin S.rank → Nat} (h0 : off = fun _ => 0) (inb : ∀ a, off a + S.size a ≤ S.size a) :
    View.readAt Val m.view (Rect.unit off S.size inb).toLoadRect (h.unread X) = X := by
  funext x
  refine (h.readAt_unread X _ x).trans ?_
  exact congrFun (View.ld_unit_zero h0 inb X) x

set_option maxHeartbeats 1000000 in
/-- The cast's body on whole buffers: the codes, the codes widened, and the old keys widened. -/
theorem run_cast (c : Dev nD) (arg0 : Memref sig .tc .vmem S4x4x8x128 .f32) (harg0 : arg0.IsWhole) (arg1 : Memref sig .tc .vmem S4x8192x8x128 .fp8e4m3) (harg1 : arg1.IsWhole) (arg2 : Memref sig .tc .vmem S4x4x8x128 .fp8e4m3) (harg2 : arg2.IsWhole) (arg3 : Memref sig .tc .vmem S4x4x8x128 .bf16) (harg3 : arg3.IsWhole) (arg4 : Memref sig .tc .vmem S4x8192x8x128 .bf16) (harg4 : arg4.IsWhole)
    (x0 : Vec F S4x4x8x128 .f32) (x1 : Vec F S4x8192x8x128 .fp8e4m3) :
      ∀ (E : Set ℕ) (K : PUnit → sProp 𝕄),
        iprop(owns (c : Thread nD τ) arg0 fullShare x0 ∗ owns (c : Thread nD τ) arg1 fullShare x1 ∗ (∃ d, owns (c : Thread nD τ) arg2 fullShare d) ∗ (∃ d, owns (c : Thread nD τ) arg3 fullShare d) ∗ (∃ d, owns (c : Thread nD τ) arg4 fullShare d)
            ∗ (iprop(owns (c : Thread nD τ) arg0 fullShare x0 ∗ owns (c : Thread nD τ) arg1 fullShare x1 ∗ owns (c : Thread nD τ) arg2 fullShare (k0_pay1 x0) ∗ owns (c : Thread nD τ) arg3 fullShare (k0_pay2 (k0_pay1 x0)) ∗ owns (c : Thread nD τ) arg4 fullShare (k0_pay3 x1)) -∗ K ⟨⟩))
          ⊢ wp frame (wpE (defs₀ (F := F)) Variants.none c none) E (cc0__casts arg0 harg0 arg1 harg1 arg2 harg2 arg3 harg3 arg4 harg4) K := by
    intro E K
    simp only [cc0__casts_eq_skeleton]; unfold cc0__casts_skel
    unfold owns
    iintro ⟨⟨%f0, %hf0, H0⟩, ⟨%f1, %hf1, H1⟩, ⟨%d2, %f2, -, H2⟩, ⟨%d3, %f3, -, H3⟩, ⟨%d4, %f4, -, H4⟩, Hk⟩
    obtain rfl := harg0.eq_unread hf0; obtain rfl := harg1.eq_unread hf1
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; swap; · iexact H2
      ipureintro
      refine (View.read_writes_eq_canon _ _ _ ?_).trans ?_
      · intro y
        exact ⟨_, List.mem_singleton_self _, View.mem_set_unit_zero (by funext a; fin_cases a <;> rfl) inb_S4x4x8x128_S4x4x8x128_0_0_0_0 y⟩
      refine (View.canon_unit_zero (S := S4x4x8x128) (by funext a; fin_cases a <;> rfl) _ _).trans ?_
      exact congrArg k0_pay1 (read_whole harg0 x0 (by funext a; fin_cases a <;> rfl) _)
    isplitl [H3]
    · iexists _; isplitr; swap; · iexact H3
      ipureintro
      refine (View.read_writes_eq_canon _ _ _ ?_).trans ?_
      · intro y
        exact ⟨_, List.mem_singleton_self _, View.mem_set_unit_zero (by funext a; fin_cases a <;> rfl) inb_S4x4x8x128_S4x4x8x128_0_0_0_0 y⟩
      refine (View.canon_unit_zero (S := S4x4x8x128) (by funext a; fin_cases a <;> rfl) _ _).trans ?_
      refine congrArg k0_pay2 ?_
      refine (View.readCov_unit_zero (S := S4x4x8x128) _ (by funext a; fin_cases a <;> rfl) _ _).trans ?_
      exact congrArg k0_pay1 (read_whole harg0 x0 (by funext a; fin_cases a <;> rfl) _)
    iexists _; isplitr; swap; · iexact H4
    ipureintro
    refine (View.read_writes_eq_canon _ _ _ ?_).trans ?_
    · intro y
      exact ⟨_, List.mem_singleton_self _, View.mem_set_unit_zero (by funext a; fin_cases a <;> rfl) inb_S4x8192x8x128_S4x8192x8x128_0_0_0_0 y⟩
    refine (View.canon_unit_zero (S := S4x8192x8x128) (by funext a; fin_cases a <;> rfl) _ _).trans ?_
    exact congrArg k0_pay3 (read_whole harg1 x1 (by funext a; fin_cases a <;> rfl) _)

section
variable (m : (ℓ : Loc nD τ sig) → Buf (Elt F) ℓ) (ρ : Dev nD → PrngReg)

/-- The cast's proof data: what the body leaves in each output window, by name. -/
def run_dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay1 (iblk m c 0 t)
    | ⟨3, _⟩ => k0_pay2 (k0_pay1 (iblk m c 0 t))
    | ⟨4, _⟩ => k0_pay3 (iblk m c 1 t)
  Φ _ := Pipeline.ΦA spec0 c
  q _ := fullShare
  owed _ := 0

theorem run_A (c : Dev nD) (w : Fin cfg0.W) : (run_dats m 0 c).A w = V m c (Pipeline.arrRef spec0 w) := by
  dsimp only [run_dats]

theorem run_after0 (c : Dev nD) (t : Fin cfg0.N) : (run_dats m 0 c).after 0 t = iblk m c 0 t := by dsimp only [run_dats]
theorem run_after1 (c : Dev nD) (t : Fin cfg0.N) : (run_dats m 0 c).after 1 t = iblk m c 1 t := by dsimp only [run_dats]
theorem run_after2 (c : Dev nD) (t : Fin cfg0.N) : (run_dats m 0 c).after 2 t = k0_pay1 (iblk m c 0 t) := by dsimp only [run_dats]
theorem run_after3 (c : Dev nD) (t : Fin cfg0.N) : (run_dats m 0 c).after 3 t = k0_pay2 (k0_pay1 (iblk m c 0 t)) := by dsimp only [run_dats]
theorem run_after4 (c : Dev nD) (t : Fin cfg0.N) : (run_dats m 0 c).after 4 t = k0_pay3 (iblk m c 1 t) := by dsimp only [run_dats]

theorem run_before0 (c : Dev nD) (t : Fin cfg0.N) (d) : (run_dats m 0 c).before 0 t d = iblk m c 0 t :=
  ref_before0_0_of m (run_dats m 0 c) (run_A m c 0) (run_after0 m c) t d
theorem run_before1 (c : Dev nD) (t : Fin cfg0.N) (d) : (run_dats m 0 c).before 1 t d = iblk m c 1 t :=
  ref_before0_1_of m (run_dats m 0 c) (run_A m c 1) (run_after1 m c) t d

/-! ## The body obligation, at a generic point -/

/-- What the body is called with at point `t` (Lib/Pipeline.lean `BodyObligation`'s precondition, the windows one by one), -/
def run_bodyPre (c : Dev nD) (t : Fin cfg0.N) : sProp 𝕄 :=
  iprop((run_dats m 0 c).Φ t.castSucc ∗ (run_dats m 0 c).owesAt () t.castSucc
    ∗ (∃ d, owns (c : Thread nD τ) (ms0_0 t) fullShare ((run_dats m 0 c).before 0 t d))
    ∗ (∃ d, owns (c : Thread nD τ) (ms0_1 t) fullShare ((run_dats m 0 c).before 1 t d))
    ∗ (∃ d, owns (c : Thread nD τ) (ms0_2 t) fullShare ((run_dats m 0 c).before 2 t d))
    ∗ (∃ d, owns (c : Thread nD τ) (ms0_3 t) fullShare ((run_dats m 0 c).before 3 t d))
    ∗ (∃ d, owns (c : Thread nD τ) (ms0_4 t) fullShare ((run_dats m 0 c).before 4 t d)))

/-- and what it returns. -/
def run_bodyPost (c : Dev nD) (t : Fin cfg0.N) : sProp 𝕄 :=
  iprop((run_dats m 0 c).Φ t.succ ∗ (run_dats m 0 c).owesAt () t.succ
    ∗ owns (c : Thread nD τ) (ms0_0 t) fullShare ((run_dats m 0 c).after 0 t)
    ∗ owns (c : Thread nD τ) (ms0_1 t) fullShare ((run_dats m 0 c).after 1 t)
    ∗ owns (c : Thread nD τ) (ms0_2 t) fullShare ((run_dats m 0 c).after 2 t)
    ∗ owns (c : Thread nD τ) (ms0_3 t) fullShare ((run_dats m 0 c).after 3 t)
    ∗ owns (c : Thread nD τ) (ms0_4 t) fullShare ((run_dats m 0 c).after 4 t))

/-- The body at any point: the inputs' memrefs hold their blocks (`before0_W`); so the
    run applies; the invariant passes through unread; the core owes nothing throughout. -/
theorem run_sound_body (c : Dev nD) (t : Fin cfg0.N) :
    run_bodyPre m c t ⊢ wp frame (wpE (defs₀ (F := F)) Variants.none c none) Set.univ (bodyAt0 t) (fun _ => run_bodyPost m c t) := by
  unfold run_bodyPre run_bodyPost bodyAt0
  simp only [run_before0, run_before1]
  rw [show (run_dats m 0 c).Φ t.succ = (run_dats m 0 c).Φ t.castSucc from rfl,
    show (run_dats m 0 c).owesAt () t.succ = (run_dats m 0 c).owesAt () t.castSucc from rfl,
    run_after0, run_after1, run_after2, run_after3, run_after4]
  iintro ⟨HΦ, Ho, ⟨%d0, H0⟩, ⟨%d1, H1⟩, ⟨%d2, H2⟩, ⟨%d3, H3⟩, ⟨%d4, H4⟩⟩
  iapply ((run_cast c _ _ _ _ _ _ _ _ _ _ (iblk m c 0 t) (iblk m c 1 t)) Set.univ _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem run_body (c : Dev nD) : BodyObligation (run_dats (F := F) m 0 c) (defs₀ (F := F)) Variants.none () Set.univ := fun t => by
  rw [bigSep_W0, bigSep_W0, defs₀_row]
  exact triple_restated (run_sound_body m c t) rfl .rfl fun _ => .rfl

set_option backward.isDefEq.respectTransparency.types false in
set_option maxHeartbeats 800000 in
set_option maxRecDepth 17792 in
/-- The run: every buffer at the end. -/
theorem run_all : θ_run defs (onTc (τ := τ) (main (F := F))) (s₀ m ρ)
    (Pipeline.FramePost cfgs (run_dats m) (0 : Fin 1) (Pipeline.afterTail₀ cfgs (run_dats m) (0 : Fin 1) (V0 m) [hostOps1, hostOps1_1, hostOps1_2, hostOps1_3, hostOps1_4, hostOps1_5, hostOps1_6, hostOps1_7, hostOps1_8, hostOps1_9, hostOps1_10])) :=
  Pipeline.θ_run_frame_around cfgs (run_dats m) (0 : Fin 1) launch0 defs₀ Variants.none m ρ main
    (hbody := fun c => (run_body m c).loose) (hshare := fun c => (run_dats m 0 c).share_full fun _ => rfl)
    (howed := fun _ _ => rfl) (V₀ := V0 m) (opss := [hostOps1, hostOps1_1, hostOps1_2, hostOps1_3, hostOps1_4, hostOps1_5, hostOps1_6, hostOps1_7, hostOps1_8, hostOps1_9, hostOps1_10]) (hsub := sfx_sub) (hfresh := sfx_fresh) (hkeep := sfx_keeps)
    (hmain := hmain m Variants.none) (hA := run_A m) (hΦ := fun _ _ => rfl)

end

end Cert.ReferenceIdeal.Hand

end
-- ==== Proof.RefQuant.lean ====
/-
  The reference's host lines around its cast, read at an index: the scales and codes of the new values.
-/
module

public import proofs.«01_k».proof.Proof.Gen.ReferenceIdeal.Launch
public import Idealize.ShloMosaic.Lib.Pipeline.ValueKit
public import Idealize.ShloMosaic.Lib.Pointwise
public import proofs.«01_k».proof.Proof.Spec
public import proofs.«01_k».proof.Proof.Power
public import Idealize.ShloMosaic.Lib.StableHlo.ReadAt

@[expose] public section

set_option maxRecDepth 16384

noncomputable section

namespace Cert.ReferenceIdeal.Hand

open Idealize.ShloMosaic Idealize.ShloMosaic.TcCoe
open Cert.Vals Cert.ReferenceIdeal Cert.ReferenceIdeal.Gen

variable (X : Valuation τ sig (Elt Ideal))

/-- The scale of a row of new values. -/
theorem scale_at (f : Fin 128 → ℝ) (b t : Fin 4) (kv : Fin 8) (hf : ∀ d, X (Proc.devRef .tc main_arg2) (ix4 b t kv d) = (f d : EReal)) :
    StableHlo.after (hostOps1 ++ hostOps1_1) X (Proc.devRef .tc main_v33) (ix3 b t kv) = (vscaleR f : EReal) := by
  simp only [hostOps1, hostOps1_1, List.cons_append, List.nil_append, StableHlo.after_cons, StableHlo.after_nil]
  after_results_simp
  simp -implicitDefEqProofs only [StableHlo.TRef.toBuf, StableHlo.TRef.ofBuf, cast_cast, cast_eq]
  clean_types
  pointwise
  simp only [hf, c_bot, c_7]
  refine Eq.trans ?_ (vscale_eq f)
  congr 1
  simp [constant]

theorem byte_word : ∀ a b : Fin 16, BitVec.setWidth 8 (IntOp.ori (BitVec.ofNat 32 a.val) (IntOp.shli ArithUnit.host (BitVec.ofNat 32 b.val) 4#32)) = BitVec.ofNat 8 (a.val + 16 * b.val) := by
  decide

theorem low4_word (f : Fin 128 → ℝ) (d : Fin 128) :
    IntOp.andi (FloatOps.fptosi (F := Ideal) (φ := .f32) 32 (((vqZ f d : ℤ) : ℝ) : EReal)) 15#32 = BitVec.ofNat 32 (nib (vqZ f d)) := by
  show Ideal.fptosi 32 (((vqZ f d : ℤ) : ℝ) : EReal) &&& 15#32 = _
  have h1 := le_vqZ f d
  have h2 := vqZ_le f d
  rw [fptosi_int _ (by omega) (by omega), nib_word _ h1 h2]

/-- A byte of a row of new values: two codes. -/
theorem byte_at (f : Fin 128 → ℝ) (b t : Fin 4) (kv : Fin 8) (e : Fin 64) (hf : ∀ d, X (Proc.devRef .tc main_v26) (ix4 b t kv d) = (f d : EReal))
    (hs : X (Proc.devRef .tc main_v33) (ix3 b t kv) = (vscaleR f : EReal)) :
    StableHlo.after (hostOps1_2 ++ (hostOps1_3 ++ (hostOps1_4 ++ (hostOps1_5 ++ hostOps1_6)))) X (Proc.devRef .tc main_v49) (ix4 b t kv e) = vbyte f e := by
  simp only [hostOps1_2, hostOps1_3, hostOps1_4, hostOps1_5, hostOps1_6, List.cons_append, List.nil_append, StableHlo.after_cons, StableHlo.after_nil]
  after_results_simp
  simp -implicitDefEqProofs only [StableHlo.TRef.toBuf, StableHlo.TRef.ofBuf, cast_cast, cast_eq]
  clean_types
  pointwise
  have e7 : (id (constant (F := Ideal) S_ FTy.f32 1088421888#32) ix0 : EReal) = ((7 : ℝ) : EReal) := c_7
  have e7' : (id (constant (F := Ideal) S_ FTy.f32 3235905536#32) ix0 : EReal) = ((-7 : ℝ) : EReal) := c_m7
  rw [e7, e7', hf, hf, hs, vq_eq, vq_eq, low4_word, low4_word,
    byte_word ⟨nib (vqZ f ⟨2 * e.val, by omega⟩), nib_lt _⟩ ⟨nib (vqZ f ⟨1 + 2 * e.val, by omega⟩), nib_lt _⟩]
  unfold vbyte
  have : (⟨1 + 2 * e.val, by omega⟩ : Fin 128) = ⟨2 * e.val + 1, by omega⟩ := Fin.ext (by simp only; omega)
  rw [this]

theorem two_bits : Ideal.ofBits .f32 0x40000000#32 = ((2 : ℝ) : EReal) := by
  simp [Ideal.ofBits, Ideal.ieee, -EReal.coe_mul]; norm_num

theorem exp_word : ∀ x : Fin 254, (IntOp.addi 4294967170#32 (BitVec.ofNat 32 x.val)).toInt = (x.val : ℤ) - 126 := by
  decide

/-- The powers of two from 2⁻¹²⁶ on. -/
theorem pow_at (x : Fin 254) :
    Ideal.pow (Ideal.ofBits FTy.f32 1073741824#32) (FloatOps.sitofp (F := Ideal) FTy.f32 (IntOp.addi (4294967170#32) (BitVec.ofNat 32 x.val)))
      = (((2:ℝ) ^ ((x.val : ℤ) - 126) : ℝ) : EReal) := by
  rw [two_bits]
  show Ideal.pow ((2 : ℝ) : EReal) ((((IntOp.addi 4294967170#32 (BitVec.ofNat 32 x.val)).toInt : ℤ) : ℝ) : EReal) = _
  rw [exp_word]
  show ((Real.rpow 2 (((x.val : ℤ) - 126 : ℤ) : ℝ) : ℝ) : EReal) = _
  exact congrArg _ (Real.rpow_intCast 2 _)

/-- A maximum that is reached. -/
theorem fold_max_eq {n : ℕ} (f : Fin n → EReal) (y : EReal) (h : ∀ x, f x ≤ y) (x : Fin n) (hx : f x = y) : Finset.fold max ⊥ f Finset.univ = y := by
  apply le_antisymm
  · rw [Finset.fold_max_le]
    exact ⟨bot_le, fun x _ => h x⟩
  · rw [Finset.le_fold_max]
    exact Or.inr ⟨x, Finset.mem_univ _, hx.ge⟩

/-- The greatest power of two at most `s`, inverted: what the codes' scale comes to. -/
theorem inv_at (s : ℝ) :
    (if Finset.fold max (⊥ : EReal) (fun x : Fin 254 => if (((2:ℝ) ^ ((x.val : ℤ) - 126) : ℝ) : EReal) ≤ (s : EReal) then (((2:ℝ) ^ ((x.val : ℤ) - 126) : ℝ) : EReal) else 0) Finset.univ = 0
      then ((2 : ℝ) : EReal)
      else Ideal.div 1 (Finset.fold max (⊥ : EReal) (fun x : Fin 254 => if (((2:ℝ) ^ ((x.val : ℤ) - 126) : ℝ) : EReal) ≤ (s : EReal) then (((2:ℝ) ^ ((x.val : ℤ) - 126) : ℝ) : EReal) else 0) Finset.univ))
      = (invPow s : EReal) := by
  classical
  by_cases h : s < 2 ^ (-126 : ℤ)
  · have hno : ∀ x : Fin 254, ¬ (((2:ℝ) ^ ((x.val : ℤ) - 126) : ℝ) : EReal) ≤ (s : EReal) := by
      intro x hx
      have h1 := EReal.coe_le_coe_iff.mp hx
      have h2 : (2:ℝ) ^ (-126 : ℤ) ≤ 2 ^ ((x.val : ℤ) - 126) := zpow_le_zpow_right₀ (by norm_num) (by omega)
      linarith
    have hf := fold_max_eq (fun x : Fin 254 => if (((2:ℝ) ^ ((x.val : ℤ) - 126) : ℝ) : EReal) ≤ (s : EReal) then (((2:ℝ) ^ ((x.val : ℤ) - 126) : ℝ) : EReal) else 0) 0
      (fun x => by rw [if_neg (hno x)]) 0 (by rw [if_neg (hno 0)])
    rw [hf, if_pos rfl]
    unfold invPow
    rw [if_pos h]
  · have h0 : (2:ℝ) ^ (-126 : ℤ) ≤ s := not_lt.mp h
    set n := Nat.findGreatest (fun n => (2:ℝ) ^ ((n : ℤ) - 126) ≤ s) 253 with hn
    have hn253 : n ≤ 253 := Nat.findGreatest_le _
    have hns : (2:ℝ) ^ ((n : ℤ) - 126) ≤ s := Nat.findGreatest_spec (P := fun n => (2:ℝ) ^ ((n : ℤ) - 126) ≤ s) (m := 0) (n := 253) (by omega) (by simpa using h0)
    have hp : (0:ℝ) < 2 ^ ((n : ℤ) - 126) := by positivity
    have hf := fold_max_eq (fun x : Fin 254 => if (((2:ℝ) ^ ((x.val : ℤ) - 126) : ℝ) : EReal) ≤ (s : EReal) then (((2:ℝ) ^ ((x.val : ℤ) - 126) : ℝ) : EReal) else 0)
      (((2:ℝ) ^ ((n : ℤ) - 126) : ℝ) : EReal) (fun x => by
        split_ifs with hx
        · have h1 := EReal.coe_le_coe_iff.mp hx
          have hle : x.val ≤ n := Nat.le_findGreatest (by omega) h1
          exact EReal.coe_le_coe_iff.mpr (zpow_le_zpow_right₀ (by norm_num) (by omega))
        · exact EReal.coe_nonneg.mpr hp.le) ⟨n, by omega⟩ (by rw [if_pos (EReal.coe_le_coe_iff.mpr hns)])
    rw [hf, if_neg (fun h => hp.ne' (EReal.coe_eq_zero.mp h)), show (1 : EReal) = ((1 : ℝ) : EReal) from rfl, div_coe hp.ne']
    unfold invPow
    rw [if_neg h, ← hn, show -(n : ℤ) + 126 = -((n : ℤ) - 126) by ring, zpow_neg, one_div]

/-- What a code of a new key comes to before its cast. -/
theorem scaled_at (s : ℝ) (b t : Fin 4) (kv : Fin 8) (d : Fin 128) (hs : X (Proc.devRef .tc main_arg4) (ix3 b kv d) = (s : EReal)) :
    StableHlo.after (hostOps0 ++ (hostOps0_1 ++ (hostOps0_2 ++ (hostOps0_3 ++ (hostOps0_4 ++ hostOps0_5))))) X (Proc.devRef .tc main_v24) (ix4 b t kv d)
      = codeOf (X (Proc.devRef .tc main_arg1) (ix4 b t kv d)) s := by
  simp only [hostOps0, hostOps0_1, hostOps0_2, hostOps0_3, hostOps0_4, hostOps0_5, List.cons_append, List.nil_append, StableHlo.after_cons, StableHlo.after_nil]
  after_results_simp
  simp -implicitDefEqProofs only [StableHlo.TRef.toBuf, StableHlo.TRef.ofBuf, cast_cast, cast_eq]
  clean_types
  pointwise
  have e1 : (id (constant (F := Ideal) S_ FTy.f32 1138753536#32) ix0 : EReal) = ((448 : ℝ) : EReal) := c_448
  have e2 : (id (constant (F := Ideal) S_ FTy.f32 3286237184#32) ix0 : EReal) = ((-448 : ℝ) : EReal) := c_m448
  have e3 : (id (constant (F := Ideal) S_ FTy.f32 0#32) ix0 : EReal) = 0 := by simp [constant]
  have e4 : (id (constant (F := Ideal) S_ FTy.f32 1073741824#32) ix0 : EReal) = ((2 : ℝ) : EReal) := two_bits
  simp only [e1, e2, e3, e4, hs, absf_coe, c_bot, pow_at]
  unfold codeOf
  rw [← inv_at |s|]

end Cert.ReferenceIdeal.Hand

end
-- ==== Proof.RefValue.lean ====
/-
  The reference's results, read at an index: codes, bytes and scales of the new keys and values.
-/
module

public import proofs.«01_k».proof.Proof.RefRun
public import proofs.«01_k».proof.Proof.RefQuant
public import Idealize.ShloMosaic.Lib.Pipeline.ValueKit
public import Idealize.ShloMosaic.Lib.Pointwise

@[expose] public section

set_option maxRecDepth 16384

noncomputable section

namespace Cert.ReferenceIdeal.Hand

open Idealize.ShloMosaic Idealize.ShloMosaic.TcCoe
open Idealize.SL Idealize.SL.Sem
open Idealize.ShloMosaic.Rounds
open Idealize.ShloMosaic.Pipeline (Dat Cfg Window)
open Cert.Vals Cert.ReferenceIdeal Cert.ReferenceIdeal.Gen

/-- A buffer that none of the lines writes. -/
theorem after_keep {ops : List (HloOp τ sig (Elt Ideal))} {W : List (Ref sig .tc)} (X : Valuation τ sig (Elt Ideal)) (b : Ref sig .tc)
    (h : ops.Forall fun op => op.writes ⊆ (W.map (Proc.devRef (τ := τ) .tc)).toFinset) (hb : b ∉ W) :
    StableHlo.after ops X (Proc.devRef .tc b) = X (Proc.devRef .tc b) :=
  StableHlo.after_of_forall_not_mem _ _ fun op hop hx => by
    obtain ⟨y, hy, he⟩ := List.mem_map.mp (List.mem_toFinset.mp ((List.forall_iff_forall_mem.mp h) op hop hx))
    exact hb (Proc.devRef_injective _ he ▸ hy)

/-- The buffers once the scales of the new values are there. -/
abbrev scaled (X : Valuation τ sig (Elt Ideal)) : Valuation τ sig (Elt Ideal) := StableHlo.after (hostOps1 ++ hostOps1_1) X

theorem v33_end (X : Valuation τ sig (Elt Ideal)) :
    StableHlo.after (List.flatten [hostOps1, hostOps1_1, hostOps1_2, hostOps1_3, hostOps1_4, hostOps1_5, hostOps1_6, hostOps1_7, hostOps1_8, hostOps1_9, hostOps1_10]) X (Proc.devRef .tc main_v33) = scaled X (Proc.devRef .tc main_v33) := by
  simp only [List.flatten_cons, List.flatten_nil, List.append_nil, StableHlo.after_append, scaled]
  rw [after_keep _ _ hostOps1_10_writes (by decide +kernel), after_keep _ _ hostOps1_9_writes (by decide +kernel), after_keep _ _ hostOps1_8_writes (by decide +kernel), after_keep _ _ hostOps1_7_writes (by decide +kernel), after_keep _ _ hostOps1_6_writes (by decide +kernel), after_keep _ _ hostOps1_5_writes (by decide +kernel), after_keep _ _ hostOps1_4_writes (by decide +kernel), after_keep _ _ hostOps1_3_writes (by decide +kernel), after_keep _ _ hostOps1_2_writes (by decide +kernel)]

theorem v49_end (X : Valuation τ sig (Elt Ideal)) :
    StableHlo.after (List.flatten [hostOps1, hostOps1_1, hostOps1_2, hostOps1_3, hostOps1_4, hostOps1_5, hostOps1_6, hostOps1_7, hostOps1_8, hostOps1_9, hostOps1_10]) X (Proc.devRef .tc main_v49)
      = StableHlo.after (hostOps1_2 ++ (hostOps1_3 ++ (hostOps1_4 ++ (hostOps1_5 ++ hostOps1_6)))) (scaled X) (Proc.devRef .tc main_v49) := by
  simp only [List.flatten_cons, List.flatten_nil, List.append_nil, StableHlo.after_append, scaled]
  rw [after_keep _ _ hostOps1_10_writes (by decide +kernel), after_keep _ _ hostOps1_9_writes (by decide +kernel), after_keep _ _ hostOps1_8_writes (by decide +kernel), after_keep _ _ hostOps1_7_writes (by decide +kernel)]

theorem v26_at (X : Valuation τ sig (Elt Ideal)) (b t : Fin 4) (kv : Fin 8) (d : Fin 128) :
    scaled X (Proc.devRef .tc main_v26) (ix4 b t kv d) = X (Proc.devRef .tc main_arg2) (ix4 b t kv d) := by
  simp only [scaled, hostOps1, hostOps1_1, List.cons_append, List.nil_append, StableHlo.after_cons, StableHlo.after_nil]
  after_results_simp
  pointwise

section
variable (m : (ℓ : Loc nD τ sig) → Buf (Elt Ideal) ℓ) (ρ : Dev nD → PrngReg)

/-- The buffers behind the cast. -/
abbrev E (c : Dev nD) : Valuation τ sig (Elt Ideal) := Pipeline.withArrays spec0 c (V0 m c) fun w => (run_dats m 0 c).arrAt w cfg0.N

theorem E_keep (c : Dev nD) (b : Ref sig .tc) (h : ∀ w, Pipeline.arrRef spec0 w ≠ b) : E m c (Proc.devRef .tc b) = V m c b :=
  Pipeline.withArrays_of_ne spec0 c _ _ b h

theorem E_arr (c : Dev nD) (w : Fin 5) : E m c (Proc.devRef .tc (Pipeline.arrRef spec0 w)) = (run_dats m 0 c).arrAt w cfg0.N :=
  Pipeline.withArrays_arr spec0 (by decide) c _ _ w

theorem index0 (t : Fin cfg0.N) : (cfg0.win 0).index t = ![0, 0, 0, 0] := by
  funext a; fin_cases a <;> rfl
theorem index1 (t : Fin cfg0.N) : (cfg0.win 1).index t = ![0, 0, 0, 0] := by
  funext a; fin_cases a <;> rfl
theorem index2 (t : Fin cfg0.N) : (cfg0.win 2).index t = ![0, 0, 0, 0] := by
  funext a; fin_cases a <;> rfl
theorem index3 (t : Fin cfg0.N) : (cfg0.win 3).index t = ![0, 0, 0, 0] := by
  funext a; fin_cases a <;> rfl
theorem index4 (t : Fin cfg0.N) : (cfg0.win 4).index t = ![0, 0, 0, 0] := by
  funext a; fin_cases a <;> rfl

theorem in0_at (c : Dev nD) (t : Fin cfg0.N) (b : Fin 4) (p : Fin 4) (kv : Fin 8) (d : Fin 128) :
    iblk m c 0 t (ix4 b p kv d) = V m c main_v24 (ix4 b p kv d) := by
  unfold iblk
  have e := index0 t
  blk_ext [e] <;> (rw [show win0_0.index t = _ from e]; simp)

theorem in1_at (c : Dev nD) (t : Fin cfg0.N) (b : Fin 4) (p : Fin 8192) (kv : Fin 8) (d : Fin 128) :
    iblk m c 1 t (ix4 b p kv d) = V m c main_v0 (ix4 b p kv d) := by
  unfold iblk
  have e := index1 t
  blk_ext [e] <;> (rw [show win0_1.index t = _ from e]; simp)

theorem out2_at (c : Dev nD) (b : Fin 4) (p : Fin 4) (kv : Fin 8) (d : Fin 128) :
    (run_dats m 0 c).arrAt 2 cfg0.N (ix4 b p kv d) = V m c main_v24 (ix4 b p kv d) := by
  have h := (run_dats m 0 c).arrAt_emb_eq_flushed 2 (fun t t' _ _ h => absurd ((fin_N0 t).trans (fin_N0 t').symm) h) t0_0 (by decide) (ix4 b p kv d)
  have e := index2 t0_0
  refine Eq.trans (congrArg _ ?_) (h.trans ?_)
  · blk_ext [e] <;> (rw [show win0_2.index t0_0 = _ from e]; simp)
  · show (run_dats m 0 c).after 2 t0_0 (ix4 b p kv d) = _
    rw [run_after2]
    pointwise [k0_pay1, k0_pay2, k0_pay3]
    exact in0_at m c t0_0 b p kv d

theorem out3_at (c : Dev nD) (b : Fin 4) (p : Fin 4) (kv : Fin 8) (d : Fin 128) :
    (run_dats m 0 c).arrAt 3 cfg0.N (ix4 b p kv d) = V m c main_v24 (ix4 b p kv d) := by
  have h := (run_dats m 0 c).arrAt_emb_eq_flushed 3 (fun t t' _ _ h => absurd ((fin_N0 t).trans (fin_N0 t').symm) h) t0_0 (by decide) (ix4 b p kv d)
  have e := index3 t0_0
  refine Eq.trans (congrArg _ ?_) (h.trans ?_)
  · blk_ext [e] <;> (rw [show win0_3.index t0_0 = _ from e]; simp)
  · show (run_dats m 0 c).after 3 t0_0 (ix4 b p kv d) = _
    rw [run_after3]
    pointwise [k0_pay1, k0_pay2, k0_pay3]
    exact in0_at m c t0_0 b p kv d

theorem out4_at (c : Dev nD) (b : Fin 4) (p : Fin 8192) (kv : Fin 8) (d : Fin 128) :
    (run_dats m 0 c).arrAt 4 cfg0.N (ix4 b p kv d) = V m c main_v0 (ix4 b p kv d) := by
  have h := (run_dats m 0 c).arrAt_emb_eq_flushed 4 (fun t t' _ _ h => absurd ((fin_N0 t).trans (fin_N0 t').symm) h) t0_0 (by decide) (ix4 b p kv d)
  have e := index4 t0_0
  refine Eq.trans (congrArg _ ?_) (h.trans ?_)
  · blk_ext [e] <;> (rw [show win0_4.index t0_0 = _ from e]; simp)
  · show (run_dats m 0 c).after 4 t0_0 (ix4 b p kv d) = _
    rw [run_after4]
    pointwise [k0_pay1, k0_pay2, k0_pay3]
    exact in1_at m c t0_0 b p kv d

/-- The new keys, values and scales as numbers: `ks` the old scales, `vn` the new values. -/
theorem V_v24 (c : Dev nD) (s : ℝ) (b t : Fin 4) (kv : Fin 8) (d : Fin 128) (hs : m ((c : Thread nD τ).loc main_arg4) (ix3 b kv d) = (s : EReal)) :
    V m c main_v24 (ix4 b t kv d) = codeOf (m ((c : Thread nD τ).loc main_arg1) (ix4 b t kv d)) s := by
  have := scaled_at (fun b => m (c, b)) s b t kv d hs
  refine Eq.trans ?_ this
  show StableHlo.after (List.flatten [hostOps0, hostOps0_1, hostOps0_2, hostOps0_3, hostOps0_4, hostOps0_5]) _ _ _ = _
  simp only [List.flatten_cons, List.flatten_nil, List.append_nil]

/-- What the run leaves of the new keys' codes, the new values' bytes, and their scales. -/
theorem ref_read (ks : Dev nD → S4x8x128.Idx → ℝ) (vn : Dev nD → S4x4x8x128.Idx → ℝ)
    (hks : ∀ (c : Dev nD) j, m ((c : Thread nD τ).loc main_arg4) j = (ks c j : EReal)) (hvn : ∀ (c : Dev nD) j, m ((c : Thread nD τ).loc main_arg2) j = (vn c j : EReal)) :
    θ_run defs (onTc (τ := τ) (main (F := Ideal))) (s₀ m ρ) (fun r => ∀ c : Dev nD,
      (∀ (b t : Fin 4) (kv : Fin 8) (d : Fin 128), r.2.mem ((c : Thread nD τ).loc main_v25_0) (ix4 b t kv d) = codeOf (m ((c : Thread nD τ).loc main_arg1) (ix4 b t kv d)) (ks c (ix3 b kv d)))
      ∧ (∀ (b t : Fin 4) (kv : Fin 8) (e : Fin 64), r.2.mem ((c : Thread nD τ).loc main_v49) (ix4 b t kv e) = vbyte (fun d => vn c (ix4 b t kv d)) e)
      ∧ (∀ (b t : Fin 4) (kv : Fin 8), r.2.mem ((c : Thread nD τ).loc main_v33) (ix3 b t kv) = (vscaleR (fun d => vn c (ix4 b t kv d)) : EReal))) :=
  (θ_run defs _ _).mono (fun r h c => by
    obtain ⟨h1, h2⟩ := h c
    have a2 : ∀ j, E m c (Proc.devRef .tc main_arg2) j = (vn c j : EReal) := fun j => by
      rw [E_keep m c main_arg2 (by decide), V_main_arg2]
      exact hvn c j
    refine ⟨fun b t kv d => ?_, fun b t kv e => ?_, fun b t kv => ?_⟩
    · refine (congrFun (h1 2) _).trans ?_
      rw [out2_at, V_v24 m c (ks c (ix3 b kv d)) b t kv d (hks c _)]
    · refine (congrFun (h2 main_v49 (Pipeline.mem_restRefs_of main_v49 (by decide) (by decide))) _).trans ?_
      refine (congrFun (v49_end (E m c)) _).trans ?_
      exact byte_at (scaled (E m c)) _ b t kv e (fun d => (v26_at (E m c) b t kv d).trans (a2 _))
        (scale_at (E m c) _ b t kv (fun d => a2 _))
    · refine (congrFun (h2 main_v33 (Pipeline.mem_restRefs_of main_v33 (by decide) (by decide))) _).trans ?_
      refine (congrFun (v33_end (E m c)) _).trans ?_
      exact scale_at (E m c) _ b t kv (fun d => a2 _)) (run_all m ρ)

end

end Cert.ReferenceIdeal.Hand

end
-- ==== Proof.Soft.lean ====
/-
  A softmax taken block by block: running maxima, and sums carried over by the exponential of
  their difference.
-/
module

public import proofs.«01_k».proof.Proof.Spec

@[expose] public section

noncomputable section
namespace Cert.Vals

open Idealize.ShloMosaic

theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The sum over the first n positions, of those below the length. -/
def S (N : ℕ) (g : ℕ → ℝ) (n : ℕ) : ℝ := ∑ p ∈ Finset.range n, if p < N then g p else 0

theorem S_zero (N : ℕ) (g : ℕ → ℝ) : S N g 0 = 0 := by simp [S]

/-- A block's part. -/
theorem S_block (N : ℕ) (g : ℕ → ℝ) (a : ℕ) :
    S N g (a + 1024) = S N g a + ∑ c : Fin 1024, if a + c.val < N then g (a + c.val) else 0 := by
  unfold S
  rw [Finset.sum_range_add, ← Fin.sum_univ_eq_sum_range (fun c => if a + c < N then g (a + c) else 0) 1024]

theorem S_skip (N : ℕ) (g : ℕ → ℝ) (a : ℕ) (h : N ≤ a) : S N g (a + 1024) = S N g a := by
  rw [S_block, Finset.sum_eq_zero, add_zero]
  intro c _
  rw [if_neg (by omega)]

theorem fold_max_ne_top {n : ℕ} (s : Fin n → EReal) (hs : ∀ c, s c ≠ ⊤) : Finset.fold max (⊥ : EReal) s Finset.univ ≠ ⊤ := by
  intro h
  have h2 : Finset.fold max (⊥ : EReal) s Finset.univ < ⊤ := by
    rw [Finset.fold_max_lt]
    exact ⟨bot_lt_top, fun c _ => lt_top_iff_ne_top.mpr (hs c)⟩
  exact absurd h h2.ne

theorem real_of {x : EReal} (h1 : x ≠ ⊤) (h2 : x ≠ ⊥) : ∃ M : ℝ, x = (M : EReal) := ⟨x.toReal, (EReal.coe_toReal h1 h2).symm⟩

theorem new_max {n : ℕ} (M : ℝ) (s : Fin n → EReal) (hs : ∀ c, s c ≠ ⊤) : ∃ M' : ℝ, max (M : EReal) (Finset.fold max ⊥ s Finset.univ) = (M' : EReal) := by
  apply real_of
  · intro h
    rcases max_choice (M : EReal) (Finset.fold max ⊥ s Finset.univ) with h1 | h1
    · exact EReal.coe_ne_top M (h1.symm.trans h)
    · exact fold_max_ne_top s hs (h1.symm.trans h)
  · intro h
    have h1 := le_max_left (M : EReal) (Finset.fold max ⊥ s Finset.univ)
    rw [h] at h1
    exact EReal.coe_ne_bot M (le_bot_iff.mp h1)

/-- The largest of some values, one of them a real. -/
theorem first_max {n : ℕ} (s : Fin n → EReal) (hs : ∀ c, s c ≠ ⊤) (c : Fin n) (x : ℝ) (hc : s c = (x : EReal)) : ∃ M' : ℝ, Finset.fold max ⊥ s Finset.univ = (M' : EReal) := by
  apply real_of (fold_max_ne_top s hs)
  intro h
  have h1 : s c ≤ Finset.fold max ⊥ s Finset.univ := (Finset.le_fold_max (s c)).mpr (Or.inr ⟨c, Finset.mem_univ _, le_rfl⟩)
  rw [h, hc] at h1
  exact EReal.coe_ne_bot x (le_bot_iff.mp h1)

theorem masked_ne_top (b : Prop) [Decidable b] (x : ℝ) : (if b then (x : EReal) else ⊥) ≠ ⊤ := by
  split_ifs
  · exact EReal.coe_ne_top x
  · exact bot_ne_top

theorem exp_masked (b : Prop) [Decidable b] (x M : ℝ) :
    Ideal.exp ((if b then (x : EReal) else ⊥) - (M : EReal)) = ((Real.exp (-M) * (if b then Real.exp x else 0) : ℝ) : EReal) := by
  split_ifs
  · rw [← EReal.coe_sub]
    show ((Real.exp (x - M) : ℝ) : EReal) = _
    rw [← Real.exp_add]
    congr 2
    ring
  · rw [EReal.bot_sub, mul_zero]
    rfl

theorem exp_diff (M M' : ℝ) : Ideal.exp ((M : EReal) - (M' : EReal)) = ((Real.exp (M - M') : ℝ) : EReal) := by
  rw [← EReal.coe_sub]; rfl

theorem exp_carry (M M' x : ℝ) : Real.exp (-M) * x * Real.exp (M - M') = Real.exp (-M') * x := by
  rw [mul_right_comm, ← Real.exp_add]
  congr 2
  ring

theorem carry_block (M M' : ℝ) (N : ℕ) (z : ℝ) (g : ℕ → ℝ) (a : ℕ) :
    Real.exp (-M) * (z + S N g a) * Real.exp (M - M') + (∑ c : Fin 1024, Real.exp (-M') * if a + c.val < N then g (a + c.val) else 0)
      = Real.exp (-M') * (z + S N g (a + 1024)) := by
  rw [exp_carry, S_block, ← Finset.mul_sum]
  ring

/-- The quotient does not see the maximum. -/
theorem ratio (M a b : ℝ) (hb : b ≠ 0) : Ideal.div ((Real.exp (-M) * a : ℝ) : EReal) ((Real.exp (-M) * b : ℝ) : EReal) = ((a / b : ℝ) : EReal) := by
  have h := Real.exp_ne_zero (-M)
  rw [div_coe (mul_ne_zero h hb), mul_div_mul_left _ _ h]

theorem S_nonneg (N : ℕ) (g : ℕ → ℝ) (n : ℕ) (h : ∀ p, 0 ≤ g p) : 0 ≤ S N g n := by
  unfold S
  refine Finset.sum_nonneg fun p _ => ?_
  split_ifs
  · exact h p
  · exact le_rfl

end Cert.Vals
end
-- ==== Proof.Attend.lean ====
/-
  The result of the attention as a real number: the exponentials of the scores, of the cache's rows below the length and of the
  new rows up to the asking one, weighing the values.
-/
module

public import proofs.«01_k».proof.Proof.Soft

@[expose] public section

noncomputable section
namespace Cert.Vals

open Idealize.ShloMosaic

/-- The arguments as numbers: queries, codes of the new keys, new values, cached keys, key scales, cached bytes, value scales, lengths. -/
structure Data where
  x : Fin 4 → Fin 4 → Fin 32 → Fin 128 → ℝ
  kn : Fin 4 → Fin 4 → Fin 8 → Fin 128 → ℝ
  vn : Fin 4 → Fin 4 → Fin 8 → Fin 128 → ℝ
  ck : Fin 4 → Fin 8192 → Fin 8 → Fin 128 → ℝ
  ks : Fin 4 → Fin 8 → Fin 128 → ℝ
  cv : Fin 4 → Fin 8192 → Fin 8 → Fin 64 → BitVec 8
  vs : Fin 4 → Fin 8192 → Fin 8 → ℝ
  len : Fin 4 → ℕ

/-- The scores' factor. -/
def factor : ℝ := (Ideal.ofBits .f32 0x3DB504F3#32).toReal

theorem factor_coe : Ideal.ofBits .f32 0x3DB504F3#32 = (factor : EReal) := by
  unfold factor
  rw [EReal.coe_toReal] <;> simp [Ideal.ofBits, Ideal.ieee, -EReal.coe_mul, -EReal.coe_add]

/-- A signed four-bit code, stored with its sign bit flipped. -/
def nibR (k : ℕ) : ℝ := ((k ^^^ 8 : ℕ) : ℝ) - 8

theorem nibR_nib (z : ℤ) (h1 : -7 ≤ z) (h2 : z ≤ 7) : nibR (Cert.Vals.nib z) = (z : ℝ) := by
  have h : (z % 16).toNat ^^^ 8 = (z + 8).toNat := by interval_cases z <;> decide
  unfold nibR Cert.Vals.nib
  rw [h]
  have h3 : (((z + 8).toNat : ℤ) : ℝ) = ((z + 8 : ℤ) : ℝ) := by rw [Int.toNat_of_nonneg (by omega)]
  rw [Int.cast_natCast] at h3
  rw [h3]
  push_cast
  ring

/-- One of the four codes of a word. -/
def nibW (w : BitVec 16) (n : ℕ) : ℕ := w.toNat / 16 ^ n % 16

/-- One of a byte's two codes. -/
def half (c : BitVec 8) (d : ℕ) : ℕ := c.toNat / 16 ^ (d % 2) % 16

theorem nibW_half (a b : BitVec 8) (n : Fin 4) : nibW (a ++ b : BitVec 16) n.val = half (if n.val < 2 then b else a) n.val := by
  have ha := a.isLt
  have hb := b.isLt
  have e : (a ++ b : BitVec 16).toNat = a.toNat * 256 + b.toNat := by
    rw [BitVec.toNat_append, ← Nat.shiftLeft_add_eq_or_of_lt hb, Nat.shiftLeft_eq]
  unfold nibW half
  rw [e]
  fin_cases n <;> simp <;> omega

def scoreC (D : Data) (b t : Fin 4) (h : Fin 32) (kv : Fin 8) (p : Fin 8192) : ℝ := (∑ d : Fin 128, D.x b t h d * D.ks b kv d * D.ck b p kv d) * factor
def scoreN (D : Data) (b t : Fin 4) (h : Fin 32) (kv : Fin 8) (u : Fin 4) : ℝ := (∑ d : Fin 128, D.x b t h d * D.ks b kv d * D.kn b u kv d) * factor

/-- The weights before they are divided by their sum. -/
def weightC (D : Data) (b t : Fin 4) (h : Fin 32) (kv : Fin 8) (p : Fin 8192) : ℝ := if p.val < D.len b then Real.exp (scoreC D b t h kv p) else 0
def weightN (D : Data) (b t : Fin 4) (h : Fin 32) (kv : Fin 8) (u : Fin 4) : ℝ := if u.val ≤ t.val then Real.exp (scoreN D b t h kv u) else 0

def total (D : Data) (b t : Fin 4) (h : Fin 32) (kv : Fin 8) : ℝ := (∑ u, weightN D b t h kv u) + ∑ p, weightC D b t h kv p

def mixed (D : Data) (b t : Fin 4) (h : Fin 32) (kv : Fin 8) (d : Fin 128) : ℝ :=
  (∑ u, weightN D b t h kv u * vscaleR (D.vn b u kv) * vqZ (D.vn b u kv) d)
    + ∑ p, weightC D b t h kv p * D.vs b p kv * nibR (half (D.cv b p kv ⟨d.val / 2, by omega⟩) d.val)

/-- The result. -/
def outR (D : Data) (b t : Fin 4) (h : Fin 32) (d : Fin 128) : ℝ :=
  mixed D b t h ⟨h.val / 4, by omega⟩ d / total D b t h ⟨h.val / 4, by omega⟩

theorem weightC_nonneg (D : Data) (b t : Fin 4) (h : Fin 32) (kv : Fin 8) (p : Fin 8192) : 0 ≤ weightC D b t h kv p := by
  unfold weightC; split_ifs <;> [exact (Real.exp_pos _).le; exact le_rfl]
theorem weightN_nonneg (D : Data) (b t : Fin 4) (h : Fin 32) (kv : Fin 8) (u : Fin 4) : 0 ≤ weightN D b t h kv u := by
  unfold weightN; split_ifs <;> [exact (Real.exp_pos _).le; exact le_rfl]

theorem newTotal_pos (D : Data) (b t : Fin 4) (h : Fin 32) (kv : Fin 8) : 0 < ∑ u, weightN D b t h kv u :=
  Finset.sum_pos' (fun u _ => weightN_nonneg D b t h kv u) ⟨t, Finset.mem_univ _, by unfold weightN; rw [if_pos le_rfl]; exact Real.exp_pos _⟩

theorem total_pos (D : Data) (b t : Fin 4) (h : Fin 32) (kv : Fin 8) : 0 < total D b t h kv :=
  add_pos_of_pos_of_nonneg (newTotal_pos D b t h kv) (Finset.sum_nonneg fun p _ => weightC_nonneg D b t h kv p)

theorem S_all (N : ℕ) (g : ℕ → ℝ) : S N g 8192 = ∑ p : Fin 8192, if p.val < N then g p.val else 0 :=
  (Fin.sum_univ_eq_sum_range (fun p => if p < N then g p else 0) 8192).symm

/-- A sum in which one position of every four counts. -/
theorem sum_fours (e : Fin 4) (f : Fin 128 → ℝ) : (∑ x : Fin 512, if e.val = x.val % 4 then f ⟨x.val / 4, by omega⟩ else 0) = ∑ d, f d := by
  rw [← Equiv.sum_comp (finProdFinEquiv (m := 128) (n := 4)), Fintype.sum_prod_type]
  refine Finset.sum_congr rfl fun d _ => ?_
  rw [Finset.sum_eq_single e]
  · have h1 : (finProdFinEquiv (m := 128) (n := 4) (d, e)).val = e.val + 4 * d.val := rfl
    rw [if_pos (by rw [h1]; omega)]
    exact congrArg f (Fin.ext (by show (finProdFinEquiv (m := 128) (n := 4) (d, e)).val / 4 = _; rw [h1]; omega))
  · intro y _ hy
    have h1 : (finProdFinEquiv (m := 128) (n := 4) (d, y)).val = y.val + 4 * d.val := rfl
    rw [if_neg]
    rw [h1]
    intro h2
    exact hy (Fin.ext (by omega))
  · intro h; exact absurd (Finset.mem_univ _) h

/-- A sum over pairs of a new row and a head in which one head counts. -/
theorem sum_eights (kv : Fin 8) (c : Fin 4 → Prop) [DecidablePred c] (f : Fin 4 → Fin 8 → ℝ) :
    (∑ j : Fin 32, if kv.val = j.val % 8 ∧ c ⟨j.val / 8, by omega⟩ then f ⟨j.val / 8, by omega⟩ ⟨j.val % 8, by omega⟩ else 0) = ∑ u, if c u then f u kv else 0 := by
  rw [← Equiv.sum_comp (finProdFinEquiv (m := 4) (n := 8)), Fintype.sum_prod_type]
  refine Finset.sum_congr rfl fun u _ => ?_
  rw [Finset.sum_eq_single kv]
  · have h1 : (finProdFinEquiv (m := 4) (n := 8) (u, kv)).val = kv.val + 8 * u.val := rfl
    have h2 : (⟨(finProdFinEquiv (m := 4) (n := 8) (u, kv)).val / 8, by omega⟩ : Fin 4) = u := Fin.ext (by show _ / 8 = _; rw [h1]; omega)
    have h3 : (⟨(finProdFinEquiv (m := 4) (n := 8) (u, kv)).val % 8, by omega⟩ : Fin 8) = kv := Fin.ext (by show _ % 8 = _; rw [h1]; omega)
    rw [h2, h3]
    exact if_congr (and_iff_right (by rw [h1]; omega)) rfl rfl
  · intro y _ hy
    have h1 : (finProdFinEquiv (m := 4) (n := 8) (u, y)).val = y.val + 8 * u.val := rfl
    rw [if_neg]
    rintro ⟨h2, -⟩
    rw [h1] at h2
    exact hy (Fin.ext (by omega))
  · intro h; exact absurd (Finset.mem_univ _) h

end Cert.Vals
end
-- ==== Proof.BlockValue.lean ====
/-
  What the second stretch leaves in the buffers it writes.
-/
module

public import proofs.«01_k».proof.Proof.StartValue
public import Idealize.ShloMosaic.Lib.Pipeline.ValueKit
public import Idealize.ShloMosaic.Lib.Pointwise
public import Idealize.ShloMosaic.Lib.Pipeline.Value
public import Idealize.ShloMosaic.Lib.WholeRead

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- A load of part of a buffer reads that part of what it holds. -/
theorem read_part {sig : RefSig} {κ : Kind} {sp : Space} {S : Shape} {e : EltTy} {Val : EltTy → Type} {m : Memref sig κ sp S e} (h : m.IsWhole) (X : S.Idx → Val e)
    {off size : Fin S.rank → Nat} (inb : ∀ a, off a + size a ≤ S.size a) (Y : (Rect.unit off size inb).shape.Idx → Val e)
    (hY : ∀ x, ∃ i : S.Idx, Y x = X i ∧ ∀ a, (i a : Nat) = off a + x a) :
    View.readAt Val m.view (Rect.unit off size inb).toLoadRect (h.unread X) = Y := by
  funext x
  obtain ⟨i, e1, e2⟩ := hY x
  rw [e1]
  exact (h.readAt_unread X _ x).trans (View.ld_unit_apply_of X off size inb x i e2)

/-- A stretch of the block's keys, for half of the heads, -/
def keyPart (x7 : Vec F S1x1024x8x128 .fp8e4m3) (t j : ℕ) (ht : t + 128 ≤ 1024) (hj : j + 4 ≤ 8) : Vec F S1x128x4x128 .fp8e4m3 :=
  fun y => x7 (ix4 0 ⟨t + (y 1).val, by have : (y 1).val < 128 := (y 1).isLt; omega⟩ ⟨j + (y 2).val, by have : (y 2).val < 4 := (y 2).isLt; omega⟩ ⟨(y 3).val, (y 3).isLt⟩)
/-- half of the queries' rows, -/
def rowsPart (q : Vec F S128x512 .bf16) (t : ℕ) (ht : t + 64 ≤ 128) : Vec F S64x512 .bf16 :=
  fun y => q (ix2 ⟨t + (y 0).val, by have : (y 0).val < 64 := (y 0).isLt; omega⟩ ⟨(y 1).val, (y 1).isLt⟩)
/-- the first column of a buffer, -/
def firstCol (x : Vec F S128x128 .f32) : Vec F S128x1 .f32 := fun y => x (ix2 ⟨(y 0).val, (y 0).isLt⟩ 0)
/-- and one plane of the sums. -/
def plane (x : Vec F S4x128x256 .f32) (n : Fin 4) : Vec F S1x128x256 .f32 :=
  fun y => x (ix3 n ⟨(y 1).val, (y 1).isLt⟩ ⟨(y 2).val, (y 2).isLt⟩)

/-- The scores against the block's keys. -/
def sV (a1 : BitVec 32) (v1 : Elt F .i32) (x7 : Vec F S1x1024x8x128 .fp8e4m3) (q : Vec F S128x512 .bf16) : Vec F S128x1024 .f32 :=
  k0_pay90 a1 v1 (k0_pay84 (k0_pay78 (keyPart x7 0 0 (by omega) (by omega))) (k0_pay79 (keyPart x7 128 0 (by omega) (by omega))) (k0_pay80 (keyPart x7 256 0 (by omega) (by omega))) (k0_pay81 (keyPart x7 384 0 (by omega) (by omega))) (k0_pay82 (keyPart x7 512 0 (by omega) (by omega))) (k0_pay83 (keyPart x7 640 0 (by omega) (by omega))) (keyPart x7 768 0 (by omega) (by omega)) (keyPart x7 896 0 (by omega) (by omega)) (rowsPart q 0 (by omega))) (k0_pay85 (keyPart x7 0 4 (by omega) (by omega))) (k0_pay86 (keyPart x7 128 4 (by omega) (by omega))) (k0_pay87 (keyPart x7 256 4 (by omega) (by omega))) (k0_pay88 (keyPart x7 384 4 (by omega) (by omega))) (k0_pay89 (keyPart x7 512 4 (by omega) (by omega))) (keyPart x7 640 4 (by omega) (by omega)) (keyPart x7 768 4 (by omega) (by omega)) (keyPart x7 896 4 (by omega) (by omega)) (rowsPart q 64 (by omega))
/-- the new maxima, -/
def mV (a1 : BitVec 32) (v1 : Elt F .i32) (x7 : Vec F S1x1024x8x128 .fp8e4m3) (q : Vec F S128x512 .bf16) (mx : Vec F S128x128 .f32) : Vec F S128x1 .f32 :=
  k0_pay91 a1 v1 (k0_pay84 (k0_pay78 (keyPart x7 0 0 (by omega) (by omega))) (k0_pay79 (keyPart x7 128 0 (by omega) (by omega))) (k0_pay80 (keyPart x7 256 0 (by omega) (by omega))) (k0_pay81 (keyPart x7 384 0 (by omega) (by omega))) (k0_pay82 (keyPart x7 512 0 (by omega) (by omega))) (k0_pay83 (keyPart x7 640 0 (by omega) (by omega))) (keyPart x7 768 0 (by omega) (by omega)) (keyPart x7 896 0 (by omega) (by omega)) (rowsPart q 0 (by omega))) (k0_pay85 (keyPart x7 0 4 (by omega) (by omega))) (k0_pay86 (keyPart x7 128 4 (by omega) (by omega))) (k0_pay87 (keyPart x7 256 4 (by omega) (by omega))) (k0_pay88 (keyPart x7 384 4 (by omega) (by omega))) (k0_pay89 (keyPart x7 512 4 (by omega) (by omega))) (keyPart x7 640 4 (by omega) (by omega)) (keyPart x7 768 4 (by omega) (by omega)) (keyPart x7 896 4 (by omega) (by omega)) (rowsPart q 64 (by omega)) (firstCol mx)
/-- the factors that carry the old sums over, -/
def alV (a1 : BitVec 32) (v1 : Elt F .i32) (x7 : Vec F S1x1024x8x128 .fp8e4m3) (q : Vec F S128x512 .bf16) (mx : Vec F S128x128 .f32) : Vec F S128x1 .f32 :=
  k0_pay92 a1 v1 (k0_pay84 (k0_pay78 (keyPart x7 0 0 (by omega) (by omega))) (k0_pay79 (keyPart x7 128 0 (by omega) (by omega))) (k0_pay80 (keyPart x7 256 0 (by omega) (by omega))) (k0_pay81 (keyPart x7 384 0 (by omega) (by omega))) (k0_pay82 (keyPart x7 512 0 (by omega) (by omega))) (k0_pay83 (keyPart x7 640 0 (by omega) (by omega))) (keyPart x7 768 0 (by omega) (by omega)) (keyPart x7 896 0 (by omega) (by omega)) (rowsPart q 0 (by omega))) (k0_pay85 (keyPart x7 0 4 (by omega) (by omega))) (k0_pay86 (keyPart x7 128 4 (by omega) (by omega))) (k0_pay87 (keyPart x7 256 4 (by omega) (by omega))) (k0_pay88 (keyPart x7 384 4 (by omega) (by omega))) (k0_pay89 (keyPart x7 512 4 (by omega) (by omega))) (keyPart x7 640 4 (by omega) (by omega)) (keyPart x7 768 4 (by omega) (by omega)) (keyPart x7 896 4 (by omega) (by omega)) (rowsPart q 64 (by omega)) (firstCol mx)
/-- and the exponentials. -/
def eV (a1 : BitVec 32) (v1 : Elt F .i32) (x7 : Vec F S1x1024x8x128 .fp8e4m3) (q : Vec F S128x512 .bf16) (mx : Vec F S128x128 .f32) : Vec F S128x1024 .f32 :=
  k0_pay93 a1 v1 (k0_pay84 (k0_pay78 (keyPart x7 0 0 (by omega) (by omega))) (k0_pay79 (keyPart x7 128 0 (by omega) (by omega))) (k0_pay80 (keyPart x7 256 0 (by omega) (by omega))) (k0_pay81 (keyPart x7 384 0 (by omega) (by omega))) (k0_pay82 (keyPart x7 512 0 (by omega) (by omega))) (k0_pay83 (keyPart x7 640 0 (by omega) (by omega))) (keyPart x7 768 0 (by omega) (by omega)) (keyPart x7 896 0 (by omega) (by omega)) (rowsPart q 0 (by omega))) (k0_pay85 (keyPart x7 0 4 (by omega) (by omega))) (k0_pay86 (keyPart x7 128 4 (by omega) (by omega))) (k0_pay87 (keyPart x7 256 4 (by omega) (by omega))) (k0_pay88 (keyPart x7 384 4 (by omega) (by omega))) (k0_pay89 (keyPart x7 512 4 (by omega) (by omega))) (keyPart x7 640 4 (by omega) (by omega)) (keyPart x7 768 4 (by omega) (by omega)) (keyPart x7 896 4 (by omega) (by omega)) (rowsPart q 64 (by omega)) (firstCol mx)

/-- The old sums of exponentials, carried over. -/
def lV (a1 : BitVec 32) (v1 : Elt F .i32) (x7 : Vec F S1x1024x8x128 .fp8e4m3) (q : Vec F S128x512 .bf16) (mx l : Vec F S128x128 .f32) : Vec F S128x128 .f32 :=
  k0_pay94 a1 v1 (k0_pay84 (k0_pay78 (keyPart x7 0 0 (by omega) (by omega))) (k0_pay79 (keyPart x7 128 0 (by omega) (by omega))) (k0_pay80 (keyPart x7 256 0 (by omega) (by omega))) (k0_pay81 (keyPart x7 384 0 (by omega) (by omega))) (k0_pay82 (keyPart x7 512 0 (by omega) (by omega))) (k0_pay83 (keyPart x7 640 0 (by omega) (by omega))) (keyPart x7 768 0 (by omega) (by omega)) (keyPart x7 896 0 (by omega) (by omega)) (rowsPart q 0 (by omega))) (k0_pay85 (keyPart x7 0 4 (by omega) (by omega))) (k0_pay86 (keyPart x7 128 4 (by omega) (by omega))) (k0_pay87 (keyPart x7 256 4 (by omega) (by omega))) (k0_pay88 (keyPart x7 384 4 (by omega) (by omega))) (k0_pay89 (keyPart x7 512 4 (by omega) (by omega))) (keyPart x7 640 4 (by omega) (by omega)) (keyPart x7 768 4 (by omega) (by omega)) (keyPart x7 896 4 (by omega) (by omega)) (rowsPart q 64 (by omega)) (firstCol mx) l

theorem block_m_eq (c : Dev nD) (i : grid0.Coords) (arg2 : Memref sig .tc .smem S4 .i32) (harg2 : arg2.IsWhole) (arg3 : Memref sig .tc .vmem S1x4x32x128 .bf16) (harg3 : arg3.IsWhole) (arg4 : Memref sig .tc .vmem S1x4x8x128 .bf16) (harg4 : arg4.IsWhole) (arg5 : Memref sig .tc .vmem S1x4x8x128 .bf16) (harg5 : arg5.IsWhole) (arg6 : Memref sig .tc .vmem S1x8x128 .f32) (harg6 : arg6.IsWhole) (arg7 : Memref sig .tc .vmem S1x1024x8x128 .fp8e4m3) (harg7 : arg7.IsWhole) (arg8 : Memref sig .tc .vmem S1x8x64x1024 .i8) (harg8 : arg8.IsWhole) (arg9 : Memref sig .tc .vmem S1x8x1024 .f32) (harg9 : arg9.IsWhole) (arg10 : Memref sig .tc .vmem S1x4x32x128 .bf16) (harg10 : arg10.IsWhole) (arg11 : Memref sig .tc .vmem S1x4x8x128 .fp8e4m3) (harg11 : arg11.IsWhole) (arg12 : Memref sig .tc .vmem S1x4x8x64 .i8) (harg12 : arg12.IsWhole) (arg13 : Memref sig .tc .vmem S1x4x8 .f32) (harg13 : arg13.IsWhole) (arg14 : Memref sig .tc .vmem S128x512 .bf16) (harg14 : arg14.IsWhole) (arg15 : Memref sig .tc .vmem S128x128 .f32) (harg15 : arg15.IsWhole) (arg16 : Memref sig .tc .vmem S128x128 .f32) (harg16 : arg16.IsWhole) (arg17 : Memref sig .tc .vmem S4x128x256 .f32) (harg17 : arg17.IsWhole) (arg18 : Memref sig .tc .vmem S128x128 .f32) (harg18 : arg18.IsWhole) (x3 : Vec F S1x4x32x128 .bf16) (x4 : Vec F S1x4x8x128 .bf16) (x5 : Vec F S1x4x8x128 .bf16) (x6 : Vec F S1x8x128 .f32) (x7 : Vec F S1x1024x8x128 .fp8e4m3) (x8 : Vec F S1x8x64x1024 .i8) (x9 : Vec F S1x8x1024 .f32) (v1 : Elt F .i32) (st : St F) (h : cond0_1 i v1) :
    (blockSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 x6 x7 x8 x9 v1 st).m = k0_pay96 (mV (BitVec.ofNat 32 (i 1).val) v1 x7 st.q st.m) := by
  unfold blockSt
  rw [if_pos h]
  dsimp only
  unfold blockRun
  dsimp only
  refine (View.canon_unit_zero (S := S128x128) (by funext a; fin_cases a <;> rfl) _ _).trans ?_
  have k0_0 : ∀ inb, View.readAt (Elt F) arg7.view (Rect.unit (s := S1x1024x8x128) ![0, 0, 0, 0] ![1, 128, 4, 128] inb).toLoadRect (harg7.unread x7) = keyPart x7 0 0 (by omega) (by omega) := fun inb =>
    read_part (S := S1x1024x8x128) harg7 x7 inb _ fun x => ⟨_, rfl, fun a => by have : (x 0).val < 1 := (x 0).isLt; fin_cases a <;> simp <;> omega⟩
  have k128_0 : ∀ inb, View.readAt (Elt F) arg7.view (Rect.unit (s := S1x1024x8x128) ![0, 128, 0, 0] ![1, 128, 4, 128] inb).toLoadRect (harg7.unread x7) = keyPart x7 128 0 (by omega) (by omega) := fun inb =>
    read_part (S := S1x1024x8x128) harg7 x7 inb _ fun x => ⟨_, rfl, fun a => by have : (x 0).val < 1 := (x 0).isLt; fin_cases a <;> simp <;> omega⟩
  have k256_0 : ∀ inb, View.readAt (Elt F) arg7.view (Rect.unit (s := S1x1024x8x128) ![0, 256, 0, 0] ![1, 128, 4, 128] inb).toLoadRect (harg7.unread x7) = keyPart x7 256 0 (by omega) (by omega) := fun inb =>
    read_part (S := S1x1024x8x128) harg7 x7 inb _ fun x => ⟨_, rfl, fun a => by have : (x 0).val < 1 := (x 0).isLt; fin_cases a <;> simp <;> omega⟩
  have k384_0 : ∀ inb, View.readAt (Elt F) arg7.view (Rect.unit (s := S1x1024x8x128) ![0, 384, 0, 0] ![1, 128, 4, 128] inb).toLoadRect (harg7.unread x7) = keyPart x7 384 0 (by omega) (by omega) := fun inb =>
    read_part (S := S1x1024x8x128) harg7 x7 inb _ fun x => ⟨_, rfl, fun a => by have : (x 0).val < 1 := (x 0).isLt; fin_cases a <;> simp <;> omega⟩
  have k512_0 : ∀ inb, View.readAt (Elt F) arg7.view (Rect.unit (s := S1x1024x8x128) ![0, 512, 0, 0] ![1, 128, 4, 128] inb).toLoadRect (harg7.unread x7) = keyPart x7 512 0 (by omega) (by omega) := fun inb =>
    read_part (S := S1x1024x8x128) harg7 x7 inb _ fun x => ⟨_, rfl, fun a => by have : (x 0).val < 1 := (x 0).isLt; fin_cases a <;> simp <;> omega⟩
  have k640_0 : ∀ inb, View.readAt (Elt F) arg7.view (Rect.unit (s := S1x1024x8x128) ![0, 640, 0, 0] ![1, 128, 4, 128] inb).toLoadRect (harg7.unread x7) = keyPart x7 640 0 (by omega) (by omega) := fun inb =>
    read_part (S := S1x1024x8x128) harg7 x7 inb _ fun x => ⟨_, rfl, fun a => by have : (x 0).val < 1 := (x 0).isLt; fin_cases a <;> simp <;> omega⟩
  have k768_0 : ∀ inb, View.readAt (Elt F) arg7.view (Rect.unit (s := S1x1024x8x128) ![0, 768, 0, 0] ![1, 128, 4, 128] inb).toLoadRect (harg7.unread x7) = keyPart x7 768 0 (by omega) (by omega) := fun inb =>
    read_part (S := S1x1024x8x128) harg7 x7 inb _ fun x => ⟨_, rfl, fun a => by have : (x 0).val < 1 := (x 0).isLt; fin_cases a <;> simp <;> omega⟩
  have k896_0 : ∀ inb, View.readAt (Elt F) arg7.view (Rect.unit (s := S1x1024x8x128) ![0, 896, 0, 0] ![1, 128, 4, 128] inb).toLoadRect (harg7.unread x7) = keyPart x7 896 0 (by omega) (by omega) := fun inb =>
    read_part (S := S1x1024x8x128) harg7 x7 inb _ fun x => ⟨_, rfl, fun a => by have : (x 0).val < 1 := (x 0).isLt; fin_cases a <;> simp <;> omega⟩
  have k0_4 : ∀ inb, View.readAt (Elt F) arg7.view (Rect.unit (s := S1x1024x8x128) ![0, 0, 4, 0] ![1, 128, 4, 128] inb).toLoadRect (harg7.unread x7) = keyPart x7 0 4 (by omega) (by omega) := fun inb =>
    read_part (S := S1x1024x8x128) harg7 x7 inb _ fun x => ⟨_, rfl, fun a => by have : (x 0).val < 1 := (x 0).isLt; fin_cases a <;> simp <;> omega⟩
  have k128_4 : ∀ inb, View.readAt (Elt F) arg7.view (Rect.unit (s := S1x1024x8x128) ![0, 128, 4, 0] ![1, 128, 4, 128] inb).toLoadRect (harg7.unread x7) = keyPart x7 128 4 (by omega) (by omega) := fun inb =>
    read_part (S := S1x1024x8x128) harg7 x7 inb _ fun x => ⟨_, rfl, fun a => by have : (x 0).val < 1 := (x 0).isLt; fin_cases a <;> simp <;> omega⟩
  have k256_4 : ∀ inb, View.readAt (Elt F) arg7.view (Rect.unit (s := S1x1024x8x128) ![0, 256, 4, 0] ![1, 128, 4, 128] inb).toLoadRect (harg7.unread x7) = keyPart x7 256 4 (by omega) (by omega) := fun inb =>
    read_part (S := S1x1024x8x128) harg7 x7 inb _ fun x => ⟨_, rfl, fun a => by have : (x 0).val < 1 := (x 0).isLt; fin_cases a <;> simp <;> omega⟩
  have k384_4 : ∀ inb, View.readAt (Elt F) arg7.view (Rect.unit (s := S1x1024x8x128) ![0, 384, 4, 0] ![1, 128, 4, 128] inb).toLoadRect (harg7.unread x7) = keyPart x7 384 4 (by omega) (by omega) := fun inb =>
    read_part (S := S1x1024x8x128) harg7 x7 inb _ fun x => ⟨_, rfl, fun a => by have : (x 0).val < 1 := (x 0).isLt; fin_cases a <;> simp <;> omega⟩
  have k512_4 : ∀ inb, View.readAt (Elt F) arg7.view (Rect.unit (s := S1x1024x8x128) ![0, 512, 4, 0] ![1, 128, 4, 128] inb).toLoadRect (harg7.unread x7) = keyPart x7 512 4 (by omega) (by omega) := fun inb =>
    read_part (S := S1x1024x8x128) harg7 x7 inb _ fun x => ⟨_, rfl, fun a => by have : (x 0).val < 1 := (x 0).isLt; fin_cases a <;> simp <;> omega⟩
  have k640_4 : ∀ inb, View.readAt (Elt F) arg7.view (Rect.unit (s := S1x1024x8x128) ![0, 640, 4, 0] ![1, 128, 4, 128] inb).toLoadRect (harg7.unread x7) = keyPart x7 640 4 (by omega) (by omega) := fun inb =>
    read_part (S := S1x1024x8x128) harg7 x7 inb _ fun x => ⟨_, rfl, fun a => by have : (x 0).val < 1 := (x 0).isLt; fin_cases a <;> simp <;> omega⟩
  have k768_4 : ∀ inb, View.readAt (Elt F) arg7.view (Rect.unit (s := S1x1024x8x128) ![0, 768, 4, 0] ![1, 128, 4, 128] inb).toLoadRect (harg7.unread x7) = keyPart x7 768 4 (by omega) (by omega) := fun inb =>
    read_part (S := S1x1024x8x128) harg7 x7 inb _ fun x => ⟨_, rfl, fun a => by have : (x 0).val < 1 := (x 0).isLt; fin_cases a <;> simp <;> omega⟩
  have k896_4 : ∀ inb, View.readAt (Elt F) arg7.view (Rect.unit (s := S1x1024x8x128) ![0, 896, 4, 0] ![1, 128, 4, 128] inb).toLoadRect (harg7.unread x7) = keyPart x7 896 4 (by omega) (by omega) := fun inb =>
    read_part (S := S1x1024x8x128) harg7 x7 inb _ fun x => ⟨_, rfl, fun a => by have : (x 0).val < 1 := (x 0).isLt; fin_cases a <;> simp <;> omega⟩
  have q0 : ∀ inb, View.readAt (Elt F) arg14.view (Rect.unit (s := S128x512) ![0, 0] ![64, 512] inb).toLoadRect (harg14.unread st.q) = rowsPart st.q 0 (by omega) := fun inb =>
    read_part (S := S128x512) harg14 st.q inb _ fun x => ⟨_, rfl, fun a => by fin_cases a <;> simp⟩
  have q64 : ∀ inb, View.readAt (Elt F) arg14.view (Rect.unit (s := S128x512) ![64, 0] ![64, 512] inb).toLoadRect (harg14.unread st.q) = rowsPart st.q 64 (by omega) := fun inb =>
    read_part (S := S128x512) harg14 st.q inb _ fun x => ⟨_, rfl, fun a => by fin_cases a <;> simp⟩
  have em : ∀ inb, View.readAt (Elt F) arg15.view (Rect.unit (s := S128x128) ![0, 0] ![128, 1] inb).toLoadRect (harg15.unread st.m) = firstCol st.m := fun inb =>
    read_part (S := S128x128) harg15 st.m inb _ fun x => ⟨_, rfl, fun a => by have : (x 1).val < 1 := (x 1).isLt; fin_cases a <;> simp <;> omega⟩
  simp only [blockRun.sl.r_1, blockRun.sl.r_2, blockRun.sl.r_3, blockRun.sl.r_4, blockRun.sl.r_5, blockRun.sl.r_6, blockRun.sl.r_7, blockRun.sl.r_8, blockRun.sl.r_9, blockRun.sl.r_10, blockRun.sl.r_11, blockRun.sl.r_12, blockRun.sl.r_13, blockRun.sl.r_14, blockRun.sl.r_15, blockRun.sl.r_16, k0_0, k128_0, k256_0, k384_0, k512_0, k640_0, k768_0, k896_0, k0_4, k128_4, k256_4, k384_4, k512_4, k640_4, k768_4, k896_4, q0, q64, em]
  rfl

theorem block_l_eq (c : Dev nD) (i : grid0.Coords) (arg2 : Memref sig .tc .smem S4 .i32) (harg2 : arg2.IsWhole) (arg3 : Memref sig .tc .vmem S1x4x32x128 .bf16) (harg3 : arg3.IsWhole) (arg4 : Memref sig .tc .vmem S1x4x8x128 .bf16) (harg4 : arg4.IsWhole) (arg5 : Memref sig .tc .vmem S1x4x8x128 .bf16) (harg5 : arg5.IsWhole) (arg6 : Memref sig .tc .vmem S1x8x128 .f32) (harg6 : arg6.IsWhole) (arg7 : Memref sig .tc .vmem S1x1024x8x128 .fp8e4m3) (harg7 : arg7.IsWhole) (arg8 : Memref sig .tc .vmem S1x8x64x1024 .i8) (harg8 : arg8.IsWhole) (arg9 : Memref sig .tc .vmem S1x8x1024 .f32) (harg9 : arg9.IsWhole) (arg10 : Memref sig .tc .vmem S1x4x32x128 .bf16) (harg10 : arg10.IsWhole) (arg11 : Memref sig .tc .vmem S1x4x8x128 .fp8e4m3) (harg11 : arg11.IsWhole) (arg12 : Memref sig .tc .vmem S1x4x8x64 .i8) (harg12 : arg12.IsWhole) (arg13 : Memref sig .tc .vmem S1x4x8 .f32) (harg13 : arg13.IsWhole) (arg14 : Memref sig .tc .vmem S128x512 .bf16) (harg14 : arg14.IsWhole) (arg15 : Memref sig .tc .vmem S128x128 .f32) (harg15 : arg15.IsWhole) (arg16 : Memref sig .tc .vmem S128x128 .f32) (harg16 : arg16.IsWhole) (arg17 : Memref sig .tc .vmem S4x128x256 .f32) (harg17 : arg17.IsWhole) (arg18 : Memref sig .tc .vmem S128x128 .f32) (harg18 : arg18.IsWhole) (x3 : Vec F S1x4x32x128 .bf16) (x4 : Vec F S1x4x8x128 .bf16) (x5 : Vec F S1x4x8x128 .bf16) (x6 : Vec F S1x8x128 .f32) (x7 : Vec F S1x1024x8x128 .fp8e4m3) (x8 : Vec F S1x8x64x1024 .i8) (x9 : Vec F S1x8x1024 .f32) (v1 : Elt F .i32) (st : St F) (h : cond0_1 i v1) :
    (blockSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 x6 x7 x8 x9 v1 st).l = k0_pay95 (eV (BitVec.ofNat 32 (i 1).val) v1 x7 st.q st.m) (lV (BitVec.ofNat 32 (i 1).val) v1 x7 st.q st.m st.l) := by
  unfold blockSt
  rw [if_pos h]
  dsimp only
  unfold blockRun
  dsimp only
  refine (View.canon_unit_zero (S := S128x128) (by funext a; fin_cases a <;> rfl) _ _).trans ?_
  have k0_0 : ∀ inb, View.readAt (Elt F) arg7.view (Rect.unit (s := S1x1024x8x128) ![0, 0, 0, 0] ![1, 128, 4, 128] inb).toLoadRect (harg7.unread x7) = keyPart x7 0 0 (by omega) (by omega) := fun inb =>
    read_part (S := S1x1024x8x128) harg7 x7 inb _ fun x => ⟨_, rfl, fun a => by have : (x 0).val < 1 := (x 0).isLt; fin_cases a <;> simp <;> omega⟩
  have k128_0 : ∀ inb, View.readAt (Elt F) arg7.view (Rect.unit (s := S1x1024x8x128) ![0, 128, 0, 0] ![1, 128, 4, 128] inb).toLoadRect (harg7.unread x7) = keyPart x7 128 0 (by omega) (by omega) := fun inb =>
    read_part (S := S1x1024x8x128) harg7 x7 inb _ fun x => ⟨_, rfl, fun a => by have : (x 0).val < 1 := (x 0).isLt; fin_cases a <;> simp <;> omega⟩
  have k256_0 : ∀ inb, View.readAt (Elt F) arg7.view (Rect.unit (s := S1x1024x8x128) ![0, 256, 0, 0] ![1, 128, 4, 128] inb).toLoadRect (harg7.unread x7) = keyPart x7 256 0 (by omega) (by omega) := fun inb =>
    read_part (S := S1x1024x8x128) harg7 x7 inb _ fun x => ⟨_, rfl, fun a => by have : (x 0).val < 1 := (x 0).isLt; fin_cases a <;> simp <;> omega⟩
  have k384_0 : ∀ inb, View.readAt (Elt F) arg7.view (Rect.unit (s := S1x1024x8x128) ![0, 384, 0, 0] ![1, 128, 4, 128] inb).toLoadRect (harg7.unread x7) = keyPart x7 384 0 (by omega) (by omega) := fun inb =>
    read_part (S := S1x1024x8x128) harg7 x7 inb _ fun x => ⟨_, rfl, fun a => by have : (x 0).val < 1 := (x 0).isLt; fin_cases a <;> simp <;> omega⟩
  have k512_0 : ∀ inb, View.readAt (Elt F) arg7.view (Rect.unit (s := S1x1024x8x128) ![0, 512, 0, 0] ![1, 128, 4, 128] inb).toLoadRect (harg7.unread x7) = keyPart x7 512 0 (by omega) (by omega) := fun inb =>
    read_part (S := S1x1024x8x128) harg7 x7 inb _ fun x => ⟨_, rfl, fun a => by have : (x 0).val < 1 := (x 0).isLt; fin_cases a <;> simp <;> omega⟩
  have k640_0 : ∀ inb, View.readAt (Elt F) arg7.view (Rect.unit (s := S1x1024x8x128) ![0, 640, 0, 0] ![1, 128, 4, 128] inb).toLoadRect (harg7.unread x7) = keyPart x7 640 0 (by omega) (by omega) := fun inb =>
    read_part (S := S1x1024x8x128) harg7 x7 inb _ fun x => ⟨_, rfl, fun a => by have : (x 0).val < 1 := (x 0).isLt; fin_cases a <;> simp <;> omega⟩
  have k768_0 : ∀ inb, View.readAt (Elt F) arg7.view (Rect.unit (s := S1x1024x8x128) ![0, 768, 0, 0] ![1, 128, 4, 128] inb).toLoadRect (harg7.unread x7) = keyPart x7 768 0 (by omega) (by omega) := fun inb =>
    read_part (S := S1x1024x8x128) harg7 x7 inb _ fun x => ⟨_, rfl, fun a => by have : (x 0).val < 1 := (x 0).isLt; fin_cases a <;> simp <;> omega⟩
  have k896_0 : ∀ inb, View.readAt (Elt F) arg7.view (Rect.unit (s := S1x1024x8x128) ![0, 896, 0, 0] ![1, 128, 4, 128] inb).toLoadRect (harg7.unread x7) = keyPart x7 896 0 (by omega) (by omega) := fun inb =>
    read_part (S := S1x1024x8x128) harg7 x7 inb _ fun x => ⟨_, rfl, fun a => by have : (x 0).val < 1 := (x 0).isLt; fin_cases a <;> simp <;> omega⟩
  have k0_4 : ∀ inb, View.readAt (Elt F) arg7.view (Rect.unit (s := S1x1024x8x128) ![0, 0, 4, 0] ![1, 128, 4, 128] inb).toLoadRect (harg7.unread x7) = keyPart x7 0 4 (by omega) (by omega) := fun inb =>
    read_part (S := S1x1024x8x128) harg7 x7 inb _ fun x => ⟨_, rfl, fun a => by have : (x 0).val < 1 := (x 0).isLt; fin_cases a <;> simp <;> omega⟩
  have k128_4 : ∀ inb, View.readAt (Elt F) arg7.view (Rect.unit (s := S1x1024x8x128) ![0, 128, 4, 0] ![1, 128, 4, 128] inb).toLoadRect (harg7.unread x7) = keyPart x7 128 4 (by omega) (by omega) := fun inb =>
    read_part (S := S1x1024x8x128) harg7 x7 inb _ fun x => ⟨_, rfl, fun a => by have : (x 0).val < 1 := (x 0).isLt; fin_cases a <;> simp <;> omega⟩
  have k256_4 : ∀ inb, View.readAt (Elt F) arg7.view (Rect.unit (s := S1x1024x8x128) ![0, 256, 4, 0] ![1, 128, 4, 128] inb).toLoadRect (harg7.unread x7) = keyPart x7 256 4 (by omega) (by omega) := fun inb =>
    read_part (S := S1x1024x8x128) harg7 x7 inb _ fun x => ⟨_, rfl, fun a => by have : (x 0).val < 1 := (x 0).isLt; fin_cases a <;> simp <;> omega⟩
  have k384_4 : ∀ inb, View.readAt (Elt F) arg7.view (Rect.unit (s := S1x1024x8x128) ![0, 384, 4, 0] ![1, 128, 4, 128] inb).toLoadRect (harg7.unread x7) = keyPart x7 384 4 (by omega) (by omega) := fun inb =>
    read_part (S := S1x1024x8x128) harg7 x7 inb _ fun x => ⟨_, rfl, fun a => by have : (x 0).val < 1 := (x 0).isLt; fin_cases a <;> simp <;> omega⟩
  have k512_4 : ∀ inb, View.readAt (Elt F) arg7.view (Rect.unit (s := S1x1024x8x128) ![0, 512, 4, 0] ![1, 128, 4, 128] inb).toLoadRect (harg7.unread x7) = keyPart x7 512 4 (by omega) (by omega) := fun inb =>
    read_part (S := S1x1024x8x128) harg7 x7 inb _ fun x => ⟨_, rfl, fun a => by have : (x 0).val < 1 := (x 0).isLt; fin_cases a <;> simp <;> omega⟩
  have k640_4 : ∀ inb, View.readAt (Elt F) arg7.view (Rect.unit (s := S1x1024x8x128) ![0, 640, 4, 0] ![1, 128, 4, 128] inb).toLoadRect (harg7.unread x7) = keyPart x7 640 4 (by omega) (by omega) := fun inb =>
    read_part (S := S1x1024x8x128) harg7 x7 inb _ fun x => ⟨_, rfl, fun a => by have : (x 0).val < 1 := (x 0).isLt; fin_cases a <;> simp <;> omega⟩
  have k768_4 : ∀ inb, View.readAt (Elt F) arg7.view (Rect.unit (s := S1x1024x8x128) ![0, 768, 4, 0] ![1, 128, 4, 128] inb).toLoadRect (harg7.unread x7) = keyPart x7 768 4 (by omega) (by omega) := fun inb =>
    read_part (S := S1x1024x8x128) harg7 x7 inb _ fun x => ⟨_, rfl, fun a => by have : (x 0).val < 1 := (x 0).isLt; fin_cases a <;> simp <;> omega⟩
  have k896_4 : ∀ inb, View.readAt (Elt F) arg7.view (Rect.unit (s := S1x1024x8x128) ![0, 896, 4, 0] ![1, 128, 4, 128] inb).toLoadRect (harg7.unread x7) = keyPart x7 896 4 (by omega) (by omega) := fun inb =>
    read_part (S := S1x1024x8x128) harg7 x7 inb _ fun x => ⟨_, rfl, fun a => by have : (x 0).val < 1 := (x 0).isLt; fin_cases a <;> simp <;> omega⟩
  have q0 : ∀ inb, View.readAt (Elt F) arg14.view (Rect.unit (s := S128x512) ![0, 0] ![64, 512] inb).toLoadRect (harg14.unread st.q) = rowsPart st.q 0 (by omega) := fun inb =>
    read_part (S := S128x512) harg14 st.q inb _ fun x => ⟨_, rfl, fun a => by fin_cases a <;> simp⟩
  have q64 : ∀ inb, View.readAt (Elt F) arg14.view (Rect.unit (s := S128x512) ![64, 0] ![64, 512] inb).toLoadRect (harg14.unread st.q) = rowsPart st.q 64 (by omega) := fun inb =>
    read_part (S := S128x512) harg14 st.q inb _ fun x => ⟨_, rfl, fun a => by fin_cases a <;> simp⟩
  have em : ∀ inb, View.readAt (Elt F) arg15.view (Rect.unit (s := S128x128) ![0, 0] ![128, 1] inb).toLoadRect (harg15.unread st.m) = firstCol st.m := fun inb =>
    read_part (S := S128x128) harg15 st.m inb _ fun x => ⟨_, rfl, fun a => by have : (x 1).val < 1 := (x 1).isLt; fin_cases a <;> simp <;> omega⟩
  have el : ∀ inb, View.readAt (Elt F) arg16.view (Rect.unit (s := S128x128) ![0, 0] ![128, 128] inb).toLoadRect (harg16.unread st.l) = st.l := fun inb => read_whole (S := S128x128) harg16 st.l (by funext a; fin_cases a <;> rfl) inb
  simp only [blockRun.sl.r_1, blockRun.sl.r_2, blockRun.sl.r_3, blockRun.sl.r_4, blockRun.sl.r_5, blockRun.sl.r_6, blockRun.sl.r_7, blockRun.sl.r_8, blockRun.sl.r_9, blockRun.sl.r_10, blockRun.sl.r_11, blockRun.sl.r_12, blockRun.sl.r_13, blockRun.sl.r_14, blockRun.sl.r_15, blockRun.sl.r_16, k0_0, k128_0, k256_0, k384_0, k512_0, k640_0, k768_0, k896_0, k0_4, k128_4, k256_4, k384_4, k512_4, k640_4, k768_4, k896_4, q0, q64, em, el]
  rfl

theorem block_accn_eq (c : Dev nD) (i : grid0.Coords) (arg2 : Memref sig .tc .smem S4 .i32) (harg2 : arg2.IsWhole) (arg3 : Memref sig .tc .vmem S1x4x32x128 .bf16) (harg3 : arg3.IsWhole) (arg4 : Memref sig .tc .vmem S1x4x8x128 .bf16) (harg4 : arg4.IsWhole) (arg5 : Memref sig .tc .vmem S1x4x8x128 .bf16) (harg5 : arg5.IsWhole) (arg6 : Memref sig .tc .vmem S1x8x128 .f32) (harg6 : arg6.IsWhole) (arg7 : Memref sig .tc .vmem S1x1024x8x128 .fp8e4m3) (harg7 : arg7.IsWhole) (arg8 : Memref sig .tc .vmem S1x8x64x1024 .i8) (harg8 : arg8.IsWhole) (arg9 : Memref sig .tc .vmem S1x8x1024 .f32) (harg9 : arg9.IsWhole) (arg10 : Memref sig .tc .vmem S1x4x32x128 .bf16) (harg10 : arg10.IsWhole) (arg11 : Memref sig .tc .vmem S1x4x8x128 .fp8e4m3) (harg11 : arg11.IsWhole) (arg12 : Memref sig .tc .vmem S1x4x8x64 .i8) (harg12 : arg12.IsWhole) (arg13 : Memref sig .tc .vmem S1x4x8 .f32) (harg13 : arg13.IsWhole) (arg14 : Memref sig .tc .vmem S128x512 .bf16) (harg14 : arg14.IsWhole) (arg15 : Memref sig .tc .vmem S128x128 .f32) (harg15 : arg15.IsWhole) (arg16 : Memref sig .tc .vmem S128x128 .f32) (harg16 : arg16.IsWhole) (arg17 : Memref sig .tc .vmem S4x128x256 .f32) (harg17 : arg17.IsWhole) (arg18 : Memref sig .tc .vmem S128x128 .f32) (harg18 : arg18.IsWhole) (x3 : Vec F S1x4x32x128 .bf16) (x4 : Vec F S1x4x8x128 .bf16) (x5 : Vec F S1x4x8x128 .bf16) (x6 : Vec F S1x8x128 .f32) (x7 : Vec F S1x1024x8x128 .fp8e4m3) (x8 : Vec F S1x8x64x1024 .i8) (x9 : Vec F S1x8x1024 .f32) (v1 : Elt F .i32) (st : St F) (h : cond0_1 i v1) :
    (blockSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 x6 x7 x8 x9 v1 st).accn = k0_pay3 (alV (BitVec.ofNat 32 (i 1).val) v1 x7 st.q st.m) st.accn := by
  unfold blockSt
  rw [if_pos h]
  dsimp only
  unfold blockRun
  dsimp only
  refine (View.canon_unit_zero (S := S128x128) (by funext a; fin_cases a <;> rfl) _ _).trans ?_
  have k0_0 : ∀ inb, View.readAt (Elt F) arg7.view (Rect.unit (s := S1x1024x8x128) ![0, 0, 0, 0] ![1, 128, 4, 128] inb).toLoadRect (harg7.unread x7) = keyPart x7 0 0 (by omega) (by omega) := fun inb =>
    read_part (S := S1x1024x8x128) harg7 x7 inb _ fun x => ⟨_, rfl, fun a => by have : (x 0).val < 1 := (x 0).isLt; fin_cases a <;> simp <;> omega⟩
  have k128_0 : ∀ inb, View.readAt (Elt F) arg7.view (Rect.unit (s := S1x1024x8x128) ![0, 128, 0, 0] ![1, 128, 4, 128] inb).toLoadRect (harg7.unread x7) = keyPart x7 128 0 (by omega) (by omega) := fun inb =>
    read_part (S := S1x1024x8x128) harg7 x7 inb _ fun x => ⟨_, rfl, fun a => by have : (x 0).val < 1 := (x 0).isLt; fin_cases a <;> simp <;> omega⟩
  have k256_0 : ∀ inb, View.readAt (Elt F) arg7.view (Rect.unit (s := S1x1024x8x128) ![0, 256, 0, 0] ![1, 128, 4, 128] inb).toLoadRect (harg7.unread x7) = keyPart x7 256 0 (by omega) (by omega) := fun inb =>
    read_part (S := S1x1024x8x128) harg7 x7 inb _ fun x => ⟨_, rfl, fun a => by have : (x 0).val < 1 := (x 0).isLt; fin_cases a <;> simp <;> omega⟩
  have k384_0 : ∀ inb, View.readAt (Elt F) arg7.view (Rect.unit (s := S1x1024x8x128) ![0, 384, 0, 0] ![1, 128, 4, 128] inb).toLoadRect (harg7.unread x7) = keyPart x7 384 0 (by omega) (by omega) := fun inb =>
    read_part (S := S1x1024x8x128) harg7 x7 inb _ fun x => ⟨_, rfl, fun a => by have : (x 0).val < 1 := (x 0).isLt; fin_cases a <;> simp <;> omega⟩
  have k512_0 : ∀ inb, View.readAt (Elt F) arg7.view (Rect.unit (s := S1x1024x8x128) ![0, 512, 0, 0] ![1, 128, 4, 128] inb).toLoadRect (harg7.unread x7) = keyPart x7 512 0 (by omega) (by omega) := fun inb =>
    read_part (S := S1x1024x8x128) harg7 x7 inb _ fun x => ⟨_, rfl, fun a => by have : (x 0).val < 1 := (x 0).isLt; fin_cases a <;> simp <;> omega⟩
  have k640_0 : ∀ inb, View.readAt (Elt F) arg7.view (Rect.unit (s := S1x1024x8x128) ![0, 640, 0, 0] ![1, 128, 4, 128] inb).toLoadRect (harg7.unread x7) = keyPart x7 640 0 (by omega) (by omega) := fun inb =>
    read_part (S := S1x1024x8x128) harg7 x7 inb _ fun x => ⟨_, rfl, fun a => by have : (x 0).val < 1 := (x 0).isLt; fin_cases a <;> simp <;> omega⟩
  have k768_0 : ∀ inb, View.readAt (Elt F) arg7.view (Rect.unit (s := S1x1024x8x128) ![0, 768, 0, 0] ![1, 128, 4, 128] inb).toLoadRect (harg7.unread x7) = keyPart x7 768 0 (by omega) (by omega) := fun inb =>
    read_part (S := S1x1024x8x128) harg7 x7 inb _ fun x => ⟨_, rfl, fun a => by have : (x 0).val < 1 := (x 0).isLt; fin_cases a <;> simp <;> omega⟩
  have k896_0 : ∀ inb, View.readAt (Elt F) arg7.view (Rect.unit (s := S1x1024x8x128) ![0, 896, 0, 0] ![1, 128, 4, 128] inb).toLoadRect (harg7.unread x7) = keyPart x7 896 0 (by omega) (by omega) := fun inb =>
    read_part (S := S1x1024x8x128) harg7 x7 inb _ fun x => ⟨_, rfl, fun a => by have : (x 0).val < 1 := (x 0).isLt; fin_cases a <;> simp <;> omega⟩
  have k0_4 : ∀ inb, View.readAt (Elt F) arg7.view (Rect.unit (s := S1x1024x8x128) ![0, 0, 4, 0] ![1, 128, 4, 128] inb).toLoadRect (harg7.unread x7) = keyPart x7 0 4 (by omega) (by omega) := fun inb =>
    read_part (S := S1x1024x8x128) harg7 x7 inb _ fun x => ⟨_, rfl, fun a => by have : (x 0).val < 1 := (x 0).isLt; fin_cases a <;> simp <;> omega⟩
  have k128_4 : ∀ inb, View.readAt (Elt F) arg7.view (Rect.unit (s := S1x1024x8x128) ![0, 128, 4, 0] ![1, 128, 4, 128] inb).toLoadRect (harg7.unread x7) = keyPart x7 128 4 (by omega) (by omega) := fun inb =>
    read_part (S := S1x1024x8x128) harg7 x7 inb _ fun x => ⟨_, rfl, fun a => by have : (x 0).val < 1 := (x 0).isLt; fin_cases a <;> simp <;> omega⟩
  have k256_4 : ∀ inb, View.readAt (Elt F) arg7.view (Rect.unit (s := S1x1024x8x128) ![0, 256, 4, 0] ![1, 128, 4, 128] inb).toLoadRect (harg7.unread x7) = keyPart x7 256 4 (by omega) (by omega) := fun inb =>
    read_part (S := S1x1024x8x128) harg7 x7 inb _ fun x => ⟨_, rfl, fun a => by have : (x 0).val < 1 := (x 0).isLt; fin_cases a <;> simp <;> omega⟩
  have k384_4 : ∀ inb, View.readAt (Elt F) arg7.view (Rect.unit (s := S1x1024x8x128) ![0, 384, 4, 0] ![1, 128, 4, 128] inb).toLoadRect (harg7.unread x7) = keyPart x7 384 4 (by omega) (by omega) := fun inb =>
    read_part (S := S1x1024x8x128) harg7 x7 inb _ fun x => ⟨_, rfl, fun a => by have : (x 0).val < 1 := (x 0).isLt; fin_cases a <;> simp <;> omega⟩
  have k512_4 : ∀ inb, View.readAt (Elt F) arg7.view (Rect.unit (s := S1x1024x8x128) ![0, 512, 4, 0] ![1, 128, 4, 128] inb).toLoadRect (harg7.unread x7) = keyPart x7 512 4 (by omega) (by omega) := fun inb =>
    read_part (S := S1x1024x8x128) harg7 x7 inb _ fun x => ⟨_, rfl, fun a => by have : (x 0).val < 1 := (x 0).isLt; fin_cases a <;> simp <;> omega⟩
  have k640_4 : ∀ inb, View.readAt (Elt F) arg7.view (Rect.unit (s := S1x1024x8x128) ![0, 640, 4, 0] ![1, 128, 4, 128] inb).toLoadRect (harg7.unread x7) = keyPart x7 640 4 (by omega) (by omega) := fun inb =>
    read_part (S := S1x1024x8x128) harg7 x7 inb _ fun x => ⟨_, rfl, fun a => by have : (x 0).val < 1 := (x 0).isLt; fin_cases a <;> simp <;> omega⟩
  have k768_4 : ∀ inb, View.readAt (Elt F) arg7.view (Rect.unit (s := S1x1024x8x128) ![0, 768, 4, 0] ![1, 128, 4, 128] inb).toLoadRect (harg7.unread x7) = keyPart x7 768 4 (by omega) (by omega) := fun inb =>
    read_part (S := S1x1024x8x128) harg7 x7 inb _ fun x => ⟨_, rfl, fun a => by have : (x 0).val < 1 := (x 0).isLt; fin_cases a <;> simp <;> omega⟩
  have k896_4 : ∀ inb, View.readAt (Elt F) arg7.view (Rect.unit (s := S1x1024x8x128) ![0, 896, 4, 0] ![1, 128, 4, 128] inb).toLoadRect (harg7.unread x7) = keyPart x7 896 4 (by omega) (by omega) := fun inb =>
    read_part (S := S1x1024x8x128) harg7 x7 inb _ fun x => ⟨_, rfl, fun a => by have : (x 0).val < 1 := (x 0).isLt; fin_cases a <;> simp <;> omega⟩
  have q0 : ∀ inb, View.readAt (Elt F) arg14.view (Rect.unit (s := S128x512) ![0, 0] ![64, 512] inb).toLoadRect (harg14.unread st.q) = rowsPart st.q 0 (by omega) := fun inb =>
    read_part (S := S128x512) harg14 st.q inb _ fun x => ⟨_, rfl, fun a => by fin_cases a <;> simp⟩
  have q64 : ∀ inb, View.readAt (Elt F) arg14.view (Rect.unit (s := S128x512) ![64, 0] ![64, 512] inb).toLoadRect (harg14.unread st.q) = rowsPart st.q 64 (by omega) := fun inb =>
    read_part (S := S128x512) harg14 st.q inb _ fun x => ⟨_, rfl, fun a => by fin_cases a <;> simp⟩
  have em : ∀ inb, View.readAt (Elt F) arg15.view (Rect.unit (s := S128x128) ![0, 0] ![128, 1] inb).toLoadRect (harg15.unread st.m) = firstCol st.m := fun inb =>
    read_part (S := S128x128) harg15 st.m inb _ fun x => ⟨_, rfl, fun a => by have : (x 1).val < 1 := (x 1).isLt; fin_cases a <;> simp <;> omega⟩
  have en : ∀ inb, View.readAt (Elt F) arg18.view (Rect.unit (s := S128x128) ![0, 0] ![128, 128] inb).toLoadRect (harg18.unread st.accn) = st.accn := fun inb => read_whole (S := S128x128) harg18 st.accn (by funext a; fin_cases a <;> rfl) inb
  simp only [blockRun.sl.r_1, blockRun.sl.r_2, blockRun.sl.r_3, blockRun.sl.r_4, blockRun.sl.r_5, blockRun.sl.r_6, blockRun.sl.r_7, blockRun.sl.r_8, blockRun.sl.r_9, blockRun.sl.r_10, blockRun.sl.r_11, blockRun.sl.r_12, blockRun.sl.r_13, blockRun.sl.r_14, blockRun.sl.r_15, blockRun.sl.r_16, k0_0, k128_0, k256_0, k384_0, k512_0, k640_0, k768_0, k896_0, k0_4, k128_4, k256_4, k384_4, k512_4, k640_4, k768_4, k896_4, q0, q64, em, en]
  rfl

/-- One nibble of each of the words, as the numbers they stand for, -/
def vBits (n : BitVec 32) (w : IVec S64x256 32) : FVec F S128x256 .bf16 :=
  let v258 : IVec S64x256 32 := broadcast S64x256 n
  let v259 : IVec S64x256 32 := shrsi w v258
  let v260 : IVec S64x256 32 := broadcast S64x256 983055#32
  let v261 : IVec S64x256 32 := andi v259 v260
  let v262 : IVec S64x256 32 := broadcast S64x256 1124614920#32
  let v263 : IVec S64x256 32 := xori v261 v262
  let v264 : FVec F S128x256 .bf16 := bitcastToFloat .bf16 (bitcast S128x256 16 v263 bitcasts_S64x256_w32_S128x256_w16)
  let cst_121 : F .bf16 := Scalar.ofBits .bf16 0x4308#16
  let v265 : FVec F S128x256 .bf16 := broadcast S128x256 cst_121
  let v266 : FVec F S128x256 .bf16 := subf v264 v265
  v266
/-- the weights of the block's values, -/
def wV (a1 : BitVec 32) (v1 : Elt F .i32) (x7 : Vec F S1x1024x8x128 .fp8e4m3) (x9 : Vec F S1x8x1024 .f32) (q : Vec F S128x512 .bf16) (mx : Vec F S128x128 .f32) : Vec F S128x1024 .bf16 :=
  k0_pay97 (eV a1 v1 x7 q mx) x9
/-- and a plane of the new sums. -/
def accV (n : BitVec 32) (al : Vec F S128x1 .f32) (w : Vec F S128x1024 .bf16) (v : IVec S256x1024 16) (X : Vec F S1x128x256 .f32) : Vec F S1x128x256 .f32 :=
  k0_pay117 al w (vBits n (k0_pay98 v)) (vBits n (k0_pay99 v)) (vBits n (k0_pay101 (k0_pay100 v))) (vBits n (k0_pay102 v)) (vBits n (k0_pay103 v)) (vBits n (k0_pay104 v)) (vBits n (k0_pay105 v)) (vBits n (k0_pay106 v)) X

/-- Four planes stored one by one, read back. -/
theorem four_planes (h3 h2 h1 h0) (A3 A2 A1 A0 : Vec F S1x128x256 .f32) (n : Fin 4) (r : Fin 128) (k : Fin 256) (v : Elt F .f32)
    (e3 : n = 3 → A3 (ix3 0 r k) = v) (e2 : n = 2 → A2 (ix3 0 r k) = v) (e1 : n = 1 → A1 (ix3 0 r k) = v) (e0 : n = 0 → A0 (ix3 0 r k) = v) :
    View.canon (Val := Elt F) (s := S4x128x256) (e := .f32) [⟨Rect.unit ![3, 0, 0] ![1, 128, 256] h3, A3⟩, ⟨Rect.unit ![2, 0, 0] ![1, 128, 256] h2, A2⟩,
      ⟨Rect.unit ![1, 0, 0] ![1, 128, 256] h1, A1⟩, ⟨Rect.unit ![0, 0, 0] ![1, 128, 256] h0, A0⟩] (ix3 n r k) = v := by
  have key : ∀ (z : Fin 4) (W : Vec F S1x128x256 .f32) (x : S1x128x256.Idx), (∀ a, ((ix3 n r k : S4x128x256.Idx) a : ℕ) = (![z.val, 0, 0] : Fin 3 → ℕ) a + x a) → n = z ∧ W x = W (ix3 0 r k) := by
    intro z W x hx
    have h0 : n.val = z.val + (x 0).val := hx 0
    have h1 : r.val = 0 + (x 1).val := hx 1
    have h2 : k.val = 0 + (x 2).val := hx 2
    have h3 : (x 0).val < 1 := (x 0).isLt
    refine ⟨Fin.ext (by omega), congrArg W ?_⟩
    funext a
    fin_cases a
    · exact Fin.ext (by show (x 0).val = 0; omega)
    · exact Fin.ext (by show (x 1).val = r.val; omega)
    · exact Fin.ext (by show (x 2).val = k.val; omega)
  refine View.canon_eq_of_allAt _ _ _ ?_ ?_
  · exact View.cover_of_tiledL ([⟨Rect.unit ![3, 0, 0] ![1, 128, 256] h3, A3⟩, ⟨Rect.unit ![2, 0, 0] ![1, 128, 256] h2, A2⟩,
      ⟨Rect.unit ![1, 0, 0] ![1, 128, 256] h1, A1⟩, ⟨Rect.unit ![0, 0, 0] ![1, 128, 256] h0, A0⟩] : List (View.Piece (Elt F) S4x128x256 .f32)) S1x128x256.size (by sl_kernel_rfl) _
  refine View.allAt_cons_unit _ _ _ _ _ (fun x hx => ?_) (View.allAt_cons_unit _ _ _ _ _ (fun x hx => ?_) (View.allAt_cons_unit _ _ _ _ _ (fun x hx => ?_) (View.allAt_cons_unit _ _ _ _ _ (fun x hx => ?_) (View.allAt_nil _ _))))
  · obtain ⟨e, hw⟩ := key 3 A3 x hx; exact hw.trans (e3 e)
  · obtain ⟨e, hw⟩ := key 2 A2 x hx; exact hw.trans (e2 e)
  · obtain ⟨e, hw⟩ := key 1 A1 x hx; exact hw.trans (e1 e)
  · obtain ⟨e, hw⟩ := key 0 A0 x hx; exact hw.trans (e0 e)

theorem block_acc_at (c : Dev nD) (i : grid0.Coords) (arg2 : Memref sig .tc .smem S4 .i32) (harg2 : arg2.IsWhole) (arg3 : Memref sig .tc .vmem S1x4x32x128 .bf16) (harg3 : arg3.IsWhole) (arg4 : Memref sig .tc .vmem S1x4x8x128 .bf16) (harg4 : arg4.IsWhole) (arg5 : Memref sig .tc .vmem S1x4x8x128 .bf16) (harg5 : arg5.IsWhole) (arg6 : Memref sig .tc .vmem S1x8x128 .f32) (harg6 : arg6.IsWhole) (arg7 : Memref sig .tc .vmem S1x1024x8x128 .fp8e4m3) (harg7 : arg7.IsWhole) (arg8 : Memref sig .tc .vmem S1x8x64x1024 .i8) (harg8 : arg8.IsWhole) (arg9 : Memref sig .tc .vmem S1x8x1024 .f32) (harg9 : arg9.IsWhole) (arg10 : Memref sig .tc .vmem S1x4x32x128 .bf16) (harg10 : arg10.IsWhole) (arg11 : Memref sig .tc .vmem S1x4x8x128 .fp8e4m3) (harg11 : arg11.IsWhole) (arg12 : Memref sig .tc .vmem S1x4x8x64 .i8) (harg12 : arg12.IsWhole) (arg13 : Memref sig .tc .vmem S1x4x8 .f32) (harg13 : arg13.IsWhole) (arg14 : Memref sig .tc .vmem S128x512 .bf16) (harg14 : arg14.IsWhole) (arg15 : Memref sig .tc .vmem S128x128 .f32) (harg15 : arg15.IsWhole) (arg16 : Memref sig .tc .vmem S128x128 .f32) (harg16 : arg16.IsWhole) (arg17 : Memref sig .tc .vmem S4x128x256 .f32) (harg17 : arg17.IsWhole) (arg18 : Memref sig .tc .vmem S128x128 .f32) (harg18 : arg18.IsWhole) (x3 : Vec F S1x4x32x128 .bf16) (x4 : Vec F S1x4x8x128 .bf16) (x5 : Vec F S1x4x8x128 .bf16) (x6 : Vec F S1x8x128 .f32) (x7 : Vec F S1x1024x8x128 .fp8e4m3) (x8 : Vec F S1x8x64x1024 .i8) (x9 : Vec F S1x8x1024 .f32) (v1 : Elt F .i32) (st : St F) (h : cond0_1 i v1) (n : Fin 4) (r : Fin 128) (k : Fin 256) :
    (blockSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 x6 x7 x8 x9 v1 st).acc (ix3 n r k) = accV (BitVec.ofNat 32 (4 * n.val)) (alV (BitVec.ofNat 32 (i 1).val) v1 x7 st.q st.m) (wV (BitVec.ofNat 32 (i 1).val) v1 x7 x9 st.q st.m) (k0_pay77 x8) (plane st.acc n) (ix3 0 r k) := by
  refine (congrFun (congrArg St.acc (if_pos h)) _).trans ?_
  unfold blockRun
  dsimp only
  have k0_0 : ∀ inb, View.readAt (Elt F) arg7.view (Rect.unit (s := S1x1024x8x128) ![0, 0, 0, 0] ![1, 128, 4, 128] inb).toLoadRect (harg7.unread x7) = keyPart x7 0 0 (by omega) (by omega) := fun inb =>
    read_part (S := S1x1024x8x128) harg7 x7 inb _ fun x => ⟨_, rfl, fun a => by have : (x 0).val < 1 := (x 0).isLt; fin_cases a <;> simp <;> omega⟩
  have k128_0 : ∀ inb, View.readAt (Elt F) arg7.view (Rect.unit (s := S1x1024x8x128) ![0, 128, 0, 0] ![1, 128, 4, 128] inb).toLoadRect (harg7.unread x7) = keyPart x7 128 0 (by omega) (by omega) := fun inb =>
    read_part (S := S1x1024x8x128) harg7 x7 inb _ fun x => ⟨_, rfl, fun a => by have : (x 0).val < 1 := (x 0).isLt; fin_cases a <;> simp <;> omega⟩
  have k256_0 : ∀ inb, View.readAt (Elt F) arg7.view (Rect.unit (s := S1x1024x8x128) ![0, 256, 0, 0] ![1, 128, 4, 128] inb).toLoadRect (harg7.unread x7) = keyPart x7 256 0 (by omega) (by omega) := fun inb =>
    read_part (S := S1x1024x8x128) harg7 x7 inb _ fun x => ⟨_, rfl, fun a => by have : (x 0).val < 1 := (x 0).isLt; fin_cases a <;> simp <;> omega⟩
  have k384_0 : ∀ inb, View.readAt (Elt F) arg7.view (Rect.unit (s := S1x1024x8x128) ![0, 384, 0, 0] ![1, 128, 4, 128] inb).toLoadRect (harg7.unread x7) = keyPart x7 384 0 (by omega) (by omega) := fun inb =>
    read_part (S := S1x1024x8x128) harg7 x7 inb _ fun x => ⟨_, rfl, fun a => by have : (x 0).val < 1 := (x 0).isLt; fin_cases a <;> simp <;> omega⟩
  have k512_0 : ∀ inb, View.readAt (Elt F) arg7.view (Rect.unit (s := S1x1024x8x128) ![0, 512, 0, 0] ![1, 128, 4, 128] inb).toLoadRect (harg7.unread x7) = keyPart x7 512 0 (by omega) (by omega) := fun inb =>
    read_part (S := S1x1024x8x128) harg7 x7 inb _ fun x => ⟨_, rfl, fun a => by have : (x 0).val < 1 := (x 0).isLt; fin_cases a <;> simp <;> omega⟩
  have k640_0 : ∀ inb, View.readAt (Elt F) arg7.view (Rect.unit (s := S1x1024x8x128) ![0, 640, 0, 0] ![1, 128, 4, 128] inb).toLoadRect (harg7.unread x7) = keyPart x7 640 0 (by omega) (by omega) := fun inb =>
    read_part (S := S1x1024x8x128) harg7 x7 inb _ fun x => ⟨_, rfl, fun a => by have : (x 0).val < 1 := (x 0).isLt; fin_cases a <;> simp <;> omega⟩
  have k768_0 : ∀ inb, View.readAt (Elt F) arg7.view (Rect.unit (s := S1x1024x8x128) ![0, 768, 0, 0] ![1, 128, 4, 128] inb).toLoadRect (harg7.unread x7) = keyPart x7 768 0 (by omega) (by omega) := fun inb =>
    read_part (S := S1x1024x8x128) harg7 x7 inb _ fun x => ⟨_, rfl, fun a => by have : (x 0).val < 1 := (x 0).isLt; fin_cases a <;> simp <;> omega⟩
  have k896_0 : ∀ inb, View.readAt (Elt F) arg7.view (Rect.unit (s := S1x1024x8x128) ![0, 896, 0, 0] ![1, 128, 4, 128] inb).toLoadRect (harg7.unread x7) = keyPart x7 896 0 (by omega) (by omega) := fun inb =>
    read_part (S := S1x1024x8x128) harg7 x7 inb _ fun x => ⟨_, rfl, fun a => by have : (x 0).val < 1 := (x 0).isLt; fin_cases a <;> simp <;> omega⟩
  have k0_4 : ∀ inb, View.readAt (Elt F) arg7.view (Rect.unit (s := S1x1024x8x128) ![0, 0, 4, 0] ![1, 128, 4, 128] inb).toLoadRect (harg7.unread x7) = keyPart x7 0 4 (by omega) (by omega) := fun inb =>
    read_part (S := S1x1024x8x128) harg7 x7 inb _ fun x => ⟨_, rfl, fun a => by have : (x 0).val < 1 := (x 0).isLt; fin_cases a <;> simp <;> omega⟩
  have k128_4 : ∀ inb, View.readAt (Elt F) arg7.view (Rect.unit (s := S1x1024x8x128) ![0, 128, 4, 0] ![1, 128, 4, 128] inb).toLoadRect (harg7.unread x7) = keyPart x7 128 4 (by omega) (by omega) := fun inb =>
    read_part (S := S1x1024x8x128) harg7 x7 inb _ fun x => ⟨_, rfl, fun a => by have : (x 0).val < 1 := (x 0).isLt; fin_cases a <;> simp <;> omega⟩
  have k256_4 : ∀ inb, View.readAt (Elt F) arg7.view (Rect.unit (s := S1x1024x8x128) ![0, 256, 4, 0] ![1, 128, 4, 128] inb).toLoadRect (harg7.unread x7) = keyPart x7 256 4 (by omega) (by omega) := fun inb =>
    read_part (S := S1x1024x8x128) harg7 x7 inb _ fun x => ⟨_, rfl, fun a => by have : (x 0).val < 1 := (x 0).isLt; fin_cases a <;> simp <;> omega⟩
  have k384_4 : ∀ inb, View.readAt (Elt F) arg7.view (Rect.unit (s := S1x1024x8x128) ![0, 384, 4, 0] ![1, 128, 4, 128] inb).toLoadRect (harg7.unread x7) = keyPart x7 384 4 (by omega) (by omega) := fun inb =>
    read_part (S := S1x1024x8x128) harg7 x7 inb _ fun x => ⟨_, rfl, fun a => by have : (x 0).val < 1 := (x 0).isLt; fin_cases a <;> simp <;> omega⟩
  have k512_4 : ∀ inb, View.readAt (Elt F) arg7.view (Rect.unit (s := S1x1024x8x128) ![0, 512, 4, 0] ![1, 128, 4, 128] inb).toLoadRect (harg7.unread x7) = keyPart x7 512 4 (by omega) (by omega) := fun inb =>
    read_part (S := S1x1024x8x128) harg7 x7 inb _ fun x => ⟨_, rfl, fun a => by have : (x 0).val < 1 := (x 0).isLt; fin_cases a <;> simp <;> omega⟩
  have k640_4 : ∀ inb, View.readAt (Elt F) arg7.view (Rect.unit (s := S1x1024x8x128) ![0, 640, 4, 0] ![1, 128, 4, 128] inb).toLoadRect (harg7.unread x7) = keyPart x7 640 4 (by omega) (by omega) := fun inb =>
    read_part (S := S1x1024x8x128) harg7 x7 inb _ fun x => ⟨_, rfl, fun a => by have : (x 0).val < 1 := (x 0).isLt; fin_cases a <;> simp <;> omega⟩
  have k768_4 : ∀ inb, View.readAt (Elt F) arg7.view (Rect.unit (s := S1x1024x8x128) ![0, 768, 4, 0] ![1, 128, 4, 128] inb).toLoadRect (harg7.unread x7) = keyPart x7 768 4 (by omega) (by omega) := fun inb =>
    read_part (S := S1x1024x8x128) harg7 x7 inb _ fun x => ⟨_, rfl, fun a => by have : (x 0).val < 1 := (x 0).isLt; fin_cases a <;> simp <;> omega⟩
  have k896_4 : ∀ inb, View.readAt (Elt F) arg7.view (Rect.unit (s := S1x1024x8x128) ![0, 896, 4, 0] ![1, 128, 4, 128] inb).toLoadRect (harg7.unread x7) = keyPart x7 896 4 (by omega) (by omega) := fun inb =>
    read_part (S := S1x1024x8x128) harg7 x7 inb _ fun x => ⟨_, rfl, fun a => by have : (x 0).val < 1 := (x 0).isLt; fin_cases a <;> simp <;> omega⟩
  have q0 : ∀ inb, View.readAt (Elt F) arg14.view (Rect.unit (s := S128x512) ![0, 0] ![64, 512] inb).toLoadRect (harg14.unread st.q) = rowsPart st.q 0 (by omega) := fun inb =>
    read_part (S := S128x512) harg14 st.q inb _ fun x => ⟨_, rfl, fun a => by fin_cases a <;> simp⟩
  have q64 : ∀ inb, View.readAt (Elt F) arg14.view (Rect.unit (s := S128x512) ![64, 0] ![64, 512] inb).toLoadRect (harg14.unread st.q) = rowsPart st.q 64 (by omega) := fun inb =>
    read_part (S := S128x512) harg14 st.q inb _ fun x => ⟨_, rfl, fun a => by fin_cases a <;> simp⟩
  have em : ∀ inb, View.readAt (Elt F) arg15.view (Rect.unit (s := S128x128) ![0, 0] ![128, 1] inb).toLoadRect (harg15.unread st.m) = firstCol st.m := fun inb =>
    read_part (S := S128x128) harg15 st.m inb _ fun x => ⟨_, rfl, fun a => by have : (x 1).val < 1 := (x 1).isLt; fin_cases a <;> simp <;> omega⟩
  have e8 : ∀ inb, View.readAt (Elt F) arg8.view (Rect.unit (s := S1x8x64x1024) ![0, 0, 0, 0] ![1, 8, 64, 1024] inb).toLoadRect (harg8.unread x8) = x8 := fun inb => read_whole (S := S1x8x64x1024) harg8 x8 (by funext a; fin_cases a <;> rfl) inb
  have e9 : ∀ inb, View.readAt (Elt F) arg9.view (Rect.unit (s := S1x8x1024) ![0, 0, 0] ![1, 8, 1024] inb).toLoadRect (harg9.unread x9) = x9 := fun inb => read_whole (S := S1x8x1024) harg9 x9 (by funext a; fin_cases a <;> rfl) inb
  have a0 : ∀ inb, View.readAt (Elt F) arg17.view (Rect.unit (s := S4x128x256) ![0, 0, 0] ![1, 128, 256] inb).toLoadRect (harg17.unread st.acc) = plane st.acc 0 := fun inb =>
    read_part (S := S4x128x256) harg17 st.acc inb _ fun x => ⟨_, rfl, fun a => by have : (x 0).val < 1 := (x 0).isLt; fin_cases a <;> simp <;> omega⟩
  have a1 : ∀ inb, View.readAt (Elt F) arg17.view (Rect.unit (s := S4x128x256) ![1, 0, 0] ![1, 128, 256] inb).toLoadRect (harg17.unread st.acc) = plane st.acc 1 := fun inb =>
    read_part (S := S4x128x256) harg17 st.acc inb _ fun x => ⟨_, rfl, fun a => by have : (x 0).val < 1 := (x 0).isLt; fin_cases a <;> simp <;> omega⟩
  have a2 : ∀ inb, View.readAt (Elt F) arg17.view (Rect.unit (s := S4x128x256) ![2, 0, 0] ![1, 128, 256] inb).toLoadRect (harg17.unread st.acc) = plane st.acc 2 := fun inb =>
    read_part (S := S4x128x256) harg17 st.acc inb _ fun x => ⟨_, rfl, fun a => by have : (x 0).val < 1 := (x 0).isLt; fin_cases a <;> simp <;> omega⟩
  have a3 : ∀ inb, View.readAt (Elt F) arg17.view (Rect.unit (s := S4x128x256) ![3, 0, 0] ![1, 128, 256] inb).toLoadRect (harg17.unread st.acc) = plane st.acc 3 := fun inb =>
    read_part (S := S4x128x256) harg17 st.acc inb _ fun x => ⟨_, rfl, fun a => by have : (x 0).val < 1 := (x 0).isLt; fin_cases a <;> simp <;> omega⟩
  simp only [blockRun.sl.r, blockRun.sl.r_1, blockRun.sl.r_2, blockRun.sl.r_3, blockRun.sl.r_4, blockRun.sl.r_5, blockRun.sl.r_6, blockRun.sl.r_7, blockRun.sl.r_8, blockRun.sl.r_9, blockRun.sl.r_10, blockRun.sl.r_11, blockRun.sl.r_12, blockRun.sl.r_13, blockRun.sl.r_14, blockRun.sl.r_15, blockRun.sl.r_16, blockRun.sl.r_17, blockRun.sl.r_18, blockRun.sl.r_19, blockRun.sl.r_20, blockRun.sl.r_21, blockRun.sl.r_22, blockRun.sl.r_23, blockRun.sl.r_24, blockRun.sl.r_25, blockRun.sl.r_26, blockRun.sl.r_27, blockRun.sl.r_28, blockRun.sl.r_29, blockRun.sl.r_30, blockRun.sl.r_31, blockRun.sl.r_32, blockRun.sl.r_33, blockRun.sl.r_34, blockRun.sl.r_35, blockRun.sl.r_36, blockRun.sl.r_37, blockRun.sl.r_38, blockRun.sl.r_39, blockRun.sl.r_40, blockRun.sl.r_41, blockRun.sl.r_42, blockRun.sl.r_43, blockRun.sl.r_44, blockRun.sl.r_45, blockRun.sl.r_46, blockRun.sl.r_47, blockRun.sl.r_48, blockRun.sl.r_49, blockRun.sl.r_50, blockRun.sl.r_51, blockRun.sl.r_52, blockRun.sl.r_53, blockRun.sl.r_54, blockRun.sl.r_55, blockRun.sl.r_56, blockRun.sl.r_57, blockRun.sl.r_58, blockRun.sl.r_59, blockRun.sl.r_60, blockRun.sl.r_61, blockRun.sl.v330, blockRun.sl.v412, blockRun.sl.v494, blockRun.sl.cst_149, k0_0, k128_0, k256_0, k384_0, k512_0, k640_0, k768_0, k896_0, k0_4, k128_4, k256_4, k384_4, k512_4, k640_4, k768_4, k896_4, q0, q64, em, e8, e9, a0, a1, a2, a3]
  exact four_planes _ _ _ _ _ _ _ _ n r k _ (fun e => by subst e; rfl) (fun e => by subst e; rfl) (fun e => by subst e; rfl) (fun e => by subst e; rfl)

end Cert.KernelIdeal.Hand
end
-- ==== Proof.QueryValue.lean ====
module

public import proofs.«01_k».proof.Proof.Gen.KernelIdeal.Skeleton
public import Idealize.ShloMosaic.Lib.Pointwise
public import proofs.«01_k».proof.Proof.Scalars

@[expose] public section

set_option maxRecDepth 16384

noncomputable section

namespace Cert.KernelIdeal.Hand

open Idealize.ShloMosaic
open Cert.Vals Cert.KernelIdeal Cert.KernelIdeal.Gen

theorem pay10_at (r : Fin 128) (c : Fin 8) : k0_pay10 (ix2 r c) = BitVec.ofNat 32 (r.val % 32) := by
  pointwise [k0_pay10]
  revert r; decide +kernel

theorem rep_at (r : Fin 128) (c : Fin 8) :
    Scalar.select (IntOp.andi (k0_pay12 (ix2 r c)) (IntOp.cmpi .ne (k0_pay13 (ix2 r c)) (k0_pay14 (ix2 r c))))
      (IntOp.subi (k0_pay11 (ix2 r c)) 1#32) (k0_pay11 (ix2 r c)) = BitVec.ofNat 32 (r.val % 32 / 4) := by
  pointwise [k0_pay11, k0_pay12, k0_pay13, k0_pay14]
  rw [pay10_at]
  revert r; decide +kernel

/-- One row of the scaled queries, before the rows are put in their order. -/
theorem piece (v14 : FVec Ideal S128x128 .bf16) (v16 : FVec Ideal S8x128 .f32) (a : Fin 128) (c : Fin 128) :
    v14 (ix2 a c) * (∑ x : Fin 8, Scalar.select (IntOp.cmpi .eq
      (Scalar.select (IntOp.andi (k0_pay12 (ix2 a x)) (IntOp.cmpi .ne (k0_pay13 (ix2 a x)) (k0_pay14 (ix2 a x))))
        (IntOp.subi (k0_pay11 (ix2 a x)) 1#32) (k0_pay11 (ix2 a x))) (BitVec.ofNat 32 x.val)) (v16 (ix2 x c)) 0)
    = v14 (ix2 a c) * v16 (ix2 ⟨a.val % 32 / 4, by omega⟩ c) := by
  simp only [rep_at]
  rw [sum_pick (by decide) (fun x => v16 (ix2 x c)) (a.val % 32 / 4) (by omega)]

/-- The row of the reordered queries' row `r` among the rows in order of position and head. -/
def srcRow (r : Fin 128) : Fin 128 := ⟨r.val % 64 / 16 * 32 + r.val / 64 * 16 + r.val % 16, by omega⟩

theorem pay15_at (v14 : FVec Ideal S128x128 .bf16) (v16 : FVec Ideal S8x128 .f32) (r : Fin 128) (c : Fin 128) :
    k0_pay15 v14 v16 k0_pay11 k0_pay12 k0_pay13 k0_pay14 (ix2 r c)
      = v14 (ix2 (srcRow r) c) * v16 (ix2 (kvOf r) c) := by
  have hp : ∀ a : Fin 128, a = srcRow r → v14 (ix2 a c) * (∑ x : Fin 8, Scalar.select (IntOp.cmpi .eq
      (Scalar.select (IntOp.andi (k0_pay12 (ix2 a x)) (IntOp.cmpi .ne (k0_pay13 (ix2 a x)) (k0_pay14 (ix2 a x))))
        (IntOp.subi (k0_pay11 (ix2 a x)) 1#32) (k0_pay11 (ix2 a x))) (BitVec.ofNat 32 x.val)) (v16 (ix2 x c)) 0)
      = v14 (ix2 (srcRow r) c) * v16 (ix2 (kvOf r) c) := by
    intro a ha
    rw [piece]
    have e : (⟨a.val % 32 / 4, by omega⟩ : Fin 8) = (kvOf r) := by
      subst ha; apply Fin.ext; simp only [srcRow, kvOf]; omega
    rw [e, ha]
  pointwise [k0_pay15]
  split_ifs <;> (apply hp; apply Fin.ext; simp only [srcRow]; omega)

theorem pay20_at (v : FVec Ideal S128x128 .bf16)  (r : Fin 128) (c : Fin 512) :
    k0_pay20 v k0_pay16 k0_pay17 k0_pay18 k0_pay19 (ix2 r c) = v (ix2 r ⟨c.val / 4, by omega⟩) := by
  have hw' : ∀ x : Fin 128, Scalar.select (IntOp.andi (k0_pay17 (ix2 x c)) (IntOp.cmpi .ne (k0_pay18 (ix2 x c)) (k0_pay19 (ix2 x c))))
      (IntOp.subi (k0_pay16 (ix2 x c)) 1#32) (k0_pay16 (ix2 x c)) = BitVec.ofNat 32 (c.val / 4) := by
    intro x
    pointwise [k0_pay16, k0_pay17, k0_pay18, k0_pay19]
    clear r x
    revert c; decide +kernel
  pointwise [k0_pay20]
  simp only [hw']
  exact sum_pick (by decide) (fun x => v (ix2 r x)) (c.val / 4) (by omega)

theorem pay21_at (r : Fin 128) (c : Fin 512) : k0_pay21 (ix2 r c) = BitVec.ofNat 32 (r.val % 16) := by
  pointwise [k0_pay21]
  revert r; decide +kernel

theorem pay24_at (v : FVec Ideal S128x512 .f32)  (r : Fin 128) (c : Fin 512) :
    k0_pay24 v k0_pay21 4#32 k0_pay22 k0_pay23 (ix2 r c) = if r.val % 16 / 4 = c.val % 4 then v (ix2 r c) else 0 := by
  have h1 : ∀ k : Fin 16, (Scalar.select
          (IntOp.andi
            (IntOp.cmpi CmpIPredicate.ne
              (IntOp.subi (BitVec.setWidth 32 (IntOp.cmpi CmpIPredicate.sgt (BitVec.ofNat 32 k.val) 0#32))
                (BitVec.setWidth 32 (IntOp.cmpi CmpIPredicate.slt (BitVec.ofNat 32 k.val) 0#32)))
              (Scalar.subi (Scalar.extui (Scalar.cmpi CmpIPredicate.sgt 4#32 0#32))
                (Scalar.extui (Scalar.cmpi CmpIPredicate.slt 4#32 0#32))))
            (IntOp.cmpi CmpIPredicate.ne (IntOp.remsi ArithUnit.vector (BitVec.ofNat 32 k.val) 4#32) 0#32))
          (IntOp.subi (IntOp.divsi ArithUnit.vector (BitVec.ofNat 32 k.val) 4#32) 1#32)
          (IntOp.divsi ArithUnit.vector (BitVec.ofNat 32 k.val) 4#32)) = BitVec.ofNat 32 (k.val / 4) := by decide +kernel
  have h2 : ∀ c : Fin 512, (Scalar.select
          (IntOp.andi
            (IntOp.xori
              (IntOp.cmpi CmpIPredicate.slt
                (IntOp.remsi ArithUnit.vector (BitVec.ofNat 32 c.val)
                  (Scalar.select (Scalar.cmpi CmpIPredicate.eq 4#32 0#32) 1#32 4#32))
                0#32)
              (Scalar.cmpi CmpIPredicate.slt (Scalar.select (Scalar.cmpi CmpIPredicate.eq 4#32 0#32) 1#32 4#32) 0#32))
            (IntOp.cmpi CmpIPredicate.ne
              (IntOp.remsi ArithUnit.vector (BitVec.ofNat 32 c.val)
                (Scalar.select (Scalar.cmpi CmpIPredicate.eq 4#32 0#32) 1#32 4#32))
              0#32))
          (IntOp.addi
            (IntOp.remsi ArithUnit.vector (BitVec.ofNat 32 c.val)
              (Scalar.select (Scalar.cmpi CmpIPredicate.eq 4#32 0#32) 1#32 4#32))
            (Scalar.select (Scalar.cmpi CmpIPredicate.eq 4#32 0#32) 1#32 4#32))
          (IntOp.remsi ArithUnit.vector (BitVec.ofNat 32 c.val)
            (Scalar.select (Scalar.cmpi CmpIPredicate.eq 4#32 0#32) 1#32 4#32))) = BitVec.ofNat 32 (c.val % 4) := by decide +kernel
  pointwise [k0_pay24, k0_pay22, k0_pay23]
  rw [pay21_at, h1 ⟨r.val % 16, by omega⟩, h2 c, sel_eq]
  simp only [ofNat_eq_iff (show r.val % 16 / 4 < 4294967296 by omega) (show c.val % 4 < 4294967296 by omega)]

/-- The scaled queries, spread over the lanes of half the heads: the scratch the first point of a row of the batch fills. -/
def qVal (x3 : Vec Ideal S1x4x32x128 .bf16) (x6 : Vec Ideal S1x8x128 .f32) : FVec Ideal S128x512 .bf16 :=
  k0_pay24 (k0_pay20 (k0_pay15 (k0_pay8 x3) (k0_pay9 x6) k0_pay11 k0_pay12 k0_pay13 k0_pay14) k0_pay16 k0_pay17 k0_pay18 k0_pay19)
    k0_pay21 4#32 k0_pay22 k0_pay23

/-- A row of the scaled queries. -/
theorem qs_at (x3 : Vec Ideal S1x4x32x128 .bf16) (x6 : Vec Ideal S1x8x128 .f32) (r : Fin 128) (c : Fin 128) :
    k0_pay15 (k0_pay8 x3) (k0_pay9 x6) k0_pay11 k0_pay12 k0_pay13 k0_pay14 (ix2 r c)
      = x3 (ix4 0 (posOf r) (headOf r) c)
        * x6 (ix3 0 (kvOf r) c) := by
  rw [pay15_at]
  pointwise [k0_pay8, k0_pay9, srcRow]
  have e1 : (r.val % 64 / 16 * 32 + r.val / 64 * 16 + r.val % 16) / 32 = r.val % 64 / 16 := by omega
  have e2 : (r.val % 64 / 16 * 32 + r.val / 64 * 16 + r.val % 16) % 32 = r.val / 64 * 16 + r.val % 16 := by omega
  simp only [e1, e2, posOf, headOf, kvOf]

theorem qVal_at (x3 : Vec Ideal S1x4x32x128 .bf16) (x6 : Vec Ideal S1x8x128 .f32) (r : Fin 128) (c : Fin 512) :
    qVal x3 x6 (ix2 r c) = if r.val % 16 / 4 = c.val % 4 then
      x3 (ix4 0 (posOf r) (headOf r) ⟨c.val / 4, by omega⟩)
        * x6 (ix3 0 (kvOf r) ⟨c.val / 4, by omega⟩) else 0 := by
  unfold qVal
  rw [pay24_at, pay20_at, qs_at]

end Cert.KernelIdeal.Hand
end
-- ==== Proof.BlockIdeal.lean ====
/-
  The values of the second stretch over the extended reals.
-/
module

public import proofs.«01_k».proof.Proof.BlockValue
public import proofs.«01_k».proof.Proof.QueryValue
public import proofs.«01_k».proof.Proof.NewValue

@[expose] public section

set_option maxRecDepth 16384

noncomputable section
namespace Cert.KernelIdeal.Hand

open Idealize.ShloMosaic
open Cert.Vals Cert.KernelIdeal Cert.KernelIdeal.Gen

theorem keyT_at (x7 : Vec Ideal S1x1024x8x128 .fp8e4m3) (t j : ℕ) (ht : t + 128 ≤ 1024) (hj : j + 4 ≤ 8) (x : Fin 512) (p : Fin 128) :
    k0_pay78 (keyPart x7 t j ht hj) (ix2 x p) = x7 (ix4 0 ⟨t + p.val, by omega⟩ ⟨j + x.val % 4, by omega⟩ ⟨x.val / 4, by omega⟩) := by
  pointwise [k0_pay78]
  rfl

/-- The keys of four heads, one column a position. -/
def keysV (x7 : Vec Ideal S1x1024x8x128 .fp8e4m3) (j : ℕ) (hj : j + 4 ≤ 8) : FVec Ideal S512x1024 .fp8e4m3 :=
  concatenate S512x1024 1 [⟨S512x128, k0_pay78 (keyPart x7 0 j (by omega) hj)⟩, ⟨S512x128, k0_pay78 (keyPart x7 128 j (by omega) hj)⟩, ⟨S512x128, k0_pay78 (keyPart x7 256 j (by omega) hj)⟩, ⟨S512x128, k0_pay78 (keyPart x7 384 j (by omega) hj)⟩, ⟨S512x128, k0_pay78 (keyPart x7 512 j (by omega) hj)⟩, ⟨S512x128, k0_pay78 (keyPart x7 640 j (by omega) hj)⟩, ⟨S512x128, k0_pay78 (keyPart x7 768 j (by omega) hj)⟩, ⟨S512x128, k0_pay78 (keyPart x7 896 j (by omega) hj)⟩] concatenates_S512x128_S512x128_S512x128_S512x128_S512x128_S512x128_S512x128_S512x128_S512x1024_d1

theorem cat_at (a0 a1 a2 a3 a4 a5 a6 a7 : FVec Ideal S512x128 .fp8e4m3) (G : Fin 512 → Fin 1024 → EReal)
    (h0 : ∀ x (p : Fin 128), a0 (ix2 x p) = G x ⟨0 + p.val, by omega⟩)
    (h1 : ∀ x (p : Fin 128), a1 (ix2 x p) = G x ⟨128 + p.val, by omega⟩)
    (h2 : ∀ x (p : Fin 128), a2 (ix2 x p) = G x ⟨256 + p.val, by omega⟩)
    (h3 : ∀ x (p : Fin 128), a3 (ix2 x p) = G x ⟨384 + p.val, by omega⟩)
    (h4 : ∀ x (p : Fin 128), a4 (ix2 x p) = G x ⟨512 + p.val, by omega⟩)
    (h5 : ∀ x (p : Fin 128), a5 (ix2 x p) = G x ⟨640 + p.val, by omega⟩)
    (h6 : ∀ x (p : Fin 128), a6 (ix2 x p) = G x ⟨768 + p.val, by omega⟩)
    (h7 : ∀ x (p : Fin 128), a7 (ix2 x p) = G x ⟨896 + p.val, by omega⟩)
    (x : Fin 512) (c : Fin 1024) :
    concatenate S512x1024 1 [⟨S512x128, a0⟩, ⟨S512x128, a1⟩, ⟨S512x128, a2⟩, ⟨S512x128, a3⟩, ⟨S512x128, a4⟩, ⟨S512x128, a5⟩, ⟨S512x128, a6⟩, ⟨S512x128, a7⟩] concatenates_S512x128_S512x128_S512x128_S512x128_S512x128_S512x128_S512x128_S512x128_S512x1024_d1 (ix2 x c) = G x c := by
  pointwise []
  simp only [h0, h1, h2, h3, h4, h5, h6, h7]
  split_ifs <;> (congr 1; exact Fin.ext (by simp only; omega))

theorem keysV_at (x7 : Vec Ideal S1x1024x8x128 .fp8e4m3) (j : ℕ) (hj : j + 4 ≤ 8) (x : Fin 512) (c : Fin 1024) :
    keysV x7 j hj (ix2 x c) = x7 (ix4 0 c ⟨j + x.val % 4, by omega⟩ ⟨x.val / 4, by omega⟩) :=
  cat_at _ _ _ _ _ _ _ _ (fun x c => x7 (ix4 0 c ⟨j + x.val % 4, by omega⟩ ⟨x.val / 4, by omega⟩))
    (keyT_at x7 0 j (by omega) hj) (keyT_at x7 128 j (by omega) hj) (keyT_at x7 256 j (by omega) hj) (keyT_at x7 384 j (by omega) hj) (keyT_at x7 512 j (by omega) hj) (keyT_at x7 640 j (by omega) hj) (keyT_at x7 768 j (by omega) hj) (keyT_at x7 896 j (by omega) hj) x c

/-- The scores before they are masked. -/
theorem half_at (q : FVec Ideal S64x512 .bf16) (K : FVec Ideal S512x1024 .fp8e4m3) (r : Fin 64) (c : Fin 1024) :
    matmul dot_S64x512_S512x1024_S64x1024_1_0_0_1_n_n none q K (constant S64x1024 .f32 0x00000000#32) (ix2 r c) = ∑ x : Fin 512, q (ix2 r x) * K (ix2 x c) := by
  pointwise []

theorem two_at (A B : FVec Ideal S64x1024 .f32) (G : Fin 128 → Fin 1024 → EReal)
    (hA : ∀ (r : Fin 64) c, A (ix2 r c) = G ⟨r.val, by omega⟩ c) (hB : ∀ (r : Fin 64) c, B (ix2 r c) = G ⟨64 + r.val, by omega⟩ c) (r : Fin 128) (c : Fin 1024) :
    concatenate S128x1024 0 [⟨S64x1024, A⟩, ⟨S64x1024, B⟩] concatenates_S64x1024_S64x1024_S128x1024_d0 (ix2 r c) = G r c := by
  pointwise []
  simp only [hA, hB]
  split_ifs <;> (congr 1; try exact Fin.ext (by simp only; omega))

theorem sV_at (a1 : BitVec 32) (v1 : BitVec 32) (x7 : Vec Ideal S1x1024x8x128 .fp8e4m3) (q : Vec Ideal S128x512 .bf16) (r : Fin 128) (c : Fin 1024) :
    sV a1 v1 x7 q (ix2 r c) = Scalar.select (IntOp.cmpi .slt (BitVec.ofNat 32 c.val) (IntOp.subi v1 (IntOp.muli a1 1024#32)))
      ((∑ x : Fin 512, q (ix2 r x) * x7 (ix4 0 c ⟨r.val / 64 * 4 + x.val % 4, by omega⟩ ⟨x.val / 4, by omega⟩)) * Ideal.ofBits .f32 0x3DB504F3#32) ⊥ := by
  have e : sV a1 v1 x7 q = select (cmpi .slt (iota .tc S128x1024 32 [1] iota_S128x1024_d1_w32) (broadcast S128x1024 (Scalar.subi v1 (Scalar.muli a1 1024#32))))
      (mulf (concatenate S128x1024 0 [⟨S64x1024, matmul dot_S64x512_S512x1024_S64x1024_1_0_0_1_n_n none (rowsPart q 0 (by omega)) (keysV x7 0 (by omega)) (constant S64x1024 .f32 0x00000000#32)⟩, ⟨S64x1024, matmul dot_S64x512_S512x1024_S64x1024_1_0_0_1_n_n none (rowsPart q 64 (by omega)) (keysV x7 4 (by omega)) (constant S64x1024 .f32 0x00000000#32)⟩] concatenates_S64x1024_S64x1024_S128x1024_d0)
        (broadcast S128x1024 (Scalar.ofBits .f32 0x3DB504F3#32))) (broadcast S128x1024 (Scalar.ofBits .f32 0xFF800000#32)) := rfl
  rw [e]
  have h1 := half_at (rowsPart q 0 (by omega)) (keysV x7 0 (by omega))
  have h2 := half_at (rowsPart q 64 (by omega)) (keysV x7 4 (by omega))
  let G : Fin 128 → Fin 1024 → EReal := fun r c => ∑ x : Fin 512, q (ix2 r x) * x7 (ix4 0 c ⟨r.val / 64 * 4 + x.val % 4, by omega⟩ ⟨x.val / 4, by omega⟩)
  have hA : ∀ (r : Fin 64) c, matmul dot_S64x512_S512x1024_S64x1024_1_0_0_1_n_n none (rowsPart q 0 (by omega)) (keysV x7 0 (by omega)) (constant S64x1024 .f32 0x00000000#32) (ix2 r c) = G ⟨r.val, by omega⟩ c := by
    intro r c
    rw [h1]
    refine Finset.sum_congr rfl fun x _ => ?_
    rw [keysV_at]
    refine congrArg₂ (· * ·) (congrArg q (congrArg₂ ix2 (Fin.ext ?_) rfl)) (congrArg x7 (congrArg₂ (ix4 0 c) (Fin.ext ?_) rfl)) <;>
      (simp only [ix0, ix1, ix2] <;> omega)
  have hB : ∀ (r : Fin 64) c, matmul dot_S64x512_S512x1024_S64x1024_1_0_0_1_n_n none (rowsPart q 64 (by omega)) (keysV x7 4 (by omega)) (constant S64x1024 .f32 0x00000000#32) (ix2 r c) = G ⟨64 + r.val, by omega⟩ c := by
    intro r c
    rw [h2]
    refine Finset.sum_congr rfl fun x _ => ?_
    rw [keysV_at]
    refine congrArg₂ (· * ·) (congrArg q (congrArg₂ ix2 (Fin.ext ?_) rfl)) (congrArg x7 (congrArg₂ (ix4 0 c) (Fin.ext ?_) rfl)) <;>
      (simp only [ix0, ix1, ix2] <;> omega)
  have h3 := two_at _ _ G hA hB r c
  generalize concatenate S128x1024 0 _ _ = Z at h3 ⊢
  pointwise []
  rw [c_bot, h3]
  rfl

/-- Rows of the buffers hold one value a row. -/
theorem eV_at (a1 : BitVec 32) (v1 : BitVec 32) (x7 : Vec Ideal S1x1024x8x128 .fp8e4m3) (q : Vec Ideal S128x512 .bf16) (mx : Vec Ideal S128x128 .f32) (r : Fin 128) (c : Fin 1024) :
    eV a1 v1 x7 q mx (ix2 r c) = Ideal.exp (sV a1 v1 x7 q (ix2 r c) - mV a1 v1 x7 q mx (ix2 r 0)) := by
  change k0_pay93 _ _ _ _ _ _ _ _ _ _ _ _ _ _ = _
  unfold k0_pay93
  pointwise []
  rfl

theorem alV_at (a1 : BitVec 32) (v1 : BitVec 32) (x7 : Vec Ideal S1x1024x8x128 .fp8e4m3) (q : Vec Ideal S128x512 .bf16) (mx : Vec Ideal S128x128 .f32) (r : Fin 128) :
    alV a1 v1 x7 q mx (ix2 r 0) = Ideal.exp (mx (ix2 r 0) - mV a1 v1 x7 q mx (ix2 r 0)) := by
  change k0_pay92 _ _ _ _ _ _ _ _ _ _ _ _ _ _ = _
  unfold k0_pay92
  pointwise []
  rfl

theorem mV_at (a1 : BitVec 32) (v1 : BitVec 32) (x7 : Vec Ideal S1x1024x8x128 .fp8e4m3) (q : Vec Ideal S128x512 .bf16) (mx : Vec Ideal S128x128 .f32) (r : Fin 128) :
    mV a1 v1 x7 q mx (ix2 r 0) = max (mx (ix2 r 0)) (Finset.univ.fold max ⊥ fun c : Fin 1024 => sV a1 v1 x7 q (ix2 r c)) := by
  have e : mV a1 v1 x7 q mx = maximumf (firstCol mx) (shapeCast S128x1 (multiReduction .maximumf [1] S128 (sV a1 v1 x7 q) 0xFF800000#32 reduces_S128x1024_S128 (.inl rfl) rfl) shapeCasts_S128_S128x1) := rfl
  rw [e]
  generalize sV a1 v1 x7 q = z
  pointwise []
  rw [c_bot]
  rfl

theorem pay95_at (e : FVec Ideal S128x1024 .f32) (l : FVec Ideal S128x128 .f32) (r c : Fin 128) :
    k0_pay95 e l (ix2 r c) = l (ix2 r c) + ∑ p : Fin 1024, e (ix2 r p) := by
  pointwise [k0_pay95]

theorem pay96_at (m : FVec Ideal S128x1 .f32) (r c : Fin 128) : k0_pay96 m (ix2 r c) = m (ix2 r 0) := by
  pointwise [k0_pay96]

theorem pay3_at (al : FVec Ideal S128x1 .f32) (x : FVec Ideal S128x128 .f32) (r c : Fin 128) :
    k0_pay3 al x (ix2 r c) = x (ix2 r c) * al (ix2 r 0) := by
  pointwise [k0_pay3]

theorem lV_at (a1 : BitVec 32) (v1 : BitVec 32) (x7 : Vec Ideal S1x1024x8x128 .fp8e4m3) (q : Vec Ideal S128x512 .bf16) (mx l : Vec Ideal S128x128 .f32) (r c : Fin 128) :
    lV a1 v1 x7 q mx l (ix2 r c) = l (ix2 r c) * alV a1 v1 x7 q mx (ix2 r 0) := by
  have e : lV a1 v1 x7 q mx l = mulf l (broadcastTo S128x128 (alV a1 v1 x7 q mx) broadcasts_S128x1_S128x128) := rfl
  rw [e]
  generalize alV a1 v1 x7 q mx = z
  pointwise []

end Cert.KernelIdeal.Hand
end
-- ==== Proof.BlockPlanes.lean ====
/-
  The weighted values of one block: the packed codes read back as numbers.
-/
module

public import proofs.«01_k».proof.Proof.BlockIdeal
public import proofs.«01_k».proof.Proof.Attend
public import Idealize.ShloMosaic.Lib.BitcastPair
public import Idealize.ShloMosaic.Lib.BitcastFour

@[expose] public section

set_option maxRecDepth 16384

noncomputable section
namespace Cert.KernelIdeal.Hand

open Idealize.ShloMosaic
open Cert.Vals Cert.KernelIdeal Cert.KernelIdeal.Gen

theorem dite_to {p : Prop} [Decidable p] {a : EReal} {f : p → EReal} {g : ¬ p → EReal} {v : EReal}
    (h1 : ∀ h, a * f h = v) (h2 : ∀ h, a * g h = v) : a * dite p f g = v := by
  split_ifs with h
  · exact h1 h
  · exact h2 h

theorem wV_at (a1 : BitVec 32) (v1 : BitVec 32) (x7 : Vec Ideal S1x1024x8x128 .fp8e4m3) (x9 : Vec Ideal S1x8x1024 .f32) (q : Vec Ideal S128x512 .bf16) (mx : Vec Ideal S128x128 .f32) (r : Fin 128) (c : Fin 1024) :
    wV a1 v1 x7 x9 q mx (ix2 r c) = eV a1 v1 x7 q mx (ix2 r c) * x9 (ix3 0 (kvOf r) c) := by
  have e : wV a1 v1 x7 x9 q mx = k0_pay97 (eV a1 v1 x7 q mx) x9 := rfl
  rw [e]
  generalize eV a1 v1 x7 q mx = z
  have hk : ∀ k : Fin 8, k.val = r.val / 64 * 4 + r.val % 16 / 4 → z (ix2 r c) * x9 (ix3 0 k c) = z (ix2 r c) * x9 (ix3 0 (kvOf r) c) := by
    intro k hk
    rw [show k = kvOf r from Fin.ext hk]
  pointwise [k0_pay97]
  repeat' (refine dite_to (fun _ => ?_) (fun _ => ?_))
  all_goals exact hk _ (by simp; omega)

theorem c_136 : ∀ k : Fin 16, Ideal.ofBits .bf16 (BitVec.ofNat 16 (0x4300 + (k.val ^^^ 8))) - Ideal.ofBits .bf16 0x4308#16 = ((nibR k.val : ℝ) : EReal) := by
  have h : ∀ k : Fin 16, Ideal.ofBits .bf16 (BitVec.ofNat 16 (0x4300 + k.val)) = ((128 + k.val : ℝ) : EReal) := by
    intro k
    fin_cases k <;> (simp [Ideal.ofBits, Ideal.ieee, -EReal.coe_mul, -EReal.coe_add]; try norm_num)
  have h8 := h 8
  intro k
  have hk : k.val ^^^ 8 < 16 := Nat.xor_lt_two_pow (n := 4) k.isLt (by norm_num)
  have h1 := h ⟨k.val ^^^ 8, hk⟩
  simp only at h1
  rw [h1, show (0x4308#16) = BitVec.ofNat 16 (0x4300 + ((8 : Fin 16)).val) from rfl, h8, ← EReal.coe_sub]
  congr 1
  unfold nibR
  norm_num
  ring

theorem word_nib (hi lo : BitVec 16) (n : Fin 4) (p : ℕ) (hp : p < 2) (v : BitVec 16) (hv : v = if p = 1 then hi else lo) :
    BitVec.extractLsb' (16 * p) 16 (IntOp.xori (IntOp.andi (IntOp.shrsi .vector (hi ++ lo) (BitVec.ofNat 32 (4 * n.val))) 983055#32) 1124614920#32)
      = BitVec.ofNat 16 (0x4300 + (nibW v n.val ^^^ 8)) := by
  have h1 : BitVec.extractLsb' (16 * p) 16 (IntOp.xori (IntOp.andi (IntOp.shrsi .vector (hi ++ lo) (BitVec.ofNat 32 (4 * n.val))) 983055#32) 1124614920#32)
      = 0x4308#16 ^^^ ((v >>> (4 * n.val)) &&& 0xF#16) := by
    subst hv
    have hs : IntOp.shrsi .vector (hi ++ lo) (BitVec.ofNat 32 (4 * n.val)) = (hi ++ lo : BitVec 32).sshiftRight (4 * n.val) := by
      have : (BitVec.ofNat 32 (4 * n.val)).toNat = 4 * n.val := by simp; omega
      unfold IntOp.shrsi
      rw [this, if_pos (by omega)]
      exact congrArg (BitVec.sshiftRight _) this
    rw [hs]
    unfold IntOp.xori IntOp.andi
    apply BitVec.eq_of_getLsbD_eq
    intro i hi'
    have hp' : p = 0 ∨ p = 1 := by omega
    rcases hp' with rfl | rfl
    · simp only [BitVec.getLsbD_extractLsb', BitVec.getLsbD_xor, BitVec.getLsbD_and, BitVec.getLsbD_sshiftRight, BitVec.getLsbD_append, BitVec.getLsbD_ushiftRight]
      fin_cases n <;> interval_cases i <;> simp
    · simp only [BitVec.getLsbD_extractLsb', BitVec.getLsbD_xor, BitVec.getLsbD_and, BitVec.getLsbD_sshiftRight, BitVec.getLsbD_append, BitVec.getLsbD_ushiftRight]
      fin_cases n <;> interval_cases i <;> simp
  have h2 : (v >>> (4 * n.val)) &&& 0xF#16 = BitVec.ofNat 16 (nibW v n.val) := by
    apply BitVec.eq_of_toNat_eq
    have hm : nibW v n.val < 16 := Nat.mod_lt _ (by norm_num)
    have hr : (BitVec.ofNat 16 (nibW v n.val)).toNat = nibW v n.val := by
      rw [BitVec.toNat_ofNat]
      exact Nat.mod_eq_of_lt (by omega)
    rw [BitVec.toNat_and, BitVec.toNat_ushiftRight, hr, Nat.shiftRight_eq_div_pow]
    unfold nibW
    rw [show (16 : ℕ) ^ n.val = 2 ^ (4 * n.val) by rw [pow_mul]; norm_num]
    exact Nat.and_two_pow_sub_one_eq_mod _ 4
  rw [h1, h2]
  have h3 : ∀ k : Fin 16, 0x4308#16 ^^^ BitVec.ofNat 16 k.val = BitVec.ofNat 16 (0x4300 + (k.val ^^^ 8)) := by decide
  exact h3 ⟨nibW v n.val, Nat.mod_lt _ (by norm_num)⟩

theorem row_ix2 (p : Fin 128) (k : Fin 256) : S128x256.row (ix2 p k) = p.val := rfl

theorem vBits_at (n : Fin 4) (y : IVec S128x256 16) (p : Fin 128) (k : Fin 256) :
    vBits (F := Ideal) (BitVec.ofNat 32 (4 * n.val)) (bitcast S64x256 32 y bitcasts_S128x256_w16_S64x256_w32) (ix2 p k)
      = ((nibR (nibW (y (ix2 p k)) n.val) : ℝ) : EReal) := by
  pointwise [vBits]
  rw [bitcast_32_16]
  generalize hj : bitcasts_S64x256_w32_S128x256_w16.srcIdx (ix2 p k) (S128x256.row (ix2 p k) / 2) _ = j
  have hj' : j = ix2 ⟨p.val / 2, by omega⟩ k := by
    subst hj
    funext a
    fin_cases a
    · exact Fin.ext (Shape.Bitcasts.srcIdx_row _ _ _ _ _ rfl)
    · exact Fin.ext (Shape.Bitcasts.srcIdx_other _ _ _ _ _ (by simp))
  subst hj'
  have e := bitcast_16_32 y bitcasts_S128x256_w16_S64x256_w32 (ix2 ⟨p.val / 2, by omega⟩ k)
  generalize hj1 : bitcasts_S128x256_w16_S64x256_w32.srcIdx _ (2 * _ + 1) _ = j1 at e
  generalize hj2 : bitcasts_S128x256_w16_S64x256_w32.srcIdx _ (2 * _) _ = j2 at e
  have h1 : j1 = ix2 ⟨2 * (p.val / 2) + 1, by omega⟩ k := by
    subst hj1
    funext a
    fin_cases a
    · exact Fin.ext (Shape.Bitcasts.srcIdx_row _ _ _ _ _ rfl)
    · exact Fin.ext (Shape.Bitcasts.srcIdx_other _ _ _ _ _ (by simp))
  have h2 : j2 = ix2 ⟨2 * (p.val / 2), by omega⟩ k := by
    subst hj2
    funext a
    fin_cases a
    · exact Fin.ext (Shape.Bitcasts.srcIdx_row _ _ _ _ _ rfl)
    · exact Fin.ext (Shape.Bitcasts.srcIdx_other _ _ _ _ _ (by simp))
  have hv : y (ix2 p k) = if p.val % 2 = 1 then y j1 else y j2 := by
    split_ifs with h
    · rw [h1]; congr 2; exact Fin.ext (by simp only; omega)
    · rw [h2]; congr 2; exact Fin.ext (by simp only; omega)
  have hw := word_nib (y j1) (y j2) n (p.val % 2) (Nat.mod_lt _ (by norm_num)) _ hv
  rw [← e] at hw
  have hn : nibW (y (ix2 p k)) n.val < 16 := Nat.mod_lt _ (by norm_num)
  have hc := c_136 ⟨nibW (y (ix2 p k)) n.val, hn⟩
  simp only at hc
  rw [← hc, ← hw]
  rfl

theorem pay77_at (x8 : Vec Ideal S1x8x64x1024 .i8) (kv : Fin 8) (g : Fin 32) (p : Fin 1024) :
    k0_pay77 (F := Ideal) x8 (ix2 ⟨kv.val * 32 + g.val, by omega⟩ p)
      = (x8 (ix4 0 kv ⟨2 * g.val + 1, by omega⟩ p) ++ x8 (ix4 0 kv ⟨2 * g.val, by omega⟩ p) : BitVec 16) := by
  pointwise [k0_pay77]
  rw [bitcast_32_16]
  generalize hj : bitcasts_S8x16x1024_w32_S8x32x1024_w16.srcIdx _ _ _ = j
  have hj' : j = ix3 kv ⟨g.val / 2, by omega⟩ p := by
    subst hj
    funext a
    fin_cases a
    · exact Fin.ext (Shape.Bitcasts.srcIdx_other _ _ _ _ _ (by simp))
    · exact Fin.ext (Shape.Bitcasts.srcIdx_row _ _ _ _ _ rfl)
    · exact Fin.ext (Shape.Bitcasts.srcIdx_other _ _ _ _ _ (by simp))
  subst hj'
  have hr : S8x32x1024.row (ix3 kv g p) = g.val := rfl
  rw [hr]
  apply BitVec.eq_of_getLsbD_eq
  intro i hi
  rw [BitVec.getLsbD_extractLsb', bitcast_8_32_getLsbD _ _ _ _ (by omega), BitVec.getLsbD_append]
  have hr2 : S8x16x1024.row (ix3 kv ⟨g.val / 2, by omega⟩ p) = g.val / 2 := rfl
  have hx : ∀ (q : Fin 64) (h), shapeCast S8x64x1024 x8 shapeCasts_S1x8x64x1024_S8x64x1024 (bitcasts_S8x64x1024_w8_S8x16x1024_w32.srcIdx (ix3 kv ⟨g.val / 2, by omega⟩ p) q.val h) = x8 (ix4 0 kv q p) := by
    intro q h
    generalize hj : bitcasts_S8x64x1024_w8_S8x16x1024_w32.srcIdx _ _ _ = j
    have hj' : j = ix3 kv q p := by
      subst hj
      funext a
      fin_cases a
      · exact Fin.ext (Shape.Bitcasts.srcIdx_other _ _ _ _ _ (by simp))
      · exact Fin.ext (Shape.Bitcasts.srcIdx_row _ _ _ _ _ rfl)
      · exact Fin.ext (Shape.Bitcasts.srcIdx_other _ _ _ _ _ (by simp))
    subst hj'
    pointwise []
  have hx' : ∀ (q : ℕ) (q' : Fin 64) (h), q = q'.val → shapeCast S8x64x1024 x8 shapeCasts_S1x8x64x1024_S8x64x1024 (bitcasts_S8x64x1024_w8_S8x16x1024_w32.srcIdx (ix3 kv ⟨g.val / 2, by omega⟩ p) q h) = x8 (ix4 0 kv q' p) := by
    rintro q q' h rfl
    exact hx q' h
  by_cases h8 : i < 8
  · rw [if_pos h8, hx' _ ⟨2 * g.val, by omega⟩ _ (by rw [hr2]; simp only; omega)]
    simp only [hi, decide_true, Bool.true_and]
    congr 1
    omega
  · rw [if_neg h8, hx' _ ⟨2 * g.val + 1, by omega⟩ _ (by rw [hr2]; simp only; omega)]
    simp only [hi, decide_true, Bool.true_and]
    congr 1
    omega

theorem cat8_at (z0 z1 z2 z3 z4 z5 z6 z7 : FVec Ideal S128x256 .bf16) (G : Fin 1024 → Fin 256 → EReal)
    (h0 : ∀ (p : Fin 128) k, z0 (ix2 p k) = G ⟨0 + p.val, by omega⟩ k)
    (h1 : ∀ (p : Fin 128) k, z1 (ix2 p k) = G ⟨128 + p.val, by omega⟩ k)
    (h2 : ∀ (p : Fin 128) k, z2 (ix2 p k) = G ⟨256 + p.val, by omega⟩ k)
    (h3 : ∀ (p : Fin 128) k, z3 (ix2 p k) = G ⟨384 + p.val, by omega⟩ k)
    (h4 : ∀ (p : Fin 128) k, z4 (ix2 p k) = G ⟨512 + p.val, by omega⟩ k)
    (h5 : ∀ (p : Fin 128) k, z5 (ix2 p k) = G ⟨640 + p.val, by omega⟩ k)
    (h6 : ∀ (p : Fin 128) k, z6 (ix2 p k) = G ⟨768 + p.val, by omega⟩ k)
    (h7 : ∀ (p : Fin 128) k, z7 (ix2 p k) = G ⟨896 + p.val, by omega⟩ k)
    (c : Fin 1024) (k : Fin 256) :
    concatenate S1024x256 0 [⟨S128x256, z0⟩, ⟨S128x256, z1⟩, ⟨S128x256, z2⟩, ⟨S128x256, z3⟩, ⟨S128x256, z4⟩, ⟨S128x256, z5⟩, ⟨S128x256, z6⟩, ⟨S128x256, z7⟩] concatenates_S128x256_S128x256_S128x256_S128x256_S128x256_S128x256_S128x256_S128x256_S1024x256_d0 (ix2 c k) = G c k := by
  pointwise []
  simp only [h0, h1, h2, h3, h4, h5, h6, h7]
  split_ifs <;> (congr 1; exact Fin.ext (by simp only; omega))

/-- One part of the words, turned. -/
theorem turn_at (v : IVec S256x1024 16) (t : ℕ) (ht : t + 128 ≤ 1024) (hs : S256x1024.Slices ![0, t] S256x128) (p : Fin 128) (k : Fin 256) :
    transpose S128x256 [1, 0] (extractStridedSlice S256x128 ![0, t] v hs) transposes_S256x128_p1_0_S128x256 (ix2 p k) = v (ix2 k ⟨t + p.val, by omega⟩) := by
  pointwise []

theorem part_at (n : Fin 4) (w : IVec S64x256 32) (v : IVec S256x1024 16) (t : ℕ) (ht : t + 128 ≤ 1024) (hs : S256x1024.Slices ![0, t] S256x128)
    (hw : w = bitcast S64x256 32 (transpose S128x256 [1, 0] (extractStridedSlice S256x128 ![0, t] v hs) transposes_S256x128_p1_0_S128x256) bitcasts_S128x256_w16_S64x256_w32)
    (p : Fin 128) (k : Fin 256) :
    vBits (F := Ideal) (BitVec.ofNat 32 (4 * n.val)) w (ix2 p k) = ((nibR (nibW (v (ix2 k ⟨t + p.val, by omega⟩)) n.val) : ℝ) : EReal) := by
  subst hw
  rw [vBits_at, turn_at v t ht]

/-- One plane after the block: the old sums carried over, and the block's weighted codes. -/
theorem accV_at (n : Fin 4) (al : Vec Ideal S128x1 .f32) (w : Vec Ideal S128x1024 .bf16) (v : IVec S256x1024 16) (X : Vec Ideal S1x128x256 .f32) (r : Fin 128) (k : Fin 256) :
    accV (F := Ideal) (BitVec.ofNat 32 (4 * n.val)) al w v X (ix3 0 r k)
      = X (ix3 0 r k) * al (ix2 r 0) + ∑ c : Fin 1024, w (ix2 r c) * ((nibR (nibW (v (ix2 k c)) n.val) : ℝ) : EReal) := by
  have hz := cat8_at (vBits (F := Ideal) (BitVec.ofNat 32 (4 * n.val)) (k0_pay98 v)) (vBits (BitVec.ofNat 32 (4 * n.val)) (k0_pay99 v)) (vBits (BitVec.ofNat 32 (4 * n.val)) (k0_pay101 (k0_pay100 v)))
    (vBits (BitVec.ofNat 32 (4 * n.val)) (k0_pay102 v)) (vBits (BitVec.ofNat 32 (4 * n.val)) (k0_pay103 v)) (vBits (BitVec.ofNat 32 (4 * n.val)) (k0_pay104 v)) (vBits (BitVec.ofNat 32 (4 * n.val)) (k0_pay105 v)) (vBits (BitVec.ofNat 32 (4 * n.val)) (k0_pay106 v))
    (fun c k => ((nibR (nibW (v (ix2 k c)) n.val) : ℝ) : EReal))
    (fun p k => part_at n _ v 0 (by omega) slices_S256x1024_o0_0_S256x128 rfl p k)
    (fun p k => part_at n _ v 128 (by omega) slices_S256x1024_o0_128_S256x128 rfl p k)
    (fun p k => part_at n _ v 256 (by omega) slices_S256x1024_o0_256_S256x128 rfl p k)
    (fun p k => part_at n _ v 384 (by omega) slices_S256x1024_o0_384_S256x128 rfl p k)
    (fun p k => part_at n _ v 512 (by omega) slices_S256x1024_o0_512_S256x128 rfl p k)
    (fun p k => part_at n _ v 640 (by omega) slices_S256x1024_o0_640_S256x128 rfl p k)
    (fun p k => part_at n _ v 768 (by omega) slices_S256x1024_o0_768_S256x128 rfl p k)
    (fun p k => part_at n _ v 896 (by omega) slices_S256x1024_o0_896_S256x128 rfl p k)
  unfold accV k0_pay117
  generalize concatenate S1024x256 0 _ _ = Z at hz ⊢
  pointwise []
  simp only [hz]

end Cert.KernelIdeal.Hand
end
-- ==== Proof.Row.lean ====
/-
  A row of the scratch: its running maximum and the sums under it, before and after a block.
-/
module

public import proofs.«01_k».proof.Proof.Soft
public import proofs.«01_k».proof.Proof.BlockPlanes

@[expose] public section

set_option maxRecDepth 16384

noncomputable section

namespace Cert.KernelIdeal.Hand

open Idealize.ShloMosaic Idealize.ShloMosaic.TcCoe
open Cert.KernelIdeal Cert.KernelIdeal.Gen Cert.Vals

/-- What the sums are taken of: the length, the scores of the cached rows, their value scales, their words, and the new rows' sums. -/
structure Ctx where
  N : ℕ
  sC : Fin 128 → ℕ → ℝ
  vs : Fin 128 → ℕ → ℝ
  word : Fin 256 → ℕ → BitVec 16
  Zn : Fin 128 → ℝ
  nn : Fin 128 → Fin 128 → ℝ

/-- The sums of exponentials over the first n positions. -/
def Ctx.z (C : Ctx) (r : Fin 128) (n : ℕ) : ℝ := S C.N (fun p => Real.exp (C.sC r p)) n

/-- The weighted codes over the first n positions. -/
def Ctx.w (C : Ctx) (n : Fin 4) (r : Fin 128) (k : Fin 256) (a : ℕ) : ℝ :=
  S C.N (fun p => Real.exp (C.sC r p) * C.vs r p * nibR (nibW (C.word k p) n.val)) a

/-- A row after the first a positions, under some maximum. -/
def RowAt (C : Ctx) (a : ℕ) (m l : Vec Ideal S128x128 .f32) (acc : Vec Ideal S4x128x256 .f32) (accn : Vec Ideal S128x128 .f32) (r : Fin 128) (M : ℝ) : Prop :=
  (∀ c : Fin 128, m (ix2 r c) = (M : EReal)) ∧ (∀ c : Fin 128, l (ix2 r c) = ((Real.exp (-M) * (C.Zn r + C.z r a) : ℝ) : EReal))
    ∧ (∀ (n : Fin 4) (k : Fin 256), acc (ix3 n r k) = ((Real.exp (-M) * C.w n r k a : ℝ) : EReal))
    ∧ (∀ d : Fin 128, accn (ix2 r d) = ((Real.exp (-M) * C.nn r d : ℝ) : EReal))

/-- Every row. -/
def Rows (C : Ctx) (a : ℕ) (m l : Vec Ideal S128x128 .f32) (acc : Vec Ideal S4x128x256 .f32) (accn : Vec Ideal S128x128 .f32) : Prop :=
  ∀ r : Fin 128, ∃ M : ℝ, RowAt C a m l acc accn r M

theorem row_block (C : Ctx) (a : ℕ) (a1 v1 : BitVec 32) (x7 : Vec Ideal S1x1024x8x128 .fp8e4m3) (x8 : Vec Ideal S1x8x64x1024 .i8) (x9 : Vec Ideal S1x8x1024 .f32) (q : Vec Ideal S128x512 .bf16)
    (m l : Vec Ideal S128x128 .f32) (acc : Vec Ideal S4x128x256 .f32) (accn : Vec Ideal S128x128 .f32)
    (m' l' : Vec Ideal S128x128 .f32) (acc' : Vec Ideal S4x128x256 .f32) (accn' : Vec Ideal S128x128 .f32)
    (em : m' = k0_pay96 (mV a1 v1 x7 q m)) (el : l' = k0_pay95 (eV a1 v1 x7 q m) (lV a1 v1 x7 q m l))
    (ea : ∀ (n : Fin 4) (r : Fin 128) (k : Fin 256), acc' (ix3 n r k) = accV (BitVec.ofNat 32 (4 * n.val)) (alV a1 v1 x7 q m) (wV a1 v1 x7 x9 q m) (k0_pay77 (F := Ideal) x8) (plane acc n) (ix3 0 r k))
    (en : accn' = k0_pay3 (alV a1 v1 x7 q m) accn)
    (hs : ∀ (r : Fin 128) (c : Fin 1024), sV a1 v1 x7 q (ix2 r c) = if a + c.val < C.N then ((C.sC r (a + c.val) : ℝ) : EReal) else ⊥)
    (hv : ∀ (r : Fin 128) (c : Fin 1024), x9 (ix3 0 (kvOf r) c) = ((C.vs r (a + c.val) : ℝ) : EReal))
    (hw : ∀ (k : Fin 256) (c : Fin 1024), k0_pay77 (F := Ideal) x8 (ix2 k c) = C.word k (a + c.val))
    (H : Rows C a m l acc accn) : Rows C (a + 1024) m' l' acc' accn' := by
  intro r
  obtain ⟨M, h1, h2, h3, h4⟩ := H r
  obtain ⟨M', hM⟩ := new_max M (fun c : Fin 1024 => sV a1 v1 x7 q (ix2 r c)) (fun c => by rw [hs]; exact masked_ne_top _ _)
  have e1 : mV a1 v1 x7 q m (ix2 r 0) = (M' : EReal) := by rw [mV_at, h1]; exact hM
  have e2 : alV a1 v1 x7 q m (ix2 r 0) = ((Real.exp (M - M') : ℝ) : EReal) := by rw [alV_at, e1, h1, exp_diff]
  have e3 : ∀ c : Fin 1024, eV a1 v1 x7 q m (ix2 r c) = ((Real.exp (-M') * (if a + c.val < C.N then Real.exp (C.sC r (a + c.val)) else 0) : ℝ) : EReal) := fun c => by
    rw [eV_at, e1, hs, exp_masked]
  refine ⟨M', fun c => ?_, fun c => ?_, fun n k => ?_, fun d => ?_⟩
  · rw [em, pay96_at, e1]
  · rw [el, pay95_at, lV_at, e2, h2, Finset.sum_congr rfl fun p _ => e3 p, coe_sum, ← EReal.coe_mul, ← EReal.coe_add]
    exact congrArg _ (carry_block M M' C.N _ (fun p => Real.exp (C.sC r p)) a)
  · have e4 : ∀ c : Fin 1024, wV a1 v1 x7 x9 q m (ix2 r c) * ((nibR (nibW (k0_pay77 (F := Ideal) x8 (ix2 k c)) n.val) : ℝ) : EReal)
        = ((Real.exp (-M') * (if a + c.val < C.N then Real.exp (C.sC r (a + c.val)) * C.vs r (a + c.val) * nibR (nibW (C.word k (a + c.val)) n.val) else 0) : ℝ) : EReal) := fun c => by
      rw [wV_at, e3, hv, hw, ← EReal.coe_mul, ← EReal.coe_mul]
      congr 1
      split_ifs <;> ring
    rw [ea, accV_at, e2, Finset.sum_congr rfl fun c _ => e4 c, coe_sum]
    rw [show plane acc n (ix3 0 r k) = acc (ix3 n r k) from rfl, h3, ← EReal.coe_mul, ← EReal.coe_add]
    have := carry_block M M' C.N 0 (fun p => Real.exp (C.sC r p) * C.vs r p * nibR (nibW (C.word k p) n.val)) a
    simp only [zero_add] at this
    exact congrArg _ this
  · rw [en, pay3_at, e2, h4, ← EReal.coe_mul, exp_carry]

theorem rows_skip (C : Ctx) (a : ℕ) (h : C.N ≤ a) (m l : Vec Ideal S128x128 .f32) (acc : Vec Ideal S4x128x256 .f32) (accn : Vec Ideal S128x128 .f32)
    (H : Rows C a m l acc accn) : Rows C (a + 1024) m l acc accn := by
  intro r
  obtain ⟨M, h1, h2, h3, h4⟩ := H r
  refine ⟨M, h1, fun c => ?_, fun n k => ?_, h4⟩
  · rw [h2, Ctx.z, Ctx.z, S_skip _ _ _ h]
  · rw [h3, Ctx.w, Ctx.w, S_skip _ _ _ h]

end Cert.KernelIdeal.Hand

end
-- ==== Proof.StartScratch.lean ====
/-
  What the first stretch leaves in the scratch.
-/
module

public import proofs.«01_k».proof.Proof.BlockValue
public import Idealize.ShloMosaic.Lib.Pipeline.ValueKit
public import Idealize.ShloMosaic.Lib.Pointwise
public import Idealize.ShloMosaic.Lib.Pipeline.Value
public import Idealize.ShloMosaic.Lib.WholeRead

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The scores of the new positions against each other, masked to what each may see. -/
def snV (x3 : Vec F S1x4x32x128 .bf16) (x4 : Vec F S1x4x8x128 .bf16) (x6 : Vec F S1x8x128 .f32) : FVec F S128x32 .f32 :=
  k0_pay71 (k0_pay58 (k0_pay15 (shapeCast S128x128 (shapeCast S4x32x128 x3 (by decide)) (by decide)) (k0_pay9 x6)
            (divsi startRun.sl.v33 startRun.sl.v34) startRun.sl.v49 (remsi startRun.sl.v33 startRun.sl.v34)
            startRun.sl.v22)
      (k0_pay42 (k0_pay25 x4) (k0_pay26 (k0_pay9 x6))
        (k0_pay38 (k0_pay26 (k0_pay9 x6)) (k0_pay27 (k0_pay9 x6)) (k0_pay28 (k0_pay9 x6)))
        (k0_pay39 (k0_pay26 (k0_pay9 x6)) (k0_pay27 (k0_pay9 x6)) (k0_pay28 (k0_pay9 x6)))
        (k0_pay40 (k0_pay26 (k0_pay9 x6)) (k0_pay27 (k0_pay9 x6)) (k0_pay28 (k0_pay9 x6)))
        (k0_pay41 (k0_pay26 (k0_pay9 x6)) (k0_pay27 (k0_pay9 x6)) (k0_pay28 (k0_pay9 x6)))))
    startRun.sl.v388 (cmpi CmpIPredicate.eq startRun.sl.v456 startRun.sl.v472)
    (divsi startRun.sl.v389 startRun.sl.v459) (andi startRun.sl.v489 startRun.sl.v462) startRun.sl.v411

theorem start_m (c : Dev nD) (i : grid0.Coords) (arg2 : Memref sig .tc .smem S4 .i32) (harg2 : arg2.IsWhole) (arg3 : Memref sig .tc .vmem S1x4x32x128 .bf16) (harg3 : arg3.IsWhole) (arg4 : Memref sig .tc .vmem S1x4x8x128 .bf16) (harg4 : arg4.IsWhole) (arg5 : Memref sig .tc .vmem S1x4x8x128 .bf16) (harg5 : arg5.IsWhole) (arg6 : Memref sig .tc .vmem S1x8x128 .f32) (harg6 : arg6.IsWhole) (arg7 : Memref sig .tc .vmem S1x1024x8x128 .fp8e4m3) (harg7 : arg7.IsWhole) (arg8 : Memref sig .tc .vmem S1x8x64x1024 .i8) (harg8 : arg8.IsWhole) (arg9 : Memref sig .tc .vmem S1x8x1024 .f32) (harg9 : arg9.IsWhole) (arg10 : Memref sig .tc .vmem S1x4x32x128 .bf16) (harg10 : arg10.IsWhole) (arg11 : Memref sig .tc .vmem S1x4x8x128 .fp8e4m3) (harg11 : arg11.IsWhole) (arg12 : Memref sig .tc .vmem S1x4x8x64 .i8) (harg12 : arg12.IsWhole) (arg13 : Memref sig .tc .vmem S1x4x8 .f32) (harg13 : arg13.IsWhole) (arg14 : Memref sig .tc .vmem S128x512 .bf16) (harg14 : arg14.IsWhole) (arg15 : Memref sig .tc .vmem S128x128 .f32) (harg15 : arg15.IsWhole) (arg16 : Memref sig .tc .vmem S128x128 .f32) (harg16 : arg16.IsWhole) (arg17 : Memref sig .tc .vmem S4x128x256 .f32) (harg17 : arg17.IsWhole) (arg18 : Memref sig .tc .vmem S128x128 .f32) (harg18 : arg18.IsWhole) (x3 : Vec F S1x4x32x128 .bf16) (x4 : Vec F S1x4x8x128 .bf16) (x5 : Vec F S1x4x8x128 .bf16) (x6 : Vec F S1x8x128 .f32) (x7 : Vec F S1x1024x8x128 .fp8e4m3) (x8 : Vec F S1x8x64x1024 .i8) (x9 : Vec F S1x8x1024 .f32) (st : St F) (h : k0_cond1 i = 1#1) :
    (startSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 x6 x7 x8 x9 st).m = k0_pay75 (snV x3 x4 x6) := by
  unfold startSt
  rw [dif_pos h]
  dsimp only
  unfold startRun
  dsimp only
  refine (View.canon_unit_zero (S := S128x128) (by funext a; fin_cases a <;> rfl) _ _).trans ?_
  have e3 : ∀ inb, View.readAt (Elt F) arg3.view (Rect.unit (s := S1x4x32x128) ![0, 0, 0, 0] ![1, 4, 32, 128] inb).toLoadRect (harg3.unread x3) = x3 := fun inb => read_whole (S := S1x4x32x128) harg3 x3 (by funext a; fin_cases a <;> rfl) inb
  have e4 : ∀ inb, View.readAt (Elt F) arg4.view (Rect.unit (s := S1x4x8x128) ![0, 0, 0, 0] ![1, 4, 8, 128] inb).toLoadRect (harg4.unread x4) = x4 := fun inb => read_whole (S := S1x4x8x128) harg4 x4 (by funext a; fin_cases a <;> rfl) inb
  have e5 : ∀ inb, View.readAt (Elt F) arg5.view (Rect.unit (s := S1x4x8x128) ![0, 0, 0, 0] ![1, 4, 8, 128] inb).toLoadRect (harg5.unread x5) = x5 := fun inb => read_whole (S := S1x4x8x128) harg5 x5 (by funext a; fin_cases a <;> rfl) inb
  have e6 : ∀ inb, View.readAt (Elt F) arg6.view (Rect.unit (s := S1x8x128) ![0, 0, 0] ![1, 8, 128] inb).toLoadRect (harg6.unread x6) = x6 := fun inb => read_whole (S := S1x8x128) harg6 x6 (by funext a; fin_cases a <;> rfl) inb
  simp only [startRun.sl.r, startRun.sl.r_1, startRun.sl.r_2, startRun.sl.r_3, startRun.sl.r_4, startRun.sl.r_5, startRun.sl.r_6, startRun.sl.r_7, startRun.sl.r_8, startRun.sl.r_9, startRun.sl.r_10, startRun.sl.r_11, startRun.sl.r_12, startRun.sl.r_13, startRun.sl.r_14, startRun.sl.r_15, startRun.sl.r_16, startRun.sl.r_17, startRun.sl.r_18, startRun.sl.r_19, startRun.sl.v14, startRun.sl.v13, startRun.sl.v16, startRun.sl.cst_122, e3,e4,e5,e6]
  rfl

theorem start_l (c : Dev nD) (i : grid0.Coords) (arg2 : Memref sig .tc .smem S4 .i32) (harg2 : arg2.IsWhole) (arg3 : Memref sig .tc .vmem S1x4x32x128 .bf16) (harg3 : arg3.IsWhole) (arg4 : Memref sig .tc .vmem S1x4x8x128 .bf16) (harg4 : arg4.IsWhole) (arg5 : Memref sig .tc .vmem S1x4x8x128 .bf16) (harg5 : arg5.IsWhole) (arg6 : Memref sig .tc .vmem S1x8x128 .f32) (harg6 : arg6.IsWhole) (arg7 : Memref sig .tc .vmem S1x1024x8x128 .fp8e4m3) (harg7 : arg7.IsWhole) (arg8 : Memref sig .tc .vmem S1x8x64x1024 .i8) (harg8 : arg8.IsWhole) (arg9 : Memref sig .tc .vmem S1x8x1024 .f32) (harg9 : arg9.IsWhole) (arg10 : Memref sig .tc .vmem S1x4x32x128 .bf16) (harg10 : arg10.IsWhole) (arg11 : Memref sig .tc .vmem S1x4x8x128 .fp8e4m3) (harg11 : arg11.IsWhole) (arg12 : Memref sig .tc .vmem S1x4x8x64 .i8) (harg12 : arg12.IsWhole) (arg13 : Memref sig .tc .vmem S1x4x8 .f32) (harg13 : arg13.IsWhole) (arg14 : Memref sig .tc .vmem S128x512 .bf16) (harg14 : arg14.IsWhole) (arg15 : Memref sig .tc .vmem S128x128 .f32) (harg15 : arg15.IsWhole) (arg16 : Memref sig .tc .vmem S128x128 .f32) (harg16 : arg16.IsWhole) (arg17 : Memref sig .tc .vmem S4x128x256 .f32) (harg17 : arg17.IsWhole) (arg18 : Memref sig .tc .vmem S128x128 .f32) (harg18 : arg18.IsWhole) (x3 : Vec F S1x4x32x128 .bf16) (x4 : Vec F S1x4x8x128 .bf16) (x5 : Vec F S1x4x8x128 .bf16) (x6 : Vec F S1x8x128 .f32) (x7 : Vec F S1x1024x8x128 .fp8e4m3) (x8 : Vec F S1x8x64x1024 .i8) (x9 : Vec F S1x8x1024 .f32) (st : St F) (h : k0_cond1 i = 1#1) :
    (startSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 x6 x7 x8 x9 st).l = k0_pay74 (snV x3 x4 x6) := by
  unfold startSt
  rw [dif_pos h]
  dsimp only
  unfold startRun
  dsimp only
  refine (View.canon_unit_zero (S := S128x128) (by funext a; fin_cases a <;> rfl) _ _).trans ?_
  have e3 : ∀ inb, View.readAt (Elt F) arg3.view (Rect.unit (s := S1x4x32x128) ![0, 0, 0, 0] ![1, 4, 32, 128] inb).toLoadRect (harg3.unread x3) = x3 := fun inb => read_whole (S := S1x4x32x128) harg3 x3 (by funext a; fin_cases a <;> rfl) inb
  have e4 : ∀ inb, View.readAt (Elt F) arg4.view (Rect.unit (s := S1x4x8x128) ![0, 0, 0, 0] ![1, 4, 8, 128] inb).toLoadRect (harg4.unread x4) = x4 := fun inb => read_whole (S := S1x4x8x128) harg4 x4 (by funext a; fin_cases a <;> rfl) inb
  have e5 : ∀ inb, View.readAt (Elt F) arg5.view (Rect.unit (s := S1x4x8x128) ![0, 0, 0, 0] ![1, 4, 8, 128] inb).toLoadRect (harg5.unread x5) = x5 := fun inb => read_whole (S := S1x4x8x128) harg5 x5 (by funext a; fin_cases a <;> rfl) inb
  have e6 : ∀ inb, View.readAt (Elt F) arg6.view (Rect.unit (s := S1x8x128) ![0, 0, 0] ![1, 8, 128] inb).toLoadRect (harg6.unread x6) = x6 := fun inb => read_whole (S := S1x8x128) harg6 x6 (by funext a; fin_cases a <;> rfl) inb
  simp only [startRun.sl.r, startRun.sl.r_1, startRun.sl.r_2, startRun.sl.r_3, startRun.sl.r_4, startRun.sl.r_5, startRun.sl.r_6, startRun.sl.r_7, startRun.sl.r_8, startRun.sl.r_9, startRun.sl.r_10, startRun.sl.r_11, startRun.sl.r_12, startRun.sl.r_13, startRun.sl.r_14, startRun.sl.r_15, startRun.sl.r_16, startRun.sl.r_17, startRun.sl.r_18, startRun.sl.r_19, startRun.sl.v14, startRun.sl.v13, startRun.sl.v16, startRun.sl.cst_122, e3,e4,e5,e6]
  rfl

theorem start_accn (c : Dev nD) (i : grid0.Coords) (arg2 : Memref sig .tc .smem S4 .i32) (harg2 : arg2.IsWhole) (arg3 : Memref sig .tc .vmem S1x4x32x128 .bf16) (harg3 : arg3.IsWhole) (arg4 : Memref sig .tc .vmem S1x4x8x128 .bf16) (harg4 : arg4.IsWhole) (arg5 : Memref sig .tc .vmem S1x4x8x128 .bf16) (harg5 : arg5.IsWhole) (arg6 : Memref sig .tc .vmem S1x8x128 .f32) (harg6 : arg6.IsWhole) (arg7 : Memref sig .tc .vmem S1x1024x8x128 .fp8e4m3) (harg7 : arg7.IsWhole) (arg8 : Memref sig .tc .vmem S1x8x64x1024 .i8) (harg8 : arg8.IsWhole) (arg9 : Memref sig .tc .vmem S1x8x1024 .f32) (harg9 : arg9.IsWhole) (arg10 : Memref sig .tc .vmem S1x4x32x128 .bf16) (harg10 : arg10.IsWhole) (arg11 : Memref sig .tc .vmem S1x4x8x128 .fp8e4m3) (harg11 : arg11.IsWhole) (arg12 : Memref sig .tc .vmem S1x4x8x64 .i8) (harg12 : arg12.IsWhole) (arg13 : Memref sig .tc .vmem S1x4x8 .f32) (harg13 : arg13.IsWhole) (arg14 : Memref sig .tc .vmem S128x512 .bf16) (harg14 : arg14.IsWhole) (arg15 : Memref sig .tc .vmem S128x128 .f32) (harg15 : arg15.IsWhole) (arg16 : Memref sig .tc .vmem S128x128 .f32) (harg16 : arg16.IsWhole) (arg17 : Memref sig .tc .vmem S4x128x256 .f32) (harg17 : arg17.IsWhole) (arg18 : Memref sig .tc .vmem S128x128 .f32) (harg18 : arg18.IsWhole) (x3 : Vec F S1x4x32x128 .bf16) (x4 : Vec F S1x4x8x128 .bf16) (x5 : Vec F S1x4x8x128 .bf16) (x6 : Vec F S1x8x128 .f32) (x7 : Vec F S1x1024x8x128 .fp8e4m3) (x8 : Vec F S1x8x64x1024 .i8) (x9 : Vec F S1x8x1024 .f32) (st : St F) (h : k0_cond1 i = 1#1) :
    (startSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 x6 x7 x8 x9 st).accn = k0_pay76 (k0_pay47 (k0_pay45 x5) k0_pay46) (k0_pay48 (k0_pay44 x5) (k0_pay45 x5) k0_pay46) (snV x3 x4 x6) := by
  unfold startSt
  rw [dif_pos h]
  dsimp only
  unfold startRun
  dsimp only
  refine (View.canon_unit_zero (S := S128x128) (by funext a; fin_cases a <;> rfl) _ _).trans ?_
  have e3 : ∀ inb, View.readAt (Elt F) arg3.view (Rect.unit (s := S1x4x32x128) ![0, 0, 0, 0] ![1, 4, 32, 128] inb).toLoadRect (harg3.unread x3) = x3 := fun inb => read_whole (S := S1x4x32x128) harg3 x3 (by funext a; fin_cases a <;> rfl) inb
  have e4 : ∀ inb, View.readAt (Elt F) arg4.view (Rect.unit (s := S1x4x8x128) ![0, 0, 0, 0] ![1, 4, 8, 128] inb).toLoadRect (harg4.unread x4) = x4 := fun inb => read_whole (S := S1x4x8x128) harg4 x4 (by funext a; fin_cases a <;> rfl) inb
  have e5 : ∀ inb, View.readAt (Elt F) arg5.view (Rect.unit (s := S1x4x8x128) ![0, 0, 0, 0] ![1, 4, 8, 128] inb).toLoadRect (harg5.unread x5) = x5 := fun inb => read_whole (S := S1x4x8x128) harg5 x5 (by funext a; fin_cases a <;> rfl) inb
  have e6 : ∀ inb, View.readAt (Elt F) arg6.view (Rect.unit (s := S1x8x128) ![0, 0, 0] ![1, 8, 128] inb).toLoadRect (harg6.unread x6) = x6 := fun inb => read_whole (S := S1x8x128) harg6 x6 (by funext a; fin_cases a <;> rfl) inb
  simp only [startRun.sl.r, startRun.sl.r_1, startRun.sl.r_2, startRun.sl.r_3, startRun.sl.r_4, startRun.sl.r_5, startRun.sl.r_6, startRun.sl.r_7, startRun.sl.r_8, startRun.sl.r_9, startRun.sl.r_10, startRun.sl.r_11, startRun.sl.r_12, startRun.sl.r_13, startRun.sl.r_14, startRun.sl.r_15, startRun.sl.r_16, startRun.sl.r_17, startRun.sl.r_18, startRun.sl.r_19, startRun.sl.v14, startRun.sl.v13, startRun.sl.v16, startRun.sl.cst_122, e3,e4,e5,e6]
  rfl

theorem start_acc (c : Dev nD) (i : grid0.Coords) (arg2 : Memref sig .tc .smem S4 .i32) (harg2 : arg2.IsWhole) (arg3 : Memref sig .tc .vmem S1x4x32x128 .bf16) (harg3 : arg3.IsWhole) (arg4 : Memref sig .tc .vmem S1x4x8x128 .bf16) (harg4 : arg4.IsWhole) (arg5 : Memref sig .tc .vmem S1x4x8x128 .bf16) (harg5 : arg5.IsWhole) (arg6 : Memref sig .tc .vmem S1x8x128 .f32) (harg6 : arg6.IsWhole) (arg7 : Memref sig .tc .vmem S1x1024x8x128 .fp8e4m3) (harg7 : arg7.IsWhole) (arg8 : Memref sig .tc .vmem S1x8x64x1024 .i8) (harg8 : arg8.IsWhole) (arg9 : Memref sig .tc .vmem S1x8x1024 .f32) (harg9 : arg9.IsWhole) (arg10 : Memref sig .tc .vmem S1x4x32x128 .bf16) (harg10 : arg10.IsWhole) (arg11 : Memref sig .tc .vmem S1x4x8x128 .fp8e4m3) (harg11 : arg11.IsWhole) (arg12 : Memref sig .tc .vmem S1x4x8x64 .i8) (harg12 : arg12.IsWhole) (arg13 : Memref sig .tc .vmem S1x4x8 .f32) (harg13 : arg13.IsWhole) (arg14 : Memref sig .tc .vmem S128x512 .bf16) (harg14 : arg14.IsWhole) (arg15 : Memref sig .tc .vmem S128x128 .f32) (harg15 : arg15.IsWhole) (arg16 : Memref sig .tc .vmem S128x128 .f32) (harg16 : arg16.IsWhole) (arg17 : Memref sig .tc .vmem S4x128x256 .f32) (harg17 : arg17.IsWhole) (arg18 : Memref sig .tc .vmem S128x128 .f32) (harg18 : arg18.IsWhole) (x3 : Vec F S1x4x32x128 .bf16) (x4 : Vec F S1x4x8x128 .bf16) (x5 : Vec F S1x4x8x128 .bf16) (x6 : Vec F S1x8x128 .f32) (x7 : Vec F S1x1024x8x128 .fp8e4m3) (x8 : Vec F S1x8x64x1024 .i8) (x9 : Vec F S1x8x1024 .f32) (st : St F) (h : k0_cond1 i = 1#1) :
    (startSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 x6 x7 x8 x9 st).acc = k0_pay1 := by
  unfold startSt
  rw [dif_pos h]
  dsimp only
  unfold startRun
  dsimp only
  refine (View.canon_unit_zero (S := S4x128x256) (by funext a; fin_cases a <;> rfl) _ _).trans ?_
  have e3 : ∀ inb, View.readAt (Elt F) arg3.view (Rect.unit (s := S1x4x32x128) ![0, 0, 0, 0] ![1, 4, 32, 128] inb).toLoadRect (harg3.unread x3) = x3 := fun inb => read_whole (S := S1x4x32x128) harg3 x3 (by funext a; fin_cases a <;> rfl) inb
  have e4 : ∀ inb, View.readAt (Elt F) arg4.view (Rect.unit (s := S1x4x8x128) ![0, 0, 0, 0] ![1, 4, 8, 128] inb).toLoadRect (harg4.unread x4) = x4 := fun inb => read_whole (S := S1x4x8x128) harg4 x4 (by funext a; fin_cases a <;> rfl) inb
  have e5 : ∀ inb, View.readAt (Elt F) arg5.view (Rect.unit (s := S1x4x8x128) ![0, 0, 0, 0] ![1, 4, 8, 128] inb).toLoadRect (harg5.unread x5) = x5 := fun inb => read_whole (S := S1x4x8x128) harg5 x5 (by funext a; fin_cases a <;> rfl) inb
  have e6 : ∀ inb, View.readAt (Elt F) arg6.view (Rect.unit (s := S1x8x128) ![0, 0, 0] ![1, 8, 128] inb).toLoadRect (harg6.unread x6) = x6 := fun inb => read_whole (S := S1x8x128) harg6 x6 (by funext a; fin_cases a <;> rfl) inb
  rfl

end Cert.KernelIdeal.Hand
end
-- ==== Proof.StartIdeal.lean ====
/-
  The first stretch's scratch over the extended reals: the scores of the new positions, their
  largest, the sum of their exponentials and the weighted sum of the new values.
-/
module

public import proofs.«01_k».proof.Proof.StartScratch
public import proofs.«01_k».proof.Proof.QueryValue
public import proofs.«01_k».proof.Proof.CodesValue
public import proofs.«01_k».proof.Proof.NewValue

@[expose] public section

set_option maxRecDepth 16384

noncomputable section
namespace Cert.KernelIdeal.Hand

open Idealize.ShloMosaic
open Cert.Vals Cert.KernelIdeal Cert.KernelIdeal.Gen

theorem sel_of {W : BitVec 1} {c : Prop} [Decidable c] (x y : EReal) (h : W = if c then 1#1 else 0#1) : Scalar.select W x y = if c then x else y := by
  subst h
  split_ifs <;> rfl

/-- May the row's position see this new row. -/
def sees (r : Fin 128) (j : Fin 32) : Prop := (kvOf r).val = j.val % 8 ∧ j.val / 8 ≤ (posOf r).val
instance (r : Fin 128) (j : Fin 32) : Decidable (sees r j) := by unfold sees; infer_instance

theorem pay71_at (X : FVec Ideal S128x32 .f32) (r : Fin 128) (j : Fin 32) :
    k0_pay71 X (iota .tc S128x32 32 [0] iota_S128x32_d0_w32)
      (k0_pay67 (iota .tc S128x32 32 [1] iota_S128x32_d1_w32) (k0_pay62 (iota .tc S128x32 32 [0] iota_S128x32_d0_w32) 64#32 k0_pay59 k0_pay60 k0_pay61)
        (k0_pay64 (iota .tc S128x32 32 [0] iota_S128x32_d0_w32)) (k0_pay65 (iota .tc S128x32 32 [0] iota_S128x32_d0_w32)) (k0_pay66 (iota .tc S128x32 32 [0] iota_S128x32_d0_w32)) 0#32)
      (k0_pay68 (iota .tc S128x32 32 [1] iota_S128x32_d1_w32)) (k0_pay69 (iota .tc S128x32 32 [1] iota_S128x32_d1_w32)) k0_pay70 (ix2 r j)
    = if sees r j then X (ix2 r j) else ⊥ := by
  pointwise [k0_pay71, k0_pay67, k0_pay62, k0_pay59, k0_pay60, k0_pay61, k0_pay63, k0_pay64, k0_pay65, k0_pay66, k0_pay68, k0_pay69, k0_pay70]
  rw [c_bot]
  refine sel_of _ _ ?_
  clear X
  revert r j
  decide +kernel

theorem snV_at (x3 : Vec Ideal S1x4x32x128 .bf16) (x4 : Vec Ideal S1x4x8x128 .bf16) (x6 : Vec Ideal S1x8x128 .f32) (r : Fin 128) (j : Fin 32) :
    snV x3 x4 x6 (ix2 r j) = if sees r j then
      (∑ d : Fin 128, x3 (ix4 0 (posOf r) (headOf r) d) * x6 (ix3 0 (kvOf r) d) * codesVal x4 x6 (ix2 j d)) * Ideal.ofBits .f32 0x3DB504F3#32 else ⊥ := by
  have e : snV x3 x4 x6 = k0_pay71 (k0_pay58 (k0_pay15 (k0_pay8 x3) (k0_pay9 x6) k0_pay11 k0_pay12 k0_pay13 k0_pay14) (codesVal x4 x6)) (iota .tc S128x32 32 [0] iota_S128x32_d0_w32)
      (k0_pay67 (iota .tc S128x32 32 [1] iota_S128x32_d1_w32) (k0_pay62 (iota .tc S128x32 32 [0] iota_S128x32_d0_w32) 64#32 k0_pay59 k0_pay60 k0_pay61)
        (k0_pay64 (iota .tc S128x32 32 [0] iota_S128x32_d0_w32)) (k0_pay65 (iota .tc S128x32 32 [0] iota_S128x32_d0_w32)) (k0_pay66 (iota .tc S128x32 32 [0] iota_S128x32_d0_w32)) 0#32)
      (k0_pay68 (iota .tc S128x32 32 [1] iota_S128x32_d1_w32)) (k0_pay69 (iota .tc S128x32 32 [1] iota_S128x32_d1_w32)) k0_pay70 := rfl
  rw [e, pay71_at]
  refine if_congr Iff.rfl ?_ rfl
  generalize hC : codesVal x4 x6 = C
  have hq := qs_at x3 x6 r
  generalize k0_pay15 (k0_pay8 x3) (k0_pay9 x6) k0_pay11 k0_pay12 k0_pay13 k0_pay14 = Q at hq ⊢
  pointwise [k0_pay58]
  simp only [hq]

theorem pay72_at (X : FVec Ideal S128x32 .f32) (r : Fin 128) :
    k0_pay72 X (ix2 r 0) = Finset.univ.fold max ⊥ fun j : Fin 32 => X (ix2 r j) := by
  pointwise [k0_pay72]
  rw [c_bot]

theorem pay75_at (X : FVec Ideal S128x32 .f32) (r c : Fin 128) : k0_pay75 X (ix2 r c) = k0_pay72 X (ix2 r 0) := by
  unfold k0_pay75
  generalize k0_pay72 X = Z
  pointwise []

theorem pay73_at (X : FVec Ideal S128x32 .f32) (r : Fin 128) (j : Fin 32) : k0_pay73 X (ix2 r j) = Ideal.exp (X (ix2 r j) - k0_pay72 X (ix2 r 0)) := by
  unfold k0_pay73
  generalize k0_pay72 X = Z
  pointwise []

theorem pay74_at (X : FVec Ideal S128x32 .f32) (r c : Fin 128) : k0_pay74 X (ix2 r c) = ∑ j : Fin 32, k0_pay73 X (ix2 r j) := by
  unfold k0_pay74
  generalize k0_pay73 X = Z
  pointwise []

theorem pay76_at (sc : FVec Ideal S32x1 .f32) (v : FVec Ideal S32x128 .f32) (X : FVec Ideal S128x32 .f32) (r d : Fin 128) :
    k0_pay76 sc v X (ix2 r d) = ∑ j : Fin 32, k0_pay73 X (ix2 r j) * sc (ix2 j 0) * v (ix2 j d) := by
  unfold k0_pay76
  generalize k0_pay73 X = Z
  pointwise []
  refine Finset.sum_congr rfl fun j _ => ?_
  rw [sum_pick' (by decide) (fun x : Fin 32 => sc (ix2 x 0)) j.val j.isLt]

theorem pay1_at (n : Fin 4) (r : Fin 128) (k : Fin 256) : k0_pay1 (F := Ideal) (ix3 n r k) = 0 := by
  pointwise [k0_pay1]

end Cert.KernelIdeal.Hand
end
-- ==== Proof.FinishValue.lean ====
/-
  What the last stretch leaves in the buffers it writes.
-/
module

public import proofs.«01_k».proof.Proof.BlockValue
public import Idealize.ShloMosaic.Lib.Pipeline.ValueKit
public import Idealize.ShloMosaic.Lib.Pointwise
public import Idealize.ShloMosaic.Lib.Pipeline.Value
public import Idealize.ShloMosaic.Lib.WholeRead

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- Where a lane belongs to a row's own head. -/
def mineV : IVec S128x256 1 :=
  k0_pay155 k0_pay147 (k0_pay151 k0_pay148 k0_pay149 k0_pay150 0#32) (k0_pay153 (iota Kind.tc S128x256 32 [0] iota_S128x256_d0_w32)) (k0_pay154 (iota Kind.tc S128x256 32 [0] iota_S128x256_d0_w32)) 1#32
/-- The rows of the result. -/
def oV (l : Vec F S128x128 .f32) (acc : Vec F S4x128x256 .f32) (accn : Vec F S128x128 .f32) : Vec F S128x128 .bf16 :=
  k0_pay185 (firstCol l)
    (k0_pay176
      (k0_pay169
        (k0_pay162 accn (k0_pay164 mineV (plane acc 0)) (k0_pay166 mineV (plane acc 0)) (k0_pay167 mineV (plane acc 0)) k0_pay161 (constant S128x128 .f32 0x00000000#32))
        (k0_pay164 mineV (plane acc 1)) (k0_pay166 mineV (plane acc 1)) (k0_pay167 mineV (plane acc 1)) k0_pay168)
      (k0_pay164 mineV (plane acc 2)) (k0_pay166 mineV (plane acc 2)) (k0_pay167 mineV (plane acc 2)) k0_pay175)
    k0_pay177 (k0_pay164 mineV (plane acc 3)) (k0_pay166 mineV (plane acc 3)) (k0_pay167 mineV (plane acc 3)) k0_pay183 k0_pay184

/-- Eight tiles stored one by one, read back. -/
theorem eight_tiles (h7 h6 h5 h4 h3 h2 h1 h0) (A7 A6 A5 A4 A3 A2 A1 A0 : Vec F S1x1x16x128 .bf16) (t : Fin 4) (h : Fin 32) (d : Fin 128) (v : Elt F .bf16)
    (e7 : t = 3 → h.val / 16 = 1 → A7 (ix4 0 0 ⟨h.val % 16, by omega⟩ d) = v) (e6 : t = 2 → h.val / 16 = 1 → A6 (ix4 0 0 ⟨h.val % 16, by omega⟩ d) = v) (e5 : t = 1 → h.val / 16 = 1 → A5 (ix4 0 0 ⟨h.val % 16, by omega⟩ d) = v) (e4 : t = 0 → h.val / 16 = 1 → A4 (ix4 0 0 ⟨h.val % 16, by omega⟩ d) = v) (e3 : t = 3 → h.val / 16 = 0 → A3 (ix4 0 0 ⟨h.val % 16, by omega⟩ d) = v) (e2 : t = 2 → h.val / 16 = 0 → A2 (ix4 0 0 ⟨h.val % 16, by omega⟩ d) = v) (e1 : t = 1 → h.val / 16 = 0 → A1 (ix4 0 0 ⟨h.val % 16, by omega⟩ d) = v) (e0 : t = 0 → h.val / 16 = 0 → A0 (ix4 0 0 ⟨h.val % 16, by omega⟩ d) = v) :
    View.canon (Val := Elt F) (s := S1x4x32x128) (e := .bf16) [⟨Rect.unit ![0, 3, 16, 0] ![1, 1, 16, 128] h7, A7⟩, ⟨Rect.unit ![0, 2, 16, 0] ![1, 1, 16, 128] h6, A6⟩, ⟨Rect.unit ![0, 1, 16, 0] ![1, 1, 16, 128] h5, A5⟩, ⟨Rect.unit ![0, 0, 16, 0] ![1, 1, 16, 128] h4, A4⟩, ⟨Rect.unit ![0, 3, 0, 0] ![1, 1, 16, 128] h3, A3⟩, ⟨Rect.unit ![0, 2, 0, 0] ![1, 1, 16, 128] h2, A2⟩, ⟨Rect.unit ![0, 1, 0, 0] ![1, 1, 16, 128] h1, A1⟩, ⟨Rect.unit ![0, 0, 0, 0] ![1, 1, 16, 128] h0, A0⟩] (ix4 0 t h d) = v := by
  have key : ∀ (z : Fin 4) (j : ℕ) (W : Vec F S1x1x16x128 .bf16) (x : S1x1x16x128.Idx), (∀ a, ((ix4 0 t h d : S1x4x32x128.Idx) a : ℕ) = (![0, z.val, 16 * j, 0] : Fin 4 → ℕ) a + x a) → t = z ∧ h.val / 16 = j ∧ W x = W (ix4 0 0 ⟨h.val % 16, by omega⟩ d) := by
    intro z j W x hx
    have h1 : t.val = z.val + (x 1).val := hx 1
    have h2 : h.val = 16 * j + (x 2).val := hx 2
    have h3 : d.val = 0 + (x 3).val := hx 3
    have k0 : (x 0).val < 1 := (x 0).isLt
    have k1 : (x 1).val < 1 := (x 1).isLt
    have k2 : (x 2).val < 16 := (x 2).isLt
    refine ⟨Fin.ext (by omega), by omega, congrArg W ?_⟩
    funext a
    fin_cases a
    · exact Fin.ext (by show (x 0).val = 0; omega)
    · exact Fin.ext (by show (x 1).val = 0; omega)
    · exact Fin.ext (by show (x 2).val = h.val % 16; omega)
    · exact Fin.ext (by show (x 3).val = d.val; omega)
  refine View.canon_eq_of_allAt _ _ _ ?_ ?_
  · exact View.cover_of_tiledL ([⟨Rect.unit ![0, 3, 16, 0] ![1, 1, 16, 128] h7, A7⟩, ⟨Rect.unit ![0, 2, 16, 0] ![1, 1, 16, 128] h6, A6⟩, ⟨Rect.unit ![0, 1, 16, 0] ![1, 1, 16, 128] h5, A5⟩, ⟨Rect.unit ![0, 0, 16, 0] ![1, 1, 16, 128] h4, A4⟩, ⟨Rect.unit ![0, 3, 0, 0] ![1, 1, 16, 128] h3, A3⟩, ⟨Rect.unit ![0, 2, 0, 0] ![1, 1, 16, 128] h2, A2⟩, ⟨Rect.unit ![0, 1, 0, 0] ![1, 1, 16, 128] h1, A1⟩, ⟨Rect.unit ![0, 0, 0, 0] ![1, 1, 16, 128] h0, A0⟩] : List (View.Piece (Elt F) S1x4x32x128 .bf16)) S1x1x16x128.size (by sl_kernel_rfl) _
  refine View.allAt_cons_unit _ _ _ _ _ (fun x hx => ?_) (View.allAt_cons_unit _ _ _ _ _ (fun x hx => ?_) (View.allAt_cons_unit _ _ _ _ _ (fun x hx => ?_) (View.allAt_cons_unit _ _ _ _ _ (fun x hx => ?_) (View.allAt_cons_unit _ _ _ _ _ (fun x hx => ?_) (View.allAt_cons_unit _ _ _ _ _ (fun x hx => ?_) (View.allAt_cons_unit _ _ _ _ _ (fun x hx => ?_) (View.allAt_cons_unit _ _ _ _ _ (fun x hx => ?_) (View.allAt_nil _ _))))))))
  · obtain ⟨e, f, hw⟩ := key 3 1 A7 x hx; exact hw.trans (e7 e f)
  · obtain ⟨e, f, hw⟩ := key 2 1 A6 x hx; exact hw.trans (e6 e f)
  · obtain ⟨e, f, hw⟩ := key 1 1 A5 x hx; exact hw.trans (e5 e f)
  · obtain ⟨e, f, hw⟩ := key 0 1 A4 x hx; exact hw.trans (e4 e f)
  · obtain ⟨e, f, hw⟩ := key 3 0 A3 x hx; exact hw.trans (e3 e f)
  · obtain ⟨e, f, hw⟩ := key 2 0 A2 x hx; exact hw.trans (e2 e f)
  · obtain ⟨e, f, hw⟩ := key 1 0 A1 x hx; exact hw.trans (e1 e f)
  · obtain ⟨e, f, hw⟩ := key 0 0 A0 x hx; exact hw.trans (e0 e f)

theorem tile0_at (v12 : FVec F S128x1 .f32) (v239 : FVec F S128x128 .f32) (v262 : IVec S256x128 1) (v267 : FVec F S128x256 .bf16) (v270 : FVec F S128x256 .bf16) (v272 : FVec F S128x256 .f32) (v273 : FVec F S256x128 .f32) (v274 : FVec F S256x128 .f32) (x : Fin 16) (d : Fin 128) : (k0_pay186 v12 v239 v262 v267 v270 v272 v273 v274) (ix4 0 0 x d) = k0_pay185 v12 v239 v262 v267 v270 v272 v273 v274 (ix2 ⟨0 + x.val, by omega⟩ d) := by
  pointwise [k0_pay186]

theorem tile1_at (v12 : FVec F S128x1 .f32) (v239 : FVec F S128x128 .f32) (v262 : IVec S256x128 1) (v267 : FVec F S128x256 .bf16) (v270 : FVec F S128x256 .bf16) (v272 : FVec F S128x256 .f32) (v273 : FVec F S256x128 .f32) (v274 : FVec F S256x128 .f32) (x : Fin 16) (d : Fin 128) : (k0_pay187 v12 v239 v262 v267 v270 v272 v273 v274) (ix4 0 0 x d) = k0_pay185 v12 v239 v262 v267 v270 v272 v273 v274 (ix2 ⟨16 + x.val, by omega⟩ d) := by
  pointwise [k0_pay187]

theorem tile2_at (v12 : FVec F S128x1 .f32) (v239 : FVec F S128x128 .f32) (v262 : IVec S256x128 1) (v267 : FVec F S128x256 .bf16) (v270 : FVec F S128x256 .bf16) (v272 : FVec F S128x256 .f32) (v273 : FVec F S256x128 .f32) (v274 : FVec F S256x128 .f32) (x : Fin 16) (d : Fin 128) : (k0_pay188 v12 v239 v262 v267 v270 v272 v273 v274) (ix4 0 0 x d) = k0_pay185 v12 v239 v262 v267 v270 v272 v273 v274 (ix2 ⟨32 + x.val, by omega⟩ d) := by
  pointwise [k0_pay188]

theorem tile3_at (v12 : FVec F S128x1 .f32) (v239 : FVec F S128x128 .f32) (v262 : IVec S256x128 1) (v267 : FVec F S128x256 .bf16) (v270 : FVec F S128x256 .bf16) (v272 : FVec F S128x256 .f32) (v273 : FVec F S256x128 .f32) (v274 : FVec F S256x128 .f32) (x : Fin 16) (d : Fin 128) : (k0_pay189 v12 v239 v262 v267 v270 v272 v273 v274) (ix4 0 0 x d) = k0_pay185 v12 v239 v262 v267 v270 v272 v273 v274 (ix2 ⟨48 + x.val, by omega⟩ d) := by
  pointwise [k0_pay189]

theorem tile4_at (v12 : FVec F S128x1 .f32) (v239 : FVec F S128x128 .f32) (v262 : IVec S256x128 1) (v267 : FVec F S128x256 .bf16) (v270 : FVec F S128x256 .bf16) (v272 : FVec F S128x256 .f32) (v273 : FVec F S256x128 .f32) (v274 : FVec F S256x128 .f32) (x : Fin 16) (d : Fin 128) : (k0_pay4 (k0_pay190 v12 v239 v262 v267 v270 v272 v273 v274)) (ix4 0 0 x d) = k0_pay185 v12 v239 v262 v267 v270 v272 v273 v274 (ix2 ⟨64 + x.val, by omega⟩ d) := by
  pointwise [k0_pay4, k0_pay190]

theorem tile5_at (v12 : FVec F S128x1 .f32) (v239 : FVec F S128x128 .f32) (v262 : IVec S256x128 1) (v267 : FVec F S128x256 .bf16) (v270 : FVec F S128x256 .bf16) (v272 : FVec F S128x256 .f32) (v273 : FVec F S256x128 .f32) (v274 : FVec F S256x128 .f32) (x : Fin 16) (d : Fin 128) : (k0_pay5 (k0_pay185 v12 v239 v262 v267 v270 v272 v273 v274)) (ix4 0 0 x d) = k0_pay185 v12 v239 v262 v267 v270 v272 v273 v274 (ix2 ⟨80 + x.val, by omega⟩ d) := by
  pointwise [k0_pay5]

theorem tile6_at (v12 : FVec F S128x1 .f32) (v239 : FVec F S128x128 .f32) (v262 : IVec S256x128 1) (v267 : FVec F S128x256 .bf16) (v270 : FVec F S128x256 .bf16) (v272 : FVec F S128x256 .f32) (v273 : FVec F S256x128 .f32) (v274 : FVec F S256x128 .f32) (x : Fin 16) (d : Fin 128) : (k0_pay6 (k0_pay185 v12 v239 v262 v267 v270 v272 v273 v274)) (ix4 0 0 x d) = k0_pay185 v12 v239 v262 v267 v270 v272 v273 v274 (ix2 ⟨96 + x.val, by omega⟩ d) := by
  pointwise [k0_pay6]

theorem tile7_at (v12 : FVec F S128x1 .f32) (v239 : FVec F S128x128 .f32) (v262 : IVec S256x128 1) (v267 : FVec F S128x256 .bf16) (v270 : FVec F S128x256 .bf16) (v272 : FVec F S128x256 .f32) (v273 : FVec F S256x128 .f32) (v274 : FVec F S256x128 .f32) (x : Fin 16) (d : Fin 128) : (k0_pay7 (k0_pay185 v12 v239 v262 v267 v270 v272 v273 v274)) (ix4 0 0 x d) = k0_pay185 v12 v239 v262 v267 v270 v272 v273 v274 (ix2 ⟨112 + x.val, by omega⟩ d) := by
  pointwise [k0_pay7]

theorem oRow_eq (n t j h : ℕ) (f : h / 16 = j) (e : n = 64 * j + 16 * t) : n + h % 16 = h / 16 * 64 + t * 16 + h % 16 := by omega

theorem finish_o_at (c : Dev nD) (i : grid0.Coords) (arg2 : Memref sig .tc .smem S4 .i32) (harg2 : arg2.IsWhole) (arg3 : Memref sig .tc .vmem S1x4x32x128 .bf16) (harg3 : arg3.IsWhole) (arg4 : Memref sig .tc .vmem S1x4x8x128 .bf16) (harg4 : arg4.IsWhole) (arg5 : Memref sig .tc .vmem S1x4x8x128 .bf16) (harg5 : arg5.IsWhole) (arg6 : Memref sig .tc .vmem S1x8x128 .f32) (harg6 : arg6.IsWhole) (arg7 : Memref sig .tc .vmem S1x1024x8x128 .fp8e4m3) (harg7 : arg7.IsWhole) (arg8 : Memref sig .tc .vmem S1x8x64x1024 .i8) (harg8 : arg8.IsWhole) (arg9 : Memref sig .tc .vmem S1x8x1024 .f32) (harg9 : arg9.IsWhole) (arg10 : Memref sig .tc .vmem S1x4x32x128 .bf16) (harg10 : arg10.IsWhole) (arg11 : Memref sig .tc .vmem S1x4x8x128 .fp8e4m3) (harg11 : arg11.IsWhole) (arg12 : Memref sig .tc .vmem S1x4x8x64 .i8) (harg12 : arg12.IsWhole) (arg13 : Memref sig .tc .vmem S1x4x8 .f32) (harg13 : arg13.IsWhole) (arg14 : Memref sig .tc .vmem S128x512 .bf16) (harg14 : arg14.IsWhole) (arg15 : Memref sig .tc .vmem S128x128 .f32) (harg15 : arg15.IsWhole) (arg16 : Memref sig .tc .vmem S128x128 .f32) (harg16 : arg16.IsWhole) (arg17 : Memref sig .tc .vmem S4x128x256 .f32) (harg17 : arg17.IsWhole) (arg18 : Memref sig .tc .vmem S128x128 .f32) (harg18 : arg18.IsWhole) (x3 : Vec F S1x4x32x128 .bf16) (x4 : Vec F S1x4x8x128 .bf16) (x5 : Vec F S1x4x8x128 .bf16) (x6 : Vec F S1x8x128 .f32) (x7 : Vec F S1x1024x8x128 .fp8e4m3) (x8 : Vec F S1x8x64x1024 .i8) (x9 : Vec F S1x8x1024 .f32) (st : St F) (hc : k0_cond3 i = 1#1) (t : Fin 4) (h : Fin 32) (d : Fin 128) :
    (finishSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 x6 x7 x8 x9 st).o (ix4 0 t h d) = oV st.l st.acc st.accn (ix2 ⟨h.val / 16 * 64 + t.val * 16 + h.val % 16, by omega⟩ d) := by
  have hr : finishRun.sl.r_19 c arg16 harg16 arg17 harg17 arg18 harg18 st.l st.acc st.accn = oV st.l st.acc st.accn := by
    have el : ∀ inb, View.readAt (Elt F) arg16.view (Rect.unit (s := S128x128) ![0, 0] ![128, 1] inb).toLoadRect (harg16.unread st.l) = firstCol st.l := fun inb =>
      read_part (S := S128x128) harg16 st.l inb _ fun x => ⟨_, rfl, fun a => by have : (x 1).val < 1 := (x 1).isLt; fin_cases a <;> simp <;> omega⟩
    have en : ∀ inb, View.readAt (Elt F) arg18.view (Rect.unit (s := S128x128) ![0, 0] ![128, 128] inb).toLoadRect (harg18.unread st.accn) = st.accn := fun inb => read_whole (S := S128x128) harg18 st.accn (by funext a; fin_cases a <;> rfl) inb
    have a0 : ∀ inb, View.readAt (Elt F) arg17.view (Rect.unit (s := S4x128x256) ![0, 0, 0] ![1, 128, 256] inb).toLoadRect (harg17.unread st.acc) = plane st.acc 0 := fun inb =>
      read_part (S := S4x128x256) harg17 st.acc inb _ fun x => ⟨_, rfl, fun a => by have : (x 0).val < 1 := (x 0).isLt; fin_cases a <;> simp <;> omega⟩
    have a1 : ∀ inb, View.readAt (Elt F) arg17.view (Rect.unit (s := S4x128x256) ![1, 0, 0] ![1, 128, 256] inb).toLoadRect (harg17.unread st.acc) = plane st.acc 1 := fun inb =>
      read_part (S := S4x128x256) harg17 st.acc inb _ fun x => ⟨_, rfl, fun a => by have : (x 0).val < 1 := (x 0).isLt; fin_cases a <;> simp <;> omega⟩
    have a2 : ∀ inb, View.readAt (Elt F) arg17.view (Rect.unit (s := S4x128x256) ![2, 0, 0] ![1, 128, 256] inb).toLoadRect (harg17.unread st.acc) = plane st.acc 2 := fun inb =>
      read_part (S := S4x128x256) harg17 st.acc inb _ fun x => ⟨_, rfl, fun a => by have : (x 0).val < 1 := (x 0).isLt; fin_cases a <;> simp <;> omega⟩
    have a3 : ∀ inb, View.readAt (Elt F) arg17.view (Rect.unit (s := S4x128x256) ![3, 0, 0] ![1, 128, 256] inb).toLoadRect (harg17.unread st.acc) = plane st.acc 3 := fun inb =>
      read_part (S := S4x128x256) harg17 st.acc inb _ fun x => ⟨_, rfl, fun a => by have : (x 0).val < 1 := (x 0).isLt; fin_cases a <;> simp <;> omega⟩
    simp only [finishRun.sl.v13, finishRun.sl.r, finishRun.sl.r_1, finishRun.sl.r_2, finishRun.sl.r_3, finishRun.sl.r_4, finishRun.sl.r_5, finishRun.sl.r_6, finishRun.sl.r_7, finishRun.sl.r_8, finishRun.sl.r_9, finishRun.sl.r_10, finishRun.sl.r_11, finishRun.sl.r_12, finishRun.sl.r_13, finishRun.sl.r_14, finishRun.sl.r_15, finishRun.sl.r_16, finishRun.sl.r_17, finishRun.sl.r_18, finishRun.sl.r_19, el, en, a0, a1, a2, a3]
    rfl
  refine (congrFun (congrArg St.o (dif_pos hc)) _).trans ?_
  unfold finishRun
  dsimp only
  refine eight_tiles _ _ _ _ _ _ _ _ _ _ _ _ _ _ _ _ t h d _ ?_ ?_ ?_ ?_ ?_ ?_ ?_ ?_
  all_goals (intro e f; subst e)
  · exact (tile7_at _ _ _ _ _ _ _ _ _ d).trans ((congrFun hr _).trans (congrArg (fun z => oV st.l st.acc st.accn (ix2 z d)) (Fin.ext (oRow_eq 112 3 1 h.val f rfl))))
  · exact (tile6_at _ _ _ _ _ _ _ _ _ d).trans ((congrFun hr _).trans (congrArg (fun z => oV st.l st.acc st.accn (ix2 z d)) (Fin.ext (oRow_eq 96 2 1 h.val f rfl))))
  · exact (tile5_at _ _ _ _ _ _ _ _ _ d).trans ((congrFun hr _).trans (congrArg (fun z => oV st.l st.acc st.accn (ix2 z d)) (Fin.ext (oRow_eq 80 1 1 h.val f rfl))))
  · exact (tile4_at _ _ _ _ _ _ _ _ _ d).trans ((congrFun hr _).trans (congrArg (fun z => oV st.l st.acc st.accn (ix2 z d)) (Fin.ext (oRow_eq 64 0 1 h.val f rfl))))
  · exact (tile3_at _ _ _ _ _ _ _ _ _ d).trans ((congrFun hr _).trans (congrArg (fun z => oV st.l st.acc st.accn (ix2 z d)) (Fin.ext (oRow_eq 48 3 0 h.val f rfl))))
  · exact (tile2_at _ _ _ _ _ _ _ _ _ d).trans ((congrFun hr _).trans (congrArg (fun z => oV st.l st.acc st.accn (ix2 z d)) (Fin.ext (oRow_eq 32 2 0 h.val f rfl))))
  · exact (tile1_at _ _ _ _ _ _ _ _ _ d).trans ((congrFun hr _).trans (congrArg (fun z => oV st.l st.acc st.accn (ix2 z d)) (Fin.ext (oRow_eq 16 1 0 h.val f rfl))))
  · exact (tile0_at _ _ _ _ _ _ _ _ _ d).trans ((congrFun hr _).trans (congrArg (fun z => oV st.l st.acc st.accn (ix2 z d)) (Fin.ext (oRow_eq 0 0 0 h.val f rfl))))

end Cert.KernelIdeal.Hand
end
-- ==== Proof.FinishIdeal.lean ====
/-
  The rows of the result over the extended reals: each lane takes its sum from the plane that
  holds it, adds the new positions' part and divides by the sum of the exponentials.
-/
module

public import proofs.«01_k».proof.Proof.FinishValue
public import proofs.«01_k».proof.Proof.QueryValue
public import proofs.«01_k».proof.Proof.NewValue

@[expose] public section

set_option maxRecDepth 16384

noncomputable section
namespace Cert.KernelIdeal.Hand

open Idealize.ShloMosaic
open Cert.Vals Cert.KernelIdeal Cert.KernelIdeal.Gen

theorem pay147_at (r : Fin 128) (k : Fin 256) : k0_pay147 (ix2 r k) = BitVec.ofNat 32 (k.val / 32) := by
  pointwise [k0_pay147]
  clear r
  revert k; decide +kernel

theorem rowWord_at (r : Fin 128) (k : Fin 256) :
    addi (k0_pay151 k0_pay148 k0_pay149 k0_pay150 0#32)
      (select (k0_pay154 (iota Kind.tc S128x256 32 [0] iota_S128x256_d0_w32))
        (subi (k0_pay153 (iota Kind.tc S128x256 32 [0] iota_S128x256_d0_w32)) (broadcast S128x256 1#32))
        (k0_pay153 (iota Kind.tc S128x256 32 [0] iota_S128x256_d0_w32))) (ix2 r k) = BitVec.ofNat 32 (kvOf r).val := by
  pointwise [k0_pay151, k0_pay148, k0_pay149, k0_pay150, k0_pay152, k0_pay153, k0_pay154]
  clear k
  revert r; decide +kernel

/-- Which lanes of a plane belong to a row. -/
theorem mine_at (r : Fin 128) (k : Fin 256) (x y : EReal) :
    Scalar.select (mineV (ix2 r k)) x y = if k.val / 32 = (kvOf r).val then x else y := by
  have e : mineV (ix2 r k) = IntOp.cmpi .eq (k0_pay147 (ix2 r k)) (addi (k0_pay151 k0_pay148 k0_pay149 k0_pay150 0#32)
      (select (k0_pay154 (iota Kind.tc S128x256 32 [0] iota_S128x256_d0_w32))
        (subi (k0_pay153 (iota Kind.tc S128x256 32 [0] iota_S128x256_d0_w32)) (broadcast S128x256 1#32))
        (k0_pay153 (iota Kind.tc S128x256 32 [0] iota_S128x256_d0_w32))) (ix2 r k)) := rfl
  rw [e, pay147_at, rowWord_at, sel_eq]
  have := (kvOf r).isLt
  simp only [ofNat_eq_iff (show k.val / 32 < 4294967296 by omega) (show (kvOf r).val < 4294967296 by omega)]

theorem lane_word (n : Fin 4) : ∀ k : Fin 256, IntOp.addi (IntOp.muli 4#32 (Scalar.select
          (IntOp.andi
            (IntOp.xori
              (IntOp.cmpi CmpIPredicate.slt
                (IntOp.remsi ArithUnit.vector (BitVec.ofNat 32 k.val)
                  (Scalar.select (Scalar.cmpi CmpIPredicate.eq 32#32 0#32) 1#32 32#32))
                0#32)
              (Scalar.cmpi CmpIPredicate.slt (Scalar.select (Scalar.cmpi CmpIPredicate.eq 32#32 0#32) 1#32 32#32) 0#32))
            (IntOp.cmpi CmpIPredicate.ne
              (IntOp.remsi ArithUnit.vector (BitVec.ofNat 32 k.val)
                (Scalar.select (Scalar.cmpi CmpIPredicate.eq 32#32 0#32) 1#32 32#32))
              0#32))
          (IntOp.addi
            (IntOp.remsi ArithUnit.vector (BitVec.ofNat 32 k.val)
              (Scalar.select (Scalar.cmpi CmpIPredicate.eq 32#32 0#32) 1#32 32#32))
            (Scalar.select (Scalar.cmpi CmpIPredicate.eq 32#32 0#32) 1#32 32#32))
          (IntOp.remsi ArithUnit.vector (BitVec.ofNat 32 k.val)
            (Scalar.select (Scalar.cmpi CmpIPredicate.eq 32#32 0#32) 1#32 32#32)))) (BitVec.ofNat 32 n.val) = BitVec.ofNat 32 (4 * (k.val % 32) + n.val) := by
  revert n; decide +kernel

/-- Where each lane of a plane goes. -/
def goes (n : Fin 4) (k : Fin 256) (d : Fin 128) : EReal := if d.val = 4 * (k.val % 32) + n.val then 1 else 0

theorem goes0 (k : Fin 256) (d : Fin 128) : k0_pay161 (F := Ideal) (ix2 k d) = goes 0 k d := by
  pointwise [k0_pay161]
  have hw := lane_word 0 k
  change IntOp.addi _ 0#32 = _ at hw
  rw [hw, sel_eq]
  unfold goes
  exact if_congr (ofNat_eq_iff (by omega) (by have := k.isLt; simp; omega)) rfl rfl
theorem goes1 (k : Fin 256) (d : Fin 128) : k0_pay168 (F := Ideal) (ix2 k d) = goes 1 k d := by
  pointwise [k0_pay168]
  have hw := lane_word 1 k
  change IntOp.addi _ 1#32 = _ at hw
  rw [hw, sel_eq]
  unfold goes
  exact if_congr (ofNat_eq_iff (by omega) (by have := k.isLt; simp; omega)) rfl rfl
theorem goes2 (k : Fin 256) (d : Fin 128) : k0_pay175 (F := Ideal) (ix2 k d) = goes 2 k d := by
  pointwise [k0_pay175]
  have hw := lane_word 2 k
  change IntOp.addi _ 2#32 = _ at hw
  rw [hw, sel_eq]
  unfold goes
  exact if_congr (ofNat_eq_iff (by omega) (by have := k.isLt; simp; omega)) rfl rfl
theorem goes3 (k : Fin 256) (d : Fin 128) : select k0_pay177 (k0_pay183 (F := Ideal)) (k0_pay184 (F := Ideal)) (ix2 k d) = goes 3 k d := by
  pointwise [k0_pay177, k0_pay183, k0_pay184]
  have hw := lane_word 3 k
  change IntOp.addi _ 3#32 = _ at hw
  rw [hw, sel_eq]
  unfold goes
  exact if_congr (ofNat_eq_iff (by omega) (by have := k.isLt; simp; omega)) rfl rfl

theorem hi_at (acc : Vec Ideal S4x128x256 .f32) (n : Fin 4) (r : Fin 128) (k : Fin 256) :
    k0_pay164 mineV (plane acc n) (ix2 r k) = if k.val / 32 = (kvOf r).val then acc (ix3 n r k) else 0 := by
  pointwise [k0_pay164, k0_pay163]
  rw [mine_at]
  rfl

theorem mid_at (acc : Vec Ideal S4x128x256 .f32) (A : Fin 128 → Fin 256 → ℝ) (n : Fin 4) (hA : ∀ r k, acc (ix3 n r k) = (A r k : EReal)) (r : Fin 128) (k : Fin 256) :
    k0_pay166 mineV (plane acc n) (ix2 r k) = 0 := by
  have e : k0_pay166 mineV (plane acc n) (ix2 r k) = k0_pay164 mineV (plane acc n) (ix2 r k) - k0_pay164 mineV (plane acc n) (ix2 r k) := rfl
  rw [e, hi_at, hA]
  split_ifs
  · rw [← EReal.coe_sub, sub_self]; rfl
  · rw [sub_zero]

theorem low_at (acc : Vec Ideal S4x128x256 .f32) (A : Fin 128 → Fin 256 → ℝ) (n : Fin 4) (hA : ∀ r k, acc (ix3 n r k) = (A r k : EReal)) (r : Fin 128) (k : Fin 256) :
    k0_pay167 mineV (plane acc n) (ix2 r k) = 0 := by
  have e : k0_pay167 mineV (plane acc n) (ix2 r k) = k0_pay166 mineV (plane acc n) (ix2 r k) - k0_pay166 mineV (plane acc n) (ix2 r k) := rfl
  rw [e, mid_at acc A n hA, sub_zero]

/-- What a plane adds to a lane. -/
def brings (A : Fin 128 → Fin 256 → ℝ) (n : Fin 4) (r d : Fin 128) : ℝ :=
  if d.val % 4 = n.val then A r ⟨(kvOf r).val * 32 + d.val / 4, by have := (kvOf r).isLt; omega⟩ else 0

theorem brings_eq (acc : Vec Ideal S4x128x256 .f32) (A : Fin 128 → Fin 256 → ℝ) (n : Fin 4) (hA : ∀ r k, acc (ix3 n r k) = (A r k : EReal)) (r d : Fin 128) :
    (∑ k : Fin 256, k0_pay164 mineV (plane acc n) (ix2 r k) * goes n k d) + (∑ k : Fin 256, k0_pay166 mineV (plane acc n) (ix2 r k) * goes n k d)
      + (∑ k : Fin 256, k0_pay167 mineV (plane acc n) (ix2 r k) * goes n k d) = (brings A n r d : EReal) := by
  simp only [mid_at acc A n hA, low_at acc A n hA, zero_mul, Finset.sum_const_zero, add_zero, hi_at, hA]
  unfold brings goes
  have hkv := (kvOf r).isLt
  split_ifs with hd
  · rw [Finset.sum_eq_single ⟨(kvOf r).val * 32 + d.val / 4, by omega⟩]
    · rw [if_pos (by simp only; omega), if_pos (by simp only; omega), mul_one]
    · intro b _ hb
      by_cases h1 : b.val / 32 = (kvOf r).val
      · by_cases h2 : d.val = 4 * (b.val % 32) + n.val
        · exact absurd (Fin.ext (by simp only; omega)) hb
        · rw [if_neg h2, mul_zero]
      · rw [if_neg h1, zero_mul]
    · intro h; exact absurd (Finset.mem_univ _) h
  · refine (Finset.sum_eq_zero fun b _ => ?_).trans EReal.coe_zero.symm
    rw [if_neg (by omega : ¬ d.val = 4 * (b.val % 32) + n.val), mul_zero]

theorem mm_at (H : FVec Ideal S128x256 .bf16) (P : FVec Ideal S256x128 .bf16) (r d : Fin 128) :
    matmul dot_S128x256_S256x128_S128x128_1_0_0_1_n_n none H P (constant S128x128 .f32 0x00000000#32) (ix2 r d) = ∑ k : Fin 256, H (ix2 r k) * P (ix2 k d) := by
  pointwise []

theorem add_plane (N : FVec Ideal S128x128 .f32) (P : FVec Ideal S256x128 .bf16) (acc : Vec Ideal S4x128x256 .f32) (A : Fin 128 → Fin 256 → ℝ) (n : Fin 4) (hA : ∀ r k, acc (ix3 n r k) = (A r k : EReal))
    (hP : ∀ k d, P (ix2 k d) = goes n k d) (r d : Fin 128) (x : ℝ) (hx : N (ix2 r d) = (x : EReal)) :
    k0_pay169 N (k0_pay164 mineV (plane acc n)) (k0_pay166 mineV (plane acc n)) (k0_pay167 mineV (plane acc n)) P (ix2 r d) = ((x + brings A n r d : ℝ) : EReal) := by
  have e : k0_pay169 N (k0_pay164 mineV (plane acc n)) (k0_pay166 mineV (plane acc n)) (k0_pay167 mineV (plane acc n)) P (ix2 r d)
    = N (ix2 r d) + (matmul dot_S128x256_S256x128_S128x128_1_0_0_1_n_n none (k0_pay164 mineV (plane acc n)) P (constant S128x128 .f32 0x00000000#32) (ix2 r d)
      + matmul dot_S128x256_S256x128_S128x128_1_0_0_1_n_n none (k0_pay166 mineV (plane acc n)) P (constant S128x128 .f32 0x00000000#32) (ix2 r d)
      + matmul dot_S128x256_S256x128_S128x128_1_0_0_1_n_n none (show FVec Ideal S128x256 .bf16 from k0_pay167 mineV (plane acc n)) P (constant S128x128 .f32 0x00000000#32) (ix2 r d)) := rfl
  rw [e, mm_at, mm_at, mm_at]
  simp only [hP]
  rw [brings_eq acc A n hA, hx, EReal.coe_add]

/-- A row of the result. -/
theorem oV_at (l : Vec Ideal S128x128 .f32) (acc : Vec Ideal S4x128x256 .f32) (accn : Vec Ideal S128x128 .f32)
    (A : Fin 4 → Fin 128 → Fin 256 → ℝ) (hA : ∀ n r k, acc (ix3 n r k) = (A n r k : EReal)) (r d : Fin 128) (x : ℝ) (hx : accn (ix2 r d) = (x : EReal)) :
    oV l acc accn (ix2 r d) = Ideal.div ((x + A ⟨d.val % 4, by omega⟩ r ⟨(kvOf r).val * 32 + d.val / 4, by have := (kvOf r).isLt; omega⟩ : ℝ) : EReal) (l (ix2 r 0)) := by
  have h0 := add_plane accn k0_pay161 acc (A 0) 0 (hA 0) goes0 r d x hx
  have h1 := add_plane _ k0_pay168 acc (A 1) 1 (hA 1) goes1 r d _ h0
  have h2 := add_plane _ (show FVec Ideal S256x128 .bf16 from k0_pay175 (F := Ideal)) acc (A 2) 2 (hA 2) goes2 r d _ h1
  have h3 := add_plane _ (show FVec Ideal S256x128 .bf16 from select k0_pay177 (k0_pay183 (F := Ideal)) (k0_pay184 (F := Ideal))) acc (A 3) 3 (hA 3) goes3 r d _ h2
  have e : oV l acc accn (ix2 r d) = Ideal.div (k0_pay169 (k0_pay169 (k0_pay169 (k0_pay169 accn (k0_pay164 mineV (plane acc 0)) (k0_pay166 mineV (plane acc 0)) (k0_pay167 mineV (plane acc 0)) k0_pay161)
      (k0_pay164 mineV (plane acc 1)) (k0_pay166 mineV (plane acc 1)) (k0_pay167 mineV (plane acc 1)) k0_pay168)
      (k0_pay164 mineV (plane acc 2)) (k0_pay166 mineV (plane acc 2)) (k0_pay167 mineV (plane acc 2)) (show FVec Ideal S256x128 .bf16 from k0_pay175 (F := Ideal)))
      (k0_pay164 mineV (plane acc 3)) (k0_pay166 mineV (plane acc 3)) (k0_pay167 mineV (plane acc 3)) (show FVec Ideal S256x128 .bf16 from select k0_pay177 (k0_pay183 (F := Ideal)) (k0_pay184 (F := Ideal))) (ix2 r d)) (l (ix2 r 0)) := by
    unfold oV k0_pay185 k0_pay176 k0_pay162
    rfl
  rw [e, h3]
  congr 2
  have hd : d.val % 4 = 0 ∨ d.val % 4 = 1 ∨ d.val % 4 = 2 ∨ d.val % 4 = 3 := by omega
  have hm : ∀ n : Fin 4, d.val % 4 = n.val → A ⟨d.val % 4, by omega⟩ = A n := fun n hn => congrArg A (Fin.ext hn)
  unfold brings
  rcases hd with h | h | h | h
  · rw [hm 0 h]; simp [h]
  · rw [hm 1 h]; simp [h]
  · rw [hm 2 h]; simp [h]
  · rw [hm 3 h]; simp [h]

end Cert.KernelIdeal.Hand
end
-- ==== Proof.RowEnds.lean ====
/-
  A row of the scratch after the new rows' stretch, and the result's row from it.
-/
module

public import proofs.«01_k».proof.Proof.Row
public import proofs.«01_k».proof.Proof.StartIdeal
public import proofs.«01_k».proof.Proof.FinishIdeal

@[expose] public section

set_option maxRecDepth 16384

noncomputable section

namespace Cert.KernelIdeal.Hand

open Idealize.ShloMosaic Idealize.ShloMosaic.TcCoe
open Cert.KernelIdeal Cert.KernelIdeal.Gen Cert.Vals

theorem sees_first (r : Fin 128) : sees r ⟨(kvOf r).val, by have := (kvOf r).isLt; omega⟩ := by
  revert r; decide +kernel

theorem rows_start (C : Ctx) (X : FVec Ideal S128x32 .f32) (sc : FVec Ideal S32x1 .f32) (v : FVec Ideal S32x128 .f32)
    (sN : Fin 128 → Fin 32 → ℝ) (fs : Fin 32 → ℝ) (fv : Fin 32 → Fin 128 → ℝ)
    (hX : ∀ r j, X (ix2 r j) = if sees r j then ((sN r j : ℝ) : EReal) else ⊥)
    (hsc : ∀ j : Fin 32, sc (ix2 j 0) = ((fs j : ℝ) : EReal)) (hv : ∀ (j : Fin 32) (d : Fin 128), v (ix2 j d) = ((fv j d : ℝ) : EReal))
    (hZ : ∀ r, C.Zn r = ∑ j : Fin 32, if sees r j then Real.exp (sN r j) else 0)
    (hn : ∀ r d, C.nn r d = ∑ j : Fin 32, (if sees r j then Real.exp (sN r j) else 0) * fs j * fv j d) :
    Rows C 0 (k0_pay75 X) (k0_pay74 X) (k0_pay1 (F := Ideal)) (k0_pay76 sc v X) := by
  intro r
  obtain ⟨M, hM⟩ := first_max (fun j : Fin 32 => X (ix2 r j)) (fun j => by rw [hX]; exact masked_ne_top _ _) ⟨(kvOf r).val, by have := (kvOf r).isLt; omega⟩ _ ((hX _ _).trans (if_pos (sees_first r)))
  have e1 : k0_pay72 X (ix2 r 0) = (M : EReal) := (pay72_at X r).trans hM
  have e2 : ∀ j : Fin 32, k0_pay73 X (ix2 r j) = ((Real.exp (-M) * (if sees r j then Real.exp (sN r j) else 0) : ℝ) : EReal) := fun j => by
    rw [pay73_at, e1, hX, exp_masked]
  refine ⟨M, fun c => (pay75_at X r c).trans e1, fun c => ?_, fun n k => ?_, fun d => ?_⟩
  · rw [pay74_at, Finset.sum_congr rfl fun j _ => e2 j, coe_sum, ← Finset.mul_sum, hZ, Ctx.z, S_zero, add_zero]
  · rw [pay1_at, Ctx.w, S_zero, mul_zero]; rfl
  · have e3 : ∀ j : Fin 32, k0_pay73 X (ix2 r j) * sc (ix2 j 0) * v (ix2 j d) = ((Real.exp (-M) * ((if sees r j then Real.exp (sN r j) else 0) * fs j * fv j d) : ℝ) : EReal) := fun j => by
      rw [e2, hsc, hv, ← EReal.coe_mul, ← EReal.coe_mul]
      congr 1
      ring
    rw [pay76_at, Finset.sum_congr rfl fun j _ => e3 j, coe_sum, ← Finset.mul_sum, hn]

theorem z_nonneg (C : Ctx) (r : Fin 128) (n : ℕ) : 0 ≤ C.z r n := S_nonneg _ _ _ fun _ => (Real.exp_pos _).le

theorem rows_finish (C : Ctx) (a : ℕ) (m l : Vec Ideal S128x128 .f32) (acc : Vec Ideal S4x128x256 .f32) (accn : Vec Ideal S128x128 .f32)
    (H : Rows C a m l acc accn) (hZ : ∀ r, 0 < C.Zn r) (r d : Fin 128) :
    oV l acc accn (ix2 r d) = (((C.nn r d + C.w ⟨d.val % 4, by omega⟩ r ⟨(kvOf r).val * 32 + d.val / 4, by have := (kvOf r).isLt; omega⟩ a) / (C.Zn r + C.z r a) : ℝ) : EReal) := by
  choose M h using H
  have hA : ∀ (n : Fin 4) (r : Fin 128) (k : Fin 256), acc (ix3 n r k) = (((fun n r k => Real.exp (-(M r)) * C.w n r k a) n r k : ℝ) : EReal) := fun n r k => (h r).2.2.1 n k
  rw [oV_at l acc accn _ hA r d _ ((h r).2.2.2 d), (h r).2.1 0, ← mul_add]
  exact ratio _ _ _ (ne_of_gt (add_pos_of_pos_of_nonneg (hZ r) (z_nonneg C r a)))

end Cert.KernelIdeal.Hand

end
-- ==== Proof.Context.lean ====
/-
  What the kernel's rows are the sums of, and the result's rows from them.
-/
module

public import proofs.«01_k».proof.Proof.Attend
public import proofs.«01_k».proof.Proof.RowEnds

@[expose] public section

set_option maxRecDepth 16384

noncomputable section

namespace Cert.KernelIdeal.Hand

open Idealize.ShloMosaic Idealize.ShloMosaic.TcCoe
open Cert.KernelIdeal Cert.KernelIdeal.Gen Cert.Vals

/-- A position as one of the cache's. -/
def pos (p : ℕ) : Fin 8192 := ⟨p % 8192, Nat.mod_lt _ (by decide)⟩

/-- A row's weight of a new row. -/
def rowN (D : Data) (b : Fin 4) (r : Fin 128) (j : Fin 32) : ℝ := scoreN D b (posOf r) (headOf r) (kvOf r) ⟨j.val / 8, by omega⟩

/-- A sequence's context. -/
def ctx (D : Data) (b : Fin 4) : Ctx where
  N := D.len b
  sC r p := scoreC D b (posOf r) (headOf r) (kvOf r) (pos p)
  vs r p := D.vs b (pos p) (kvOf r)
  word k p := D.cv b (pos p) ⟨k.val / 32, by omega⟩ ⟨2 * (k.val % 32) + 1, by omega⟩ ++ D.cv b (pos p) ⟨k.val / 32, by omega⟩ ⟨2 * (k.val % 32), by omega⟩
  Zn r := ∑ j : Fin 32, if sees r j then Real.exp (rowN D b r j) else 0
  nn r d := ∑ j : Fin 32, (if sees r j then Real.exp (rowN D b r j) else 0) * vscaleR (D.vn b ⟨j.val / 8, by omega⟩ ⟨j.val % 8, by omega⟩) * vqZ (D.vn b ⟨j.val / 8, by omega⟩ ⟨j.val % 8, by omega⟩) d

theorem ctx_Zn (D : Data) (b : Fin 4) (r : Fin 128) : (ctx D b).Zn r = ∑ u, weightN D b (posOf r) (headOf r) (kvOf r) u :=
  sum_eights (kvOf r) (fun u => u.val ≤ (posOf r).val) fun u _ => Real.exp (scoreN D b (posOf r) (headOf r) (kvOf r) u)

theorem ctx_nn (D : Data) (b : Fin 4) (r d : Fin 128) :
    (ctx D b).nn r d = ∑ u, weightN D b (posOf r) (headOf r) (kvOf r) u * vscaleR (D.vn b u (kvOf r)) * vqZ (D.vn b u (kvOf r)) d := by
  have h := sum_eights (kvOf r) (fun u => u.val ≤ (posOf r).val) fun u kv => Real.exp (scoreN D b (posOf r) (headOf r) (kvOf r) u) * vscaleR (D.vn b u kv) * vqZ (D.vn b u kv) d
  show (∑ j : Fin 32, (if sees r j then Real.exp (rowN D b r j) else 0) * vscaleR (D.vn b ⟨j.val / 8, by omega⟩ ⟨j.val % 8, by omega⟩) * vqZ (D.vn b ⟨j.val / 8, by omega⟩ ⟨j.val % 8, by omega⟩) d) = _
  refine Eq.trans (Finset.sum_congr rfl fun j _ => ?_) (h.trans (Finset.sum_congr rfl fun u _ => ?_))
  · by_cases hs : sees r j
    · rw [if_pos hs]
      exact (if_pos hs).symm
    · rw [if_neg hs, zero_mul, zero_mul]
      exact (if_neg hs).symm
  · unfold weightN
    split_ifs
    · rfl
    · ring

theorem pos_val (p : Fin 8192) : pos p.val = p := Fin.ext (Nat.mod_eq_of_lt p.isLt)

theorem ctx_z (D : Data) (b : Fin 4) (r : Fin 128) : (ctx D b).z r 8192 = ∑ p, weightC D b (posOf r) (headOf r) (kvOf r) p := by
  unfold Ctx.z
  rw [S_all]
  refine Finset.sum_congr rfl fun p _ => ?_
  show (if _ then Real.exp (scoreC D b _ _ _ (pos p.val)) else _) = _
  rw [pos_val]
  rfl

theorem ctx_w (D : Data) (b : Fin 4) (r d : Fin 128) (n : Fin 4) (k : Fin 256) (hn : n.val = d.val % 4) (hk : k.val = (kvOf r).val * 32 + d.val / 4) :
    (ctx D b).w n r k 8192 = ∑ p, weightC D b (posOf r) (headOf r) (kvOf r) p * D.vs b p (kvOf r) * nibR (half (D.cv b p (kvOf r) ⟨d.val / 2, by omega⟩) d.val) := by
  have hkv := (kvOf r).isLt
  unfold Ctx.w
  rw [S_all]
  refine Finset.sum_congr rfl fun p _ => ?_
  show (if p.val < D.len b then Real.exp (scoreC D b _ _ _ (pos p.val)) * D.vs b (pos p.val) (kvOf r) * nibR (nibW (D.cv b (pos p.val) ⟨k.val / 32, _⟩ ⟨2 * (k.val % 32) + 1, _⟩ ++ D.cv b (pos p.val) ⟨k.val / 32, _⟩ ⟨2 * (k.val % 32), _⟩ : BitVec 16) n.val) else 0) = _
  rw [pos_val, nibW_half]
  have e1 : (⟨k.val / 32, by omega⟩ : Fin 8) = kvOf r := Fin.ext (by show _ / 32 = _; omega)
  have e2 : half (if n.val < 2 then D.cv b p (kvOf r) ⟨2 * (k.val % 32), by omega⟩ else D.cv b p (kvOf r) ⟨2 * (k.val % 32) + 1, by omega⟩) n.val = half (D.cv b p (kvOf r) ⟨d.val / 2, by omega⟩) d.val := by
    have e3 : n.val % 2 = d.val % 2 := by omega
    unfold half
    rw [e3]
    split_ifs with h
    · rw [show (⟨2 * (k.val % 32), by omega⟩ : Fin 64) = ⟨d.val / 2, by omega⟩ from Fin.ext (by show 2 * (k.val % 32) = d.val / 2; omega)]
    · rw [show (⟨2 * (k.val % 32) + 1, by omega⟩ : Fin 64) = ⟨d.val / 2, by omega⟩ from Fin.ext (by show 2 * (k.val % 32) + 1 = d.val / 2; omega)]
  rw [e1, e2]
  unfold weightC
  split_ifs
  · rfl
  · ring

theorem row_out (D : Data) (b : Fin 4) (m l : Vec Ideal S128x128 .f32) (acc : Vec Ideal S4x128x256 .f32) (accn : Vec Ideal S128x128 .f32)
    (H : Rows (ctx D b) 8192 m l acc accn) (r d : Fin 128) :
    oV l acc accn (ix2 r d) = ((outR D b (posOf r) (headOf r) d : ℝ) : EReal) := by
  rw [rows_finish (ctx D b) 8192 m l acc accn H (fun r => by rw [ctx_Zn]; exact newTotal_pos _ _ _ _ _), ctx_Zn, ctx_nn, ctx_z, ctx_w _ _ _ d _ _ rfl rfl]
  have e : (⟨(headOf r).val / 4, by omega⟩ : Fin 8) = kvOf r := Fin.ext (by show (r.val / 64 * 16 + r.val % 16) / 4 = r.val / 64 * 4 + r.val % 16 / 4; omega)
  unfold outR
  rw [e]
  rfl

/-- A row of the result. -/
theorem rows_out (D : Data) (b : Fin 4) (m l : Vec Ideal S128x128 .f32) (acc : Vec Ideal S4x128x256 .f32) (accn : Vec Ideal S128x128 .f32)
    (H : Rows (ctx D b) 8192 m l acc accn) (t : Fin 4) (h : Fin 32) (d : Fin 128) :
    oV l acc accn (ix2 ⟨h.val / 16 * 64 + t.val * 16 + h.val % 16, by omega⟩ d) = ((outR D b t h d : ℝ) : EReal) := by
  have e1 : posOf ⟨h.val / 16 * 64 + t.val * 16 + h.val % 16, by omega⟩ = t := Fin.ext (by show (_ % 64) / 16 = _; simp only []; omega)
  have e2 : headOf ⟨h.val / 16 * 64 + t.val * 16 + h.val % 16, by omega⟩ = h := Fin.ext (by show _ / 64 * 16 + _ % 16 = _; simp only []; omega)
  rw [row_out D b m l acc accn H, e1, e2]

end Cert.KernelIdeal.Hand

end
-- ==== Proof.CacheBlocks.lean ====
/-
  The cache's blocks: which positions of the caches a point sees, read off the lengths.
-/
module

public import proofs.«01_k».proof.Proof.Blocks
public import proofs.«01_k».proof.Proof.Stages
public import proofs.«01_k».proof.Proof.OkKernelIdeal
public import Idealize.ShloMosaic.Lib.Pointwise

@[expose] public section

set_option maxRecDepth 16384

noncomputable section

namespace Cert.KernelIdeal.Hand

open Idealize.ShloMosaic Idealize.ShloMosaic.TcCoe
open Idealize.ShloMosaic.Pipeline (Dat Cfg Window BodyObligation cellOf)
open Cert.KernelIdeal Cert.KernelIdeal.Gen

variable {F : FTy → Type} [FloatOps F]
variable (m : (ℓ : Loc nD τ sig) → Buf (Elt F) ℓ)

/-- A sequence's length. -/
def lenW (b : Fin 4) : BitVec 32 := m ((0 : Dev nD).tc.loc main_arg7) (ix1 b)

variable {m}

theorem lenW_ok (h : LengthsOk m) (b : Fin 4) : 1 ≤ (lenW m b).toNat ∧ (lenW m b).toNat < 2 ^ 31 := h _

theorem tbl_idx (y : S4.Idx) (b : Fin 4) (h : (y 0).val = b.val) : (tbl m 0 : S4.Idx → BitVec 32) y = lenW m b := by
  have e : tbl m 0 = m ((0 : Dev nD).tc.loc main_arg7) := V_main_arg7 m 0
  have hy : y = ix1 b := funext fun a => by fin_cases a; exact Fin.ext h
  rw [hy]
  exact congrFun e (ix1 b)

theorem coord0_word (t : Fin grid0.N) : (BitVec.ofNat 32 (grid0.coords t 0).val).toNat = (bOf t.val).val := by
  rw [BitVec.toNat_ofNat, Nat.mod_eq_of_lt (lt_of_lt_of_le (grid0.coords t 0).isLt (by decide)), coord0]; rfl

theorem unit_idx (t : Fin grid0.N) (y : S1.Idx) : ((Rect.unit (s := S4) (k0_off1 (grid0.coords t)) S1.size (k0_off1_inb (grid0.coords t))).toLoadRect.idx y 0).val = (bOf t.val).val := by
  have hy : (y 0).val < 1 := (y 0).isLt
  change k0_off1 (grid0.coords t) 0 + 1 * (y 0).val = _
  rw [show k0_off1 (grid0.coords t) 0 = (BitVec.ofNat 32 (grid0.coords t 0).val).toNat from rfl, coord0_word]
  omega

theorem lenAt_eq (hO : Ok m) (c : Dev nD) (t : Fin (cfgM m hO).N) : lenAt m hO c t = lenW m (bOf t.val) := by
  unfold lenAt
  exact tbl_idx (m := m) _ _ (unit_idx t _)

theorem word_at (t : Fin grid0.N) :
    (tbl m).at 0 (Rect.unit (s := S4) (k0_off1 (grid0.coords t)) S1.size (k0_off1_inb (grid0.coords t))) numel1_S1 = lenW m (bOf t.val) :=
  tbl_idx (m := m) _ _ (unit_idx t _)

/-- The block of the caches at a point. -/
theorem block_word (h : LengthsOk m) (t : Fin grid0.N) : (Cert.Words.blockWord (BitVec.ofNat 32 (grid0.coords t 1).val) (lenW m (bOf t.val))).toNat = min (t.val % 8) (((lenW m (bOf t.val)).toNat - 1) / 1024) := by
  have h8 : (grid0.coords t 1).val < 8 := (grid0.coords t 1).isLt
  have hi : (BitVec.ofNat 32 (grid0.coords t 1).val).toNat = (grid0.coords t 1).val := by rw [BitVec.toNat_ofNat]; omega
  rw [Cert.Words.blockWord_toNat (by omega) (lenW_ok h _).1 (lenW_ok h _).2, hi, coord1]

/-- which, at a block that holds a position below the length, is the point's own. -/
theorem block_own (h : LengthsOk m) (t : Fin grid0.N) (hb : t.val % 8 * 1024 < (lenW m (bOf t.val)).toNat) :
    (Cert.Words.blockWord (BitVec.ofNat 32 (grid0.coords t 1).val) (lenW m (bOf t.val))).toNat = t.val % 8 := by
  rw [block_word h]; omega

theorem index4 (h : LengthsOk m) (hO : Ok m) (t : Fin (cfgM m hO).N) (hb : t.val % 8 * 1024 < (lenW m (bOf t.val)).toNat) :
    ((cfgM m hO).win 4).index t = ![(bOf t.val).val, t.val % 8, 0, 0] := by
  show ![(BitVec.ofNat 32 (grid0.coords t 0).val).toNat, (Cert.Words.blockWord (BitVec.ofNat 32 (grid0.coords t 1).val) ((tbl m).at 0 (Rect.unit (s := S4) (k0_off1 (grid0.coords t)) S1.size (k0_off1_inb (grid0.coords t))) numel1_S1)).toNat, 0, 0] = _
  rw [word_at, block_own h t hb, coord0_word]

theorem index5 (h : LengthsOk m) (hO : Ok m) (t : Fin (cfgM m hO).N) (hb : t.val % 8 * 1024 < (lenW m (bOf t.val)).toNat) :
    ((cfgM m hO).win 5).index t = ![(bOf t.val).val, 0, 0, t.val % 8] := by
  show ![(BitVec.ofNat 32 (grid0.coords t 0).val).toNat, 0, 0, (Cert.Words.blockWord (BitVec.ofNat 32 (grid0.coords t 1).val) ((tbl m).at 0 (Rect.unit (s := S4) (k0_off1 (grid0.coords t)) S1.size (k0_off1_inb (grid0.coords t))) numel1_S1)).toNat] = _
  rw [word_at, block_own h t hb, coord0_word]

theorem index6 (h : LengthsOk m) (hO : Ok m) (t : Fin (cfgM m hO).N) (hb : t.val % 8 * 1024 < (lenW m (bOf t.val)).toNat) :
    ((cfgM m hO).win 6).index t = ![(bOf t.val).val, 0, t.val % 8] := by
  show ![(BitVec.ofNat 32 (grid0.coords t 0).val).toNat, 0, (Cert.Words.blockWord (BitVec.ofNat 32 (grid0.coords t 1).val) ((tbl m).at 0 (Rect.unit (s := S4) (k0_off1 (grid0.coords t)) S1.size (k0_off1_inb (grid0.coords t))) numel1_S1)).toNat] = _
  rw [word_at, block_own h t hb, coord0_word]

variable (m)

theorem V_keys (c : Dev nD) : V m c main_v0 = bitcastToFloat .fp8e4m3 (m ((c : Thread nD τ).loc main_arg3) : S4x8192x8x128.Idx → BitVec 8) := by
  show StableHlo.after hostOps0 _ _ = _
  simp only [hostOps0, StableHlo.after_cons, StableHlo.after_nil]
  after_results_simp

theorem V_vals (c : Dev nD) : V m c main_v1 = transpose S4x8x64x8192 [0, 2, 3, 1] (m ((c : Thread nD τ).loc main_arg5) : S4x8192x8x64.Idx → BitVec 8) transposes_S4x8192x8x64_S4x8x64x8192_0_2_3_1 := by
  show StableHlo.after hostOps0 _ _ = _
  simp only [hostOps0, StableHlo.after_cons, StableHlo.after_nil]
  after_results_simp

theorem V_scales (c : Dev nD) : V m c main_v2 = transpose S4x8x8192 [0, 2, 1] (m ((c : Thread nD τ).loc main_arg6) : S4x8192x8.Idx → F .f32) transposes_S4x8192x8_S4x8x8192_0_2_1 := by
  show StableHlo.after hostOps0 _ _ = _
  simp only [hostOps0, StableHlo.after_cons, StableHlo.after_nil]
  after_results_simp

theorem keys_at (h : LengthsOk m) (hO : Ok m) (c : Dev nD) (t : Fin (cfgM m hO).N) (hb : t.val % 8 * 1024 < (lenW m (bOf t.val)).toNat) (p : Fin 1024) (kv : Fin 8) (d : Fin 128) :
    iblk m hO c 4 t (ix4 0 p kv d) = FloatOps.ofBits .fp8e4m3 (m ((c : Thread nD τ).loc main_arg3) (ix4 (bOf t.val) ⟨t.val % 8 * 1024 + p.val, by omega⟩ kv d)) := by
  have e := index4 h hO t hb
  have e2 : iblk m hO c 4 t (ix4 0 p kv d) = V m c main_v0 (ix4 (bOf t.val) ⟨t.val % 8 * 1024 + p.val, by omega⟩ kv d) := by
    unfold iblk
    blk_ext [e] <;> (rw [show (pcfg0.win (adm m hO) 4).index t = _ from e]; simp [bOf])
  rw [e2, V_keys]
  rfl

theorem vals_at (h : LengthsOk m) (hO : Ok m) (c : Dev nD) (t : Fin (cfgM m hO).N) (hb : t.val % 8 * 1024 < (lenW m (bOf t.val)).toNat) (kv : Fin 8) (e' : Fin 64) (p : Fin 1024) :
    iblk m hO c 5 t (ix4 0 kv e' p) = m ((c : Thread nD τ).loc main_arg5) (ix4 (bOf t.val) ⟨t.val % 8 * 1024 + p.val, by omega⟩ kv e') := by
  have e := index5 h hO t hb
  have e2 : iblk m hO c 5 t (ix4 0 kv e' p) = V m c main_v1 (ix4 (bOf t.val) kv e' ⟨t.val % 8 * 1024 + p.val, by omega⟩) := by
    unfold iblk
    blk_ext [e] <;> (rw [show (pcfg0.win (adm m hO) 5).index t = _ from e]; simp [bOf])
  rw [e2, V_vals]
  pointwise []

theorem scales_at (h : LengthsOk m) (hO : Ok m) (c : Dev nD) (t : Fin (cfgM m hO).N) (hb : t.val % 8 * 1024 < (lenW m (bOf t.val)).toNat) (kv : Fin 8) (p : Fin 1024) :
    iblk m hO c 6 t (ix3 0 kv p) = m ((c : Thread nD τ).loc main_arg6) (ix3 (bOf t.val) ⟨t.val % 8 * 1024 + p.val, by omega⟩ kv) := by
  have e := index6 h hO t hb
  have e2 : iblk m hO c 6 t (ix3 0 kv p) = V m c main_v2 (ix3 (bOf t.val) kv ⟨t.val % 8 * 1024 + p.val, by omega⟩) := by
    unfold iblk
    blk_ext [e] <;> (rw [show (pcfg0.win (adm m hO) 6).index t = _ from e]; simp [bOf])
  rw [e2, V_scales]
  pointwise []

end Cert.KernelIdeal.Hand

end
-- ==== Proof.OutStep.lean ====
/-
  The attention's rows over the grid: what each point leaves of them, and the result at the last point of a sequence.
-/
module

public import proofs.«01_k».proof.Proof.Context
public import proofs.«01_k».proof.Proof.CacheBlocks

@[expose] public section

set_option maxRecDepth 16384

noncomputable section

namespace Cert.KernelIdeal.Hand

open Idealize.ShloMosaic Idealize.ShloMosaic.TcCoe
open Idealize.ShloMosaic.Pipeline (Dat Cfg Window BodyObligation cellOf)
open Cert.KernelIdeal Cert.KernelIdeal.Gen Cert.Vals

/-! ## The words -/

theorem slt_ofNat (a n : ℕ) (ha : a < 2 ^ 31) (hn : n < 2 ^ 31) : IntOp.cmpi .slt (BitVec.ofNat 32 a) (BitVec.ofNat 32 n) = BitVec.ofBool (decide (a < n)) := by
  show BitVec.ofBool ((BitVec.ofNat 32 a).slt (BitVec.ofNat 32 n)) = _
  rw [BitVec.slt_eq_decide, BitVec.toInt_eq_toNat_of_lt (by rw [BitVec.toNat_ofNat]; omega), BitVec.toInt_eq_toNat_of_lt (by rw [BitVec.toNat_ofNat]; omega),
    BitVec.toNat_ofNat, BitVec.toNat_ofNat, Nat.mod_eq_of_lt (by omega), Nat.mod_eq_of_lt (by omega)]
  congr 1
  exact decide_eq_decide.mpr Nat.cast_lt

theorem mul_word (i : ℕ) : IntOp.muli (BitVec.ofNat 32 i) 1024#32 = BitVec.ofNat 32 (i * 1024) := by
  show BitVec.ofNat 32 i * BitVec.ofNat 32 1024 = _
  rw [← BitVec.ofNat_mul]

theorem cond_iff (i : grid0.Coords) (n : BitVec 32) (hn : n.toNat < 2 ^ 31) : cond0_1 i n ↔ (i 1).val * 1024 < n.toNat := by
  have hi : (i 1).val < 8 := (i 1).isLt
  have h : cond0_1 i n ↔ (IntOp.cmpi .ne ((IntOp.cmpi .slt (IntOp.muli (BitVec.ofNat 32 (i 1).val) 1024#32) n).setWidth 32) 0#32) = 1#1 := Iff.rfl
  rw [h, mul_word, show n = BitVec.ofNat 32 n.toNat by rw [BitVec.ofNat_toNat, BitVec.setWidth_eq], slt_ofNat _ _ (by omega) hn, BitVec.toNat_ofNat, Nat.mod_eq_of_lt (by omega)]
  by_cases hb : (i 1).val * 1024 < n.toNat
  · simp only [hb, decide_true, iff_true]; decide
  · simp only [hb, decide_false, iff_false]; decide

theorem mask_word (i c : ℕ) (n : BitVec 32) (hn : n.toNat < 2 ^ 31) (hb : i * 1024 < n.toNat) (hc : c < 1024) (x y : EReal) :
    Scalar.select (IntOp.cmpi .slt (BitVec.ofNat 32 c) (IntOp.subi n (IntOp.muli (BitVec.ofNat 32 i) 1024#32))) x y = if i * 1024 + c < n.toNat then x else y := by
  have e : IntOp.subi n (BitVec.ofNat 32 (i * 1024)) = BitVec.ofNat 32 (n.toNat - i * 1024) := by
    apply BitVec.eq_of_toNat_eq
    show (n - _).toNat = _
    rw [BitVec.toNat_sub, BitVec.toNat_ofNat, BitVec.toNat_ofNat]; omega
  rw [mul_word, e, slt_ofNat _ _ (by omega) (by omega)]
  by_cases h : i * 1024 + c < n.toNat
  · rw [if_pos h, decide_eq_true (show c < n.toNat - i * 1024 by omega)]; rfl
  · rw [if_neg h, decide_eq_false (show ¬ c < n.toNat - i * 1024 by omega)]; rfl

/-! ## The arguments as numbers -/

/-- The launch memory holds the data. -/
structure Holds (m : (ℓ : Loc nD τ sig) → Buf (Elt Ideal) ℓ) (D : Data) : Prop where
  x : ∀ b t h d, m ((0 : Dev nD).tc.loc main_arg0) (ix4 b t h d) = (D.x b t h d : EReal)
  kn : ∀ b t kv d, codeOf (m ((0 : Dev nD).tc.loc main_arg1) (ix4 b t kv d)) (D.ks b kv d) = (D.kn b t kv d : EReal)
  vn : ∀ b t kv d, m ((0 : Dev nD).tc.loc main_arg2) (ix4 b t kv d) = (D.vn b t kv d : EReal)
  ck : ∀ b p kv d, Ideal.ofBits .fp8e4m3 (m ((0 : Dev nD).tc.loc main_arg3) (ix4 b p kv d)) = (D.ck b p kv d : EReal)
  ks : ∀ b kv d, m ((0 : Dev nD).tc.loc main_arg4) (ix3 b kv d) = (D.ks b kv d : EReal)
  cv : ∀ b p kv e, m ((0 : Dev nD).tc.loc main_arg5) (ix4 b p kv e) = D.cv b p kv e
  vs : ∀ b p kv, m ((0 : Dev nD).tc.loc main_arg6) (ix3 b p kv) = (D.vs b p kv : EReal)
  len : ∀ b, (lenW m b).toNat = D.len b

/-- The scaled queries, spread out. -/
def Spread (D : Data) (b : Fin 4) (q : Vec Ideal S128x512 .bf16) : Prop :=
  ∀ (r : Fin 128) (c : Fin 512), q (ix2 r c) = ((if r.val % 16 / 4 = c.val % 4 then D.x b (posOf r) (headOf r) ⟨c.val / 4, by omega⟩ * D.ks b (kvOf r) ⟨c.val / 4, by omega⟩ else 0 : ℝ) : EReal)

/-- The products of a spread row with a block's keys. -/
theorem spread_sum (D : Data) (b : Fin 4) (q : Vec Ideal S128x512 .bf16) (hq : Spread D b q) (x7 : Vec Ideal S1x1024x8x128 .fp8e4m3) (p : Fin 1024) (P : Fin 8192)
    (h7 : ∀ kv d, x7 (ix4 0 p kv d) = (D.ck b P kv d : EReal)) (r : Fin 128) :
    (∑ x : Fin 512, q (ix2 r x) * x7 (ix4 0 p ⟨r.val / 64 * 4 + x.val % 4, by omega⟩ ⟨x.val / 4, by omega⟩)) * Ideal.ofBits .f32 0x3DB504F3#32
      = ((scoreC D b (posOf r) (headOf r) (kvOf r) P : ℝ) : EReal) := by
  have h := sum_fours ⟨r.val % 16 / 4, by omega⟩ fun d => D.x b (posOf r) (headOf r) d * D.ks b (kvOf r) d * D.ck b P (kvOf r) d
  rw [Finset.sum_congr rfl fun x _ => (show q (ix2 r x) * x7 (ix4 0 p ⟨r.val / 64 * 4 + x.val % 4, by omega⟩ ⟨x.val / 4, by omega⟩)
      = ((if r.val % 16 / 4 = x.val % 4 then D.x b (posOf r) (headOf r) ⟨x.val / 4, by omega⟩ * D.ks b (kvOf r) ⟨x.val / 4, by omega⟩ * D.ck b P (kvOf r) ⟨x.val / 4, by omega⟩ else 0 : ℝ) : EReal) from ?_),
    coe_sum, h, factor_coe, ← EReal.coe_mul]
  · rfl
  · rw [hq, h7, ← EReal.coe_mul]
    congr 1
    split_ifs with he
    · rw [show (⟨r.val / 64 * 4 + x.val % 4, by omega⟩ : Fin 8) = kvOf r from Fin.ext (by show r.val / 64 * 4 + x.val % 4 = r.val / 64 * 4 + r.val % 16 / 4; omega)]
    · rw [zero_mul]

end Cert.KernelIdeal.Hand

end
-- ==== Proof.OutRun.lean ====
/-
  The result of the attention after the run.
-/
module

public import proofs.«01_k».proof.Proof.OutStep
public import proofs.«01_k».proof.Proof.Readback

@[expose] public section

set_option maxRecDepth 16384

noncomputable section

namespace Cert.KernelIdeal.Hand

open Idealize.ShloMosaic Idealize.ShloMosaic.TcCoe Idealize.SL.Sem
open Idealize.ShloMosaic.Pipeline (Dat Cfg Window BodyObligation cellOf)
open Cert.KernelIdeal Cert.KernelIdeal.Gen Cert.Vals

variable (m : (ℓ : Loc nD τ sig) → Buf (Elt Ideal) ℓ) (D : Data) (hO : Ok m)

/-- What the scratch holds of a sequence after its first a positions. -/
def Have (D : Data) (b : Fin 4) (a : ℕ) (q : Vec Ideal S128x512 .bf16) (mx l : Vec Ideal S128x128 .f32) (acc : Vec Ideal S4x128x256 .f32) (accn : Vec Ideal S128x128 .f32) : Prop :=
  Spread D b q ∧ Rows (ctx D b) a mx l acc accn

theorem start_rows (b : Fin 4) (x3 : Vec Ideal S1x4x32x128 .bf16) (x4 x5 : Vec Ideal S1x4x8x128 .bf16) (x6 : Vec Ideal S1x8x128 .f32)
    (h3 : ∀ p h d, x3 (ix4 0 p h d) = ((D.x b p h d : ℝ) : EReal)) (h4 : ∀ u k d, codeOf (x4 (ix4 0 u k d)) (D.ks b k d) = ((D.kn b u k d : ℝ) : EReal))
    (h5 : ∀ u k d, x5 (ix4 0 u k d) = ((D.vn b u k d : ℝ) : EReal)) (h6 : ∀ k d, x6 (ix3 0 k d) = ((D.ks b k d : ℝ) : EReal)) :
    Have D b 0 (qVal x3 x6) (k0_pay75 (snV x3 x4 x6)) (k0_pay74 (snV x3 x4 x6)) (k0_pay1 (F := Ideal))
      (k0_pay76 (k0_pay47 (k0_pay45 x5) k0_pay46) (k0_pay48 (k0_pay44 x5) (k0_pay45 x5) k0_pay46) (snV x3 x4 x6)) := by
  refine ⟨fun r c => ?_, ?_⟩
  · rw [qVal_at, h3, h6]
    split_ifs
    · rw [← EReal.coe_mul]
    · rfl
  · refine rows_start (ctx D b) _ _ _ (rowN D b) (fun j => vscaleR (D.vn b ⟨j.val / 8, by omega⟩ ⟨j.val % 8, by omega⟩))
      (fun j d => vqZ (D.vn b ⟨j.val / 8, by omega⟩ ⟨j.val % 8, by omega⟩) d) (fun r j => ?_) (fun j => vscale_at _ j _ (fun d => h5 _ _ d)) (fun j d => vq_at _ j d _ (fun d => h5 _ _ d)) (fun r => rfl) (fun r d => rfl)
    rw [snV_at]
    by_cases hs : sees r j
    · rw [if_pos hs, if_pos hs]
      have hk : (⟨j.val % 8, by omega⟩ : Fin 8) = kvOf r := Fin.ext hs.1.symm
      rw [Finset.sum_congr rfl fun d _ => (show x3 (ix4 0 (posOf r) (headOf r) d) * x6 (ix3 0 (kvOf r) d) * codesVal x4 x6 (ix2 j d)
        = ((D.x b (posOf r) (headOf r) d * D.ks b (kvOf r) d * D.kn b ⟨j.val / 8, by omega⟩ (kvOf r) d : ℝ) : EReal) from ?_), coe_sum, factor_coe, ← EReal.coe_mul]
      · rfl
      · rw [codesVal_at x4 x6 j d (D.ks b ⟨j.val % 8, by omega⟩ d) (h6 _ _), h3, h6, h4, ← EReal.coe_mul, ← EReal.coe_mul, hk]
    · rw [if_neg hs, if_neg hs]

theorem start_have (hH : Holds m D) (t : Fin (cfgM m hO).N) (st : St Ideal) (ht : t.val % 8 = 0) :
    Have D (bOf t.val) 0 (startAt m hO 0 t st).q (startAt m hO 0 t st).m (startAt m hO 0 t st).l (startAt m hO 0 t st).acc (startAt m hO 0 t st).accn := by
  have h1 := (cond1_iff t).mpr ht
  have eq : (startAt m hO 0 t st).q = qVal (iblk m hO 0 0 t) (iblk m hO 0 3 t) := start_q (h := h1) ..
  have em : (startAt m hO 0 t st).m = k0_pay75 (snV (iblk m hO 0 0 t) (iblk m hO 0 1 t) (iblk m hO 0 3 t)) := start_m (h := h1) ..
  have el : (startAt m hO 0 t st).l = k0_pay74 (snV (iblk m hO 0 0 t) (iblk m hO 0 1 t) (iblk m hO 0 3 t)) := start_l (h := h1) ..
  have ea : (startAt m hO 0 t st).acc = k0_pay1 (F := Ideal) := start_acc (h := h1) ..
  have en : (startAt m hO 0 t st).accn = k0_pay76 (k0_pay47 (k0_pay45 (iblk m hO 0 2 t)) k0_pay46) (k0_pay48 (k0_pay44 (iblk m hO 0 2 t)) (k0_pay45 (iblk m hO 0 2 t)) k0_pay46) (snV (iblk m hO 0 0 t) (iblk m hO 0 1 t) (iblk m hO 0 3 t)) := start_accn (h := h1) ..
  rw [eq, em, el, ea, en]
  exact start_rows D (bOf t.val) (iblk m hO 0 0 t) (iblk m hO 0 1 t) (iblk m hO 0 2 t) (iblk m hO 0 3 t)
    (fun p h d => (iblk0_at m hO 0 t p h d).trans (hH.x _ _ _ _)) (fun u k d => (congrArg (fun z => codeOf z _) (iblk1_at m hO 0 t u k d)).trans (hH.kn _ _ _ _))
    (fun u k d => (iblk2_at m hO 0 t u k d).trans (hH.vn _ _ _ _)) (fun k d => (iblk3_at m hO 0 t k d).trans (hH.ks _ _ _))

theorem block_rows (b : Fin 4) (j : ℕ) (hj : j < 8) (n : BitVec 32) (hn : n.toNat < 2 ^ 31) (hd : D.len b = n.toNat) (hb : j * 1024 < n.toNat)
    (x7 : Vec Ideal S1x1024x8x128 .fp8e4m3) (x8 : Vec Ideal S1x8x64x1024 .i8) (x9 : Vec Ideal S1x8x1024 .f32) (q : Vec Ideal S128x512 .bf16)
    (m l : Vec Ideal S128x128 .f32) (acc : Vec Ideal S4x128x256 .f32) (accn : Vec Ideal S128x128 .f32)
    (m' l' : Vec Ideal S128x128 .f32) (acc' : Vec Ideal S4x128x256 .f32) (accn' : Vec Ideal S128x128 .f32)
    (em : m' = k0_pay96 (mV (BitVec.ofNat 32 j) n x7 q m)) (el : l' = k0_pay95 (eV (BitVec.ofNat 32 j) n x7 q m) (lV (BitVec.ofNat 32 j) n x7 q m l))
    (ea : ∀ (i : Fin 4) (r : Fin 128) (k : Fin 256), acc' (ix3 i r k) = accV (BitVec.ofNat 32 (4 * i.val)) (alV (BitVec.ofNat 32 j) n x7 q m) (wV (BitVec.ofNat 32 j) n x7 x9 q m) (k0_pay77 (F := Ideal) x8) (plane acc i) (ix3 0 r k))
    (en : accn' = k0_pay3 (alV (BitVec.ofNat 32 j) n x7 q m) accn)
    (h7 : ∀ (c : Fin 1024) kv d, x7 (ix4 0 c kv d) = ((D.ck b ⟨j * 1024 + c.val, by omega⟩ kv d : ℝ) : EReal))
    (h8 : ∀ kv e (c : Fin 1024), x8 (ix4 0 kv e c) = D.cv b ⟨j * 1024 + c.val, by omega⟩ kv e)
    (h9 : ∀ kv (c : Fin 1024), x9 (ix3 0 kv c) = ((D.vs b ⟨j * 1024 + c.val, by omega⟩ kv : ℝ) : EReal))
    (hq : Spread D b q) (H : Rows (ctx D b) (j * 1024) m l acc accn) : Rows (ctx D b) (j * 1024 + 1024) m' l' acc' accn' := by
  have hp : ∀ c : Fin 1024, (⟨j * 1024 + c.val, by omega⟩ : Fin 8192) = pos (j * 1024 + c.val) := fun c => Fin.ext (by show _ = _ % 8192; simp only []; omega)
  refine row_block (ctx D b) _ (BitVec.ofNat 32 j) n x7 x8 x9 q m l acc accn _ _ _ _ em el ea en (fun r c => ?_) (fun r c => ?_) (fun k c => ?_) H
  · rw [sV_at, spread_sum D b q hq x7 c ⟨j * 1024 + c.val, by omega⟩ (h7 c) r, mask_word _ _ _ hn hb c.isLt, ← hd, hp]
    rfl
  · rw [h9, hp]
    rfl
  · have hk : k = ⟨(⟨k.val / 32, by omega⟩ : Fin 8).val * 32 + (⟨k.val % 32, by omega⟩ : Fin 32).val, by simp only []; omega⟩ := Fin.ext (by simp only []; omega)
    have e := pay77_at x8 ⟨k.val / 32, by omega⟩ ⟨k.val % 32, by omega⟩ c
    rw [← hk] at e
    rw [e, h8, h8, hp]
    rfl

theorem block_at_m (t : Fin (cfgM m hO).N) (st : St Ideal) (h1 : cond0_1 (grid0.coords t) (lenAt m hO 0 t)) : (blockAt m hO 0 t st).m = k0_pay96 (mV (BitVec.ofNat 32 (grid0.coords t 1).val) (lenAt m hO 0 t) (iblk m hO 0 4 t) st.q st.m) :=
  block_m_eq (h := h1) ..

theorem block_at_l (t : Fin (cfgM m hO).N) (st : St Ideal) (h1 : cond0_1 (grid0.coords t) (lenAt m hO 0 t)) :
    (blockAt m hO 0 t st).l = k0_pay95 (eV (BitVec.ofNat 32 (grid0.coords t 1).val) (lenAt m hO 0 t) (iblk m hO 0 4 t) st.q st.m) (lV (BitVec.ofNat 32 (grid0.coords t 1).val) (lenAt m hO 0 t) (iblk m hO 0 4 t) st.q st.m st.l) :=
  block_l_eq (h := h1) ..

theorem block_at_acc (t : Fin (cfgM m hO).N) (st : St Ideal) (h1 : cond0_1 (grid0.coords t) (lenAt m hO 0 t)) (n : Fin 4) (r : Fin 128) (k : Fin 256) :
    (blockAt m hO 0 t st).acc (ix3 n r k) = accV (BitVec.ofNat 32 (4 * n.val)) (alV (BitVec.ofNat 32 (grid0.coords t 1).val) (lenAt m hO 0 t) (iblk m hO 0 4 t) st.q st.m)
      (wV (BitVec.ofNat 32 (grid0.coords t 1).val) (lenAt m hO 0 t) (iblk m hO 0 4 t) (iblk m hO 0 6 t) st.q st.m) (k0_pay77 (F := Ideal) (iblk m hO 0 5 t)) (plane st.acc n) (ix3 0 r k) := by
  unfold blockAt
  exact block_acc_at (h := h1) ..

theorem block_at_accn (t : Fin (cfgM m hO).N) (st : St Ideal) (h1 : cond0_1 (grid0.coords t) (lenAt m hO 0 t)) : (blockAt m hO 0 t st).accn = k0_pay3 (alV (BitVec.ofNat 32 (grid0.coords t 1).val) (lenAt m hO 0 t) (iblk m hO 0 4 t) st.q st.m) st.accn :=
  block_accn_eq (h := h1) ..

theorem block_have (hl : LengthsOk m) (hH : Holds m D) (t : Fin (cfgM m hO).N) (st : St Ideal)
    (h : Have D (bOf t.val) (t.val % 8 * 1024) st.q st.m st.l st.acc st.accn) :
    Have D (bOf t.val) (t.val % 8 * 1024 + 1024) (blockAt m hO 0 t st).q (blockAt m hO 0 t st).m (blockAt m hO 0 t st).l (blockAt m hO 0 t st).acc (blockAt m hO 0 t st).accn := by
  have eq : (blockAt m hO 0 t st).q = st.q := block_q ..
  refine ⟨by rw [eq]; exact h.1, ?_⟩
  have hlen := lenAt_eq hO 0 t
  have hn := (lenW_ok hl (bOf t.val)).2
  have ec : (grid0.coords t 1).val = t.val % 8 := coord1 t
  by_cases hb : t.val % 8 * 1024 < (lenW m (bOf t.val)).toNat
  · have h1 : cond0_1 (grid0.coords t) (lenAt m hO 0 t) := by
      rw [hlen]
      exact (cond_iff _ _ hn).mpr (by rw [ec]; exact hb)
    have em := block_at_m m hO t st h1
    have el := block_at_l m hO t st h1
    have ea := block_at_acc m hO t st h1
    have en := block_at_accn m hO t st h1
    generalize (blockAt m hO 0 t st).m = m', (blockAt m hO 0 t st).l = l', (blockAt m hO 0 t st).acc = acc', (blockAt m hO 0 t st).accn = accn' at em el ea en ⊢
    rw [ec, hlen] at em el en
    simp only [ec, hlen] at ea
    exact block_rows D (bOf t.val) (t.val % 8) (by omega) (lenW m (bOf t.val)) hn (hH.len _).symm hb (iblk m hO 0 4 t) (iblk m hO 0 5 t) (iblk m hO 0 6 t) st.q st.m st.l st.acc st.accn _ _ _ _ em el ea en
      (fun c kv d => (keys_at m hl hO 0 t hb c kv d).trans (hH.ck _ _ _ _)) (fun kv e c => (vals_at m hl hO 0 t hb kv e c).trans (hH.cv _ _ _ _)) (fun kv c => (scales_at m hl hO 0 t hb kv c).trans (hH.vs _ _ _)) h.1 h.2
  · have h1 : ¬ cond0_1 (grid0.coords t) (lenAt m hO 0 t) := by
      rw [hlen]
      exact fun h2 => hb (by rw [← ec]; exact (cond_iff _ _ hn).mp h2)
    have e : blockAt m hO 0 t st = st := by unfold blockAt blockSt; exact if_neg h1
    rw [e]
    refine rows_skip _ _ ?_ _ _ _ _ h.2
    show D.len _ ≤ _
    rw [← hH.len]
    omega

/-- The facts of the attention: the scratch between a sequence's points, the result at its last one. -/
def outFacts (D : Data) : Facts Ideal :=
  ⟨fun n q mx l acc accn => ¬ n % 8 = 0 → Have D (bOf n) (n % 8 * 1024) q mx l acc accn,
    fun n X => n % 8 = 7 → ∀ t h d, X (ix4 0 t h d) = ((outR D (bOf n) t h d : ℝ) : EReal), fun _ _ => True, fun _ _ => True, fun _ _ => True⟩

theorem cond3_iff (t : Fin grid0.N) : k0_cond3 (grid0.coords t) = 1#1 ↔ t.val % 8 = 7 := hcond0_2 t

theorem out_steps (hl : LengthsOk m) (hH : Holds m D) (c : Dev nD) : Steps m hO (outFacts D) c := by
  obtain rfl : c = 0 := Subsingleton.elim _ _
  intro t st hI _
  have h1 : Have D (bOf t.val) (t.val % 8 * 1024) (startAt m hO 0 t st).q (startAt m hO 0 t st).m (startAt m hO 0 t st).l (startAt m hO 0 t st).acc (startAt m hO 0 t st).accn := by
    by_cases ht : t.val % 8 = 0
    · have := start_have m D hO hH t st ht
      rw [ht]
      exact this
    · rw [startAt_later m hO 0 t st ht]
      exact hI ht
  have h2 := block_have m D hO hl hH t _ h1
  rw [stepAt_eq]
  refine ⟨fun hn => ?_, fun h7 t' h d => ?_, trivial, trivial, trivial⟩
  · have e1 : bOf (t.val + 1) = bOf t.val := Fin.ext (by simp only [bOf]; omega)
    have e2 : (t.val + 1) % 8 * 1024 = t.val % 8 * 1024 + 1024 := by omega
    rw [e1, e2]
    have f1 : (finishAt m hO 0 t (blockAt m hO 0 t (startAt m hO 0 t st))).q = (blockAt m hO 0 t (startAt m hO 0 t st)).q := finish_q ..
    have f2 : (finishAt m hO 0 t (blockAt m hO 0 t (startAt m hO 0 t st))).m = (blockAt m hO 0 t (startAt m hO 0 t st)).m := finish_m ..
    have f3 : (finishAt m hO 0 t (blockAt m hO 0 t (startAt m hO 0 t st))).l = (blockAt m hO 0 t (startAt m hO 0 t st)).l := finish_l ..
    have f4 : (finishAt m hO 0 t (blockAt m hO 0 t (startAt m hO 0 t st))).acc = (blockAt m hO 0 t (startAt m hO 0 t st)).acc := finish_acc ..
    have f5 : (finishAt m hO 0 t (blockAt m hO 0 t (startAt m hO 0 t st))).accn = (blockAt m hO 0 t (startAt m hO 0 t st)).accn := finish_accn ..
    rw [f1, f2, f3, f4, f5]
    exact h2
  · refine (finish_o_at (hc := (cond3_iff t).mpr h7) ..).trans ?_
    have e : t.val % 8 * 1024 + 1024 = 8192 := by omega
    rw [e] at h2
    exact rows_out D (bOf t.val) _ _ _ _ h2.2 t' h d

variable (ρ : Dev nD → PrngReg)

/-- The result after the run. -/
theorem out_read (hl : LengthsOk m) (hH : Holds m D) : θ_run defs (onTc (τ := τ) (main (F := Ideal))) (s₀ m ρ) (fun r => ∀ (c : Dev nD) (b t : Fin 4) (h : Fin 32) (d : Fin 128),
    r.2.mem ((c.tc : Thread nD τ).loc main_v3_0) (ix4 b t h d) = ((outR D b t h d : ℝ) : EReal)) := by
  refine (θ_run defs _ _).mono (fun r hr c b t h d => ?_) (run_read m ρ (ok_of hl) (outFacts D) (fun _ _ _ _ _ hn => absurd rfl hn) fun c => out_steps m D (ok_of hl) hl hH c)
  obtain ⟨X, hX, e⟩ := (hr c).1 b
  rw [e t h d, hX (by omega) t h d, bOf_last]

end Cert.KernelIdeal.Hand

end
-- ==== Proof.RefLines.lean ====
/-
  The lines of the reference's attention, each read at an index.
-/
module

public import proofs.«01_k».proof.Proof.RefValue
public import proofs.«01_k».proof.Proof.Attend

@[expose] public section

set_option maxRecDepth 16384

noncomputable section

namespace Cert.ReferenceIdeal.Hand

open Idealize.ShloMosaic Idealize.ShloMosaic.TcCoe
open Idealize.SL Idealize.SL.Sem
open Cert.Vals Cert.ReferenceIdeal Cert.ReferenceIdeal.Gen

variable (X : Valuation τ sig (Elt Ideal))

/-- Some of the attention's lines: `n` of them from the `i`-th on. -/
def seg (i n : ℕ) : List (HloOp τ sig (Elt Ideal)) := (List.drop i hostOps1_10).take n

theorem seg_step (i n : ℕ) : StableHlo.after (List.drop i hostOps1_10) X = StableHlo.after (List.drop (i + n) hostOps1_10) (StableHlo.after (seg i n) X) := by
  rw [seg, ← StableHlo.after_append, ← List.drop_drop, List.take_append_drop]

theorem seg_keep (i n : ℕ) (b : Ref sig .tc) (hb : b ∉ hostOps1_10_W) : StableHlo.after (seg i n) X (Proc.devRef .tc b) = X (Proc.devRef .tc b) :=
  after_keep X b (List.forall_iff_forall_mem.mpr fun op hop => (List.forall_iff_forall_mem.mp hostOps1_10_writes) op (List.mem_of_mem_drop (List.mem_of_mem_take hop))) hb

theorem v58_at (b : Fin 4) (k : Fin 8) (g s : Fin 4) (p : Fin 8192) :
    (StableHlo.after hostOps1_6 X (Proc.devRef .tc main_v58) (ix5 b k g s p) : EReal) = (∑ d : Fin 128,
      HMul.hMul (α := EReal) (β := EReal) (γ := EReal) (X (Proc.devRef .tc main_v25_2) (ix4 b p k d)) (HMul.hMul (α := EReal) (β := EReal) (γ := EReal) (X (Proc.devRef .tc main_arg0) (ix4 b s ⟨k.val * 4 + g.val, by omega⟩ d)) (X (Proc.devRef .tc main_arg4) (ix3 b k d)))) * Ideal.ofBits FTy.f32 0x3DB504F3#32 := by
  simp only [hostOps1_6, StableHlo.after_cons, StableHlo.after_nil]
  after_results_simp
  pointwise

theorem v62_at (b : Fin 4) (k : Fin 8) (g s u : Fin 4) :
    (StableHlo.after hostOps1_6 X (Proc.devRef .tc main_v62) (ix5 b k g s u) : EReal) = (∑ d : Fin 128,
      HMul.hMul (α := EReal) (β := EReal) (γ := EReal) (X (Proc.devRef .tc main_v25_1) (ix4 b u k d)) (HMul.hMul (α := EReal) (β := EReal) (γ := EReal) (X (Proc.devRef .tc main_arg0) (ix4 b s ⟨k.val * 4 + g.val, by omega⟩ d)) (X (Proc.devRef .tc main_arg4) (ix3 b k d)))) * Ideal.ofBits FTy.f32 0x3DB504F3#32 := by
  simp only [hostOps1_6, StableHlo.after_cons, StableHlo.after_nil]
  after_results_simp
  pointwise

theorem v69_at (b : Fin 4) (p : Fin 8192) :
    StableHlo.after hostOps1_6 X (Proc.devRef .tc main_v69) (ix5 b 0 0 0 p) = IntOp.cmpi CmpIPredicate.slt (BitVec.ofNat 32 p.val) (X (Proc.devRef .tc main_arg7) (ix1 b)) := by
  simp only [hostOps1_6, StableHlo.after_cons, StableHlo.after_nil]
  after_results_simp
  pointwise

theorem cst18_at : (StableHlo.after hostOps1_6 X (Proc.devRef .tc main_cst_18) ix0 : EReal) = Ideal.ofBits FTy.f32 0xFF800000#32 := by
  simp only [hostOps1_6, StableHlo.after_cons, StableHlo.after_nil]
  after_results_simp
  rfl

theorem v70_at (b : Fin 4) (k : Fin 8) (g s : Fin 4) (p : Fin 8192) :
    (StableHlo.after (hostOps1_7 ++ (hostOps1_8 ++ hostOps1_9)) X (Proc.devRef .tc main_v70) (ix5 b k g s p) : EReal)
      = Scalar.select (X (Proc.devRef .tc main_v69) (ix5 b 0 0 0 p)) (X (Proc.devRef .tc main_v58) (ix5 b k g s p) : EReal) (X (Proc.devRef .tc main_cst_18) ix0) := by
  simp only [hostOps1_7, hostOps1_8, hostOps1_9, List.cons_append, List.nil_append, StableHlo.after_cons, StableHlo.after_nil]
  after_results_simp
  simp -implicitDefEqProofs only [StableHlo.TRef.toBuf, StableHlo.TRef.ofBuf, cast_cast, cast_eq]
  clean_types
  pointwise
  rfl

theorem v78_at (b : Fin 4) (k : Fin 8) (g s u : Fin 4) :
    (StableHlo.after (hostOps1_7 ++ (hostOps1_8 ++ hostOps1_9)) X (Proc.devRef .tc main_v78) (ix5 b k g s u) : EReal)
      = Scalar.select (IntOp.cmpi CmpIPredicate.sle (BitVec.ofNat 32 u.val) (BitVec.ofNat 32 s.val)) (X (Proc.devRef .tc main_v62) (ix5 b k g s u) : EReal) (Ideal.ofBits FTy.f32 0xFF800000#32) := by
  simp only [hostOps1_7, hostOps1_8, hostOps1_9, List.cons_append, List.nil_append, StableHlo.after_cons, StableHlo.after_nil]
  after_results_simp
  simp -implicitDefEqProofs only [StableHlo.TRef.toBuf, StableHlo.TRef.ofBuf, cast_cast, cast_eq]
  clean_types
  pointwise
  rfl

theorem max_at (A : FVec Ideal S4x8x4x4x8192 .f32) (b : Fin 4) (k : Fin 8) (g s : Fin 4) :
    Host.reduce FloatOps.maximumf A (constant S_ .f32 0xFF800000#32) reducesTo_S4x8x4x4x8192_S4x8x4x4_d4 h_S_ (ix4 b k g s)
      = Finset.fold max (Ideal.ofBits FTy.f32 0xFF800000#32) (fun x => A (ix5 b k g s x)) Finset.univ := by
  pointwise

theorem v79_eq : (StableHlo.after (seg 0 2) X (Proc.devRef .tc main_v79) : FVec Ideal S4x8x4x4 .f32)
    = Host.reduce FloatOps.maximumf (X (Proc.devRef .tc main_v70) : FVec Ideal S4x8x4x4x8192 .f32) (constant (F := Ideal) S_ .f32 0xFF800000#32) reducesTo_S4x8x4x4x8192_S4x8x4x4_d4 h_S_ := by
  simp only [seg, hostOps1_10, List.drop_succ_cons, List.drop_zero, List.take_succ_cons, List.take_zero, StableHlo.after_cons, StableHlo.after_nil]
  after_results_simp

theorem v83_at (b : Fin 4) (k : Fin 8) (g s : Fin 4) :
    (StableHlo.after (seg 2 5) X (Proc.devRef .tc main_v83) (ix5 b k g s 0) : EReal) = max (α := EReal) (X (Proc.devRef .tc main_v79) (ix4 b k g s) : EReal)
      (Finset.fold max (Ideal.ofBits FTy.f32 0xFF800000#32) (fun x : Fin 4 => (X (Proc.devRef .tc main_v78) (ix5 b k g s x) : EReal)) Finset.univ) := by
  simp only [seg, hostOps1_10, List.drop_succ_cons, List.drop_zero, List.take_succ_cons, List.take_zero, StableHlo.after_cons, StableHlo.after_nil]
  after_results_simp
  pointwise

theorem v86_at (b : Fin 4) (k : Fin 8) (g s : Fin 4) (p : Fin 8192) :
    (StableHlo.after (seg 7 6) X (Proc.devRef .tc main_v86) (ix5 b k g s p) : EReal) = Ideal.exp (HSub.hSub (α := EReal) (β := EReal) (γ := EReal) ((X (Proc.devRef .tc main_v70) (ix5 b k g s p) : EReal)) ((X (Proc.devRef .tc main_v83) (ix5 b k g s 0) : EReal))) := by
  simp only [seg, hostOps1_10, List.drop_succ_cons, List.drop_zero, List.take_succ_cons, List.take_zero, StableHlo.after_cons, StableHlo.after_nil]
  after_results_simp
  pointwise

theorem v89_at (b : Fin 4) (k : Fin 8) (g s : Fin 4) (u : Fin 4) :
    (StableHlo.after (seg 7 6) X (Proc.devRef .tc main_v89) (ix5 b k g s u) : EReal) = Ideal.exp (HSub.hSub (α := EReal) (β := EReal) (γ := EReal) ((X (Proc.devRef .tc main_v78) (ix5 b k g s u) : EReal)) ((X (Proc.devRef .tc main_v83) (ix5 b k g s 0) : EReal))) := by
  simp only [seg, hostOps1_10, List.drop_succ_cons, List.drop_zero, List.take_succ_cons, List.take_zero, StableHlo.after_cons, StableHlo.after_nil]
  after_results_simp
  pointwise

theorem v94_at (b : Fin 4) (k : Fin 8) (g s : Fin 4) :
    (StableHlo.after (seg 13 7) X (Proc.devRef .tc main_v94) (ix5 b k g s 0) : EReal) = HAdd.hAdd (α := EReal) (β := EReal) (γ := EReal) (Finset.sum (M := EReal) Finset.univ (fun p : Fin 8192 => (X (Proc.devRef .tc main_v86) (ix5 b k g s p) : EReal))) (Finset.sum (M := EReal) Finset.univ (fun u : Fin 4 => (X (Proc.devRef .tc main_v89) (ix5 b k g s u) : EReal))) := by
  simp only [seg, hostOps1_10, List.drop_succ_cons, List.drop_zero, List.take_succ_cons, List.take_zero, StableHlo.after_cons, StableHlo.after_nil]
  after_results_simp
  pointwise

theorem v101_at (b : Fin 4) (k : Fin 8) (g s : Fin 4) (p : Fin 8192) :
    (StableHlo.after (seg 20 7) X (Proc.devRef .tc main_v101) (ix5 b k g s p) : EReal) = HMul.hMul (α := EReal) (β := EReal) (γ := EReal) (Ideal.div (X (Proc.devRef .tc main_v86) (ix5 b k g s p) : EReal) (X (Proc.devRef .tc main_v94) (ix5 b k g s 0) : EReal)) ((X (Proc.devRef .tc main_arg6) (ix3 b p k) : EReal)) := by
  simp only [seg, hostOps1_10, List.drop_succ_cons, List.drop_zero, List.take_succ_cons, List.take_zero, StableHlo.after_cons, StableHlo.after_nil]
  after_results_simp
  pointwise

theorem v108_at (b : Fin 4) (k : Fin 8) (g s : Fin 4) (u : Fin 4) :
    (StableHlo.after (seg 27 7) X (Proc.devRef .tc main_v108) (ix5 b k g s u) : EReal) = HMul.hMul (α := EReal) (β := EReal) (γ := EReal) (Ideal.div (X (Proc.devRef .tc main_v89) (ix5 b k g s u) : EReal) (X (Proc.devRef .tc main_v94) (ix5 b k g s 0) : EReal)) ((X (Proc.devRef .tc main_v33) (ix3 b u k) : EReal)) := by
  simp only [seg, hostOps1_10, List.drop_succ_cons, List.drop_zero, List.take_succ_cons, List.take_zero, StableHlo.after_cons, StableHlo.after_nil]
  after_results_simp
  pointwise

theorem v125_at (b : Fin 4) (p : Fin 8192) (k : Fin 8) (e : Fin 64) :
    (StableHlo.after (seg 34 26) X (Proc.devRef .tc main_v125) (ix4 b p k e) : EReal) = (((IntOp.subi (IntOp.xori (IntOp.andi (BitVec.setWidth 32 (X (Proc.devRef .tc main_arg5) (ix4 b p k e) : BitVec 8)) 15#32) 8#32) 8#32).toInt : ℝ) : EReal) := by
  simp only [seg, hostOps1_10, List.drop_succ_cons, List.drop_zero, List.take_succ_cons, List.take_zero, StableHlo.after_cons, StableHlo.after_nil]
  after_results_simp
  pointwise
  rfl

theorem v127_at (b : Fin 4) (p : Fin 8192) (k : Fin 8) (e : Fin 64) :
    (StableHlo.after (seg 34 26) X (Proc.devRef .tc main_v127) (ix4 b p k e) : EReal) = (((IntOp.subi (IntOp.xori (IntOp.andi (IntOp.shrsi ArithUnit.host (BitVec.setWidth 32 (X (Proc.devRef .tc main_arg5) (ix4 b p k e) : BitVec 8)) 4#32) 15#32) 8#32) 8#32).toInt : ℝ) : EReal) := by
  simp only [seg, hostOps1_10, List.drop_succ_cons, List.drop_zero, List.take_succ_cons, List.take_zero, StableHlo.after_cons, StableHlo.after_nil]
  after_results_simp
  pointwise
  rfl

theorem v144_at (b : Fin 4) (u : Fin 4) (k : Fin 8) (e : Fin 64) :
    (StableHlo.after (seg 60 26) X (Proc.devRef .tc main_v144) (ix4 b u k e) : EReal) = (((IntOp.subi (IntOp.xori (IntOp.andi (BitVec.setWidth 32 (X (Proc.devRef .tc main_v49) (ix4 b u k e) : BitVec 8)) 15#32) 8#32) 8#32).toInt : ℝ) : EReal) := by
  simp only [seg, hostOps1_10, List.drop_succ_cons, List.drop_zero, List.take_succ_cons, List.take_zero, StableHlo.after_cons, StableHlo.after_nil]
  after_results_simp
  pointwise
  rfl

theorem v146_at (b : Fin 4) (u : Fin 4) (k : Fin 8) (e : Fin 64) :
    (StableHlo.after (seg 60 26) X (Proc.devRef .tc main_v146) (ix4 b u k e) : EReal) = (((IntOp.subi (IntOp.xori (IntOp.andi (IntOp.shrsi ArithUnit.host (BitVec.setWidth 32 (X (Proc.devRef .tc main_v49) (ix4 b u k e) : BitVec 8)) 4#32) 15#32) 8#32) 8#32).toInt : ℝ) : EReal) := by
  simp only [seg, hostOps1_10, List.drop_succ_cons, List.drop_zero, List.take_succ_cons, List.take_zero, StableHlo.after_cons, StableHlo.after_nil]
  after_results_simp
  pointwise
  rfl

theorem v151_at (b s : Fin 4) (k : Fin 8) (g : Fin 4) (e : Fin 64) :
    (StableHlo.after (seg 86 10) X (Proc.devRef .tc main_v151) (ix5 b s k g e) : EReal) = HAdd.hAdd (α := EReal) (β := EReal) (γ := EReal) (Finset.sum (M := EReal) Finset.univ (fun p : Fin 8192 => HMul.hMul (α := EReal) (β := EReal) (γ := EReal) ((X (Proc.devRef .tc main_v125) (ix4 b p k e) : EReal)) ((X (Proc.devRef .tc main_v101) (ix5 b k g s p) : EReal)))) (Finset.sum (M := EReal) Finset.univ (fun u : Fin 4 => HMul.hMul (α := EReal) (β := EReal) (γ := EReal) ((X (Proc.devRef .tc main_v144) (ix4 b u k e) : EReal)) ((X (Proc.devRef .tc main_v108) (ix5 b k g s u) : EReal)))) := by
  simp only [seg, hostOps1_10, List.drop_succ_cons, List.drop_zero, List.take_succ_cons, List.take_zero, StableHlo.after_cons, StableHlo.after_nil]
  after_results_simp
  pointwise

theorem v156_at (b s : Fin 4) (k : Fin 8) (g : Fin 4) (e : Fin 64) :
    (StableHlo.after (seg 86 10) X (Proc.devRef .tc main_v156) (ix5 b s k g e) : EReal) = HAdd.hAdd (α := EReal) (β := EReal) (γ := EReal) (Finset.sum (M := EReal) Finset.univ (fun p : Fin 8192 => HMul.hMul (α := EReal) (β := EReal) (γ := EReal) ((X (Proc.devRef .tc main_v127) (ix4 b p k e) : EReal)) ((X (Proc.devRef .tc main_v101) (ix5 b k g s p) : EReal)))) (Finset.sum (M := EReal) Finset.univ (fun u : Fin 4 => HMul.hMul (α := EReal) (β := EReal) (γ := EReal) ((X (Proc.devRef .tc main_v146) (ix4 b u k e) : EReal)) ((X (Proc.devRef .tc main_v108) (ix5 b k g s u) : EReal)))) := by
  simp only [seg, hostOps1_10, List.drop_succ_cons, List.drop_zero, List.take_succ_cons, List.take_zero, StableHlo.after_cons, StableHlo.after_nil]
  after_results_simp
  pointwise

theorem v161_at (b t : Fin 4) (h : Fin 32) (d : Fin 128) :
    (StableHlo.after (seg 96 5) X (Proc.devRef .tc main_v161) (ix4 b t h d) : EReal) = if d.val % 2 < 1 then (X (Proc.devRef .tc main_v151) (ix5 b t ⟨h.val / 4, by omega⟩ ⟨h.val % 4, by omega⟩ ⟨d.val / 2, by omega⟩) : EReal) else (X (Proc.devRef .tc main_v156) (ix5 b t ⟨h.val / 4, by omega⟩ ⟨h.val % 4, by omega⟩ ⟨d.val / 2, by omega⟩) : EReal) := by
  simp only [seg, hostOps1_10, List.drop_succ_cons, List.drop_zero, List.take_succ_cons, List.take_zero, StableHlo.after_cons, StableHlo.after_nil]
  after_results_simp
  pointwise
  after_results_simp
  pointwise
  split_ifs <;> rfl

theorem v86_keep13 : StableHlo.after (seg 13 7) X (Proc.devRef .tc main_v86) = X (Proc.devRef .tc main_v86) := by
  simp only [seg, hostOps1_10, List.drop_succ_cons, List.drop_zero, List.take_succ_cons, List.take_zero, StableHlo.after_cons, StableHlo.after_nil]
  after_results_simp

theorem v89_keep13 : StableHlo.after (seg 13 7) X (Proc.devRef .tc main_v89) = X (Proc.devRef .tc main_v89) := by
  simp only [seg, hostOps1_10, List.drop_succ_cons, List.drop_zero, List.take_succ_cons, List.take_zero, StableHlo.after_cons, StableHlo.after_nil]
  after_results_simp

theorem v89_keep20 : StableHlo.after (seg 20 7) X (Proc.devRef .tc main_v89) = X (Proc.devRef .tc main_v89) := by
  simp only [seg, hostOps1_10, List.drop_succ_cons, List.drop_zero, List.take_succ_cons, List.take_zero, StableHlo.after_cons, StableHlo.after_nil]
  after_results_simp

theorem v94_keep20 : StableHlo.after (seg 20 7) X (Proc.devRef .tc main_v94) = X (Proc.devRef .tc main_v94) := by
  simp only [seg, hostOps1_10, List.drop_succ_cons, List.drop_zero, List.take_succ_cons, List.take_zero, StableHlo.after_cons, StableHlo.after_nil]
  after_results_simp

theorem v101_keep27 : StableHlo.after (seg 27 7) X (Proc.devRef .tc main_v101) = X (Proc.devRef .tc main_v101) := by
  simp only [seg, hostOps1_10, List.drop_succ_cons, List.drop_zero, List.take_succ_cons, List.take_zero, StableHlo.after_cons, StableHlo.after_nil]
  after_results_simp

theorem v101_keep34 : StableHlo.after (seg 34 26) X (Proc.devRef .tc main_v101) = X (Proc.devRef .tc main_v101) := by
  simp only [seg, hostOps1_10, List.drop_succ_cons, List.drop_zero, List.take_succ_cons, List.take_zero, StableHlo.after_cons, StableHlo.after_nil]
  after_results_simp

theorem v108_keep34 : StableHlo.after (seg 34 26) X (Proc.devRef .tc main_v108) = X (Proc.devRef .tc main_v108) := by
  simp only [seg, hostOps1_10, List.drop_succ_cons, List.drop_zero, List.take_succ_cons, List.take_zero, StableHlo.after_cons, StableHlo.after_nil]
  after_results_simp

theorem v101_keep60 : StableHlo.after (seg 60 26) X (Proc.devRef .tc main_v101) = X (Proc.devRef .tc main_v101) := by
  simp only [seg, hostOps1_10, List.drop_succ_cons, List.drop_zero, List.take_succ_cons, List.take_zero, StableHlo.after_cons, StableHlo.after_nil]
  after_results_simp

theorem v108_keep60 : StableHlo.after (seg 60 26) X (Proc.devRef .tc main_v108) = X (Proc.devRef .tc main_v108) := by
  simp only [seg, hostOps1_10, List.drop_succ_cons, List.drop_zero, List.take_succ_cons, List.take_zero, StableHlo.after_cons, StableHlo.after_nil]
  after_results_simp

theorem v125_keep60 : StableHlo.after (seg 60 26) X (Proc.devRef .tc main_v125) = X (Proc.devRef .tc main_v125) := by
  simp only [seg, hostOps1_10, List.drop_succ_cons, List.drop_zero, List.take_succ_cons, List.take_zero, StableHlo.after_cons, StableHlo.after_nil]
  after_results_simp

theorem v127_keep60 : StableHlo.after (seg 60 26) X (Proc.devRef .tc main_v127) = X (Proc.devRef .tc main_v127) := by
  simp only [seg, hostOps1_10, List.drop_succ_cons, List.drop_zero, List.take_succ_cons, List.take_zero, StableHlo.after_cons, StableHlo.after_nil]
  after_results_simp

end Cert.ReferenceIdeal.Hand

end
-- ==== Proof.RefOut.lean ====
/-
  The reference's attention as a real number.
-/
module

public import proofs.«01_k».proof.Proof.RefLines
public import proofs.«01_k».proof.Proof.Soft

@[expose] public section

set_option maxRecDepth 16384

noncomputable section

namespace Cert.ReferenceIdeal.Hand

open Idealize.ShloMosaic Idealize.ShloMosaic.TcCoe
open Idealize.SL Idealize.SL.Sem
open Cert.Vals Cert.ReferenceIdeal Cert.ReferenceIdeal.Gen

theorem low_code : ∀ c : BitVec 8, (IntOp.subi (IntOp.xori (IntOp.andi (BitVec.setWidth 32 c) 15#32) 8#32) 8#32).toInt = ((c.toNat % 16 ^^^ 8 : ℕ) : ℤ) - 8 := by
  decide +kernel

theorem high_code : ∀ c : BitVec 8, (IntOp.subi (IntOp.xori (IntOp.andi (IntOp.shrsi ArithUnit.host (BitVec.setWidth 32 c) 4#32) 15#32) 8#32) 8#32).toInt = ((c.toNat / 16 % 16 ^^^ 8 : ℕ) : ℤ) - 8 := by
  decide +kernel

theorem low_real (c : BitVec 8) (d : ℕ) (h : d % 2 = 0) : (((IntOp.subi (IntOp.xori (IntOp.andi (BitVec.setWidth 32 c) 15#32) 8#32) 8#32).toInt : ℝ) : EReal) = ((nibR (half c d) : ℝ) : EReal) := by
  rw [low_code, nibR, half, h, pow_zero, Nat.div_one]
  push_cast
  rfl

theorem high_real (c : BitVec 8) (d : ℕ) (h : d % 2 = 1) : (((IntOp.subi (IntOp.xori (IntOp.andi (IntOp.shrsi ArithUnit.host (BitVec.setWidth 32 c) 4#32) 15#32) 8#32) 8#32).toInt : ℝ) : EReal) = ((nibR (half c d) : ℝ) : EReal) := by
  rw [high_code, nibR, half, h, pow_one]
  push_cast
  rfl

theorem half_low (a b d : ℕ) (ha : a < 16) (hb : b < 16) (h : d % 2 = 0) : half (BitVec.ofNat 8 (a + 16 * b)) d = a := by
  rw [half, BitVec.toNat_ofNat, h, pow_zero, Nat.div_one]
  omega

theorem half_high (a b d : ℕ) (ha : a < 16) (hb : b < 16) (h : d % 2 = 1) : half (BitVec.ofNat 8 (a + 16 * b)) d = b := by
  rw [half, BitVec.toNat_ofNat, h, pow_one]
  omega

/-- A new value's code, read back from its byte. -/
theorem half_vbyte (f : Fin 128 → ℝ) (d : Fin 128) : nibR (half (vbyte f ⟨d.val / 2, by omega⟩) d.val) = (vqZ f d : ℝ) := by
  have h0 := nib_lt (vqZ f ⟨2 * (d.val / 2), by omega⟩)
  have h1 := nib_lt (vqZ f ⟨2 * (d.val / 2) + 1, by omega⟩)
  have e : half (vbyte f ⟨d.val / 2, by omega⟩) d.val = nib (vqZ f d) := by
    show half (BitVec.ofNat 8 (nib (vqZ f ⟨2 * (d.val / 2), by omega⟩) + 16 * nib (vqZ f ⟨2 * (d.val / 2) + 1, by omega⟩))) d.val = _
    rcases Nat.mod_two_eq_zero_or_one d.val with h | h
    · have hd : (⟨2 * (d.val / 2), by omega⟩ : Fin 128) = d := Fin.ext (by simp only []; omega)
      rw [hd] at h0 ⊢
      exact half_low _ _ _ h0 h1 h
    · have hd : (⟨2 * (d.val / 2) + 1, by omega⟩ : Fin 128) = d := Fin.ext (by simp only []; omega)
      rw [hd] at h1 ⊢
      exact half_high _ _ _ h0 h1 h
  rw [e, nibR_nib _ (le_vqZ f d) (vqZ_le f d)]

variable (X : Valuation τ sig (Elt Ideal))

/-- The masked scores. -/
structure Scored (D : Data) : Prop where
  c : ∀ b k g s p, (X (Proc.devRef .tc main_v70) (ix5 b k g s p) : EReal) = if p.val < D.len b then ((scoreC D b s ⟨k.val * 4 + g.val, by omega⟩ k p : ℝ) : EReal) else ⊥
  n : ∀ b k g s u, (X (Proc.devRef .tc main_v78) (ix5 b k g s u) : EReal) = if u.val ≤ s.val then ((scoreN D b s ⟨k.val * 4 + g.val, by omega⟩ k u : ℝ) : EReal) else ⊥
  cv : ∀ b p k e, (X (Proc.devRef .tc main_arg5) (ix4 b p k e) : BitVec 8) = D.cv b p k e
  vs : ∀ b p k, (X (Proc.devRef .tc main_arg6) (ix3 b p k) : EReal) = ((D.vs b p k : ℝ) : EReal)
  vb : ∀ b u k e, (X (Proc.devRef .tc main_v49) (ix4 b u k e) : BitVec 8) = vbyte (D.vn b u k) e
  vscale : ∀ b u k, (X (Proc.devRef .tc main_v33) (ix3 b u k) : EReal) = ((vscaleR (D.vn b u k) : ℝ) : EReal)

variable {X} {D : Data}

/-- The final stretch: from masked scores to the result. -/
theorem attend_out (H : Scored X D) (b t : Fin 4) (h : Fin 32) (d : Fin 128) :
    (StableHlo.after hostOps1_10 X (Proc.devRef .tc main_v161) (ix4 b t h d) : EReal) = ((outR D b t h d : ℝ) : EReal) := by
  rw [show StableHlo.after hostOps1_10 X = StableHlo.after (List.drop 0 hostOps1_10) X from rfl,
    seg_step X 0 2, seg_step _ (0 + 2) 5, seg_step _ (0 + 2 + 5) 6, seg_step _ (0 + 2 + 5 + 6) 7, seg_step _ (0 + 2 + 5 + 6 + 7) 7, seg_step _ (0 + 2 + 5 + 6 + 7 + 7) 7,
    seg_step _ (0 + 2 + 5 + 6 + 7 + 7 + 7) 26, seg_step _ (0 + 2 + 5 + 6 + 7 + 7 + 7 + 26) 26, seg_step _ (0 + 2 + 5 + 6 + 7 + 7 + 7 + 26 + 26) 10, seg_step _ (0 + 2 + 5 + 6 + 7 + 7 + 7 + 26 + 26 + 10) 5]
  simp only [Nat.reduceAdd]
  rw [show List.drop 101 (hostOps1_10 (F := Ideal)) = [] from rfl, StableHlo.after_nil]
  generalize e1 : StableHlo.after (seg 0 2) X = T1
  generalize e2 : StableHlo.after (seg 2 5) T1 = T2
  generalize e3 : StableHlo.after (seg 7 6) T2 = T3
  generalize e4 : StableHlo.after (seg 13 7) T3 = T4
  generalize e5 : StableHlo.after (seg 20 7) T4 = T5
  generalize e6 : StableHlo.after (seg 27 7) T5 = T6
  generalize e7 : StableHlo.after (seg 34 26) T6 = T7
  generalize e8 : StableHlo.after (seg 60 26) T7 = T8
  generalize e9 : StableHlo.after (seg 86 10) T8 = T9
  have k1 : ∀ r : Ref sig .tc, r ∉ hostOps1_10_W → T1 (Proc.devRef .tc r) = X (Proc.devRef .tc r) := fun r hr => by rw [← e1]; exact seg_keep _ _ _ _ hr
  have k2 : ∀ r : Ref sig .tc, r ∉ hostOps1_10_W → T2 (Proc.devRef .tc r) = X (Proc.devRef .tc r) := fun r hr => by rw [← e2, ← k1 r hr]; exact seg_keep _ _ _ _ hr
  have k3 : ∀ r : Ref sig .tc, r ∉ hostOps1_10_W → T3 (Proc.devRef .tc r) = X (Proc.devRef .tc r) := fun r hr => by rw [← e3, ← k2 r hr]; exact seg_keep _ _ _ _ hr
  have k4 : ∀ r : Ref sig .tc, r ∉ hostOps1_10_W → T4 (Proc.devRef .tc r) = X (Proc.devRef .tc r) := fun r hr => by rw [← e4, ← k3 r hr]; exact seg_keep _ _ _ _ hr
  have k5 : ∀ r : Ref sig .tc, r ∉ hostOps1_10_W → T5 (Proc.devRef .tc r) = X (Proc.devRef .tc r) := fun r hr => by rw [← e5, ← k4 r hr]; exact seg_keep _ _ _ _ hr
  have k6 : ∀ r : Ref sig .tc, r ∉ hostOps1_10_W → T6 (Proc.devRef .tc r) = X (Proc.devRef .tc r) := fun r hr => by rw [← e6, ← k5 r hr]; exact seg_keep _ _ _ _ hr
  have k7 : ∀ r : Ref sig .tc, r ∉ hostOps1_10_W → T7 (Proc.devRef .tc r) = X (Proc.devRef .tc r) := fun r hr => by rw [← e7, ← k6 r hr]; exact seg_keep _ _ _ _ hr
  -- one row
  have row : ∀ (k : Fin 8) (g : Fin 4),
      (∀ p : Fin 8192, (T8 (Proc.devRef .tc main_v101) (ix5 b k g t p) : EReal)
        = ((weightC D b t ⟨k.val * 4 + g.val, by omega⟩ k p / total D b t ⟨k.val * 4 + g.val, by omega⟩ k * D.vs b p k : ℝ) : EReal))
      ∧ (∀ u : Fin 4, (T8 (Proc.devRef .tc main_v108) (ix5 b k g t u) : EReal)
        = ((weightN D b t ⟨k.val * 4 + g.val, by omega⟩ k u / total D b t ⟨k.val * 4 + g.val, by omega⟩ k * vscaleR (D.vn b u k) : ℝ) : EReal)) := by
    intro k g
    obtain ⟨M, hM⟩ : ∃ M : ℝ, (T2 (Proc.devRef .tc main_v83) (ix5 b k g t 0) : EReal) = (M : EReal) := by
      obtain ⟨M0, h0⟩ := first_max (fun u : Fin 4 => (X (Proc.devRef .tc main_v78) (ix5 b k g t u) : EReal)) (fun u => by rw [H.n]; exact masked_ne_top _ _) t _ ((H.n b k g t t).trans (if_pos le_rfl))
      obtain ⟨M, hM⟩ := new_max M0 (fun p : Fin 8192 => (X (Proc.devRef .tc main_v70) (ix5 b k g t p) : EReal)) (fun p => by rw [H.c]; exact masked_ne_top _ _)
      refine ⟨M, ?_⟩
      rw [← e2, v83_at, k1 main_v78 (by decide +kernel), ← e1, v79_eq, max_at, c_bot, h0, max_comm]
      exact hM
    have a86 : ∀ p : Fin 8192, (T3 (Proc.devRef .tc main_v86) (ix5 b k g t p) : EReal) = ((Real.exp (-M) * weightC D b t ⟨k.val * 4 + g.val, by omega⟩ k p : ℝ) : EReal) := fun p => by
      rw [← e3, v86_at, k2 main_v70 (by decide +kernel), hM, H.c]
      exact exp_masked _ _ _
    have a89 : ∀ u : Fin 4, (T3 (Proc.devRef .tc main_v89) (ix5 b k g t u) : EReal) = ((Real.exp (-M) * weightN D b t ⟨k.val * 4 + g.val, by omega⟩ k u : ℝ) : EReal) := fun u => by
      rw [← e3, v89_at, k2 main_v78 (by decide +kernel), hM, H.n]
      exact exp_masked _ _ _
    have a94 : (T4 (Proc.devRef .tc main_v94) (ix5 b k g t 0) : EReal) = ((Real.exp (-M) * total D b t ⟨k.val * 4 + g.val, by omega⟩ k : ℝ) : EReal) := by
      have s1 := (Finset.sum_congr (M := EReal) rfl fun p (_ : p ∈ Finset.univ) => a86 p).trans (coe_sum _ _)
      have s2 := (Finset.sum_congr (M := EReal) rfl fun u (_ : u ∈ Finset.univ) => a89 u).trans (coe_sum _ _)
      rw [← e4, v94_at, s1, s2, ← EReal.coe_add]
      congr 1
      rw [← Finset.mul_sum, ← Finset.mul_sum, total]
      ring
    have hT := (total_pos D b t ⟨k.val * 4 + g.val, by omega⟩ k).ne'
    refine ⟨fun p => ?_, fun u => ?_⟩
    · rw [← e8, v101_keep60, ← e7, v101_keep34, ← e6, v101_keep27, ← e5, v101_at, a94, ← e4, v86_keep13, a86, e4, k4 main_arg6 (by decide +kernel), H.vs, ratio _ _ _ hT, ← EReal.coe_mul]
    · rw [← e8, v108_keep60, ← e7, v108_keep34, ← e6, v108_at, ← e5, v94_keep20, v89_keep20, a94, ← e4, v89_keep13, a89, e4, e5, k5 main_v33 (by decide +kernel), H.vscale, ratio _ _ _ hT, ← EReal.coe_mul]
  obtain ⟨rc, rn⟩ := row ⟨h.val / 4, by omega⟩ ⟨h.val % 4, by omega⟩
  have hh : (⟨h.val / 4 * 4 + h.val % 4, by omega⟩ : Fin 32) = h := Fin.ext (by simp only []; omega)
  simp only [hh] at rc rn
  have fin : ∀ (vc : Fin 8192 → EReal) (vn : Fin 4 → EReal)
      (hc : ∀ p, vc p = ((nibR (half (D.cv b p ⟨h.val / 4, by omega⟩ ⟨d.val / 2, by omega⟩) d.val) : ℝ) : EReal))
      (hn : ∀ u, vn u = ((vqZ (D.vn b u ⟨h.val / 4, by omega⟩) d : ℝ) : EReal)),
      (Finset.sum Finset.univ (fun p : Fin 8192 => vc p * (T8 (Proc.devRef .tc main_v101) (ix5 b ⟨h.val / 4, by omega⟩ ⟨h.val % 4, by omega⟩ t p) : EReal)))
        + Finset.sum Finset.univ (fun u : Fin 4 => vn u * (T8 (Proc.devRef .tc main_v108) (ix5 b ⟨h.val / 4, by omega⟩ ⟨h.val % 4, by omega⟩ t u) : EReal)) = ((outR D b t h d : ℝ) : EReal) := by
    intro vc vn hc hn
    rw [Finset.sum_congr rfl fun p _ => (show vc p * (T8 (Proc.devRef .tc main_v101) (ix5 b ⟨h.val / 4, by omega⟩ ⟨h.val % 4, by omega⟩ t p) : EReal)
        = ((nibR (half (D.cv b p ⟨h.val / 4, by omega⟩ ⟨d.val / 2, by omega⟩) d.val) * (weightC D b t h ⟨h.val / 4, by omega⟩ p / total D b t h ⟨h.val / 4, by omega⟩ * D.vs b p ⟨h.val / 4, by omega⟩) : ℝ) : EReal) by
          rw [hc, rc, ← EReal.coe_mul]),
      Finset.sum_congr rfl fun u _ => (show vn u * (T8 (Proc.devRef .tc main_v108) (ix5 b ⟨h.val / 4, by omega⟩ ⟨h.val % 4, by omega⟩ t u) : EReal)
        = ((vqZ (D.vn b u ⟨h.val / 4, by omega⟩) d * (weightN D b t h ⟨h.val / 4, by omega⟩ u / total D b t h ⟨h.val / 4, by omega⟩ * vscaleR (D.vn b u ⟨h.val / 4, by omega⟩)) : ℝ) : EReal) by
          rw [hn, rn, ← EReal.coe_mul]), coe_sum, coe_sum, ← EReal.coe_add]
    congr 1
    unfold outR mixed
    rw [add_div, Finset.sum_div, Finset.sum_div, add_comm]
    congr 1
    · exact Finset.sum_congr rfl fun u _ => by ring
    · exact Finset.sum_congr rfl fun p _ => by ring
  rw [v161_at]
  rcases Nat.mod_two_eq_zero_or_one d.val with hd | hd
  · rw [if_pos (by omega), ← e9, v151_at]
    refine fin _ _ (fun p => ?_) (fun u => ?_)
    · rw [← e8, v125_keep60, ← e7, v125_at, k6 main_arg5 (by decide +kernel), H.cv]
      exact low_real _ _ hd
    · rw [← e8, v144_at, k7 main_v49 (by decide +kernel), H.vb, ← half_vbyte]
      exact low_real _ _ hd
  · rw [if_neg (by omega), ← e9, v156_at]
    refine fin _ _ (fun p => ?_) (fun u => ?_)
    · rw [← e8, v127_keep60, ← e7, v127_at, k6 main_arg5 (by decide +kernel), H.cv]
      exact high_real _ _ hd
    · rw [← e8, v146_at, k7 main_v49 (by decide +kernel), H.vb, ← half_vbyte]
      exact high_real _ _ hd

end Cert.ReferenceIdeal.Hand

end
-- ==== Proof.RefScore.lean ====
/-
  The reference's result of the attention after the run.
-/
module

public import proofs.«01_k».proof.Proof.RefOut

@[expose] public section

set_option maxRecDepth 16384

noncomputable section

namespace Cert.ReferenceIdeal.Hand

open Idealize.ShloMosaic Idealize.ShloMosaic.TcCoe
open Idealize.SL Idealize.SL.Sem
open Idealize.ShloMosaic.Pipeline (Dat Cfg Window)
open Cert.Vals Cert.ReferenceIdeal Cert.ReferenceIdeal.Gen

theorem lt_word (p : Fin 8192) (n : BitVec 32) (hn : n.toNat < 2 ^ 31) (x y : EReal) :
    Scalar.select (IntOp.cmpi CmpIPredicate.slt (BitVec.ofNat 32 p.val) n) x y = if p.val < n.toNat then x else y := by
  have hp := p.isLt
  have e : IntOp.cmpi CmpIPredicate.slt (BitVec.ofNat 32 p.val) n = BitVec.ofBool (decide (p.val < n.toNat)) := by
    show BitVec.ofBool ((BitVec.ofNat 32 p.val).slt n) = _
    rw [BitVec.slt_eq_decide, BitVec.toInt_eq_toNat_of_lt (by rw [BitVec.toNat_ofNat]; omega), BitVec.toInt_eq_toNat_of_lt (by omega), BitVec.toNat_ofNat, Nat.mod_eq_of_lt (by omega)]
    congr 1
    exact decide_eq_decide.mpr (by omega)
  rw [e]
  by_cases h : p.val < n.toNat
  · rw [if_pos h, decide_eq_true h]; rfl
  · rw [if_neg h, decide_eq_false h]; rfl

theorem le_word : ∀ (u s : Fin 4) (x y : EReal), Scalar.select (IntOp.cmpi CmpIPredicate.sle (BitVec.ofNat 32 u.val) (BitVec.ofNat 32 s.val)) x y = if u.val ≤ s.val then x else y := by
  intro u s x y
  have e : IntOp.cmpi CmpIPredicate.sle (BitVec.ofNat 32 u.val) (BitVec.ofNat 32 s.val) = BitVec.ofBool (decide (u.val ≤ s.val)) := by
    revert u s; decide
  rw [e]
  by_cases h : u.val ≤ s.val
  · rw [if_pos h, decide_eq_true h]; rfl
  · rw [if_neg h, decide_eq_false h]; rfl

variable (X : Valuation τ sig (Elt Ideal)) {D : Data}

/-- The buffers after the cast hold the data. -/
structure Cast (D : Data) : Prop where
  x : ∀ b t h d, (X (Proc.devRef .tc main_arg0) (ix4 b t h d) : EReal) = ((D.x b t h d : ℝ) : EReal)
  kn : ∀ b u k d, (X (Proc.devRef .tc main_v25_1) (ix4 b u k d) : EReal) = ((D.kn b u k d : ℝ) : EReal)
  ck : ∀ b p k d, (X (Proc.devRef .tc main_v25_2) (ix4 b p k d) : EReal) = ((D.ck b p k d : ℝ) : EReal)
  ks : ∀ b k d, (X (Proc.devRef .tc main_arg4) (ix3 b k d) : EReal) = ((D.ks b k d : ℝ) : EReal)
  cv : ∀ b p k e, (X (Proc.devRef .tc main_arg5) (ix4 b p k e) : BitVec 8) = D.cv b p k e
  vs : ∀ b p k, (X (Proc.devRef .tc main_arg6) (ix3 b p k) : EReal) = ((D.vs b p k : ℝ) : EReal)
  len : ∀ b, (X (Proc.devRef .tc main_arg7) (ix1 b) : BitVec 32).toNat = D.len b
  short : ∀ b, D.len b < 2 ^ 31
  vn : ∀ b u k d, (X (Proc.devRef .tc main_arg2) (ix4 b u k d) : EReal) = ((D.vn b u k d : ℝ) : EReal)

/-- The buffers before the scores. -/
abbrev coded : Valuation τ sig (Elt Ideal) := StableHlo.after hostOps1_5 (StableHlo.after hostOps1_4 (StableHlo.after hostOps1_3 (StableHlo.after hostOps1_2 (scaled X))))

abbrev scored : Valuation τ sig (Elt Ideal) := StableHlo.after (hostOps1_7 ++ (hostOps1_8 ++ hostOps1_9)) (StableHlo.after hostOps1_6 (coded X))

theorem coded_keep (r : Ref sig .tc) (h : r ∉ hostOps1_W ++ hostOps1_1_W ++ hostOps1_2_W ++ hostOps1_3_W ++ hostOps1_4_W ++ hostOps1_5_W) :
    coded X (Proc.devRef .tc r) = X (Proc.devRef .tc r) := by
  simp only [List.mem_append, not_or] at h
  obtain ⟨⟨⟨⟨⟨h0, h1⟩, h2⟩, h3⟩, h4⟩, h5⟩ := h
  unfold coded
  rw [after_keep _ _ hostOps1_5_writes h5, after_keep _ _ hostOps1_4_writes h4, after_keep _ _ hostOps1_3_writes h3, after_keep _ _ hostOps1_2_writes h2, scaled, StableHlo.after_append,
    after_keep _ _ hostOps1_1_writes h1, after_keep _ _ hostOps1_writes h0]

theorem scored_keep (r : Ref sig .tc) (h : r ∉ hostOps1_7_W ++ hostOps1_8_W ++ hostOps1_9_W) :
    scored X (Proc.devRef .tc r) = StableHlo.after hostOps1_6 (coded X) (Proc.devRef .tc r) := by
  simp only [List.mem_append, not_or] at h
  obtain ⟨⟨h7, h8⟩, h9⟩ := h
  rw [scored, StableHlo.after_append, StableHlo.after_append, after_keep _ _ hostOps1_9_writes h9, after_keep _ _ hostOps1_8_writes h8, after_keep _ _ hostOps1_7_writes h7]

theorem v161_end :
    StableHlo.after (List.flatten [hostOps1, hostOps1_1, hostOps1_2, hostOps1_3, hostOps1_4, hostOps1_5, hostOps1_6, hostOps1_7, hostOps1_8, hostOps1_9, hostOps1_10]) X (Proc.devRef .tc main_v161)
      = StableHlo.after hostOps1_10 (scored X) (Proc.devRef .tc main_v161) := by
  unfold scored coded scaled
  simp only [List.flatten_cons, List.flatten_nil, List.append_nil, StableHlo.after_append]

variable {X}

theorem scored_of (H : Cast X D) : Scored (scored X) D := by
  have a : ∀ r : Ref sig .tc, r ∉ hostOps1_7_W ++ hostOps1_8_W ++ hostOps1_9_W → r ∉ hostOps1_6_W →
      r ∉ hostOps1_W ++ hostOps1_1_W ++ hostOps1_2_W ++ hostOps1_3_W ++ hostOps1_4_W ++ hostOps1_5_W → scored X (Proc.devRef .tc r) = X (Proc.devRef .tc r) :=
    fun r h1 h2 h3 => (scored_keep X r h1).trans ((after_keep _ _ hostOps1_6_writes h2).trans (coded_keep X r h3))
  have hs : ∀ b u k, (scaled X (Proc.devRef .tc main_v33) (ix3 b u k) : EReal) = ((vscaleR (D.vn b u k) : ℝ) : EReal) := fun b u k => scale_at X _ b u k (H.vn b u k)
  refine ⟨fun b k g s p => ?_, fun b k g s u => ?_, fun b p k e => ?_, fun b p k => ?_, fun b u k e => ?_, fun b u k => ?_⟩
  · unfold scored
    rw [v70_at, v69_at, v58_at, cst18_at, coded_keep X main_arg7 (by decide +kernel), coded_keep X main_v25_2 (by decide +kernel), coded_keep X main_arg0 (by decide +kernel), coded_keep X main_arg4 (by decide +kernel),
      lt_word _ _ (by rw [H.len]; exact H.short b), H.len, c_bot, factor_coe]
    refine if_congr Iff.rfl ?_ rfl
    have e := (Finset.sum_congr (M := EReal) rfl fun d (_ : d ∈ Finset.univ) => (show HMul.hMul (α := EReal) (β := EReal) (γ := EReal) (X (Proc.devRef .tc main_v25_2) (ix4 b p k d))
      (HMul.hMul (α := EReal) (β := EReal) (γ := EReal) (X (Proc.devRef .tc main_arg0) (ix4 b s ⟨k.val * 4 + g.val, by omega⟩ d)) (X (Proc.devRef .tc main_arg4) (ix3 b k d)))
      = ((D.x b s ⟨k.val * 4 + g.val, by omega⟩ d * D.ks b k d * D.ck b p k d : ℝ) : EReal) by
        rw [H.x, H.ck, H.ks, ← EReal.coe_mul, ← EReal.coe_mul, mul_comm (D.ck b p k d)])).trans (coe_sum _ _)
    rw [e, ← EReal.coe_mul]
    rfl
  · unfold scored
    rw [v78_at, v62_at, coded_keep X main_v25_1 (by decide +kernel), coded_keep X main_arg0 (by decide +kernel), coded_keep X main_arg4 (by decide +kernel), le_word, c_bot, factor_coe]
    refine if_congr Iff.rfl ?_ rfl
    have e := (Finset.sum_congr (M := EReal) rfl fun d (_ : d ∈ Finset.univ) => (show HMul.hMul (α := EReal) (β := EReal) (γ := EReal) (X (Proc.devRef .tc main_v25_1) (ix4 b u k d))
      (HMul.hMul (α := EReal) (β := EReal) (γ := EReal) (X (Proc.devRef .tc main_arg0) (ix4 b s ⟨k.val * 4 + g.val, by omega⟩ d)) (X (Proc.devRef .tc main_arg4) (ix3 b k d)))
      = ((D.x b s ⟨k.val * 4 + g.val, by omega⟩ d * D.ks b k d * D.kn b u k d : ℝ) : EReal) by
        rw [H.x, H.kn, H.ks, ← EReal.coe_mul, ← EReal.coe_mul, mul_comm (D.kn b u k d)])).trans (coe_sum _ _)
    rw [e, ← EReal.coe_mul]
    rfl
  · rw [a main_arg5 (by decide +kernel) (by decide +kernel) (by decide +kernel)]
    exact H.cv b p k e
  · rw [a main_arg6 (by decide +kernel) (by decide +kernel) (by decide +kernel)]
    exact H.vs b p k
  · rw [scored_keep X main_v49 (by decide +kernel)]
    have := byte_at (scaled X) _ b u k e (fun d => (v26_at X b u k d).trans (H.vn b u k d)) (hs b u k)
    simp only [StableHlo.after_append] at this
    exact this
  · rw [scored_keep X main_v33 (by decide +kernel), after_keep _ _ hostOps1_6_writes (by decide +kernel), coded, after_keep _ _ hostOps1_5_writes (by decide +kernel), after_keep _ _ hostOps1_4_writes (by decide +kernel),
      after_keep _ _ hostOps1_3_writes (by decide +kernel), after_keep _ _ hostOps1_2_writes (by decide +kernel)]
    exact hs b u k

variable (m : (ℓ : Loc nD τ sig) → Buf (Elt Ideal) ℓ) (ρ : Dev nD → PrngReg)

/-- The arguments hold the data. -/
structure Given (c : Dev nD) (D : Data) : Prop where
  x : ∀ b t h d, m ((c : Thread nD τ).loc main_arg0) (ix4 b t h d) = ((D.x b t h d : ℝ) : EReal)
  kn : ∀ b t kv d, codeOf (m ((c : Thread nD τ).loc main_arg1) (ix4 b t kv d)) (D.ks b kv d) = ((D.kn b t kv d : ℝ) : EReal)
  vn : ∀ b t kv d, m ((c : Thread nD τ).loc main_arg2) (ix4 b t kv d) = ((D.vn b t kv d : ℝ) : EReal)
  ck : ∀ b p kv d, Ideal.ofBits .fp8e4m3 (m ((c : Thread nD τ).loc main_arg3) (ix4 b p kv d)) = ((D.ck b p kv d : ℝ) : EReal)
  ks : ∀ b kv d, m ((c : Thread nD τ).loc main_arg4) (ix3 b kv d) = ((D.ks b kv d : ℝ) : EReal)
  cv : ∀ b p kv e, m ((c : Thread nD τ).loc main_arg5) (ix4 b p kv e) = D.cv b p kv e
  vs : ∀ b p kv, m ((c : Thread nD τ).loc main_arg6) (ix3 b p kv) = ((D.vs b p kv : ℝ) : EReal)
  len : ∀ b, (m ((c : Thread nD τ).loc main_arg7) (ix1 b) : BitVec 32).toNat = D.len b
  short : ∀ b, D.len b < 2 ^ 31

theorem V_v0 (c : Dev nD) (b : Fin 4) (p : Fin 8192) (kv : Fin 8) (d : Fin 128) :
    (V m c main_v0 (ix4 b p kv d) : EReal) = Ideal.ofBits .fp8e4m3 (m ((c : Thread nD τ).loc main_arg3) (ix4 b p kv d)) := by
  show StableHlo.after (List.flatten [hostOps0, hostOps0_1, hostOps0_2, hostOps0_3, hostOps0_4, hostOps0_5]) _ _ _ = _
  simp only [hostOps0, hostOps0_1, hostOps0_2, hostOps0_3, hostOps0_4, hostOps0_5, List.flatten_cons, List.flatten_nil, List.append_nil, List.cons_append, List.nil_append, StableHlo.after_cons, StableHlo.after_nil]
  after_results_simp
  rfl

theorem cast_of (c : Dev nD) (H : Given m c D) : Cast (E m c) D where
  x b t h d := by rw [E_keep m c main_arg0 (by decide), V_main_arg0]; exact H.x b t h d
  kn b u k d := by
    have e := congrFun (E_arr m c 3) (ix4 b u k d)
    refine Eq.trans e ((out3_at m c b u k d).trans ((V_v24 m c (D.ks b k d) b u k d (H.ks b k d)).trans (H.kn b u k d)))
  ck b p k d := by
    have e := congrFun (E_arr m c 4) (ix4 b p k d)
    exact Eq.trans e ((out4_at m c b p k d).trans ((V_v0 m c b p k d).trans (H.ck b p k d)))
  ks b k d := by rw [E_keep m c main_arg4 (by decide), V_main_arg4]; exact H.ks b k d
  cv b p k e := by rw [E_keep m c main_arg5 (by decide), V_main_arg5]; exact H.cv b p k e
  vs b p k := by rw [E_keep m c main_arg6 (by decide), V_main_arg6]; exact H.vs b p k
  len b := by rw [E_keep m c main_arg7 (by decide), V_main_arg7]; exact H.len b
  short := H.short
  vn b u k d := by rw [E_keep m c main_arg2 (by decide), V_main_arg2]; exact H.vn b u k d

/-- The result after the run. -/
theorem out_read (D : Data) (H : ∀ c : Dev nD, Given m c D) :
    θ_run defs (onTc (τ := τ) (main (F := Ideal))) (s₀ m ρ) (fun r => ∀ (c : Dev nD) (b t : Fin 4) (h : Fin 32) (d : Fin 128),
      r.2.mem ((c : Thread nD τ).loc main_v161) (ix4 b t h d) = ((outR D b t h d : ℝ) : EReal)) :=
  (θ_run defs _ _).mono (fun r h c b t hd d => by
    obtain ⟨h1, h2⟩ := h c
    refine (congrFun (h2 main_v161 (Pipeline.mem_restRefs_of main_v161 (by decide) (by decide))) _).trans ?_
    have e := attend_out (scored_of (cast_of m c (H c))) b t hd d
    refine (congrFun (v161_end (E m c)) _).trans e) (run_all m ρ)

end Cert.ReferenceIdeal.Hand

end
-- ==== Proof.lean ====
/- The proof of the certificate's claims. -/
module

public import proofs.«01_k».proof.Defs
public import proofs.«01_k».proof.Proof.KFrame
public import proofs.«01_k».proof.Proof.OkKernelIdeal
public import proofs.«01_k».proof.Proof.Results
public import proofs.«01_k».proof.Proof.RefFrame
public import proofs.«01_k».proof.Proof.RefValue
public import proofs.«01_k».proof.Proof.OutRun
public import proofs.«01_k».proof.Proof.RefScore
public import Idealize.ShloMosaic.Lib.Claim

@[expose] public section

set_option maxRecDepth 16384

noncomputable section

namespace Cert.Proof

open Idealize.ShloMosaic Idealize.ShloMosaic.TcCoe Idealize.SL.Sem Cert.Vals

/-- A new key's code lies in [-448, 448], so it is a real. -/
theorem codeOf_real (k : EReal) (s : ℝ) : ∃ r : ℝ, codeOf k s = (r : EReal) := by
  have h1 : codeOf k s ≤ ((448 : ℝ) : EReal) := min_le_left _ _
  have h2 : ((-448 : ℝ) : EReal) ≤ codeOf k s := le_min (EReal.coe_le_coe_iff.mpr (by norm_num)) (le_max_left _ _)
  generalize codeOf k s = z at h1 h2
  induction z using EReal.rec with
  | bot => exact absurd h2 (by simp)
  | top => exact absurd h1 (by simp)
  | coe r => exact ⟨r, rfl⟩

/-- The two programs leave equal results: the attention's output, the codes of the new keys, the packed codes of the new values and
    their scales. -/
theorem results_agree : Cert.algebraic_KernelIdeal_ReferenceIdeal_pre_usable := by
  intro m ρ m' ρ' hp hag
  have hu := Cert.KernelIdeal.Hand.usable_of_pre hp
  have hl := hu.lengths
  choose x hx using hu.x
  choose vn hvn using hu.vn
  choose ck hck using hu.ck
  choose ks hks using hu.ks
  choose vs hvs using hu.vs
  have hcode : ∀ b t kv d, ∃ r : ℝ, codeOf (m ((0 : Dev Cert.KernelIdeal.nD).tc.loc Cert.KernelIdeal.main_arg1) (ix4 b t kv d)) (ks (ix3 b kv d)) = (r : EReal) :=
    fun _ _ _ _ => codeOf_real _ _
  choose kn hkn using hcode
  have hO := Cert.KernelIdeal.Hand.ok_of hl
  obtain ⟨a0, a1, a2, a3, a4, a5, a6, a7⟩ := hag 0
  let D : Data :=
    { x := fun b t h d => x (ix4 b t h d), kn := kn, vn := fun b t kv d => vn (ix4 b t kv d), ck := fun b p kv d => ck (ix4 b p kv d),
      ks := fun b kv d => ks (ix3 b kv d), cv := fun b p kv e => m ((0 : Dev Cert.KernelIdeal.nD).tc.loc Cert.KernelIdeal.main_arg5) (ix4 b p kv e),
      vs := fun b p kv => vs (ix3 b p kv), len := fun b => (Cert.KernelIdeal.Hand.lenW m b).toNat }
  have hD : Cert.KernelIdeal.Hand.Holds m D :=
    ⟨fun _ _ _ _ => hx _, hkn, fun _ _ _ _ => hvn _, fun _ _ _ _ => hck _, fun _ _ _ => hks _, fun _ _ _ _ => rfl, fun _ _ _ => hvs _, fun _ => rfl⟩
  have hG : ∀ c, Cert.ReferenceIdeal.Hand.Given m' c D := fun c => by
    obtain rfl : c = 0 := Subsingleton.elim _ _
    exact ⟨fun _ _ _ _ => (congrFun a0 _).trans (hx _), fun b t kv d => (congrArg (fun z => codeOf z _) (congrFun a1 (ix4 b t kv d))).trans (hkn b t kv d),
      fun _ _ _ _ => (congrFun a2 _).trans (hvn _), fun _ _ _ _ => (congrArg _ (congrFun a3 _)).trans (hck _), fun _ _ _ => (congrFun a4 _).trans (hks _),
      fun _ _ _ _ => congrFun a5 _, fun _ _ _ => (congrFun a6 _).trans (hvs _), fun b => congrArg BitVec.toNat (congrFun a7 (ix1 b)),
      fun b => (Cert.KernelIdeal.Hand.lenW_ok hl b).2⟩
  refine ⟨fun _ i => (outR D (i 0) (i 1) (i 2) (i 3) : EReal),
    fun _ i => codeOf (m ((0 : Dev Cert.KernelIdeal.nD).tc.loc Cert.KernelIdeal.main_arg1) i) (ks (ix3 (i 0) (i 2) (i 3))),
    fun _ i => vbyte (fun d => vn (ix4 (i 0) (i 1) (i 2) d)) (i 3), fun _ i => (vscaleR (fun d => vn (ix4 (i 0) (i 1) (i 2) d)) : EReal), ?_, ?_⟩
  · refine (θ_run Cert.KernelIdeal.defs _ _).mono (fun r h c => ?_)
      (θ_run_and (Cert.KernelIdeal.Hand.frame m ρ hO) (θ_run_and (Cert.KernelIdeal.Hand.out_read m D ρ hl hD) (Cert.KernelIdeal.Hand.quant_read m ρ ks vn hO hks hvn)))
    obtain ⟨q1, q2, q3⟩ := h.2.2 c
    have q0 := h.2.1 c
    refine ⟨funext fun i => ?_, funext fun i => ?_, funext fun i => ?_, funext fun i => ?_, h.1.1 c⟩
    · idx_vars i; exact q0 _ _ _ _
    · idx_vars i; exact q1 _ _ _ _
    · idx_vars i; exact q2 _ _ _ _
    · idx_vars i; exact q3 _ _ _
  · refine (θ_run Cert.ReferenceIdeal.defs _ _).mono (fun r h c => ?_)
      (θ_run_and (Cert.ReferenceIdeal.Hand.ref_frame m' ρ') (θ_run_and (Cert.ReferenceIdeal.Hand.out_read m' ρ' D hG) (Cert.ReferenceIdeal.Hand.ref_read m' ρ' (fun _ => ks) (fun _ => vn)
        (fun c j => by obtain rfl : c = 0 := Subsingleton.elim _ _; exact (congrFun a4 j).trans (hks j))
        (fun c j => by obtain rfl : c = 0 := Subsingleton.elim _ _; exact (congrFun a2 j).trans (hvn j)))))
    obtain ⟨q1, q2, q3⟩ := h.2.2 c
    have q0 := h.2.1 c
    refine ⟨funext fun i => ?_, funext fun i => ?_, funext fun i => ?_, funext fun i => ?_, h.1.1 c⟩
    · idx_vars i; exact q0 _ _ _ _
    · idx_vars i
      refine (q1 _ _ _ _).trans ?_
      obtain rfl : c = 0 := Subsingleton.elim _ _
      exact congrArg (fun z => codeOf z _) (congrFun a1 _)
    · idx_vars i; exact q2 _ _ _ _
    · idx_vars i; exact q3 _ _ _

/-- Everything the certificate claims. -/
theorem claim : Cert.Claim :=
  ⟨Cert.Kernel.Gen.facts, Cert.KernelIdeal.Gen.facts, Cert.ReferenceIdeal.Gen.facts, Cert.Pre_lengths.Gen.facts, Cert.Pre_usable.Gen.facts,
    Cert.Kernel.Hand.frame,
    fun m ρ h => Cert.KernelIdeal.Hand.frame m ρ (Cert.KernelIdeal.Hand.ok_of (Cert.KernelIdeal.Hand.lengths_of_pre h)),
    fun m ρ h => Cert.KernelIdeal.Hand.frame m ρ (Cert.KernelIdeal.Hand.ok_of (Cert.KernelIdeal.Hand.usable_of_pre h).lengths),
    fun m ρ _ => Cert.ReferenceIdeal.Hand.ref_frame m ρ, fun m ρ _ => Cert.ReferenceIdeal.Hand.ref_frame m ρ, trivial, results_agree⟩

end Cert.Proof

end
